-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))).2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1))).2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "series" .f32 0x38D1B717#32 ⊥
  ∧ IdealRules.named_const.Statement Cert.Kernel2Ideal.κ "exit" .f32 0xC2DC0000#32 ⊥

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v28_0)) (v1 : (c : Dev Cert.Kernel2Ideal.nD) → Buf (Elt Ideal) ((c.tc : Thread Cert.Kernel2Ideal.nD Cert.Kernel2Ideal.τ).loc Cert.Kernel2Ideal.main_v28_1)) (v2 : (c : Dev Cert.Kernel2Ideal.nD) → Buf (Elt Ideal) ((c.tc : Thread Cert.Kernel2Ideal.nD Cert.Kernel2Ideal.τ).loc Cert.Kernel2Ideal.main_v28_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v28_0) = v0 c
          ∧ r.2.mem ((c.tc : Thread Cert.Kernel2Ideal.nD Cert.Kernel2Ideal.τ).loc Cert.Kernel2Ideal.main_v28_1) = v1 c
          ∧ r.2.mem ((c.tc : Thread Cert.Kernel2Ideal.nD Cert.Kernel2Ideal.τ).loc Cert.Kernel2Ideal.main_v28_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_v51) = v1 c
          ∧ r.2.mem ((c.tc : Thread Cert.Reference2Ideal.nD Cert.Reference2Ideal.τ).loc Cert.Reference2Ideal.main_v50) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_v41) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)) (v2 : (c : Dev Cert.Kernel4Ideal.nD) → Buf (Elt Ideal) ((c.tc : Thread Cert.Kernel4Ideal.nD Cert.Kernel4Ideal.τ).loc Cert.Kernel4Ideal.main_v1_2)) (v3 : (c : Dev Cert.Kernel4Ideal.nD) → Buf (Elt Ideal) ((c.tc : Thread Cert.Kernel4Ideal.nD Cert.Kernel4Ideal.τ).loc Cert.Kernel4Ideal.main_v1_3)) (v4 : (c : Dev Cert.Kernel4Ideal.nD) → Buf (Elt Ideal) ((c.tc : Thread Cert.Kernel4Ideal.nD Cert.Kernel4Ideal.τ).loc Cert.Kernel4Ideal.main_v1_4)) (v5 : (c : Dev Cert.Kernel4Ideal.nD) → Buf (Elt Ideal) ((c.tc : Thread Cert.Kernel4Ideal.nD Cert.Kernel4Ideal.τ).loc Cert.Kernel4Ideal.main_v1_5)) (v6 : (c : Dev Cert.Kernel4Ideal.nD) → Buf (Elt Ideal) ((c.tc : Thread Cert.Kernel4Ideal.nD Cert.Kernel4Ideal.τ).loc Cert.Kernel4Ideal.main_v1_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_v1_2) = v2 c
          ∧ r.2.mem ((c.tc : Thread Cert.Kernel4Ideal.nD Cert.Kernel4Ideal.τ).loc Cert.Kernel4Ideal.main_v1_3) = v3 c
          ∧ r.2.mem ((c.tc : Thread Cert.Kernel4Ideal.nD Cert.Kernel4Ideal.τ).loc Cert.Kernel4Ideal.main_v1_4) = v4 c
          ∧ r.2.mem ((c.tc : Thread Cert.Kernel4Ideal.nD Cert.Kernel4Ideal.τ).loc Cert.Kernel4Ideal.main_v1_5) = v5 c
          ∧ r.2.mem ((c.tc : Thread Cert.Kernel4Ideal.nD Cert.Kernel4Ideal.τ).loc Cert.Kernel4Ideal.main_v1_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v50) = v0 c
          ∧ r.2.mem ((c.tc : Thread Cert.Reference4Ideal.nD Cert.Reference4Ideal.τ).loc Cert.Reference4Ideal.main_v51) = v1 c
          ∧ r.2.mem ((c.tc : Thread Cert.Reference4Ideal.nD Cert.Reference4Ideal.τ).loc Cert.Reference4Ideal.main_v52) = v2 c
          ∧ r.2.mem ((c.tc : Thread Cert.Reference4Ideal.nD Cert.Reference4Ideal.τ).loc Cert.Reference4Ideal.main_v53) = v3 c
          ∧ r.2.mem ((c.tc : Thread Cert.Reference4Ideal.nD Cert.Reference4Ideal.τ).loc Cert.Reference4Ideal.main_v49) = v4 c
          ∧ r.2.mem ((c.tc : Thread Cert.Reference4Ideal.nD Cert.Reference4Ideal.τ).loc Cert.Reference4Ideal.main_v54) = v5 c
          ∧ r.2.mem ((c.tc : Thread Cert.Reference4Ideal.nD Cert.Reference4Ideal.τ).loc Cert.Reference4Ideal.main_v55) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  IdealRules.named_const.Statement Cert.Kernel5Ideal.κ "series" .f32 0x38D1B717#32 ⊥
  ∧ IdealRules.named_const.Statement Cert.Kernel5Ideal.κ "exit" .f32 0xC2DC0000#32 ⊥

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v40) = v0 c
          ∧ r.2.mem ((c.tc : Thread Cert.Reference6Ideal.nD Cert.Reference6Ideal.τ).loc Cert.Reference6Ideal.main_v41) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  IdealRules.named_const.Statement Cert.Kernel7Ideal.κ "mask" .f32 0xF149F2CA#32 ⊥

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v122_0)) (v1 : (c : Dev Cert.Kernel7Ideal.nD) → Buf (Elt Ideal) ((c.tc : Thread Cert.Kernel7Ideal.nD Cert.Kernel7Ideal.τ).loc Cert.Kernel7Ideal.main_v122_1)) (v2 : (c : Dev Cert.Kernel7Ideal.nD) → Buf (Elt Ideal) ((c.tc : Thread Cert.Kernel7Ideal.nD Cert.Kernel7Ideal.τ).loc Cert.Kernel7Ideal.main_v122_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v122_0) = v0 c
          ∧ r.2.mem ((c.tc : Thread Cert.Kernel7Ideal.nD Cert.Kernel7Ideal.τ).loc Cert.Kernel7Ideal.main_v122_1) = v1 c
          ∧ r.2.mem ((c.tc : Thread Cert.Kernel7Ideal.nD Cert.Kernel7Ideal.τ).loc Cert.Kernel7Ideal.main_v122_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v182) = v0 c
          ∧ r.2.mem ((c.tc : Thread Cert.Reference7Ideal.nD Cert.Reference7Ideal.τ).loc Cert.Reference7Ideal.main_v189) = v1 c
          ∧ r.2.mem ((c.tc : Thread Cert.Reference7Ideal.nD Cert.Reference7Ideal.τ).loc Cert.Reference7Ideal.main_v196) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_v16) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hPre_finite : Cert.Pre_finite.Facts) (hPre_finite2 : Cert.Pre_finite2.Facts) (hPre_finite3 : Cert.Pre_finite3.Facts) (hPre_finite4 : Cert.Pre_finite4.Facts) (hPre_finite5 : Cert.Pre_finite5.Facts) (hPre_finite6 : Cert.Pre_finite6.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
-- ==== Pre_finite.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x1024 .f32) (main_arg1 : FVec F S1024 .f32) (main_arg2 : FVec F S8192x1024 .f32) : IVec S8192x1024 1 × IVec S1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Pre_finite2.lean ====
abbrev S8192x5120 : Shape := ⟨2, ![8192, 5120]⟩
abbrev S8192x256 : Shape := ⟨2, ![8192, 256]⟩
abbrev S_ : Shape := ⟨0, ![]⟩

class Facts : Prop where
  bcast_S_S8192x5120 : S_.BroadcastsInDim S8192x5120 (![] : Fin 0 → Fin S8192x5120.rank)
  bcast_S_S8192x256 : S_.BroadcastsInDim S8192x256 (![] : Fin 0 → Fin S8192x256.rank)

variable [Facts]

def fn {F : FTy → Type} [FloatOps F] (main_arg0 : FVec F S8192x5120 .bf16) (main_arg1 : FVec F S8192x256 .bf16) : IVec S8192x5120 1 × IVec S8192x256 1 :=
  let main_v0 : FVec F S8192x5120 .bf16 := Host.absf main_arg0
  let main_cst : FVec F S_ .bf16 := constant S_ .bf16 0x7F80#16
  let main_v1 : FVec F S8192x5120 .bf16 := broadcastInDim S8192x5120 ![] bcast_S_S8192x5120 main_cst
  let main_v2 : IVec S8192x5120 1 := cmpf .olt main_v0 main_v1
  let main_v3 : FVec F S8192x256 .bf16 := Host.absf main_arg1
  let main_cst_0 : FVec F S_ .bf16 := constant S_ .bf16 0x7F80#16
  let main_v4 : FVec F S8192x256 .bf16 := broadcastInDim S8192x256 ![] bcast_S_S8192x256 main_cst_0
  let main_v5 : IVec S8192x256 1 := cmpf .olt main_v3 main_v4
  (main_v2, main_v5)
-- ==== Pre_finite3.lean ====
abbrev S8192x5120 : Shape := ⟨2, ![8192, 5120]⟩
abbrev S1024x5120 : Shape := ⟨2, ![1024, 5120]⟩
abbrev S8192x1024 : Shape := ⟨2, ![8192, 1024]⟩
abbrev S1024 : Shape := ⟨1, ![1024]⟩
abbrev S_ : Shape := ⟨0, ![]⟩

class Facts : Prop where
  bcast_S_S8192x5120 : S_.BroadcastsInDim S8192x5120 (![] : Fin 0 → Fin S8192x5120.rank)
  bcast_S_S1024x5120 : S_.BroadcastsInDim S1024x5120 (![] : Fin 0 → Fin S1024x5120.rank)
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x5120 .bf16) (main_arg1 : FVec F S1024x5120 .bf16) (main_arg2 : FVec F S8192x1024 .f32) (main_arg3 : FVec F S1024 .f32) (main_arg4 : FVec F S8192x1024 .f32) : IVec S8192x5120 1 × IVec S1024x5120 1 × IVec S8192x1024 1 × IVec S1024 1 × IVec S8192x1024 1 :=
  let main_v0 : FVec F S8192x5120 .bf16 := Host.absf main_arg0
  let main_cst : FVec F S_ .bf16 := constant S_ .bf16 0x7F80#16
  let main_v1 : FVec F S8192x5120 .bf16 := broadcastInDim S8192x5120 ![] bcast_S_S8192x5120 main_cst
  let main_v2 : IVec S8192x5120 1 := cmpf .olt main_v0 main_v1
  let main_v3 : FVec F S1024x5120 .bf16 := Host.absf main_arg1
  let main_cst_0 : FVec F S_ .bf16 := constant S_ .bf16 0x7F80#16
  let main_v4 : FVec F S1024x5120 .bf16 := broadcastInDim S1024x5120 ![] bcast_S_S1024x5120 main_cst_0
  let main_v5 : IVec S1024x5120 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Pre_finite4.lean ====
abbrev S8192x1024 : Shape := ⟨2, ![8192, 1024]⟩
abbrev S1024x1024 : Shape := ⟨2, ![1024, 1024]⟩
abbrev S8192x256 : Shape := ⟨2, ![8192, 256]⟩
abbrev S8192x5120 : Shape := ⟨2, ![8192, 5120]⟩
abbrev S2048 : Shape := ⟨1, ![2048]⟩
abbrev S512x1024 : Shape := ⟨2, ![512, 1024]⟩
abbrev S_ : Shape := ⟨0, ![]⟩

class Facts : Prop where
  bcast_S_S8192x1024 : S_.BroadcastsInDim S8192x1024 (![] : Fin 0 → Fin S8192x1024.rank)
  bcast_S_S1024x1024 : S_.BroadcastsInDim S1024x1024 (![] : Fin 0 → Fin S1024x1024.rank)
  bcast_S_S8192x256 : S_.BroadcastsInDim S8192x256 (![] : Fin 0 → Fin S8192x256.rank)
  bcast_S_S8192x5120 : S_.BroadcastsInDim S8192x5120 (![] : Fin 0 → Fin S8192x5120.rank)
  bcast_S_S2048 : S_.BroadcastsInDim S2048 (![] : Fin 0 → Fin S2048.rank)
  bcast_S_S512x1024 : S_.BroadcastsInDim S512x1024 (![] : Fin 0 → Fin S512x1024.rank)

variable [Facts]

def fn_part1 {F : FTy → Type} [FloatOps F] (main_arg7 : FVec F S512x1024 .bf16) (main_v2 : IVec S8192x1024 1) (main_v5 : IVec S1024x1024 1) (main_v8 : IVec S8192x256 1) (main_v11 : IVec S8192x256 1) (main_v14 : IVec S8192x5120 1) (main_v17 : IVec S2048 1) : IVec S8192x1024 1 × IVec S1024x1024 1 × IVec S8192x256 1 × IVec S8192x256 1 × IVec S8192x5120 1 × IVec S2048 1 × IVec S512x1024 1 :=
  let main_v18 : FVec F S512x1024 .bf16 := Host.absf main_arg7
  let main_cst_5 : FVec F S_ .bf16 := constant S_ .bf16 0x7F80#16
  let main_v19 : FVec F S512x1024 .bf16 := broadcastInDim S512x1024 ![] bcast_S_S512x1024 main_cst_5
  let main_v20 : IVec S512x1024 1 := cmpf .olt main_v18 main_v19
  (main_v2, main_v5, main_v8, main_v11, main_v14, main_v17, main_v20)

def fn {F : FTy → Type} [FloatOps F] (main_arg0 : FVec F S8192x1024 .f32) (main_arg1 : FVec F S1024x1024 .bf16) (main_arg2 : FVec F S8192x256 .f32) (main_arg3 : FVec F S8192x256 .f32) (main_arg4 : FVec F S8192x256 .f32) (main_arg5 : FVec F S8192x5120 .bf16) (main_arg6 : FVec F S2048 .f32) (main_arg7 : FVec F S512x1024 .bf16) : IVec S8192x1024 1 × IVec S1024x1024 1 × IVec S8192x256 1 × IVec S8192x256 1 × IVec S8192x5120 1 × IVec S2048 1 × IVec S512x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024x1024 .bf16 := Host.absf main_arg1
  let main_cst_0 : FVec F S_ .bf16 := constant S_ .bf16 0x7F80#16
  let main_v4 : FVec F S1024x1024 .bf16 := broadcastInDim S1024x1024 ![] bcast_S_S1024x1024 main_cst_0
  let main_v5 : IVec S1024x1024 1 := cmpf .olt main_v3 main_v4
  let main_v6 : FVec F S8192x256 .f32 := Host.absf main_arg2
  let main_cst_1 : FVec F S_ .f32 := constant S_ .f32 0x7F800000#32
  let main_v7 : FVec F S8192x256 .f32 := broadcastInDim S8192x256 ![] bcast_S_S8192x256 main_cst_1
  let main_v8 : IVec S8192x256 1 := cmpf .olt main_v6 main_v7
  let main_v9 : FVec F S8192x256 .f32 := Host.absf main_arg3
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_v12 : FVec F S8192x5120 .bf16 := Host.absf main_arg5
  let main_cst_3 : FVec F S_ .bf16 := constant S_ .bf16 0x7F80#16
  let main_v13 : FVec F S8192x5120 .bf16 := broadcastInDim S8192x5120 ![] bcast_S_S8192x5120 main_cst_3
  let main_v14 : IVec S8192x5120 1 := cmpf .olt main_v12 main_v13
  let main_v15 : FVec F S2048 .f32 := Host.absf main_arg6
  let main_cst_4 : FVec F S_ .f32 := constant S_ .f32 0x7F800000#32
  let main_v16 : FVec F S2048 .f32 := broadcastInDim S2048 ![] bcast_S_S2048 main_cst_4
  let main_v17 : IVec S2048 1 := cmpf .olt main_v15 main_v16
  fn_part1 (F := F) main_arg7 main_v2 main_v5 main_v8 main_v11 main_v14 main_v17
-- ==== Pre_finite5.lean ====
abbrev S8192x5120 : Shape := ⟨2, ![8192, 5120]⟩
abbrev S_ : Shape := ⟨0, ![]⟩

class Facts : Prop where
  bcast_S_S8192x5120 : S_.BroadcastsInDim S8192x5120 (![] : Fin 0 → Fin S8192x5120.rank)

variable [Facts]

def fn {F : FTy → Type} [FloatOps F] (main_arg0 : FVec F S8192x5120 .bf16) : IVec S8192x5120 1 :=
  let main_v0 : FVec F S8192x5120 .bf16 := Host.absf main_arg0
  let main_cst : FVec F S_ .bf16 := constant S_ .bf16 0x7F80#16
  let main_v1 : FVec F S8192x5120 .bf16 := broadcastInDim S8192x5120 ![] bcast_S_S8192x5120 main_cst
  let main_v2 : IVec S8192x5120 1 := cmpf .olt main_v0 main_v1
  main_v2
-- ==== Pre_finite6.lean ====
abbrev S8192x5632 : Shape := ⟨2, ![8192, 5632]⟩
abbrev S1024x5632 : Shape := ⟨2, ![1024, 5632]⟩
abbrev S8192x1024 : Shape := ⟨2, ![8192, 1024]⟩
abbrev S1024 : Shape := ⟨1, ![1024]⟩
abbrev S_ : Shape := ⟨0, ![]⟩

class Facts : Prop where
  bcast_S_S8192x5632 : S_.BroadcastsInDim S8192x5632 (![] : Fin 0 → Fin S8192x5632.rank)
  bcast_S_S1024x5632 : S_.BroadcastsInDim S1024x5632 (![] : Fin 0 → Fin S1024x5632.rank)
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x5632 .bf16) (main_arg1 : FVec F S1024x5632 .bf16) (main_arg2 : FVec F S8192x1024 .f32) (main_arg3 : FVec F S1024 .f32) (main_arg4 : FVec F S8192x1024 .f32) : IVec S8192x5632 1 × IVec S1024x5632 1 × IVec S8192x1024 1 × IVec S1024 1 × IVec S8192x1024 1 :=
  let main_v0 : FVec F S8192x5632 .bf16 := Host.absf main_arg0
  let main_cst : FVec F S_ .bf16 := constant S_ .bf16 0x7F80#16
  let main_v1 : FVec F S8192x5632 .bf16 := broadcastInDim S8192x5632 ![] bcast_S_S8192x5632 main_cst
  let main_v2 : IVec S8192x5632 1 := cmpf .olt main_v0 main_v1
  let main_v3 : FVec F S1024x5632 .bf16 := Host.absf main_arg1
  let main_cst_0 : FVec F S_ .bf16 := constant S_ .bf16 0x7F80#16
  let main_v4 : FVec F S1024x5632 .bf16 := broadcastInDim S1024x5632 ![] bcast_S_S1024x5632 main_cst_0
  let main_v5 : IVec S1024x5632 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Pre_finite7.lean ====
abbrev S8192x5120 : Shape := ⟨2, ![8192, 5120]⟩
abbrev S8192x256 : Shape := ⟨2, ![8192, 256]⟩
abbrev S_ : Shape := ⟨0, ![]⟩

class Facts : Prop where
  bcast_S_S8192x5120 : S_.BroadcastsInDim S8192x5120 (![] : Fin 0 → Fin S8192x5120.rank)
  bcast_S_S8192x256 : S_.BroadcastsInDim S8192x256 (![] : Fin 0 → Fin S8192x256.rank)

variable [Facts]

def fn {F : FTy → Type} [FloatOps F] (main_arg0 : FVec F S8192x5120 .bf16) (main_arg1 : FVec F S8192x256 .bf16) : IVec S8192x5120 1 × IVec S8192x256 1 :=
  let main_v0 : FVec F S8192x5120 .bf16 := Host.absf main_arg0
  let main_cst : FVec F S_ .bf16 := constant S_ .bf16 0x7F80#16
  let main_v1 : FVec F S8192x5120 .bf16 := broadcastInDim S8192x5120 ![] bcast_S_S8192x5120 main_cst
  let main_v2 : IVec S8192x5120 1 := cmpf .olt main_v0 main_v1
  let main_v3 : FVec F S8192x256 .bf16 := Host.absf main_arg1
  let main_cst_0 : FVec F S_ .bf16 := constant S_ .bf16 0x7F80#16
  let main_v4 : FVec F S8192x256 .bf16 := broadcastInDim S8192x256 ![] bcast_S_S8192x256 main_cst_0
  let main_v5 : IVec S8192x256 1 := cmpf .olt main_v3 main_v4
  (main_v2, main_v5)
-- ==== Kernel.lean ====
abbrev S8192x1024 : Shape := ⟨2, ![8192, 1024]⟩
abbrev S1024 : Shape := ⟨1, ![1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S1x1, .f32⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x1, .f32⟩
  | .hbm, ⟨72, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel2.lean ====
abbrev S8192x5120 : Shape := ⟨2, ![8192, 5120]⟩
abbrev S8192x256 : Shape := ⟨2, ![8192, 256]⟩
abbrev S8192x4x64 : Shape := ⟨3, ![8192, 4, 64]⟩
abbrev S4x8192x8192 : Shape := ⟨3, ![4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x64x8192 : Shape := ⟨3, ![4, 64, 8192]⟩
abbrev S256x128 : Shape := ⟨2, ![256, 128]⟩
abbrev S8192x128 : Shape := ⟨2, ![8192, 128]⟩
abbrev S256x256 : Shape := ⟨2, ![256, 256]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 74
  | .vmem => 16
  | .smem => 0
  | _ => 0

abbrev bufTy : (tb : Table) → Fin (tcTables nBuf tb) → BufTy
  | .hbm, ⟨0, _⟩ => ⟨S8192x5120, .bf16⟩
  | .hbm, ⟨1, _⟩ => ⟨S8192x256, .bf16⟩
  | .hbm, ⟨2, _⟩ => ⟨S8192x5120, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x4x64, .f32⟩
  | .hbm, ⟨7, _⟩ => ⟨S8192x4x64, .f32⟩
  | .hbm, ⟨8, _⟩ => ⟨S8192x4x64, .f32⟩
  | .hbm, ⟨9, _⟩ => ⟨S4x8192x8192, .f32⟩
  | .hbm, ⟨10, _⟩ => ⟨S_, .f32⟩
  | .hbm, ⟨11, _⟩ => ⟨S4x8192x8192, .f32⟩
  | .hbm, ⟨12, _⟩ => ⟨S4x8192x8192, .f32⟩
  | .hbm, ⟨13, _⟩ => ⟨S8192, .i32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S4x8192x8192, .f32⟩
  | .hbm, ⟨20, _⟩ => ⟨S4x8192x8192, .f32⟩
  | .hbm, ⟨21, _⟩ => ⟨S_, .f32⟩
  | .hbm, ⟨22, _⟩ => ⟨S4x8192x8192, .f32⟩
  | .hbm, ⟨23, _⟩ => ⟨S4x8192x8192, .f32⟩
  | .hbm, ⟨24, _⟩ => ⟨S4x8192x8192, .f32⟩
  | .hbm, ⟨25, _⟩ => ⟨S4x8192x8192, .f32⟩
  | .hbm, ⟨26, _⟩ => ⟨S4x8192x8192, .i1⟩
  | .hbm, ⟨27, _⟩ => ⟨S4x8192x8192, .f32⟩
  | .hbm, ⟨28, _⟩ => ⟨S4x8192x8192, .f32⟩
  | .hbm, ⟨29, _⟩ => ⟨S4x8192x8192, .f32⟩
  | .hbm, ⟨30, _⟩ => ⟨S4x8192x8192, .f32⟩
  | .hbm, ⟨31, _⟩ => ⟨S4x8192x8192, .f32⟩
  | .hbm, ⟨32, _⟩ => ⟨S4x8192x8192, .f32⟩
  | .hbm, ⟨33, _⟩ => ⟨S4x8192x8192, .f32⟩
  | .hbm, ⟨34, _⟩ => ⟨S4x8192x8192, .f32⟩
  | .hbm, ⟨35, _⟩ => ⟨S4x8192x8192, .f32⟩
  | .hbm, ⟨36, _⟩ => ⟨S_, .f32⟩
  | .hbm, ⟨37, _⟩ => ⟨S_, .f32⟩
  | .hbm, ⟨38, _⟩ => ⟨S4x8192x8192, .i1⟩
  | .hbm, ⟨39, _⟩ => ⟨S4x8192x8192, .f32⟩
  | .hbm, ⟨40, _⟩ => ⟨S4x8192x8192, .f32⟩
  | .hbm, ⟨41, _⟩ => ⟨S_, .f32⟩
  | .hbm, ⟨42, _⟩ => ⟨S_, .f32⟩
  | .hbm, ⟨43, _⟩ => ⟨S4x8192x8192, .f32⟩
  | .hbm, ⟨44, _⟩ => ⟨S4x8192x8192, .f32⟩
  | .hbm, ⟨45, _⟩ => ⟨S4x8192x8192, .f32⟩
  | .hbm, ⟨46, _⟩ => ⟨S_, .f32⟩
  | .hbm, ⟨47, _⟩ => ⟨S4x8192x8192, .f32⟩
  | .hbm, ⟨48, _⟩ => ⟨S4x8192x8192, .f32⟩
  | .hbm, ⟨49, _⟩ => ⟨S4x8192x8192, .f32⟩
  | .hbm, ⟨50, _⟩ => ⟨S4x8192x8192, .f32⟩
  | .hbm, ⟨51, _⟩ => ⟨S4x8192x8192, .i1⟩
  | .hbm, ⟨52, _⟩ => ⟨S4x8192x8192, .f32⟩
  | .hbm, ⟨53, _⟩ => ⟨S4x8192x8192, .f32⟩
  | .hbm, ⟨54, _⟩ => ⟨S4x8192x8192, .f32⟩
  | .hbm, ⟨55, _⟩ => ⟨S4x8192x8192, .f32⟩
  | .hbm, ⟨56, _⟩ => ⟨S4x8192x8192, .f32⟩
  | .hbm, ⟨57, _⟩ => ⟨S4x8192x8192, .f32⟩
  | .hbm, ⟨58, _⟩ => ⟨S4x8192x8192, .f32⟩
  | .hbm, ⟨59, _⟩ => ⟨S4x8192x8192, .f32⟩
  | .hbm, ⟨60, _⟩ => ⟨S4x8192x8192, .f32⟩
  | .hbm, ⟨61, _⟩ => ⟨S4x8192x8192, .f32⟩
  | .hbm, ⟨62, _⟩ => ⟨S4x8192x8192, .f32⟩
  | .hbm, ⟨63, _⟩ => ⟨S_, .f32⟩
  | .hbm, ⟨64, _⟩ => ⟨S_, .f32⟩
  | .hbm, ⟨65, _⟩ => ⟨S4x8192x8192, .i1⟩
  | .hbm, ⟨66, _⟩ => ⟨S4x8192x8192, .f32⟩
  | .hbm, ⟨67, _⟩ => ⟨S4x8192x8192, .f32⟩
  | .hbm, ⟨68, _⟩ => ⟨S4x64x8192, .f32⟩
  | .hbm, ⟨69, _⟩ => ⟨S8192x4x64, .f32⟩
  | .hbm, ⟨70, _⟩ => ⟨S8192x256, .f32⟩
  | .hbm, ⟨71, _⟩ => ⟨S8192x256, .f32⟩
  | .hbm, ⟨72, _⟩ => ⟨S8192x256, .f32⟩
  | .hbm, ⟨73, _⟩ => ⟨S8192x256, .f32⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x128, .bf16⟩
  | .local _ .vmem, ⟨7, _⟩ => ⟨S256x128, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S8192x128, .f32⟩
  | .local _ .vmem, ⟨13, _⟩ => ⟨S8192x128, .f32⟩
  | .local _ .vmem, ⟨14, _⟩ => ⟨S8192x128, .f32⟩
  | .local _ .vmem, ⟨15, _⟩ => ⟨S8192x128, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v17 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v18 : Ref sig .tc := ⟨.hbm, 40, rfl⟩
abbrev main_call2_cst : Ref sig .tc := ⟨.hbm, 41, rfl⟩
abbrev main_call2_v0 : Ref sig .tc := ⟨.hbm, 42, rfl⟩
abbrev main_v19 : Ref sig .tc := ⟨.hbm, 43, rfl⟩
abbrev main_v20 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28_0 : Ref sig .tc := ⟨.hbm, 71, rfl⟩
abbrev main_v28_1 : Ref sig .tc := ⟨.hbm, 72, rfl⟩
abbrev main_v28_2 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 32], ![false, false]⟩

def k0_mult1 (i : grid0.Coords) : BitVec 32 :=
  let arg1 : BitVec 32 := BitVec.ofNat 32 (i 1).val
  let c256_i32_23 : BitVec 32 := 256#32
  let v77 : BitVec 32 := Scalar.muli arg1 c256_i32_23
  v77
def k0_off1 (i : grid0.Coords) : Fin 2 → Nat :=
  let arg1 : BitVec 32 := BitVec.ofNat 32 (i 1).val
  let c256_i32_23 : BitVec 32 := 256#32
  let v77 : BitVec 32 := Scalar.muli arg1 c256_i32_23
  let v78 : BitVec 32 := v77
  let v83 : Index := Scalar.indexCast v78
  let c0_26 : Index := 0#32
  ![v83.toNat, 0]
def k0_mult2 (arg10 : BitVec 32) : BitVec 32 :=
  let c256_i32_61 : BitVec 32 := 256#32
  let v183 : BitVec 32 := Scalar.muli arg10 c256_i32_61
  v183

def k0_off2 (arg10 : BitVec 32) : Fin 2 → Nat :=
  let c256_i32_61 : BitVec 32 := 256#32
  let v183 : BitVec 32 := Scalar.muli arg10 c256_i32_61
  let v184 : BitVec 32 := v183
  let v185 : Index := Scalar.indexCast v184
  let c0_62 : Index := 0#32
  ![v185.toNat, 0]

def k0_chk1 (arg10 : BitVec 32) : Prop :=
  (256 ∣ (k0_mult2 arg10).toNat) ∧
  (∀ a, (k0_off2 arg10) a + S256x128.size a ≤ S8192x128.size a)
theorem k0_mult2_dvd : ∀ (arg10 : BitVec 32) (k0_hw1 : k0_chk1 arg10), 256 ∣ (k0_mult2 arg10).toNat := fun arg10 k0_hw1 => k0_hw1.1
theorem k0_off2_inb : ∀ (arg10 : BitVec 32) (k0_hw1 : k0_chk1 arg10), ∀ a, (k0_off2 arg10) a + S256x128.size a ≤ S8192x128.size a := fun arg10 k0_hw1 => k0_hw1.2

def cc0_transform_0 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Kernel2Ideal.lean ====
variable {F : FTy → Type} [FloatOps F] [Named F]
def κ : String → Option EReal := fun
  | "exit" => some ⊥
  | "series" => some ⊥
  | _ => none
-- ==== Reference2Ideal.lean ====
abbrev S8192x5120 : Shape := ⟨2, ![8192, 5120]⟩
abbrev S8192x256 : Shape := ⟨2, ![8192, 256]⟩
abbrev S8192x4x64 : Shape := ⟨3, ![8192, 4, 64]⟩
abbrev S4x8192x8192 : Shape := ⟨3, ![4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x64x8192 : Shape := ⟨3, ![4, 64, 8192]⟩
abbrev S4x8192x64 : Shape := ⟨3, ![4, 8192, 64]⟩

abbrev nBuf : Space → Nat
  | .hbm => 175
  | .vmem => 0
  | .smem => 0
  | _ => 0

abbrev hbmTy0_0 (i : Nat) : BufTy := match i % 128 with
  | 0 => ⟨S8192x5120, .bf16⟩
  | 1 => ⟨S8192x256, .bf16⟩
  | 2 => ⟨S8192x5120, .f32⟩
  | 3 => ⟨S8192x256, .f32⟩
  | 4 => ⟨S8192x256, .f32⟩
  | 5 => ⟨S8192x256, .f32⟩
  | 6 => ⟨S8192x4x64, .f32⟩
  | 7 => ⟨S8192x4x64, .f32⟩
  | 8 => ⟨S8192x4x64, .f32⟩
  | 9 => ⟨S4x8192x8192, .f32⟩
  | 10 => ⟨S_, .f32⟩
  | 11 => ⟨S4x8192x8192, .f32⟩
  | 12 => ⟨S4x8192x8192, .f32⟩
  | 13 => ⟨S8192, .i32⟩
  | 14 => ⟨S1x8192, .i32⟩
  | 15 => ⟨S8192x1, .i32⟩
  | 16 => ⟨S8192x8192, .i32⟩
  | 17 => ⟨S8192x8192, .i32⟩
  | 18 => ⟨S8192x8192, .i1⟩
  | 19 => ⟨S4x8192x8192, .f32⟩
  | 20 => ⟨S4x8192x8192, .f32⟩
  | 21 => ⟨S_, .f32⟩
  | 22 => ⟨S4x8192x8192, .f32⟩
  | 23 => ⟨S4x8192x8192, .f32⟩
  | 24 => ⟨S4x8192x8192, .f32⟩
  | 25 => ⟨S4x8192x8192, .f32⟩
  | 26 => ⟨S4x8192x8192, .i1⟩
  | 27 => ⟨S4x8192x8192, .f32⟩
  | 28 => ⟨S4x8192x8192, .f32⟩
  | 29 => ⟨S4x8192x8192, .f32⟩
  | 30 => ⟨S4x8192x8192, .f32⟩
  | 31 => ⟨S4x8192x8192, .f32⟩
  | 32 => ⟨S4x8192x8192, .f32⟩
  | 33 => ⟨S4x8192x8192, .f32⟩
  | 34 => ⟨S4x8192x8192, .f32⟩
  | 35 => ⟨S_, .f32⟩
  | 36 => ⟨S4x8192x8192, .f32⟩
  | 37 => ⟨S4x8192x8192, .i1⟩
  | 38 => ⟨S_, .f32⟩
  | 39 => ⟨S4x8192x8192, .f32⟩
  | 40 => ⟨S4x8192x8192, .f32⟩
  | 41 => ⟨S_, .f32⟩
  | 42 => ⟨S4x8192x8192, .f32⟩
  | 43 => ⟨S4x8192x8192, .i1⟩
  | 44 => ⟨S_, .f32⟩
  | 45 => ⟨S4x8192x8192, .f32⟩
  | 46 => ⟨S4x8192x8192, .f32⟩
  | 47 => ⟨S4x8192x8192, .f32⟩
  | 48 => ⟨S4x8192x8192, .f32⟩
  | 49 => ⟨S_, .f32⟩
  | 50 => ⟨S_, .f32⟩
  | 51 => ⟨S_, .i1⟩
  | 52 => ⟨S_, .f32⟩
  | 53 => ⟨S_, .f32⟩
  | 54 => ⟨S_, .f32⟩
  | 55 => ⟨S_, .f32⟩
  | 56 => ⟨S4x8192x8192, .f32⟩
  | 57 => ⟨S4x8192x8192, .i1⟩
  | 58 => ⟨S_, .f32⟩
  | 59 => ⟨S4x8192x8192, .f32⟩
  | 60 => ⟨S4x8192x8192, .f32⟩
  | 61 => ⟨S4x8192x8192, .f32⟩
  | 62 => ⟨S4x8192x8192, .f32⟩
  | 63 => ⟨S4x8192x8192, .f32⟩
  | 64 => ⟨S_, .f32⟩
  | 65 => ⟨S4x8192x8192, .f32⟩
  | 66 => ⟨S4x8192x8192, .f32⟩
  | 67 => ⟨S4x8192x8192, .f32⟩
  | 68 => ⟨S_, .f32⟩
  | 69 => ⟨S_, .f32⟩
  | 70 => ⟨S4x8192x8192, .i1⟩
  | 71 => ⟨S4x8192x8192, .f32⟩
  | 72 => ⟨S4x8192x8192, .f32⟩
  | 73 => ⟨S_, .f32⟩
  | 74 => ⟨S4x8192x8192, .f32⟩
  | 75 => ⟨S_, .f32⟩
  | 76 => ⟨S_, .f32⟩
  | 77 => ⟨S4x8192x8192, .f32⟩
  | 78 => ⟨S4x8192x8192, .f32⟩
  | 79 => ⟨S4x8192x8192, .f32⟩
  | 80 => ⟨S_, .f32⟩
  | 81 => ⟨S4x8192x8192, .f32⟩
  | 82 => ⟨S4x8192x8192, .f32⟩
  | 83 => ⟨S4x8192x8192, .f32⟩
  | 84 => ⟨S4x8192x8192, .f32⟩
  | 85 => ⟨S4x8192x8192, .i1⟩
  | 86 => ⟨S4x8192x8192, .f32⟩
  | 87 => ⟨S4x8192x8192, .f32⟩
  | 88 => ⟨S4x8192x8192, .f32⟩
  | 89 => ⟨S4x8192x8192, .f32⟩
  | 90 => ⟨S4x8192x8192, .f32⟩
  | 91 => ⟨S4x8192x8192, .f32⟩
  | 92 => ⟨S4x8192x8192, .f32⟩
  | 93 => ⟨S4x8192x8192, .f32⟩
  | 94 => ⟨S_, .f32⟩
  | 95 => ⟨S4x8192x8192, .f32⟩
  | 96 => ⟨S4x8192x8192, .i1⟩
  | 97 => ⟨S_, .f32⟩
  | 98 => ⟨S4x8192x8192, .f32⟩
  | 99 => ⟨S4x8192x8192, .f32⟩
  | 100 => ⟨S_, .f32⟩
  | 101 => ⟨S4x8192x8192, .f32⟩
  | 102 => ⟨S4x8192x8192, .i1⟩
  | 103 => ⟨S_, .f32⟩
  | 104 => ⟨S4x8192x8192, .f32⟩
  | 105 => ⟨S4x8192x8192, .f32⟩
  | 106 => ⟨S4x8192x8192, .f32⟩
  | 107 => ⟨S4x8192x8192, .f32⟩
  | 108 => ⟨S_, .f32⟩
  | 109 => ⟨S_, .f32⟩
  | 110 => ⟨S_, .i1⟩
  | 111 => ⟨S_, .f32⟩
  | 112 => ⟨S_, .f32⟩
  | 113 => ⟨S_, .f32⟩
  | 114 => ⟨S_, .f32⟩
  | 115 => ⟨S4x8192x8192, .f32⟩
  | 116 => ⟨S4x8192x8192, .i1⟩
  | 117 => ⟨S_, .f32⟩
  | 118 => ⟨S4x8192x8192, .f32⟩
  | 119 => ⟨S4x8192x8192, .f32⟩
  | 120 => ⟨S4x8192x8192, .f32⟩
  | 121 => ⟨S4x8192x8192, .f32⟩
  | 122 => ⟨S4x8192x8192, .f32⟩
  | 123 => ⟨S_, .f32⟩
  | 124 => ⟨S4x8192x8192, .f32⟩
  | 125 => ⟨S4x8192x8192, .f32⟩
  | 126 => ⟨S4x8192x8192, .f32⟩
  | 127 => ⟨S4x8192x8192, .f32⟩
  | _ => ⟨S8192x5120, .bf16⟩

abbrev hbmTy0_1 (i : Nat) : BufTy := match i % 128 with
  | 0 => ⟨S4x8192x8192, .f32⟩
  | 1 => ⟨S_, .f32⟩
  | 2 => ⟨S_, .f32⟩
  | 3 => ⟨S4x8192x8192, .i1⟩
  | 4 => ⟨S4x8192x8192, .f32⟩
  | 5 => ⟨S4x8192x8192, .f32⟩
  | 6 => ⟨S_, .f32⟩
  | 7 => ⟨S4x8192x8192, .f32⟩
  | 8 => ⟨S4x64x8192, .f32⟩
  | 9 => ⟨S8192x4x64, .f32⟩
  | 10 => ⟨S8192x256, .f32⟩
  | 11 => ⟨S8192x256, .f32⟩
  | 12 => ⟨S8192x4x64, .f32⟩
  | 13 => ⟨S4x64x8192, .f32⟩
  | 14 => ⟨S4x8192x8192, .f32⟩
  | 15 => ⟨S4x64x8192, .f32⟩
  | 16 => ⟨S8192x4x64, .f32⟩
  | 17 => ⟨S_, .f32⟩
  | 18 => ⟨S4x8192x8192, .f32⟩
  | 19 => ⟨S4x8192x8192, .f32⟩
  | 20 => ⟨S4x8192x8192, .f32⟩
  | 21 => ⟨S4x8192x8192, .f32⟩
  | 22 => ⟨S4x8192x8192, .f32⟩
  | 23 => ⟨S4x8192x8192, .f32⟩
  | 24 => ⟨S4x8192x8192, .f32⟩
  | 25 => ⟨S_, .f32⟩
  | 26 => ⟨S_, .f32⟩
  | 27 => ⟨S4x8192x8192, .f32⟩
  | 28 => ⟨S4x8192x8192, .f32⟩
  | 29 => ⟨S_, .f32⟩
  | 30 => ⟨S4x8192x8192, .f32⟩
  | 31 => ⟨S4x8192x8192, .f32⟩
  | 32 => ⟨S4x8192x8192, .f32⟩
  | 33 => ⟨S4x8192x8192, .f32⟩
  | 34 => ⟨S4x8192x8192, .f32⟩
  | 35 => ⟨S4x8192x8192, .f32⟩
  | 36 => ⟨S4x8192x8192, .f32⟩
  | 37 => ⟨S_, .f32⟩
  | 38 => ⟨S4x8192x8192, .f32⟩
  | 39 => ⟨S4x8192x8192, .f32⟩
  | 40 => ⟨S4x8192x64, .f32⟩
  | 41 => ⟨S8192x4x64, .f32⟩
  | 42 => ⟨S4x8192x64, .f32⟩
  | 43 => ⟨S8192x4x64, .f32⟩
  | 44 => ⟨S8192x256, .f32⟩
  | 45 => ⟨S8192x256, .f32⟩
  | 46 => ⟨S8192x256, .f32⟩
  | _ => ⟨S8192x5120, .bf16⟩

abbrev hbmTy (i : Nat) : BufTy := match i / 128 with
  | 0 => hbmTy0_0 i
  | 1 => hbmTy0_1 i
  | _ => ⟨S8192x5120, .bf16⟩

abbrev bufTy : (tb : Table) → Fin (tcTables nBuf tb) → BufTy
  | .hbm, ⟨i, _⟩ => hbmTy i
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1_0 : Ref sig .tc := ⟨.hbm, 34, rfl⟩
abbrev main_call0_call0_cst_0 : Ref sig .tc := ⟨.hbm, 35, rfl⟩
abbrev main_call0_call0_v13 : Ref sig .tc := ⟨.hbm, 36, rfl⟩
abbrev main_call0_call0_v14 : Ref sig .tc := ⟨.hbm, 37, rfl⟩
abbrev main_call0_call0_cst_1 : Ref sig .tc := ⟨.hbm, 38, rfl⟩
abbrev main_call0_call0_v15 : Ref sig .tc := ⟨.hbm, 39, rfl⟩
abbrev main_call0_call0_v16 : Ref sig .tc := ⟨.hbm, 40, rfl⟩
abbrev main_call0_call0_cst_2 : Ref sig .tc := ⟨.hbm, 41, rfl⟩
abbrev main_call0_call0_v17 : Ref sig .tc := ⟨.hbm, 42, rfl⟩
abbrev main_call0_call0_v18 : Ref sig .tc := ⟨.hbm, 43, rfl⟩
abbrev main_call0_call0_cst_3 : Ref sig .tc := ⟨.hbm, 44, rfl⟩
abbrev main_call0_call0_v19 : Ref sig .tc := ⟨.hbm, 45, rfl⟩
abbrev main_call0_call0_v20 : Ref sig .tc := ⟨.hbm, 46, rfl⟩
abbrev main_call0_call0_v21 : Ref sig .tc := ⟨.hbm, 47, rfl⟩
abbrev main_v17_1 : Ref sig .tc := ⟨.hbm, 48, rfl⟩
abbrev main_call0_call0_cst_4 : Ref sig .tc := ⟨.hbm, 49, rfl⟩
abbrev main_call0_call0_cst_5 : Ref sig .tc := ⟨.hbm, 50, rfl⟩
abbrev main_call0_call0_v23 : Ref sig .tc := ⟨.hbm, 51, rfl⟩
abbrev main_call0_call0_cst_6 : Ref sig .tc := ⟨.hbm, 52, rfl⟩
abbrev main_call0_call0_cst_7 : Ref sig .tc := ⟨.hbm, 53, rfl⟩
abbrev main_call0_call0_v24 : Ref sig .tc := ⟨.hbm, 54, rfl⟩
abbrev main_call0_call0_cst_8 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_cst_9 : Ref sig .tc := ⟨.hbm, 58, rfl⟩
abbrev main_call0_call0_v27 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_v30 : Ref sig .tc := ⟨.hbm, 62, rfl⟩
abbrev main_call0_call0_v31 : Ref sig .tc := ⟨.hbm, 63, rfl⟩
abbrev main_call0_call0_cst_10 : Ref sig .tc := ⟨.hbm, 64, rfl⟩
abbrev main_call0_call0_v32 : Ref sig .tc := ⟨.hbm, 65, rfl⟩
abbrev main_v17_2 : Ref sig .tc := ⟨.hbm, 66, rfl⟩
abbrev main_v17_0 : Ref sig .tc := ⟨.hbm, 67, rfl⟩
abbrev main_cst_0 : Ref sig .tc := ⟨.hbm, 68, rfl⟩
abbrev main_call1_v0 : Ref sig .tc := ⟨.hbm, 69, rfl⟩
abbrev main_v18_1 : Ref sig .tc := ⟨.hbm, 70, rfl⟩
abbrev main_call1_v2 : Ref sig .tc := ⟨.hbm, 71, rfl⟩
abbrev main_v18_0 : Ref sig .tc := ⟨.hbm, 72, rfl⟩
abbrev main_call1_cst : Ref sig .tc := ⟨.hbm, 73, rfl⟩
abbrev main_v18_2 : Ref sig .tc := ⟨.hbm, 74, rfl⟩
abbrev main_call2_cst : Ref sig .tc := ⟨.hbm, 75, rfl⟩
abbrev main_call2_v0 : Ref sig .tc := ⟨.hbm, 76, rfl⟩
abbrev main_v19 : Ref sig .tc := ⟨.hbm, 77, rfl⟩
abbrev main_v20 : Ref sig .tc := ⟨.hbm, 78, rfl⟩
abbrev main_call3_v0 : Ref sig .tc := ⟨.hbm, 79, rfl⟩
abbrev main_call3_call0_cst : Ref sig .tc := ⟨.hbm, 80, rfl⟩
abbrev main_call3_call0_v0 : Ref sig .tc := ⟨.hbm, 81, rfl⟩
abbrev main_call3_call0_v1 : Ref sig .tc := ⟨.hbm, 82, rfl⟩
abbrev main_call3_call0_v2 : Ref sig .tc := ⟨.hbm, 83, rfl⟩
abbrev main_call3_call0_v3 : Ref sig .tc := ⟨.hbm, 84, rfl⟩
abbrev main_call3_call0_v4 : Ref sig .tc := ⟨.hbm, 85, rfl⟩
abbrev main_call3_call0_v5 : Ref sig .tc := ⟨.hbm, 86, rfl⟩
abbrev main_call3_call0_v6 : Ref sig .tc := ⟨.hbm, 87, rfl⟩
abbrev main_call3_call0_v7 : Ref sig .tc := ⟨.hbm, 88, rfl⟩
abbrev main_call3_call0_v8 : Ref sig .tc := ⟨.hbm, 89, rfl⟩
abbrev main_call3_call0_v9 : Ref sig .tc := ⟨.hbm, 90, rfl⟩
abbrev main_call3_call0_v10 : Ref sig .tc := ⟨.hbm, 91, rfl⟩
abbrev main_call3_call0_v11 : Ref sig .tc := ⟨.hbm, 92, rfl⟩
abbrev main_call3_v1_0 : Ref sig .tc := ⟨.hbm, 93, rfl⟩
abbrev main_call3_call0_cst_0 : Ref sig .tc := ⟨.hbm, 94, rfl⟩
abbrev main_call3_call0_v13 : Ref sig .tc := ⟨.hbm, 95, rfl⟩
abbrev main_call3_call0_v14 : Ref sig .tc := ⟨.hbm, 96, rfl⟩
abbrev main_call3_call0_cst_1 : Ref sig .tc := ⟨.hbm, 97, rfl⟩
abbrev main_call3_call0_v15 : Ref sig .tc := ⟨.hbm, 98, rfl⟩
abbrev main_call3_call0_v16 : Ref sig .tc := ⟨.hbm, 99, rfl⟩
abbrev main_call3_call0_cst_2 : Ref sig .tc := ⟨.hbm, 100, rfl⟩
abbrev main_call3_call0_v17 : Ref sig .tc := ⟨.hbm, 101, rfl⟩
abbrev main_call3_call0_v18 : Ref sig .tc := ⟨.hbm, 102, rfl⟩
abbrev main_call3_call0_cst_3 : Ref sig .tc := ⟨.hbm, 103, rfl⟩
abbrev main_call3_call0_v19 : Ref sig .tc := ⟨.hbm, 104, rfl⟩
abbrev main_call3_call0_v20 : Ref sig .tc := ⟨.hbm, 105, rfl⟩
abbrev main_call3_call0_v21 : Ref sig .tc := ⟨.hbm, 106, rfl⟩
abbrev main_v21_1 : Ref sig .tc := ⟨.hbm, 107, rfl⟩
abbrev main_call3_call0_cst_4 : Ref sig .tc := ⟨.hbm, 108, rfl⟩
abbrev main_call3_call0_cst_5 : Ref sig .tc := ⟨.hbm, 109, rfl⟩
abbrev main_call3_call0_v23 : Ref sig .tc := ⟨.hbm, 110, rfl⟩
abbrev main_call3_call0_cst_6 : Ref sig .tc := ⟨.hbm, 111, rfl⟩
abbrev main_call3_call0_cst_7 : Ref sig .tc := ⟨.hbm, 112, rfl⟩
abbrev main_call3_call0_v24 : Ref sig .tc := ⟨.hbm, 113, rfl⟩
abbrev main_call3_call0_cst_8 : Ref sig .tc := ⟨.hbm, 114, rfl⟩
abbrev main_call3_call0_v25 : Ref sig .tc := ⟨.hbm, 115, rfl⟩
abbrev main_call3_call0_v26 : Ref sig .tc := ⟨.hbm, 116, rfl⟩
abbrev main_call3_call0_cst_9 : Ref sig .tc := ⟨.hbm, 117, rfl⟩
abbrev main_call3_call0_v27 : Ref sig .tc := ⟨.hbm, 118, rfl⟩
abbrev main_call3_call0_v28 : Ref sig .tc := ⟨.hbm, 119, rfl⟩
abbrev main_call3_call0_v29 : Ref sig .tc := ⟨.hbm, 120, rfl⟩
abbrev main_call3_call0_v30 : Ref sig .tc := ⟨.hbm, 121, rfl⟩
abbrev main_call3_call0_v31 : Ref sig .tc := ⟨.hbm, 122, rfl⟩
abbrev main_call3_call0_cst_10 : Ref sig .tc := ⟨.hbm, 123, rfl⟩
abbrev main_call3_call0_v32 : Ref sig .tc := ⟨.hbm, 124, rfl⟩
abbrev main_v21_2 : Ref sig .tc := ⟨.hbm, 125, rfl⟩
abbrev main_v21_0 : Ref sig .tc := ⟨.hbm, 126, rfl⟩
abbrev main_v22 : Ref sig .tc := ⟨.hbm, 127, rfl⟩
abbrev main_v23 : Ref sig .tc := ⟨.hbm, 128, rfl⟩
abbrev main_cst_1 : Ref sig .tc := ⟨.hbm, 129, rfl⟩
abbrev main_call4_v0 : Ref sig .tc := ⟨.hbm, 130, rfl⟩
abbrev main_v24_1 : Ref sig .tc := ⟨.hbm, 131, rfl⟩
abbrev main_call4_v2 : Ref sig .tc := ⟨.hbm, 132, rfl⟩
abbrev main_v24_0 : Ref sig .tc := ⟨.hbm, 133, rfl⟩
abbrev main_call4_cst : Ref sig .tc := ⟨.hbm, 134, rfl⟩
abbrev main_v24_2 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_call5_cst : Ref sig .tc := ⟨.hbm, 145, rfl⟩
abbrev main_call5_v0 : Ref sig .tc := ⟨.hbm, 146, rfl⟩
abbrev main_v34 : Ref sig .tc := ⟨.hbm, 147, rfl⟩
abbrev main_v35 : Ref sig .tc := ⟨.hbm, 148, rfl⟩
abbrev main_call6_v0 : Ref sig .tc := ⟨.hbm, 149, rfl⟩
abbrev main_call6_v1 : Ref sig .tc := ⟨.hbm, 150, rfl⟩
abbrev main_v36 : Ref sig .tc := ⟨.hbm, 151, rfl⟩
abbrev main_v37 : Ref sig .tc := ⟨.hbm, 152, rfl⟩
abbrev main_call7_cst : Ref sig .tc := ⟨.hbm, 153, rfl⟩
abbrev main_call7_v0 : Ref sig .tc := ⟨.hbm, 154, rfl⟩
abbrev main_v38 : Ref sig .tc := ⟨.hbm, 155, rfl⟩
abbrev main_v39 : Ref sig .tc := ⟨.hbm, 156, rfl⟩
abbrev main_call8_cst : Ref sig .tc := ⟨.hbm, 157, rfl⟩
abbrev main_call8_v0 : Ref sig .tc := ⟨.hbm, 158, rfl⟩
abbrev main_v40 : Ref sig .tc := ⟨.hbm, 159, rfl⟩
abbrev main_call9_v0 : Ref sig .tc := ⟨.hbm, 160, rfl⟩
abbrev main_call9_v1 : Ref sig .tc := ⟨.hbm, 161, rfl⟩
abbrev main_v41 : Ref sig .tc := ⟨.hbm, 162, rfl⟩
abbrev main_v42 : Ref sig .tc := ⟨.hbm, 163, rfl⟩
abbrev main_v43 : Ref sig .tc := ⟨.hbm, 164, rfl⟩
abbrev main_cst_2 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩

abbrev nD : Nat := 1
abbrev τ : Topo := Topo.v7x

variable {F : FTy → Type} [FloatOps F]
-- ==== Kernel3.lean ====
abbrev S8192x5120 : Shape := ⟨2, ![8192, 5120]⟩
abbrev S1024x5120 : Shape := ⟨2, ![1024, 5120]⟩
abbrev S8192x1024 : Shape := ⟨2, ![8192, 1024]⟩
abbrev S1024 : Shape := ⟨1, ![1024]⟩
abbrev S1x1024 : Shape := ⟨2, ![1, 1024]⟩
abbrev S512x5120 : Shape := ⟨2, ![512, 5120]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x5120, .bf16⟩
  | .hbm, ⟨1, _⟩ => ⟨S1024x5120, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S512x5120, .bf16⟩
  | .local _ .vmem, ⟨1, _⟩ => ⟨S512x5120, .bf16⟩
  | .local _ .vmem, ⟨2, _⟩ => ⟨S1024x5120, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S8192x5120 : Shape := ⟨2, ![8192, 5120]⟩
abbrev S1024x5120 : Shape := ⟨2, ![1024, 5120]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S1024x5120, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x5120, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x5120, .f32⟩
  | .hbm, ⟨27, _⟩ => ⟨S8192x5120, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel4.lean ====
abbrev S8192x1024 : Shape := ⟨2, ![8192, 1024]⟩
abbrev S1024x1024 : Shape := ⟨2, ![1024, 1024]⟩
abbrev S8192x256 : Shape := ⟨2, ![8192, 256]⟩
abbrev S8192x5120 : Shape := ⟨2, ![8192, 5120]⟩
abbrev S2048 : Shape := ⟨1, ![2048]⟩
abbrev S512x1024 : Shape := ⟨2, ![512, 1024]⟩
abbrev S1x2048 : Shape := ⟨2, ![1, 2048]⟩
abbrev S8192x2048 : Shape := ⟨2, ![8192, 2048]⟩
abbrev S256x1024 : Shape := ⟨2, ![256, 1024]⟩
abbrev S256x256 : Shape := ⟨2, ![256, 256]⟩
abbrev S256x2048 : Shape := ⟨2, ![256, 2048]⟩
abbrev S1x256 : Shape := ⟨2, ![1, 256]⟩
abbrev S256 : Shape := ⟨1, ![256]⟩

abbrev nBuf : Space → Nat
  | .hbm => 16
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x5120, .bf16⟩
  | .hbm, ⟨6, _⟩ => ⟨S2048, .f32⟩
  | .hbm, ⟨7, _⟩ => ⟨S512x1024, .bf16⟩
  | .hbm, ⟨8, _⟩ => ⟨S1x2048, .f32⟩
  | .hbm, ⟨9, _⟩ => ⟨S8192x1024, .bf16⟩
  | .hbm, ⟨10, _⟩ => ⟨S8192x1024, .bf16⟩
  | .hbm, ⟨11, _⟩ => ⟨S8192x256, .bf16⟩
  | .hbm, ⟨12, _⟩ => ⟨S8192x256, .bf16⟩
  | .hbm, ⟨13, _⟩ => ⟨S8192x256, .f32⟩
  | .hbm, ⟨14, _⟩ => ⟨S8192x2048, .bf16⟩
  | .hbm, ⟨15, _⟩ => ⟨S1x2048, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S1x2048, .f32⟩
  | .local _ .vmem, ⟨14, _⟩ => ⟨S512x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x256, .bf16⟩
  | .local _ .vmem, ⟨20, _⟩ => ⟨S256x256, .bf16⟩
  | .local _ .vmem, ⟨21, _⟩ => ⟨S256x256, .bf16⟩
  | .local _ .vmem, ⟨22, _⟩ => ⟨S256x256, .bf16⟩
  | .local _ .vmem, ⟨23, _⟩ => ⟨S256x256, .f32⟩
  | .local _ .vmem, ⟨24, _⟩ => ⟨S256x256, .f32⟩
  | .local _ .vmem, ⟨25, _⟩ => ⟨S256x2048, .bf16⟩
  | .local _ .vmem, ⟨26, _⟩ => ⟨S256x2048, .bf16⟩
  | .local _ .vmem, ⟨27, _⟩ => ⟨S1x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev main_v1_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference4Ideal.lean ====
abbrev S8192x1024 : Shape := ⟨2, ![8192, 1024]⟩
abbrev S1024x1024 : Shape := ⟨2, ![1024, 1024]⟩
abbrev S8192x256 : Shape := ⟨2, ![8192, 256]⟩
abbrev S8192x5120 : Shape := ⟨2, ![8192, 5120]⟩
abbrev S2048 : Shape := ⟨1, ![2048]⟩
abbrev S512x1024 : Shape := ⟨2, ![512, 1024]⟩
abbrev S8192x2048 : Shape := ⟨2, ![8192, 2048]⟩
abbrev S256x1024 : Shape := ⟨2, ![256, 1024]⟩
abbrev S1x2048 : Shape := ⟨2, ![1, 2048]⟩
abbrev S_ : Shape := ⟨0, ![]⟩
abbrev S8192x4x64 : Shape := ⟨3, ![8192, 4, 64]⟩
abbrev S8192x4 : Shape := ⟨2, ![8192, 4]⟩
abbrev S256 : Shape := ⟨1, ![256]⟩

abbrev nBuf : Space → Nat
  | .hbm => 95
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x5120, .bf16⟩
  | .hbm, ⟨6, _⟩ => ⟨S2048, .f32⟩
  | .hbm, ⟨7, _⟩ => ⟨S512x1024, .bf16⟩
  | .hbm, ⟨8, _⟩ => ⟨S1024x1024, .f32⟩
  | .hbm, ⟨9, _⟩ => ⟨S512x1024, .f32⟩
  | .hbm, ⟨10, _⟩ => ⟨S8192x2048, .bf16⟩
  | .hbm, ⟨11, _⟩ => ⟨S8192x2048, .f32⟩
  | .hbm, ⟨12, _⟩ => ⟨S256x1024, .f32⟩
  | .hbm, ⟨13, _⟩ => ⟨S8192x1024, .f32⟩
  | .hbm, ⟨14, _⟩ => ⟨S256x1024, .f32⟩
  | .hbm, ⟨15, _⟩ => ⟨S8192x1024, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x2048, .f32⟩
  | .hbm, ⟨44, _⟩ => ⟨S_, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S_, .f32⟩
  | .hbm, ⟨52, _⟩ => ⟨S2048, .f32⟩
  | .hbm, ⟨53, _⟩ => ⟨S8192x256, .f32⟩
  | .hbm, ⟨54, _⟩ => ⟨S8192x256, .f32⟩
  | .hbm, ⟨55, _⟩ => ⟨S8192x256, .f32⟩
  | .hbm, ⟨56, _⟩ => ⟨S8192x4x64, .f32⟩
  | .hbm, ⟨57, _⟩ => ⟨S_, .f32⟩
  | .hbm, ⟨58, _⟩ => ⟨S8192x4, .f32⟩
  | .hbm, ⟨59, _⟩ => ⟨S256, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S256, .i32⟩
  | .hbm, ⟨67, _⟩ => ⟨S256, .i32⟩
  | .hbm, ⟨68, _⟩ => ⟨S_, .i32⟩
  | .hbm, ⟨69, _⟩ => ⟨S256, .i32⟩
  | .hbm, ⟨70, _⟩ => ⟨S256, .i1⟩
  | .hbm, ⟨71, _⟩ => ⟨S_, .i32⟩
  | .hbm, ⟨72, _⟩ => ⟨S256, .i32⟩
  | .hbm, ⟨73, _⟩ => ⟨S256, .i1⟩
  | .hbm, ⟨74, _⟩ => ⟨S_, .i32⟩
  | .hbm, ⟨75, _⟩ => ⟨S_, .i1⟩
  | .hbm, ⟨76, _⟩ => ⟨S256, .i1⟩
  | .hbm, ⟨77, _⟩ => ⟨S256, .i1⟩
  | .hbm, ⟨78, _⟩ => ⟨S256, .i1⟩
  | .hbm, ⟨79, _⟩ => ⟨S256, .i32⟩
  | .hbm, ⟨80, _⟩ => ⟨S256, .i32⟩
  | .hbm, ⟨81, _⟩ => ⟨S256, .i32⟩
  | .hbm, ⟨82, _⟩ => ⟨S_, .i32⟩
  | .hbm, ⟨83, _⟩ => ⟨S256, .i32⟩
  | .hbm, ⟨84, _⟩ => ⟨S256, .i1⟩
  | .hbm, ⟨85, _⟩ => ⟨S8192x4x64, .f32⟩
  | .hbm, ⟨86, _⟩ => ⟨S8192x256, .f32⟩
  | .hbm, ⟨87, _⟩ => ⟨S8192x256, .i1⟩
  | .hbm, ⟨88, _⟩ => ⟨S8192x256, .f32⟩
  | .hbm, ⟨89, _⟩ => ⟨S8192x1024, .bf16⟩
  | .hbm, ⟨90, _⟩ => ⟨S8192x1024, .bf16⟩
  | .hbm, ⟨91, _⟩ => ⟨S8192x256, .bf16⟩
  | .hbm, ⟨92, _⟩ => ⟨S8192x256, .bf16⟩
  | .hbm, ⟨93, _⟩ => ⟨S8192x2048, .bf16⟩
  | .hbm, ⟨94, _⟩ => ⟨S1x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_c : Ref sig .tc := ⟨.hbm, 60, rfl⟩
abbrev main_call0_v0 : Ref sig .tc := ⟨.hbm, 61, rfl⟩
abbrev main_call0_c : Ref sig .tc := ⟨.hbm, 62, rfl⟩
abbrev main_call0_v1 : Ref sig .tc := ⟨.hbm, 63, rfl⟩
abbrev main_call0_c_0 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_c_1 : Ref sig .tc := ⟨.hbm, 68, rfl⟩
abbrev main_call0_v5 : Ref sig .tc := ⟨.hbm, 69, rfl⟩
abbrev main_call0_v6 : Ref sig .tc := ⟨.hbm, 70, rfl⟩
abbrev main_call0_c_2 : Ref sig .tc := ⟨.hbm, 71, rfl⟩
abbrev main_call0_v7 : Ref sig .tc := ⟨.hbm, 72, rfl⟩
abbrev main_call0_v8 : Ref sig .tc := ⟨.hbm, 73, rfl⟩
abbrev main_call0_c_3 : Ref sig .tc := ⟨.hbm, 74, rfl⟩
abbrev main_call0_v9 : Ref sig .tc := ⟨.hbm, 75, rfl⟩
abbrev main_call0_v10 : Ref sig .tc := ⟨.hbm, 76, rfl⟩
abbrev main_call0_v11 : Ref sig .tc := ⟨.hbm, 77, rfl⟩
abbrev main_call0_v12 : Ref sig .tc := ⟨.hbm, 78, rfl⟩
abbrev main_call0_v13 : Ref sig .tc := ⟨.hbm, 79, rfl⟩
abbrev main_call0_v14 : Ref sig .tc := ⟨.hbm, 80, rfl⟩
abbrev main_v44 : Ref sig .tc := ⟨.hbm, 81, rfl⟩
abbrev main_c_7 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_call1_v0 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩

abbrev nD : Nat := 1
abbrev τ : Topo := Topo.v7x

variable {F : FTy → Type} [FloatOps F]
-- ==== Kernel5.lean ====
abbrev S8192x5120 : Shape := ⟨2, ![8192, 5120]⟩
abbrev S8192x256 : Shape := ⟨2, ![8192, 256]⟩
abbrev S256x256 : Shape := ⟨2, ![256, 256]⟩
abbrev S1024x256 : Shape := ⟨2, ![1024, 256]⟩
abbrev S1024x1 : Shape := ⟨2, ![1024, 1]⟩
abbrev S1x1024x1 : Shape := ⟨3, ![1, 1024, 1]⟩
abbrev S1 : Shape := ⟨1, ![1]⟩
abbrev S1x1x1 : Shape := ⟨3, ![1, 1, 1]⟩

abbrev nBuf : Space → Nat
  | .hbm => 2
  | .vmem => 6
  | .smem => 0
  | _ => 0

abbrev bufTy : (tb : Table) → Fin (tcTables nBuf tb) → BufTy
  | .hbm, ⟨0, _⟩ => ⟨S8192x5120, .bf16⟩
  | .hbm, ⟨1, _⟩ => ⟨S8192x256, .f32⟩
  | .local _ .vmem, ⟨0, _⟩ => ⟨S256x256, .bf16⟩
  | .local _ .vmem, ⟨1, _⟩ => ⟨S256x256, .bf16⟩
  | .local _ .vmem, ⟨2, _⟩ => ⟨S8192x256, .bf16⟩
  | .local _ .vmem, ⟨3, _⟩ => ⟨S8192x256, .bf16⟩
  | .local _ .vmem, ⟨4, _⟩ => ⟨S256x256, .f32⟩
  | .local _ .vmem, ⟨5, _⟩ => ⟨S256x256, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 32], ![false, false]⟩

def k0_mult1 (i : grid0.Coords) : BitVec 32 :=
  let arg1 : BitVec 32 := BitVec.ofNat 32 (i 1).val
  let c256_i32_13 : BitVec 32 := 256#32
  let v60 : BitVec 32 := Scalar.muli arg1 c256_i32_13
  v60
def k0_off1 (i : grid0.Coords) : Fin 2 → Nat :=
  let arg1 : BitVec 32 := BitVec.ofNat 32 (i 1).val
  let c256_i32_13 : BitVec 32 := 256#32
  let v60 : BitVec 32 := Scalar.muli arg1 c256_i32_13
  let v61 : BitVec 32 := v60
  let v66 : Index := Scalar.indexCast v61
  let c0_16 : Index := 0#32
  ![v66.toNat, 0]
def k0_mult2 (arg6 : BitVec 32) : BitVec 32 :=
  let c256_i32_38 : BitVec 32 := 256#32
  let v130 : BitVec 32 := Scalar.muli arg6 c256_i32_38
  v130

def k0_off2 (arg6 : BitVec 32) : Fin 2 → Nat :=
  let c256_i32_38 : BitVec 32 := 256#32
  let v130 : BitVec 32 := Scalar.muli arg6 c256_i32_38
  let v131 : BitVec 32 := v130
  let v132 : Index := Scalar.indexCast v131
  let c0_39 : Index := 0#32
  ![v132.toNat, 0]

def k0_chk1 (arg6 : BitVec 32) : Prop :=
  (256 ∣ (k0_mult2 arg6).toNat) ∧
  (∀ a, (k0_off2 arg6) a + S256x256.size a ≤ S8192x256.size a)
theorem k0_mult2_dvd : ∀ (arg6 : BitVec 32) (k0_hw1 : k0_chk1 arg6), 256 ∣ (k0_mult2 arg6).toNat := fun arg6 k0_hw1 => k0_hw1.1
theorem k0_off2_inb : ∀ (arg6 : BitVec 32) (k0_hw1 : k0_chk1 arg6), ∀ a, (k0_off2 arg6) a + S256x256.size a ≤ S8192x256.size a := fun arg6 k0_hw1 => k0_hw1.2

def cc0_transform_0 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel5Ideal.lean ====
variable {F : FTy → Type} [FloatOps F] [Named F]
def κ : String → Option EReal := fun
  | "exit" => some ⊥
  | "series" => some ⊥
  | _ => none
-- ==== Reference5Ideal.lean ====
abbrev S8192x5120 : Shape := ⟨2, ![8192, 5120]⟩
abbrev S8192x256 : Shape := ⟨2, ![8192, 256]⟩
abbrev S8192x4x64 : Shape := ⟨3, ![8192, 4, 64]⟩
abbrev S4x8192x8192 : Shape := ⟨3, ![4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x64x8192 : Shape := ⟨3, ![4, 64, 8192]⟩

abbrev nBuf : Space → Nat
  | .hbm => 70
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S8192x5120, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x4x64, .f32⟩
  | .hbm, ⟨6, _⟩ => ⟨S8192x4x64, .f32⟩
  | .hbm, ⟨7, _⟩ => ⟨S8192x4x64, .f32⟩
  | .hbm, ⟨8, _⟩ => ⟨S4x8192x8192, .f32⟩
  | .hbm, ⟨9, _⟩ => ⟨S_, .f32⟩
  | .hbm, ⟨10, _⟩ => ⟨S4x8192x8192, .f32⟩
  | .hbm, ⟨11, _⟩ => ⟨S4x8192x8192, .f32⟩
  | .hbm, ⟨12, _⟩ => ⟨S8192, .i32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S4x8192x8192, .f32⟩
  | .hbm, ⟨19, _⟩ => ⟨S4x8192x8192, .f32⟩
  | .hbm, ⟨20, _⟩ => ⟨S_, .f32⟩
  | .hbm, ⟨21, _⟩ => ⟨S4x8192x8192, .f32⟩
  | .hbm, ⟨22, _⟩ => ⟨S4x8192x8192, .f32⟩
  | .hbm, ⟨23, _⟩ => ⟨S4x8192x8192, .f32⟩
  | .hbm, ⟨24, _⟩ => ⟨S4x8192x8192, .f32⟩
  | .hbm, ⟨25, _⟩ => ⟨S4x8192x8192, .i1⟩
  | .hbm, ⟨26, _⟩ => ⟨S4x8192x8192, .f32⟩
  | .hbm, ⟨27, _⟩ => ⟨S4x8192x8192, .f32⟩
  | .hbm, ⟨28, _⟩ => ⟨S4x8192x8192, .f32⟩
  | .hbm, ⟨29, _⟩ => ⟨S4x8192x8192, .f32⟩
  | .hbm, ⟨30, _⟩ => ⟨S4x8192x8192, .f32⟩
  | .hbm, ⟨31, _⟩ => ⟨S4x8192x8192, .f32⟩
  | .hbm, ⟨32, _⟩ => ⟨S4x8192x8192, .f32⟩
  | .hbm, ⟨33, _⟩ => ⟨S4x8192x8192, .f32⟩
  | .hbm, ⟨34, _⟩ => ⟨S4x8192x8192, .f32⟩
  | .hbm, ⟨35, _⟩ => ⟨S_, .f32⟩
  | .hbm, ⟨36, _⟩ => ⟨S_, .f32⟩
  | .hbm, ⟨37, _⟩ => ⟨S4x8192x8192, .i1⟩
  | .hbm, ⟨38, _⟩ => ⟨S4x8192x8192, .f32⟩
  | .hbm, ⟨39, _⟩ => ⟨S4x8192x8192, .f32⟩
  | .hbm, ⟨40, _⟩ => ⟨S_, .f32⟩
  | .hbm, ⟨41, _⟩ => ⟨S_, .f32⟩
  | .hbm, ⟨42, _⟩ => ⟨S4x8192x8192, .f32⟩
  | .hbm, ⟨43, _⟩ => ⟨S4x8192x8192, .f32⟩
  | .hbm, ⟨44, _⟩ => ⟨S4x8192x8192, .f32⟩
  | .hbm, ⟨45, _⟩ => ⟨S_, .f32⟩
  | .hbm, ⟨46, _⟩ => ⟨S4x8192x8192, .f32⟩
  | .hbm, ⟨47, _⟩ => ⟨S4x8192x8192, .f32⟩
  | .hbm, ⟨48, _⟩ => ⟨S4x8192x8192, .f32⟩
  | .hbm, ⟨49, _⟩ => ⟨S4x8192x8192, .f32⟩
  | .hbm, ⟨50, _⟩ => ⟨S4x8192x8192, .i1⟩
  | .hbm, ⟨51, _⟩ => ⟨S4x8192x8192, .f32⟩
  | .hbm, ⟨52, _⟩ => ⟨S4x8192x8192, .f32⟩
  | .hbm, ⟨53, _⟩ => ⟨S4x8192x8192, .f32⟩
  | .hbm, ⟨54, _⟩ => ⟨S4x8192x8192, .f32⟩
  | .hbm, ⟨55, _⟩ => ⟨S4x8192x8192, .f32⟩
  | .hbm, ⟨56, _⟩ => ⟨S4x8192x8192, .f32⟩
  | .hbm, ⟨57, _⟩ => ⟨S4x8192x8192, .f32⟩
  | .hbm, ⟨58, _⟩ => ⟨S4x8192x8192, .f32⟩
  | .hbm, ⟨59, _⟩ => ⟨S4x8192x8192, .f32⟩
  | .hbm, ⟨60, _⟩ => ⟨S4x8192x8192, .f32⟩
  | .hbm, ⟨61, _⟩ => ⟨S4x8192x8192, .f32⟩
  | .hbm, ⟨62, _⟩ => ⟨S_, .f32⟩
  | .hbm, ⟨63, _⟩ => ⟨S_, .f32⟩
  | .hbm, ⟨64, _⟩ => ⟨S4x8192x8192, .i1⟩
  | .hbm, ⟨65, _⟩ => ⟨S4x8192x8192, .f32⟩
  | .hbm, ⟨66, _⟩ => ⟨S4x8192x8192, .f32⟩
  | .hbm, ⟨67, _⟩ => ⟨S4x64x8192, .f32⟩
  | .hbm, ⟨68, _⟩ => ⟨S8192x4x64, .f32⟩
  | .hbm, ⟨69, _⟩ => ⟨S8192x256, .f32⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v17 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v18 : Ref sig .tc := ⟨.hbm, 39, rfl⟩
abbrev main_call2_cst : Ref sig .tc := ⟨.hbm, 40, rfl⟩
abbrev main_call2_v0 : Ref sig .tc := ⟨.hbm, 41, rfl⟩
abbrev main_v19 : Ref sig .tc := ⟨.hbm, 42, rfl⟩
abbrev main_v20 : Ref sig .tc := ⟨.hbm, 43, rfl⟩
abbrev main_call3_v0 : Ref sig .tc := ⟨.hbm, 44, rfl⟩
abbrev main_call3_call0_cst : Ref sig .tc := ⟨.hbm, 45, rfl⟩
abbrev main_call3_call0_v0 : Ref sig .tc := ⟨.hbm, 46, rfl⟩
abbrev main_call3_call0_v1 : Ref sig .tc := ⟨.hbm, 47, rfl⟩
abbrev main_call3_call0_v2 : Ref sig .tc := ⟨.hbm, 48, rfl⟩
abbrev main_call3_call0_v3 : Ref sig .tc := ⟨.hbm, 49, rfl⟩
abbrev main_call3_call0_v4 : Ref sig .tc := ⟨.hbm, 50, rfl⟩
abbrev main_call3_call0_v5 : Ref sig .tc := ⟨.hbm, 51, rfl⟩
abbrev main_call3_call0_v6 : Ref sig .tc := ⟨.hbm, 52, rfl⟩
abbrev main_call3_call0_v7 : Ref sig .tc := ⟨.hbm, 53, rfl⟩
abbrev main_call3_call0_v8 : Ref sig .tc := ⟨.hbm, 54, rfl⟩
abbrev main_call3_call0_v9 : Ref sig .tc := ⟨.hbm, 55, rfl⟩
abbrev main_call3_call0_v10 : Ref sig .tc := ⟨.hbm, 56, rfl⟩
abbrev main_call3_call0_v11 : Ref sig .tc := ⟨.hbm, 57, rfl⟩
abbrev main_call3_v1 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩

abbrev nD : Nat := 1
abbrev τ : Topo := Topo.v7x

variable {F : FTy → Type} [FloatOps F]
-- ==== Kernel6.lean ====
abbrev S8192x5632 : Shape := ⟨2, ![8192, 5632]⟩
abbrev S1024x5632 : Shape := ⟨2, ![1024, 5632]⟩
abbrev S8192x1024 : Shape := ⟨2, ![8192, 1024]⟩
abbrev S1024 : Shape := ⟨1, ![1024]⟩
abbrev S1x1024 : Shape := ⟨2, ![1, 1024]⟩
abbrev S512x5632 : Shape := ⟨2, ![512, 5632]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference6Ideal.lean ====
abbrev S8192x5632 : Shape := ⟨2, ![8192, 5632]⟩
abbrev S1024x5632 : Shape := ⟨2, ![1024, 5632]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x5632, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x5632, .f32⟩
  | .hbm, ⟨27, _⟩ => ⟨S8192x5632, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel7.lean ====
abbrev S8192x5120 : Shape := ⟨2, ![8192, 5120]⟩
abbrev S8192x256 : Shape := ⟨2, ![8192, 256]⟩
abbrev S8192x768 : Shape := ⟨2, ![8192, 768]⟩
abbrev S8192x3x4x64 : Shape := ⟨4, ![8192, 3, 4, 64]⟩
abbrev S3x4x8192x64 : Shape := ⟨4, ![3, 4, 8192, 64]⟩
abbrev S8192x4x64 : Shape := ⟨3, ![8192, 4, 64]⟩
abbrev S4x8192x64 : Shape := ⟨3, ![4, 8192, 64]⟩
abbrev S3x1x8192x8192 : Shape := ⟨4, ![3, 1, 8192, 8192]⟩
abbrev S_ : Shape := ⟨0, ![]⟩
abbrev S3x4x8192x1x64 : Shape := ⟨5, ![3, 4, 8192, 1, 64]⟩
abbrev S3x4x1x8192x64 : Shape := ⟨5, ![3, 4, 1, 8192, 64]⟩
abbrev S3x4x8192x8192x64 : Shape := ⟨5, ![3, 4, 8192, 8192, 64]⟩
abbrev S3x4x8192x8192 : Shape := ⟨4, ![3, 4, 8192, 8192]⟩
abbrev S1 : Shape := ⟨1, ![1]⟩
abbrev S12 : Shape := ⟨1, ![12]⟩
abbrev S3x4x1x1 : Shape := ⟨4, ![3, 4, 1, 1]⟩
abbrev S3x4x8192 : Shape := ⟨3, ![3, 4, 8192]⟩
abbrev S3x4x8192x1 : Shape := ⟨4, ![3, 4, 8192, 1]⟩
abbrev S3x4x8192x8192x1 : Shape := ⟨5, ![3, 4, 8192, 8192, 1]⟩
abbrev S4x8192x1 : Shape := ⟨3, ![4, 8192, 1]⟩
abbrev S1x4x8192x1 : Shape := ⟨4, ![1, 4, 8192, 1]⟩
abbrev S4x8192 : Shape := ⟨2, ![4, 8192]⟩
abbrev S4x8192x32 : Shape := ⟨3, ![4, 8192, 32]⟩
abbrev S512x16x256 : Shape := ⟨3, ![512, 16, 256]⟩
abbrev S16x512x256 : Shape := ⟨3, ![16, 512, 256]⟩
abbrev S1x512x256 : Shape := ⟨3, ![1, 512, 256]⟩
abbrev S1x128x256 : Shape := ⟨3, ![1, 128, 256]⟩
abbrev S128x256 : Shape := ⟨2, ![128, 256]⟩
abbrev S128x128 : Shape := ⟨2, ![128, 128]⟩
abbrev S512x128 : Shape := ⟨2, ![512, 128]⟩
abbrev S512x256 : Shape := ⟨2, ![512, 256]⟩
abbrev S1x128x1 : Shape := ⟨3, ![1, 128, 1]⟩
abbrev S128x1 : Shape := ⟨2, ![128, 1]⟩
abbrev S512x1 : Shape := ⟨2, ![512, 1]⟩

abbrev nBuf : Space → Nat
  | .hbm => 166
  | .vmem => 26
  | .smem => 0
  | _ => 0

abbrev hbmTy0_0 (i : Nat) : BufTy := match i % 128 with
  | 0 => ⟨S8192x5120, .bf16⟩
  | 1 => ⟨S8192x256, .bf16⟩
  | 2 => ⟨S8192x5120, .f32⟩
  | 3 => ⟨S8192x768, .f32⟩
  | 4 => ⟨S8192x3x4x64, .f32⟩
  | 5 => ⟨S3x4x8192x64, .f32⟩
  | 6 => ⟨S8192x768, .f32⟩
  | 7 => ⟨S8192x3x4x64, .f32⟩
  | 8 => ⟨S3x4x8192x64, .f32⟩
  | 9 => ⟨S8192x768, .f32⟩
  | 10 => ⟨S8192x3x4x64, .f32⟩
  | 11 => ⟨S3x4x8192x64, .f32⟩
  | 12 => ⟨S8192x256, .f32⟩
  | 13 => ⟨S8192x4x64, .f32⟩
  | 14 => ⟨S4x8192x64, .f32⟩
  | 15 => ⟨S3x1x8192x8192, .i32⟩
  | 16 => ⟨S3x1x8192x8192, .i32⟩
  | 17 => ⟨S3x1x8192x8192, .i32⟩
  | 18 => ⟨S3x1x8192x8192, .i32⟩
  | 19 => ⟨S_, .i32⟩
  | 20 => ⟨S3x1x8192x8192, .i32⟩
  | 21 => ⟨S3x1x8192x8192, .i1⟩
  | 22 => ⟨S_, .i32⟩
  | 23 => ⟨S3x1x8192x8192, .i32⟩
  | 24 => ⟨S3x1x8192x8192, .i1⟩
  | 25 => ⟨S_, .i32⟩
  | 26 => ⟨S_, .i32⟩
  | 27 => ⟨S3x1x8192x8192, .i32⟩
  | 28 => ⟨S3x1x8192x8192, .i32⟩
  | 29 => ⟨S3x1x8192x8192, .i32⟩
  | 30 => ⟨S_, .i32⟩
  | 31 => ⟨S3x1x8192x8192, .i32⟩
  | 32 => ⟨S3x1x8192x8192, .i32⟩
  | 33 => ⟨S_, .i32⟩
  | 34 => ⟨S3x1x8192x8192, .i32⟩
  | 35 => ⟨S3x1x8192x8192, .i1⟩
  | 36 => ⟨S_, .i32⟩
  | 37 => ⟨S3x1x8192x8192, .i32⟩
  | 38 => ⟨S3x1x8192x8192, .i32⟩
  | 39 => ⟨S3x1x8192x8192, .i32⟩
  | 40 => ⟨S3x1x8192x8192, .i1⟩
  | 41 => ⟨S3x1x8192x8192, .i1⟩
  | 42 => ⟨S3x1x8192x8192, .i32⟩
  | 43 => ⟨S_, .i32⟩
  | 44 => ⟨S3x1x8192x8192, .i32⟩
  | 45 => ⟨S3x1x8192x8192, .i1⟩
  | 46 => ⟨S3x1x8192x8192, .i1⟩
  | 47 => ⟨S3x4x8192x1x64, .f32⟩
  | 48 => ⟨S3x4x1x8192x64, .f32⟩
  | 49 => ⟨S3x4x8192x8192x64, .f32⟩
  | 50 => ⟨S3x4x8192x8192x64, .f32⟩
  | 51 => ⟨S3x4x8192x8192x64, .f32⟩
  | 52 => ⟨S_, .f32⟩
  | 53 => ⟨S3x4x8192x8192, .f32⟩
  | 54 => ⟨S_, .f32⟩
  | 55 => ⟨S3x4x8192x8192, .f32⟩
  | 56 => ⟨S3x4x8192x8192, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S1, .f32⟩
  | 70 => ⟨S1, .f32⟩
  | 71 => ⟨S1, .f32⟩
  | 72 => ⟨S1, .f32⟩
  | 73 => ⟨S1, .f32⟩
  | 74 => ⟨S1, .f32⟩
  | 75 => ⟨S1, .f32⟩
  | 76 => ⟨S1, .f32⟩
  | 77 => ⟨S1, .f32⟩
  | 78 => ⟨S1, .f32⟩
  | 79 => ⟨S1, .f32⟩
  | 80 => ⟨S1, .f32⟩
  | 81 => ⟨S12, .f32⟩
  | 82 => ⟨S3x4x1x1, .f32⟩
  | 83 => ⟨S3x1x8192x8192, .f32⟩
  | 84 => ⟨S3x4x8192x8192, .f32⟩
  | 85 => ⟨S3x4x8192x8192, .f32⟩
  | 86 => ⟨S3x4x8192x8192, .f32⟩
  | 87 => ⟨S3x4x8192x8192, .f32⟩
  | 88 => ⟨S_, .f32⟩
  | 89 => ⟨S_, .f32⟩
  | 90 => ⟨S3x4x8192x8192, .i1⟩
  | 91 => ⟨S3x4x8192x8192, .f32⟩
  | 92 => ⟨S3x4x8192x8192, .f32⟩
  | 93 => ⟨S_, .f32⟩
  | 94 => ⟨S3x4x8192, .f32⟩
  | 95 => ⟨S3x4x8192x1, .f32⟩
  | 96 => ⟨S3x4x8192x8192, .f32⟩
  | 97 => ⟨S3x4x8192x8192, .f32⟩
  | 98 => ⟨S3x4x8192x8192, .f32⟩
  | 99 => ⟨S_, .f32⟩
  | 100 => ⟨S3x4x8192, .f32⟩
  | 101 => ⟨S3x4x8192x1, .f32⟩
  | 102 => ⟨S3x4x8192x8192x1, .f32⟩
  | 103 => ⟨S3x4x1x8192x64, .f32⟩
  | 104 => ⟨S3x4x8192x8192x64, .f32⟩
  | 105 => ⟨S3x4x8192x8192x64, .f32⟩
  | 106 => ⟨S3x4x8192x8192x64, .f32⟩
  | 107 => ⟨S_, .f32⟩
  | 108 => ⟨S3x4x8192x64, .f32⟩
  | 109 => ⟨S3x4x8192x64, .f32⟩
  | 110 => ⟨S3x4x8192x64, .f32⟩
  | 111 => ⟨S3x4x8192x1, .f32⟩
  | 112 => ⟨S3x4x8192x1, .f32⟩
  | 113 => ⟨S_, .f32⟩
  | 114 => ⟨S4x8192x1, .f32⟩
  | 115 => ⟨S_, .f32⟩
  | 116 => ⟨S4x8192x1, .f32⟩
  | 117 => ⟨S4x8192x1, .f32⟩
  | 118 => ⟨S1x4x8192x1, .f32⟩
  | 119 => ⟨S3x4x8192x1, .f32⟩
  | 120 => ⟨S3x4x8192x1, .f32⟩
  | 121 => ⟨S3x4x8192x1, .f32⟩
  | 122 => ⟨S_, .f32⟩
  | 123 => ⟨S4x8192x1, .f32⟩
  | 124 => ⟨S1x4x8192x1, .f32⟩
  | 125 => ⟨S3x4x8192x1, .f32⟩
  | 126 => ⟨S3x4x8192x1, .f32⟩
  | 127 => ⟨S3x4x8192x64, .f32⟩
  | _ => ⟨S8192x5120, .bf16⟩

abbrev hbmTy0_1 (i : Nat) : BufTy := match i % 128 with
  | 0 => ⟨S3x4x8192x64, .f32⟩
  | 1 => ⟨S_, .f32⟩
  | 2 => ⟨S4x8192x64, .f32⟩
  | 3 => ⟨S_, .f32⟩
  | 4 => ⟨S4x8192x1, .f32⟩
  | 5 => ⟨S1x4x8192x1, .f32⟩
  | 6 => ⟨S3x4x8192x1, .f32⟩
  | 7 => ⟨S3x4x8192x1, .f32⟩
  | 8 => ⟨S3x4x8192x1, .f32⟩
  | 9 => ⟨S_, .f32⟩
  | 10 => ⟨S4x8192x1, .f32⟩
  | 11 => ⟨S4x8192x1, .f32⟩
  | 12 => ⟨S4x8192x1, .f32⟩
  | 13 => ⟨S4x8192x64, .f32⟩
  | 14 => ⟨S_, .f32⟩
  | 15 => ⟨S4x8192, .f32⟩
  | 16 => ⟨S4x8192x1, .f32⟩
  | 17 => ⟨S4x8192x32, .f32⟩
  | 18 => ⟨S4x8192x32, .f32⟩
  | 19 => ⟨S4x8192x64, .f32⟩
  | 20 => ⟨S8192x4x64, .f32⟩
  | 21 => ⟨S8192x256, .f32⟩
  | 22 => ⟨S8192x256, .bf16⟩
  | 23 => ⟨S512x16x256, .bf16⟩
  | 24 => ⟨S16x512x256, .bf16⟩
  | 25 => ⟨S8192x256, .bf16⟩
  | 26 => ⟨S512x16x256, .bf16⟩
  | 27 => ⟨S16x512x256, .bf16⟩
  | 28 => ⟨S8192x256, .bf16⟩
  | 29 => ⟨S512x16x256, .bf16⟩
  | 30 => ⟨S16x512x256, .bf16⟩
  | 31 => ⟨S512x16x256, .bf16⟩
  | 32 => ⟨S16x512x256, .bf16⟩
  | 33 => ⟨S512x16x256, .f32⟩
  | 34 => ⟨S16x512x256, .f32⟩
  | 35 => ⟨S16x512x256, .bf16⟩
  | 36 => ⟨S16x512x256, .bf16⟩
  | 37 => ⟨S16x512x256, .bf16⟩
  | _ => ⟨S8192x5120, .bf16⟩

abbrev hbmTy (i : Nat) : BufTy := match i / 128 with
  | 0 => hbmTy0_0 i
  | 1 => hbmTy0_1 i
  | _ => ⟨S8192x5120, .bf16⟩

abbrev bufTy : (tb : Table) → Fin (tcTables nBuf tb) → BufTy
  | .hbm, ⟨i, _⟩ => hbmTy i
  | .local _ .vmem, ⟨0, _⟩ => ⟨S1x512x256, .bf16⟩
  | .local _ .vmem, ⟨1, _⟩ => ⟨S1x512x256, .bf16⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x512x256, .bf16⟩
  | .local _ .vmem, ⟨11, _⟩ => ⟨S1x512x256, .bf16⟩
  | .local _ .vmem, ⟨12, _⟩ => ⟨S1x512x256, .bf16⟩
  | .local _ .vmem, ⟨13, _⟩ => ⟨S1x512x256, .bf16⟩
  | .local _ .vmem, ⟨14, _⟩ => ⟨S1x128x256, .bf16⟩
  | .local _ .vmem, ⟨15, _⟩ => ⟨S1x128x256, .bf16⟩
  | .local _ .vmem, ⟨16, _⟩ => ⟨S1x512x256, .f32⟩
  | .local _ .vmem, ⟨17, _⟩ => ⟨S1x512x256, .f32⟩
  | .local _ .vmem, ⟨18, _⟩ => ⟨S1x128x256, .f32⟩
  | .local _ .vmem, ⟨19, _⟩ => ⟨S1x128x256, .f32⟩
  | .local _ .vmem, ⟨20, _⟩ => ⟨S1x512x256, .bf16⟩
  | .local _ .vmem, ⟨21, _⟩ => ⟨S1x512x256, .bf16⟩
  | .local _ .vmem, ⟨22, _⟩ => ⟨S1x512x256, .bf16⟩
  | .local _ .vmem, ⟨23, _⟩ => ⟨S1x512x256, .bf16⟩
  | .local _ .vmem, ⟨24, _⟩ => ⟨S1x512x256, .bf16⟩
  | .local _ .vmem, ⟨25, _⟩ => ⟨S1x512x256, .bf16⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c : Ref sig .tc := ⟨.hbm, 19, rfl⟩
abbrev main_v17 : Ref sig .tc := ⟨.hbm, 20, rfl⟩
abbrev main_v18 : Ref sig .tc := ⟨.hbm, 21, rfl⟩
abbrev main_c_0 : Ref sig .tc := ⟨.hbm, 22, rfl⟩
abbrev main_v19 : Ref sig .tc := ⟨.hbm, 23, rfl⟩
abbrev main_v20 : Ref sig .tc := ⟨.hbm, 24, rfl⟩
abbrev main_c_1 : Ref sig .tc := ⟨.hbm, 25, rfl⟩
abbrev main_c_2 : Ref sig .tc := ⟨.hbm, 26, rfl⟩
abbrev main_call0_v0 : Ref sig .tc := ⟨.hbm, 27, rfl⟩
abbrev main_call0_v1 : Ref sig .tc := ⟨.hbm, 28, rfl⟩
abbrev main_v21 : Ref sig .tc := ⟨.hbm, 29, rfl⟩
abbrev main_c_3 : Ref sig .tc := ⟨.hbm, 30, rfl⟩
abbrev main_call1_v0 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_cst_9 : Ref sig .tc := ⟨.hbm, 58, rfl⟩
abbrev main_cst_10 : Ref sig .tc := ⟨.hbm, 59, rfl⟩
abbrev main_cst_11 : Ref sig .tc := ⟨.hbm, 60, rfl⟩
abbrev main_cst_12 : Ref sig .tc := ⟨.hbm, 61, rfl⟩
abbrev main_cst_13 : Ref sig .tc := ⟨.hbm, 62, rfl⟩
abbrev main_cst_14 : Ref sig .tc := ⟨.hbm, 63, rfl⟩
abbrev main_cst_15 : Ref sig .tc := ⟨.hbm, 64, rfl⟩
abbrev main_cst_16 : Ref sig .tc := ⟨.hbm, 65, rfl⟩
abbrev main_cst_17 : Ref sig .tc := ⟨.hbm, 66, rfl⟩
abbrev main_cst_18 : Ref sig .tc := ⟨.hbm, 67, rfl⟩
abbrev main_cst_19 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_20 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_v61 : Ref sig .tc := ⟨.hbm, 92, rfl⟩
abbrev main_cst_21 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_22 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_23 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_24 : Ref sig .tc := ⟨.hbm, 113, rfl⟩
abbrev main_v79 : Ref sig .tc := ⟨.hbm, 114, rfl⟩
abbrev main_cst_25 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_26 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_27 : Ref sig .tc := ⟨.hbm, 129, rfl⟩
abbrev main_v92 : Ref sig .tc := ⟨.hbm, 130, rfl⟩
abbrev main_cst_28 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_29 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_30 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122_0 : Ref sig .tc := ⟨.hbm, 163, rfl⟩
abbrev main_v122_1 : Ref sig .tc := ⟨.hbm, 164, rfl⟩
abbrev main_v122_2 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli c4_i32 v0
  let c3_i32 : BitVec 32 := 3#32
  let v2 : BitVec 32 := Scalar.minsi v1 c3_i32
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli c4_i32 v0
  let c3_i32 : BitVec 32 := 3#32
  let v2 : BitVec 32 := Scalar.minsi v1 c3_i32
  let c0_i32 : BitVec 32 := 0#32
  let c0_i32_0 : BitVec 32 := 0#32
  ![arg0.toNat, v2.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli c4_i32 v0
  let c3_i32 : BitVec 32 := 3#32
  let v2 : BitVec 32 := Scalar.minsi v1 c3_i32
  let c0_i32 : BitVec 32 := 0#32
  let c0_i32_0 : BitVec 32 := 0#32
  ![arg0.toNat, v2.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Kernel7Ideal.lean ====
variable {F : FTy → Type} [FloatOps F] [Named F]
def κ : String → Option EReal := fun
  | "mask" => some ⊥
  | _ => none
-- ==== Reference7Ideal.lean ====
abbrev S8192x5120 : Shape := ⟨2, ![8192, 5120]⟩
abbrev S8192x256 : Shape := ⟨2, ![8192, 256]⟩
abbrev S8192x768 : Shape := ⟨2, ![8192, 768]⟩
abbrev S8192x3x4x64 : Shape := ⟨4, ![8192, 3, 4, 64]⟩
abbrev S3x4x8192x64 : Shape := ⟨4, ![3, 4, 8192, 64]⟩
abbrev S3x1x8192x8192 : Shape := ⟨4, ![3, 1, 8192, 8192]⟩
abbrev S_ : Shape := ⟨0, ![]⟩
abbrev S3x4x8192x1x64 : Shape := ⟨5, ![3, 4, 8192, 1, 64]⟩
abbrev S3x4x1x8192x64 : Shape := ⟨5, ![3, 4, 1, 8192, 64]⟩
abbrev S3x4x8192x8192x64 : Shape := ⟨5, ![3, 4, 8192, 8192, 64]⟩
abbrev S3x4x8192x8192 : Shape := ⟨4, ![3, 4, 8192, 8192]⟩
abbrev S1 : Shape := ⟨1, ![1]⟩
abbrev S12 : Shape := ⟨1, ![12]⟩
abbrev S3x4x1x1 : Shape := ⟨4, ![3, 4, 1, 1]⟩
abbrev S3x4x8192 : Shape := ⟨3, ![3, 4, 8192]⟩
abbrev S3x4x8192x1 : Shape := ⟨4, ![3, 4, 8192, 1]⟩
abbrev S3x4x8192x8192x1 : Shape := ⟨5, ![3, 4, 8192, 8192, 1]⟩
abbrev S4x8192x1 : Shape := ⟨3, ![4, 8192, 1]⟩
abbrev S1x4x8192x1 : Shape := ⟨4, ![1, 4, 8192, 1]⟩
abbrev S4x8192x64 : Shape := ⟨3, ![4, 8192, 64]⟩
abbrev S8192x4x64 : Shape := ⟨3, ![8192, 4, 64]⟩
abbrev S4x8192 : Shape := ⟨2, ![4, 8192]⟩
abbrev S1x4x8192x64 : Shape := ⟨4, ![1, 4, 8192, 64]⟩
abbrev S512x16x256 : Shape := ⟨3, ![512, 16, 256]⟩
abbrev S16x512x256 : Shape := ⟨3, ![16, 512, 256]⟩

abbrev nBuf : Space → Nat
  | .hbm => 262
  | .vmem => 0
  | .smem => 0
  | _ => 0

abbrev hbmTy0_0 (i : Nat) : BufTy := match i % 128 with
  | 0 => ⟨S8192x5120, .bf16⟩
  | 1 => ⟨S8192x256, .bf16⟩
  | 2 => ⟨S8192x5120, .f32⟩
  | 3 => ⟨S8192x768, .f32⟩
  | 4 => ⟨S8192x3x4x64, .f32⟩
  | 5 => ⟨S3x4x8192x64, .f32⟩
  | 6 => ⟨S8192x768, .f32⟩
  | 7 => ⟨S8192x3x4x64, .f32⟩
  | 8 => ⟨S3x4x8192x64, .f32⟩
  | 9 => ⟨S8192x768, .f32⟩
  | 10 => ⟨S8192x3x4x64, .f32⟩
  | 11 => ⟨S3x4x8192x64, .f32⟩
  | 12 => ⟨S3x1x8192x8192, .i32⟩
  | 13 => ⟨S3x1x8192x8192, .i32⟩
  | 14 => ⟨S3x1x8192x8192, .i32⟩
  | 15 => ⟨S3x1x8192x8192, .i32⟩
  | 16 => ⟨S_, .i32⟩
  | 17 => ⟨S3x1x8192x8192, .i32⟩
  | 18 => ⟨S3x1x8192x8192, .i1⟩
  | 19 => ⟨S_, .i32⟩
  | 20 => ⟨S3x1x8192x8192, .i32⟩
  | 21 => ⟨S3x1x8192x8192, .i1⟩
  | 22 => ⟨S_, .i32⟩
  | 23 => ⟨S_, .i32⟩
  | 24 => ⟨S3x1x8192x8192, .i32⟩
  | 25 => ⟨S3x1x8192x8192, .i32⟩
  | 26 => ⟨S3x1x8192x8192, .i32⟩
  | 27 => ⟨S_, .i32⟩
  | 28 => ⟨S3x1x8192x8192, .i32⟩
  | 29 => ⟨S3x1x8192x8192, .i32⟩
  | 30 => ⟨S_, .i32⟩
  | 31 => ⟨S3x1x8192x8192, .i32⟩
  | 32 => ⟨S3x1x8192x8192, .i1⟩
  | 33 => ⟨S_, .i32⟩
  | 34 => ⟨S3x1x8192x8192, .i32⟩
  | 35 => ⟨S3x1x8192x8192, .i32⟩
  | 36 => ⟨S3x1x8192x8192, .i32⟩
  | 37 => ⟨S3x1x8192x8192, .i1⟩
  | 38 => ⟨S3x1x8192x8192, .i1⟩
  | 39 => ⟨S3x1x8192x8192, .i32⟩
  | 40 => ⟨S_, .i32⟩
  | 41 => ⟨S3x1x8192x8192, .i32⟩
  | 42 => ⟨S3x1x8192x8192, .i1⟩
  | 43 => ⟨S3x1x8192x8192, .i1⟩
  | 44 => ⟨S3x4x8192x1x64, .f32⟩
  | 45 => ⟨S3x4x1x8192x64, .f32⟩
  | 46 => ⟨S3x4x8192x8192x64, .f32⟩
  | 47 => ⟨S3x4x8192x8192x64, .f32⟩
  | 48 => ⟨S3x4x8192x8192x64, .f32⟩
  | 49 => ⟨S_, .f32⟩
  | 50 => ⟨S3x4x8192x8192, .f32⟩
  | 51 => ⟨S_, .f32⟩
  | 52 => ⟨S3x4x8192x8192, .f32⟩
  | 53 => ⟨S3x4x8192x8192, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S1, .f32⟩
  | 67 => ⟨S1, .f32⟩
  | 68 => ⟨S1, .f32⟩
  | 69 => ⟨S1, .f32⟩
  | 70 => ⟨S1, .f32⟩
  | 71 => ⟨S1, .f32⟩
  | 72 => ⟨S1, .f32⟩
  | 73 => ⟨S1, .f32⟩
  | 74 => ⟨S1, .f32⟩
  | 75 => ⟨S1, .f32⟩
  | 76 => ⟨S1, .f32⟩
  | 77 => ⟨S1, .f32⟩
  | 78 => ⟨S12, .f32⟩
  | 79 => ⟨S3x4x1x1, .f32⟩
  | 80 => ⟨S3x1x8192x8192, .f32⟩
  | 81 => ⟨S3x4x8192x8192, .f32⟩
  | 82 => ⟨S3x4x8192x8192, .f32⟩
  | 83 => ⟨S3x4x8192x8192, .f32⟩
  | 84 => ⟨S3x4x8192x8192, .f32⟩
  | 85 => ⟨S_, .f32⟩
  | 86 => ⟨S_, .f32⟩
  | 87 => ⟨S3x4x8192x8192, .i1⟩
  | 88 => ⟨S3x4x8192x8192, .f32⟩
  | 89 => ⟨S3x4x8192x8192, .f32⟩
  | 90 => ⟨S_, .f32⟩
  | 91 => ⟨S3x4x8192x8192, .f32⟩
  | 92 => ⟨S_, .f32⟩
  | 93 => ⟨S3x4x8192, .f32⟩
  | 94 => ⟨S3x4x8192x1, .f32⟩
  | 95 => ⟨S3x4x8192x8192, .f32⟩
  | 96 => ⟨S3x4x8192x8192, .i1⟩
  | 97 => ⟨S3x4x8192x8192, .f32⟩
  | 98 => ⟨S_, .f32⟩
  | 99 => ⟨S3x4x8192, .f32⟩
  | 100 => ⟨S3x4x8192x1, .f32⟩
  | 101 => ⟨S3x4x8192x8192, .f32⟩
  | 102 => ⟨S3x4x8192x8192, .f32⟩
  | 103 => ⟨S3x4x8192x8192, .f32⟩
  | 104 => ⟨S_, .f32⟩
  | 105 => ⟨S3x4x8192, .f32⟩
  | 106 => ⟨S3x4x8192x1, .f32⟩
  | 107 => ⟨S3x4x8192x8192x1, .f32⟩
  | 108 => ⟨S3x4x1x8192x64, .f32⟩
  | 109 => ⟨S3x4x8192x8192x64, .f32⟩
  | 110 => ⟨S3x4x8192x8192x64, .f32⟩
  | 111 => ⟨S3x4x8192x8192x64, .f32⟩
  | 112 => ⟨S_, .f32⟩
  | 113 => ⟨S3x4x8192x64, .f32⟩
  | 114 => ⟨S3x4x8192x64, .f32⟩
  | 115 => ⟨S3x4x8192x64, .f32⟩
  | 116 => ⟨S3x4x8192x1, .f32⟩
  | 117 => ⟨S_, .f32⟩
  | 118 => ⟨S3x4x8192x1, .f32⟩
  | 119 => ⟨S3x4x8192x1, .f32⟩
  | 120 => ⟨S3x4x8192x1, .f32⟩
  | 121 => ⟨S3x4x8192x1, .f32⟩
  | 122 => ⟨S_, .f32⟩
  | 123 => ⟨S4x8192x1, .f32⟩
  | 124 => ⟨S1x4x8192x1, .f32⟩
  | 125 => ⟨S3x4x8192x1, .f32⟩
  | 126 => ⟨S3x4x8192x1, .i1⟩
  | 127 => ⟨S3x4x8192x1, .f32⟩
  | _ => ⟨S8192x5120, .bf16⟩

abbrev hbmTy0_1 (i : Nat) : BufTy := match i % 128 with
  | 0 => ⟨S_, .f32⟩
  | 1 => ⟨S4x8192x1, .f32⟩
  | 2 => ⟨S_, .f32⟩
  | 3 => ⟨S4x8192x1, .f32⟩
  | 4 => ⟨S4x8192x1, .f32⟩
  | 5 => ⟨S_, .f32⟩
  | 6 => ⟨S4x8192x1, .f32⟩
  | 7 => ⟨S4x8192x1, .i1⟩
  | 8 => ⟨S_, .f32⟩
  | 9 => ⟨S4x8192x1, .f32⟩
  | 10 => ⟨S4x8192x1, .i1⟩
  | 11 => ⟨S_, .f32⟩
  | 12 => ⟨S4x8192x1, .f32⟩
  | 13 => ⟨S_, .f32⟩
  | 14 => ⟨S4x8192x1, .f32⟩
  | 15 => ⟨S_, .f32⟩
  | 16 => ⟨S4x8192x1, .f32⟩
  | 17 => ⟨S4x8192x1, .f32⟩
  | 18 => ⟨S4x8192x1, .f32⟩
  | 19 => ⟨S1x4x8192x1, .f32⟩
  | 20 => ⟨S3x4x8192x1, .f32⟩
  | 21 => ⟨S3x4x8192x1, .f32⟩
  | 22 => ⟨S3x4x8192x1, .f32⟩
  | 23 => ⟨S_, .f32⟩
  | 24 => ⟨S4x8192x1, .f32⟩
  | 25 => ⟨S1x4x8192x1, .f32⟩
  | 26 => ⟨S3x4x8192x1, .f32⟩
  | 27 => ⟨S3x4x8192x1, .f32⟩
  | 28 => ⟨S1x4x8192x1, .f32⟩
  | 29 => ⟨S_, .f32⟩
  | 30 => ⟨S1x4x8192x1, .f32⟩
  | 31 => ⟨S1x4x8192x1, .f32⟩
  | 32 => ⟨S3x4x8192x64, .f32⟩
  | 33 => ⟨S3x4x8192x64, .f32⟩
  | 34 => ⟨S_, .f32⟩
  | 35 => ⟨S4x8192x64, .f32⟩
  | 36 => ⟨S8192x256, .f32⟩
  | 37 => ⟨S8192x4x64, .f32⟩
  | 38 => ⟨S4x8192x64, .f32⟩
  | 39 => ⟨S3x4x8192x64, .f32⟩
  | 40 => ⟨S3x4x8192x64, .f32⟩
  | 41 => ⟨S3x4x8192x64, .f32⟩
  | 42 => ⟨S3x4x8192x64, .f32⟩
  | 43 => ⟨S_, .f32⟩
  | 44 => ⟨S3x4x8192, .f32⟩
  | 45 => ⟨S3x4x8192x1, .f32⟩
  | 46 => ⟨S3x4x8192x1, .f32⟩
  | 47 => ⟨S3x4x8192x1, .f32⟩
  | 48 => ⟨S3x4x8192x1, .f32⟩
  | 49 => ⟨S_, .f32⟩
  | 50 => ⟨S4x8192x1, .f32⟩
  | 51 => ⟨S1x4x8192x1, .f32⟩
  | 52 => ⟨S1x4x8192x1, .f32⟩
  | 53 => ⟨S3x4x8192x1, .f32⟩
  | 54 => ⟨S3x4x8192x1, .f32⟩
  | 55 => ⟨S_, .f32⟩
  | 56 => ⟨S4x8192, .f32⟩
  | 57 => ⟨S4x8192x1, .f32⟩
  | 58 => ⟨S3x4x8192x1, .f32⟩
  | 59 => ⟨S3x4x8192x1, .f32⟩
  | 60 => ⟨S3x4x8192x1, .f32⟩
  | 61 => ⟨S3x4x8192x1, .f32⟩
  | 62 => ⟨S3x4x8192x64, .f32⟩
  | 63 => ⟨S3x4x8192x64, .f32⟩
  | 64 => ⟨S3x4x8192x64, .f32⟩
  | 65 => ⟨S_, .f32⟩
  | 66 => ⟨S3x4x8192, .f32⟩
  | 67 => ⟨S3x4x8192x1, .f32⟩
  | 68 => ⟨S3x4x8192x1, .f32⟩
  | 69 => ⟨S3x4x8192x1, .f32⟩
  | 70 => ⟨S3x4x8192x64, .f32⟩
  | 71 => ⟨S3x4x8192x64, .f32⟩
  | 72 => ⟨S3x4x8192x8192x64, .f32⟩
  | 73 => ⟨S3x4x8192x8192x64, .f32⟩
  | 74 => ⟨S3x4x8192x8192x64, .f32⟩
  | 75 => ⟨S_, .f32⟩
  | 76 => ⟨S3x4x8192x64, .f32⟩
  | 77 => ⟨S3x4x1x8192x64, .f32⟩
  | 78 => ⟨S3x4x8192x8192x64, .f32⟩
  | 79 => ⟨S3x4x8192x8192x64, .f32⟩
  | 80 => ⟨S_, .f32⟩
  | 81 => ⟨S3x4x8192x8192, .f32⟩
  | 82 => ⟨S3x4x8192x8192x1, .f32⟩
  | 83 => ⟨S_, .f32⟩
  | 84 => ⟨S3x4x8192x64, .f32⟩
  | 85 => ⟨S_, .f32⟩
  | 86 => ⟨S3x4x8192x8192, .f32⟩
  | 87 => ⟨S_, .f32⟩
  | 88 => ⟨S3x4x8192, .f32⟩
  | 89 => ⟨S3x4x8192x8192, .f32⟩
  | 90 => ⟨S3x4x8192x8192, .f32⟩
  | 91 => ⟨S3x4x8192x8192, .f32⟩
  | 92 => ⟨S_, .f32⟩
  | 93 => ⟨S3x4x8192x8192, .f32⟩
  | 94 => ⟨S3x4x8192x8192, .f32⟩
  | 95 => ⟨S_, .f32⟩
  | 96 => ⟨S3x4x8192x8192, .f32⟩
  | 97 => ⟨S3x4x8192x8192, .f32⟩
  | 98 => ⟨S3x4x8192x8192x64, .f32⟩
  | 99 => ⟨S3x4x8192x8192x64, .f32⟩
  | 100 => ⟨S3x4x8192x8192x64, .f32⟩
  | 101 => ⟨S_, .f32⟩
  | 102 => ⟨S3x4x8192x64, .f32⟩
  | 103 => ⟨S3x4x1x8192x64, .f32⟩
  | 104 => ⟨S3x4x8192x8192x64, .f32⟩
  | 105 => ⟨S3x4x8192x8192x64, .f32⟩
  | 106 => ⟨S_, .f32⟩
  | 107 => ⟨S3x4x8192x64, .f32⟩
  | 108 => ⟨S3x4x8192x1x64, .f32⟩
  | 109 => ⟨S_, .f32⟩
  | 110 => ⟨S3x4x8192x64, .f32⟩
  | 111 => ⟨S_, .f32⟩
  | 112 => ⟨S3x4x8192x64, .f32⟩
  | 113 => ⟨S1x4x8192x64, .f32⟩
  | 114 => ⟨S4x8192x64, .f32⟩
  | 115 => ⟨S8192x4x64, .f32⟩
  | 116 => ⟨S8192x256, .f32⟩
  | 117 => ⟨S512x16x256, .f32⟩
  | 118 => ⟨S16x512x256, .f32⟩
  | 119 => ⟨S16x512x256, .bf16⟩
  | 120 => ⟨S1x4x8192x64, .f32⟩
  | 121 => ⟨S4x8192x64, .f32⟩
  | 122 => ⟨S8192x4x64, .f32⟩
  | 123 => ⟨S8192x256, .f32⟩
  | 124 => ⟨S512x16x256, .f32⟩
  | 125 => ⟨S16x512x256, .f32⟩
  | 126 => ⟨S16x512x256, .bf16⟩
  | 127 => ⟨S1x4x8192x64, .f32⟩
  | _ => ⟨S8192x5120, .bf16⟩

abbrev hbmTy0_2 (i : Nat) : BufTy := match i % 128 with
  | 0 => ⟨S4x8192x64, .f32⟩
  | 1 => ⟨S8192x4x64, .f32⟩
  | 2 => ⟨S8192x256, .f32⟩
  | 3 => ⟨S512x16x256, .f32⟩
  | 4 => ⟨S16x512x256, .f32⟩
  | 5 => ⟨S16x512x256, .bf16⟩
  | _ => ⟨S8192x5120, .bf16⟩

abbrev hbmTy (i : Nat) : BufTy := match i / 128 with
  | 0 => hbmTy0_0 i
  | 1 => hbmTy0_1 i
  | 2 => hbmTy0_2 i
  | _ => ⟨S8192x5120, .bf16⟩

abbrev bufTy : (tb : Table) → Fin (tcTables nBuf tb) → BufTy
  | .hbm, ⟨i, _⟩ => hbmTy i
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_c : Ref sig .tc := ⟨.hbm, 16, rfl⟩
abbrev main_v14 : Ref sig .tc := ⟨.hbm, 17, rfl⟩
abbrev main_v15 : Ref sig .tc := ⟨.hbm, 18, rfl⟩
abbrev main_c_0 : Ref sig .tc := ⟨.hbm, 19, rfl⟩
abbrev main_v16 : Ref sig .tc := ⟨.hbm, 20, rfl⟩
abbrev main_v17 : Ref sig .tc := ⟨.hbm, 21, rfl⟩
abbrev main_c_1 : Ref sig .tc := ⟨.hbm, 22, rfl⟩
abbrev main_c_2 : Ref sig .tc := ⟨.hbm, 23, rfl⟩
abbrev main_call0_v0 : Ref sig .tc := ⟨.hbm, 24, rfl⟩
abbrev main_call0_v1 : Ref sig .tc := ⟨.hbm, 25, rfl⟩
abbrev main_v18 : Ref sig .tc := ⟨.hbm, 26, rfl⟩
abbrev main_c_3 : Ref sig .tc := ⟨.hbm, 27, rfl⟩
abbrev main_call1_v0 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_cst_9 : Ref sig .tc := ⟨.hbm, 55, rfl⟩
abbrev main_cst_10 : Ref sig .tc := ⟨.hbm, 56, rfl⟩
abbrev main_cst_11 : Ref sig .tc := ⟨.hbm, 57, rfl⟩
abbrev main_cst_12 : Ref sig .tc := ⟨.hbm, 58, rfl⟩
abbrev main_cst_13 : Ref sig .tc := ⟨.hbm, 59, rfl⟩
abbrev main_cst_14 : Ref sig .tc := ⟨.hbm, 60, rfl⟩
abbrev main_cst_15 : Ref sig .tc := ⟨.hbm, 61, rfl⟩
abbrev main_cst_16 : Ref sig .tc := ⟨.hbm, 62, rfl⟩
abbrev main_cst_17 : Ref sig .tc := ⟨.hbm, 63, rfl⟩
abbrev main_cst_18 : Ref sig .tc := ⟨.hbm, 64, rfl⟩
abbrev main_cst_19 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_20 : Ref sig .tc := ⟨.hbm, 85, rfl⟩
abbrev main_call2_v0 : Ref sig .tc := ⟨.hbm, 86, rfl⟩
abbrev main_v58_1 : Ref sig .tc := ⟨.hbm, 87, rfl⟩
abbrev main_call2_v2 : Ref sig .tc := ⟨.hbm, 88, rfl⟩
abbrev main_v58_0 : Ref sig .tc := ⟨.hbm, 89, rfl⟩
abbrev main_call2_cst : Ref sig .tc := ⟨.hbm, 90, rfl⟩
abbrev main_v58_2 : Ref sig .tc := ⟨.hbm, 91, rfl⟩
abbrev main_cst_21 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_22 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_23 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_24 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_25 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_26 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_27 : Ref sig .tc := ⟨.hbm, 128, rfl⟩
abbrev main_v89 : Ref sig .tc := ⟨.hbm, 129, rfl⟩
abbrev main_cst_28 : Ref sig .tc := ⟨.hbm, 130, rfl⟩
abbrev main_v90 : Ref sig .tc := ⟨.hbm, 131, rfl⟩
abbrev main_v91 : Ref sig .tc := ⟨.hbm, 132, rfl⟩
abbrev main_cst_29 : Ref sig .tc := ⟨.hbm, 133, rfl⟩
abbrev main_v92 : Ref sig .tc := ⟨.hbm, 134, rfl⟩
abbrev main_v93 : Ref sig .tc := ⟨.hbm, 135, rfl⟩
abbrev main_cst_30 : Ref sig .tc := ⟨.hbm, 136, rfl⟩
abbrev main_v94 : Ref sig .tc := ⟨.hbm, 137, rfl⟩
abbrev main_v95 : Ref sig .tc := ⟨.hbm, 138, rfl⟩
abbrev main_cst_31 : Ref sig .tc := ⟨.hbm, 139, rfl⟩
abbrev main_v96 : Ref sig .tc := ⟨.hbm, 140, rfl⟩
abbrev main_cst_32 : Ref sig .tc := ⟨.hbm, 141, rfl⟩
abbrev main_v97 : Ref sig .tc := ⟨.hbm, 142, rfl⟩
abbrev main_cst_33 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_cst_34 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_35 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_cst_36 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_cst_37 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_cst_38 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_cst_39 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_cst_40 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_cst_41 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_cst_42 : Ref sig .tc := ⟨.hbm, 208, rfl⟩
abbrev main_v154 : Ref sig .tc := ⟨.hbm, 209, rfl⟩
abbrev main_v155 : Ref sig .tc := ⟨.hbm, 210, rfl⟩
abbrev main_cst_43 : Ref sig .tc := ⟨.hbm, 211, rfl⟩
abbrev main_v156 : Ref sig .tc := ⟨.hbm, 212, rfl⟩
abbrev main_cst_44 : Ref sig .tc := ⟨.hbm, 213, rfl⟩
abbrev main_v157 : Ref sig .tc := ⟨.hbm, 214, rfl⟩
abbrev main_cst_45 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_call3_cst : Ref sig .tc := ⟨.hbm, 220, rfl⟩
abbrev main_call3_v0 : Ref sig .tc := ⟨.hbm, 221, rfl⟩
abbrev main_v162 : Ref sig .tc := ⟨.hbm, 222, rfl⟩
abbrev main_cst_46 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_cst_47 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_cst_48 : Ref sig .tc := ⟨.hbm, 234, rfl⟩
abbrev main_v172 : Ref sig .tc := ⟨.hbm, 235, rfl⟩
abbrev main_v173 : Ref sig .tc := ⟨.hbm, 236, rfl⟩
abbrev main_cst_49 : Ref sig .tc := ⟨.hbm, 237, rfl⟩
abbrev main_v174 : Ref sig .tc := ⟨.hbm, 238, rfl⟩
abbrev main_cst_50 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩

abbrev nD : Nat := 1
abbrev τ : Topo := Topo.v7x

variable {F : FTy → Type} [FloatOps F]
-- ==== Kernel8.lean ====
abbrev S8192x1024 : Shape := ⟨2, ![8192, 1024]⟩
abbrev S1024 : Shape := ⟨1, ![1024]⟩
abbrev S1024x5120 : Shape := ⟨2, ![1024, 5120]⟩
abbrev S1x1024 : Shape := ⟨2, ![1, 1024]⟩
abbrev S8192x5120 : Shape := ⟨2, ![8192, 5120]⟩
abbrev S512x1024 : Shape := ⟨2, ![512, 1024]⟩
abbrev S512x5120 : Shape := ⟨2, ![512, 5120]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5120, .bf16⟩
  | .hbm, ⟨3, _⟩ => ⟨S1x1024, .f32⟩
  | .hbm, ⟨4, _⟩ => ⟨S8192x5120, .bf16⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5120, .bf16⟩
  | .local _ .vmem, ⟨4, _⟩ => ⟨S512x5120, .bf16⟩
  | .local _ .vmem, ⟨5, _⟩ => ⟨S512x5120, .bf16⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5120 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S8192x1024 : Shape := ⟨2, ![8192, 1024]⟩
abbrev S1024 : Shape := ⟨1, ![1024]⟩
abbrev S1024x5120 : Shape := ⟨2, ![1024, 5120]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5120 : Shape := ⟨2, ![8192, 5120]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5120, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S1024x5120, .f32⟩
  | .hbm, ⟨20, _⟩ => ⟨S8192x5120, .f32⟩
  | .hbm, ⟨21, _⟩ => ⟨S8192x5120, .bf16⟩
  | .hbm, ⟨22, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel9.lean ====
abbrev S8192x1024 : Shape := ⟨2, ![8192, 1024]⟩
abbrev S2816x1024 : Shape := ⟨2, ![2816, 1024]⟩
abbrev S8192x5632 : Shape := ⟨2, ![8192, 5632]⟩
abbrev S3x2816 : Shape := ⟨2, ![3, 2816]⟩
abbrev S2816 : Shape := ⟨1, ![2816]⟩
abbrev S8192x2816 : Shape := ⟨2, ![8192, 2816]⟩
abbrev S_ : Shape := ⟨0, ![]⟩
abbrev S2x2816 : Shape := ⟨2, ![2, 2816]⟩
abbrev S8194x2816 : Shape := ⟨2, ![8194, 2816]⟩
abbrev S1x2816 : Shape := ⟨2, ![1, 2816]⟩
abbrev S256x1024 : Shape := ⟨2, ![256, 1024]⟩
abbrev S8x1024 : Shape := ⟨2, ![8, 1024]⟩
abbrev S256x2816 : Shape := ⟨2, ![256, 2816]⟩
abbrev S8x2816 : Shape := ⟨2, ![8, 2816]⟩
abbrev S256x5632 : Shape := ⟨2, ![256, 5632]⟩
abbrev S256x256 : Shape := ⟨2, ![256, 256]⟩
abbrev S8x256 : Shape := ⟨2, ![8, 256]⟩
abbrev S248x256 : Shape := ⟨2, ![248, 256]⟩
abbrev S3x256 : Shape := ⟨2, ![3, 256]⟩
abbrev S1x256 : Shape := ⟨2, ![1, 256]⟩
abbrev S256 : Shape := ⟨1, ![256]⟩

abbrev nBuf : Space → Nat
  | .hbm => 36
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x5632, .bf16⟩
  | .hbm, ⟨3, _⟩ => ⟨S3x2816, .f32⟩
  | .hbm, ⟨4, _⟩ => ⟨S2816, .f32⟩
  | .hbm, ⟨5, _⟩ => ⟨S8192x2816, .bf16⟩
  | .hbm, ⟨6, _⟩ => ⟨S8192x2816, .f32⟩
  | .hbm, ⟨7, _⟩ => ⟨S_, .f32⟩
  | .hbm, ⟨8, _⟩ => ⟨S2x2816, .f32⟩
  | .hbm, ⟨9, _⟩ => ⟨S8194x2816, .f32⟩
  | .hbm, ⟨10, _⟩ => ⟨S8192x2816, .f32⟩
  | .hbm, ⟨11, _⟩ => ⟨S1x2816, .f32⟩
  | .hbm, ⟨12, _⟩ => ⟨S2816, .f32⟩
  | .hbm, ⟨13, _⟩ => ⟨S1x2816, .f32⟩
  | .hbm, ⟨14, _⟩ => ⟨S8192x2816, .f32⟩
  | .hbm, ⟨15, _⟩ => ⟨S8192x2816, .f32⟩
  | .hbm, ⟨16, _⟩ => ⟨S1x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S1x2816, .f32⟩
  | .hbm, ⟨21, _⟩ => ⟨S2816, .f32⟩
  | .hbm, ⟨22, _⟩ => ⟨S1x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S1x2816, .f32⟩
  | .hbm, ⟨27, _⟩ => ⟨S2816, .f32⟩
  | .hbm, ⟨28, _⟩ => ⟨S1x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .bf16⟩
  | .hbm, ⟨33, _⟩ => ⟨S8192x5632, .bf16⟩
  | .hbm, ⟨34, _⟩ => ⟨S3x2816, .f32⟩
  | .hbm, ⟨35, _⟩ => ⟨S1x2816, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S2816x1024, .bf16⟩
  | .local _ .vmem, ⟨5, _⟩ => ⟨S256x2816, .bf16⟩
  | .local _ .vmem, ⟨6, _⟩ => ⟨S256x2816, .bf16⟩
  | .local _ .vmem, ⟨7, _⟩ => ⟨S8x2816, .bf16⟩
  | .local _ .vmem, ⟨8, _⟩ => ⟨S8x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S8x2816, .bf16⟩
  | .local _ .vmem, ⟨14, _⟩ => ⟨S8x2816, .bf16⟩
  | .local _ .vmem, ⟨15, _⟩ => ⟨S3x2816, .f32⟩
  | .local _ .vmem, ⟨16, _⟩ => ⟨S256x5632, .bf16⟩
  | .local _ .vmem, ⟨17, _⟩ => ⟨S256x5632, .bf16⟩
  | .local _ .vmem, ⟨18, _⟩ => ⟨S3x2816, .f32⟩
  | .local _ .vmem, ⟨19, _⟩ => ⟨S1x2816, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27_0 : Ref sig .tc := ⟨.hbm, 33, rfl⟩
abbrev main_v27_1 : Ref sig .tc := ⟨.hbm, 34, rfl⟩
abbrev main_v27_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c1_i32_0 : BitVec 32 := 1#32
  let c0_i32 : BitVec 32 := 0#32
  ![v2.toNat, c1_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Proof.RealOps.lean ====
/-
  Arithmetic on finite extended reals: every operation of the ideal instance, at values that are real numbers, is the
  operation on the real numbers. The lemmas are oriented so that rewriting with them moves the embedding of the real
  numbers outwards.
-/
module

public import Idealize.ShloMosaic.PureOps.Ideal
public import Idealize.ShloMosaic.Lib.Pointwise

@[expose] public section

noncomputable section

namespace Cert.RealOps

open Idealize.ShloMosaic

theorem mul_real (a b : ℝ) : (a : EReal) * (b : EReal) = ((a * b : ℝ) : EReal) := (EReal.coe_mul a b).symm
theorem add_real (a b : ℝ) : (a : EReal) + (b : EReal) = ((a + b : ℝ) : EReal) := (EReal.coe_add a b).symm
theorem sub_real (a b : ℝ) : (a : EReal) - (b : EReal) = ((a - b : ℝ) : EReal) := (EReal.coe_sub a b).symm
theorem neg_real (a : ℝ) : -(a : EReal) = ((-a : ℝ) : EReal) := (EReal.coe_neg a).symm
theorem zero_real : (0 : EReal) = ((0 : ℝ) : EReal) := EReal.coe_zero.symm

/-- A finite sum of real numbers. -/
theorem sum_real {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The larger of two real numbers. -/
theorem max_real (a b : ℝ) : max (a : EReal) (b : EReal) = ((max a b : ℝ) : EReal) :=
  (EReal.coe_strictMono.monotone.map_max (a := a) (b := b)).symm

/-- Division by a nonzero real number. -/
theorem div_real (a : ℝ) {b : ℝ} (h : b ≠ 0) : Ideal.div (a : EReal) (b : EReal) = ((a / b : ℝ) : EReal) := by
  rw [Ideal.div_coe h, mul_real, div_eq_mul_one_div a b]

/-- The reciprocal square root of a positive real number. -/
theorem rsqrt_real {a : ℝ} (h : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.mpr h.le), if_neg h.ne']

theorem exp_real (a : ℝ) : Ideal.exp (a : EReal) = ((Real.exp a : ℝ) : EReal) := rfl

theorem log_real {a : ℝ} (h : 0 < a) : Ideal.log (a : EReal) = ((Real.log a : ℝ) : EReal) := by
  show (if a ≤ 0 then (⊥ : EReal) else ((Real.log a : ℝ) : EReal)) = _
  rw [if_neg (not_le.mpr h)]

theorem log1p_real {a : ℝ} (h : 0 < 1 + a) : Ideal.log1p (a : EReal) = ((Real.log (1 + a) : ℝ) : EReal) := by
  have h1 : (1 : EReal) + (a : EReal) = ((1 + a : ℝ) : EReal) := by rw [EReal.coe_add, EReal.coe_one]
  rw [Ideal.log1p, h1, log_real h]

/-- An extended real whose absolute value is below infinity is a real number. -/
theorem real_of_lt_top {x : EReal} (h : Ideal.cmp .olt (max x (-x)) ⊤ = 1#1) : x = ((x.toReal : ℝ) : EReal) := by
  have h' : max x (-x) < ⊤ := by
    by_contra hn
    have : Ideal.cmp .olt (max x (-x)) ⊤ = 0#1 := by
      show BitVec.ofBool (decide (max x (-x) < ⊤)) = 0#1
      rw [decide_eq_false hn]; rfl
    rw [this] at h; exact absurd h (by decide)
  refine (EReal.coe_toReal ?_ ?_).symm
  · rintro rfl; simp at h'
  · rintro rfl; simp at h'

/-! ## Literals -/

theorem bits_zero : Ideal.ofBits .f32 0#32 = ((0 : ℝ) : EReal) := by
  simp [Ideal.ofBits, Ideal.ieee]
theorem bits_one : Ideal.ofBits .f32 1065353216#32 = ((1 : ℝ) : EReal) := by
  simp [Ideal.ofBits, Ideal.ieee, -EReal.coe_mul]; norm_num
theorem bits_half : Ideal.ofBits .f32 1056964608#32 = ((1 / 2 : ℝ) : EReal) := by
  simp [Ideal.ofBits, Ideal.ieee, -EReal.coe_mul]; norm_num
theorem bits_neg_half : Ideal.ofBits .f32 3204448256#32 = ((-1 / 2 : ℝ) : EReal) := by
  simp [Ideal.ofBits, Ideal.ieee, -EReal.coe_mul]; norm_num
theorem bits_two : Ideal.ofBits .f32 1073741824#32 = ((2 : ℝ) : EReal) := by
  simp [Ideal.ofBits, Ideal.ieee, -EReal.coe_mul]; norm_num
theorem bits_width : Ideal.ofBits .f32 1149239296#32 = ((1024 : ℝ) : EReal) := by
  simp [Ideal.ofBits, Ideal.ieee, -EReal.coe_mul]; norm_num
theorem bits_inv_width : Ideal.ofBits .f32 981467136#32 = ((1 / 1024 : ℝ) : EReal) := by
  simp [Ideal.ofBits, Ideal.ieee, -EReal.coe_mul]; norm_num

/-- The small number under the square root of the root mean square, as the program's 32-bit literal denotes it. -/
def eps : ℝ := 8796093 / 8796093022208

theorem eps_pos : 0 < eps := by unfold eps; norm_num

theorem bits_eps : Ideal.ofBits .f32 897988541#32 = ((eps : ℝ) : EReal) := by
  unfold eps
  simp [Ideal.ofBits, Ideal.ieee, -EReal.coe_mul]; norm_num

/-- The infinity that the finiteness conditions compare with. -/
theorem bits_top : Ideal.ofBits .f32 2139095040#32 = (⊤ : EReal) := by
  simp [Ideal.ofBits, Ideal.ieee]

/-- Plus infinity, as the predicate's 16-bit literal denotes it. -/
theorem bits_top16 : Ideal.ofBits .bf16 32640#16 = (⊤ : EReal) := by
  simp [Ideal.ofBits, Ideal.ieee]

end Cert.RealOps

end
-- ==== Proof.LossSpec.lean ====
/-
  The loss head over the real numbers: the loss of a normalised, scaled row against its target, and the derivatives of
  the loss in the input and in the scale.
-/
module

public import proofs.«01_k».proof.Proof.RealOps

@[expose] public section

noncomputable section

namespace Cert.Loss

open Cert.RealOps

/-- The mean square of row `s`, with the small number added. -/
def ms {S : ℕ} (X : Fin S → Fin 1024 → ℝ) (s : Fin S) : ℝ := (∑ k, X s k * X s k) / 1024 + eps

theorem ms_pos {S : ℕ} (X : Fin S → Fin 1024 → ℝ) (s : Fin S) : 0 < ms X s :=
  add_pos_of_nonneg_of_pos (div_nonneg (Finset.sum_nonneg fun k _ => mul_self_nonneg _) (by norm_num)) eps_pos

/-- The factor that normalises row `s`. -/
def rs {S : ℕ} (X : Fin S → Fin 1024 → ℝ) (s : Fin S) : ℝ := (Real.sqrt (ms X s))⁻¹

theorem rs_div {S : ℕ} (X : Fin S → Fin 1024 → ℝ) (s : Fin S) : rs X s / ms X s = rs X s * rs X s * rs X s := by
  have h : rs X s * rs X s = (ms X s)⁻¹ := by
    unfold rs; rw [← mul_inv, Real.mul_self_sqrt (ms_pos X s).le]
  rw [h, div_eq_mul_inv, mul_comm]

/-- The error of the normalised and scaled row against its target. -/
def err {S : ℕ} (X : Fin S → Fin 1024 → ℝ) (g : Fin 1024 → ℝ) (T : Fin S → Fin 1024 → ℝ) (s : Fin S) (k : Fin 1024) : ℝ :=
  X s k * rs X s * g k - T s k

/-- One row's part of the loss. -/
def rowLoss {S : ℕ} (X : Fin S → Fin 1024 → ℝ) (g : Fin 1024 → ℝ) (T : Fin S → Fin 1024 → ℝ) (s : Fin S) : ℝ :=
  (∑ k, err X g T s k * err X g T s k) / 1024

/-- The derivative in the input. -/
def dx {S : ℕ} (X : Fin S → Fin 1024 → ℝ) (g : Fin 1024 → ℝ) (T : Fin S → Fin 1024 → ℝ) (s : Fin S) (k : Fin 1024) : ℝ :=
  rs X s * (err X g T s k * (1 / 1024) * g k
    - X s k * rs X s * ((∑ j, err X g T s j * (1 / 1024) * g j * (X s j * rs X s)) / 1024))

/-- One row's part of the derivative in the scale. -/
def rowDg {S : ℕ} (X : Fin S → Fin 1024 → ℝ) (g : Fin 1024 → ℝ) (T : Fin S → Fin 1024 → ℝ) (s : Fin S) (k : Fin 1024) : ℝ :=
  err X g T s k * (1 / 1024) * (X s k * rs X s)

end Cert.Loss

end
-- ==== Proof.LossKernel.lean ====
/-
  What the loss-head kernel leaves in its three result arrays, over the real numbers: the loss and the scale's
  derivative are sums over the grid of each row block's part, the input's derivative is written block by block.
-/
module

public import proofs.«01_k».proof.Proof.LossSpec
public import proofs.«01_k».proof.Proof.Gen.KernelIdeal.Value
public import Idealize.ShloMosaic.Lib.Pipeline.ValueKit.Point
public import Idealize.ShloMosaic.Adequacy

@[expose] public section

noncomputable section

namespace Cert.LossKernel

open Cert.KernelIdeal Cert.KernelIdeal.Gen Idealize.ShloMosaic Idealize.ShloMosaic.TcCoe Idealize.SL.Sem
open Idealize.ShloMosaic.Pipeline (Dat)
open Cert.RealOps Cert.Loss

section Block

variable (x0 : Vec Ideal S512x1024 .f32) (x1 : Vec Ideal S1x1024 .f32) (x2 : Vec Ideal S512x1024 .f32)
variable (X : Fin 512 → Fin 1024 → ℝ) (g : Fin 1024 → ℝ) (T : Fin 512 → Fin 1024 → ℝ)

/-- The normalising factor at a block of real rows. -/
theorem rsqrt_ms (s : Fin 512) :
    Ideal.rsqrt (((∑ k, X s k * X s k) / 1024 + eps : ℝ) : EReal) = ((rs X s : ℝ) : EReal) :=
  rsqrt_real (ms_pos X s)

theorem dx_block (h0 : ∀ s k, x0 (ix2 s k) = X s k) (h1 : ∀ k, x1 (ix2 0 k) = g k) (h2 : ∀ s k, x2 (ix2 s k) = T s k)
    (s : Fin 512) (k : Fin 1024) :
    k0_pay2 (F := Ideal) (k0_pay5 x1) (k0_pay6 x0) (k0_pay7 x0) (k0_pay10 x0 x1 x2) (ix2 s k) = ((dx X g T s k : ℝ) : EReal) := by
  unfold_payloads
  pointwise
  simp only [h0, h1, h2, bits_width, bits_eps, bits_inv_width, mul_real, sum_real, div_real _ (by norm_num : (1024 : ℝ) ≠ 0),
    add_real, rsqrt_ms, sub_real]
  rfl

theorem loss_block (h0 : ∀ s k, x0 (ix2 s k) = X s k) (h1 : ∀ k, x1 (ix2 0 k) = g k) (h2 : ∀ s k, x2 (ix2 s k) = T s k)
    (v : Vec Ideal S1x1 .f32) (i : S1x1.Idx) :
    k0_pay9 (F := Ideal) x0 x1 x2 v i = v i + ((1 / 2 * ∑ s, rowLoss X g T s : ℝ) : EReal) := by
  unfold_payloads
  pointwise
  simp only [h0, h1, h2, bits_width, bits_eps, bits_half, mul_real, sum_real, div_real _ (by norm_num : (1024 : ℝ) ≠ 0),
    add_real, rsqrt_ms, sub_real]
  rfl

theorem dg_block (h0 : ∀ s k, x0 (ix2 s k) = X s k) (h1 : ∀ k, x1 (ix2 0 k) = g k) (h2 : ∀ s k, x2 (ix2 s k) = T s k)
    (v : Vec Ideal S1x1024 .f32) (k : Fin 1024) :
    k0_pay1 (F := Ideal) (k0_pay7 x0) (k0_pay10 x0 x1 x2) v (ix2 0 k) = v (ix2 0 k) + ((∑ s, rowDg X g T s k : ℝ) : EReal) := by
  unfold_payloads
  pointwise
  simp only [h0, h1, h2, bits_width, bits_eps, bits_inv_width, mul_real, sum_real, div_real _ (by norm_num : (1024 : ℝ) ≠ 0),
    add_real, rsqrt_ms, sub_real]
  rfl

end Block

variable (m : (ℓ : Loc nD τ sig) → Buf (Elt Ideal) ℓ) (ρ : Dev nD → PrngReg) (c : Dev nD)
variable (X : Fin 8192 → Fin 1024 → ℝ) (g : Fin 1024 → ℝ) (T : Fin 8192 → Fin 1024 → ℝ)

/-- Row `s` of block `t` in the whole array. -/
def row (t : Fin cfg0.N) (s : Fin 512) : Fin 8192 :=
  ⟨t.val * 512 + s.val, by have := t.isLt; have h : cfg0.N = 16 := by decide
                           have := s.isLt; omega⟩

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx5 : ∀ t : Fin cfg0.N, win0_5.index t = ![0, 0] := (by decide +kernel : ∀ t : Fin grid0.N, _)
theorem idx4 : ∀ t : Fin cfg0.N, win0_4.index t = ![t.val, 0] := (by decide +kernel : ∀ t : Fin grid0.N, _)

/-- The arguments as real arrays. -/
structure Reads : Prop where
  x : ∀ s k, m ((c.tc : Thread nD τ).loc main_arg0) (ix2 s k) = ((X s k : ℝ) : EReal)
  g : ∀ k, m ((c.tc : Thread nD τ).loc main_arg1) (ix1 k) = ((g k : ℝ) : EReal)
  t : ∀ s k, m ((c.tc : Thread nD τ).loc main_arg2) (ix2 s k) = ((T s k : ℝ) : EReal)

variable {m c X g T}

theorem blk0 (h : Reads m c X g T) (t : Fin cfg0.N) (s : Fin 512) (k : Fin 1024) :
    (iblk m c 0 t : Vec Ideal S512x1024 .f32) (ix2 s k) = ((X (row t s) k : ℝ) : EReal) := by
  rw [← h.x]
  blk_ext! [iblk, V, idx0, row]

theorem blk1 (h : Reads m c X g T) (t : Fin cfg0.N) (k : Fin 1024) :
    (iblk m c 1 t : Vec Ideal S1x1024 .f32) (ix2 0 k) = ((g k : ℝ) : EReal) := by
  rw [← h.g]
  blk_ext! [iblk, V, idx1, row]

theorem blk2 (h : Reads m c X g T) (t : Fin cfg0.N) (s : Fin 512) (k : Fin 1024) :
    (iblk m c 2 t : Vec Ideal S512x1024 .f32) (ix2 s k) = ((T (row t s) k : ℝ) : EReal) := by
  rw [← h.t]
  blk_ext! [iblk, V, idx2, row]

/-- The input's derivative, whole. -/
theorem dx_array (h : Reads m c X g T) :
    (dats m 0 c).arrAt 4 cfg0.N = fun i : S8192x1024.Idx => ((dx X g T (i 0) (i 1) : ℝ) : EReal) := by
  refine (dats m 0 c).arrAt_eq_of_covers 4 _ (by decide +kernel) fun t hf y => ?_
  blk_simp
  have key := dx_block (iblk m c 0 t) (iblk m c 1 t) (iblk m c 2 t) _ _ _ (blk0 h t) (blk1 h t) (blk2 h t) (y 0) (y 1)
  have e0 : (((View.whole main_v1_1).slice (win0_4.rect t)).emb y 0 : Fin 8192) = row t (y 0) := by
    apply Fin.ext; blk_simp [idx4, row]
  have e1 : (((View.whole main_v1_1).slice (win0_4.rect t)).emb y 1 : Fin 1024) = y 1 := by
    apply Fin.ext; blk_simp [idx4]
  rw [after0_4, e0, e1]
  by_cases h' : t.val % 16 = 0
  · rw [outsAt0_A m c t h']; frame_out
    exact (congrArg _ (eq_ix2 (n0 := 512) (n1 := 1024) y)).trans key
  · rw [outsAt0_B m c t h']; frame_out
    exact (congrArg _ (eq_ix2 (n0 := 512) (n1 := 1024) y)).trans key

/-- The last point of the grid. -/
theorem last_point {t : Fin cfg0.N} (h : t.val % 16 = 15) : t.val + 1 = cfg0.N := by
  have h16 : cfg0.N = 16 := N_0
  have := t.isLt
  omega

/-- The rows of the sixteen blocks are the rows of the array. -/
theorem sum_rows (f : Fin 8192 → ℝ) : ∑ t : Fin cfg0.N, ∑ s : Fin 512, f (row t s) = ∑ s, f s :=
  Fin.sum_mul_add_congr fun _ _ _ => rfl

/-- The loss. -/
theorem loss_array (h : Reads m c X g T) :
    (dats m 0 c).arrAt 3 cfg0.N = fun _ : S1x1.Idx => ((1 / 2 * ∑ s, rowLoss X g T s : ℝ) : EReal) := by
  refine (dats m 0 c).arrAt_eq_of_covers 3 _ (by decide +kernel) fun t hf y => ?_
  blk_simp
  rw [after0_3]
  rw [Pipeline.eq_sum_fin_of_reset_step_apply_last (fun n h => (outsAt0 m c n h).1) 16 (fun _ => 0)
     (fun t _ => ((1 / 2 * ∑ s, rowLoss (fun s => X (row t s)) g (fun s => T (row t s)) s : ℝ) : EReal))
      (fun t h' j => by
         rw [outsAt0_A m c t h']; frame_out
         rw [loss_block _ _ _ _ _ _ (blk0 h t) (blk1 h t) (blk2 h t)]
         unfold k0_pay4; pointwise)
      (fun t h' j => by
         rw [outsAt0_B m c t h']; frame_out
         rw [loss_block _ _ _ _ _ _ (blk0 h t) (blk1 h t) (blk2 h t)])
      (by decide) t (last_point ((flush0_3 t).mp hf)) y]
  rw [zero_add, sum_real, ← Finset.mul_sum]
  exact congrArg (fun r : ℝ => ((1 / 2 * r : ℝ) : EReal)) (sum_rows (rowLoss X g T))

/-- The scale's derivative. -/
theorem dg_array (h : Reads m c X g T) :
    (dats m 0 c).arrAt 5 cfg0.N = fun i : S1x1024.Idx => ((∑ s, rowDg X g T s (i 1) : ℝ) : EReal) := by
  refine (dats m 0 c).arrAt_eq_of_covers 5 _ (by decide +kernel) fun t hf y => ?_
  blk_simp
  have hix : ∀ j : S1x1024.Idx, j = ix2 0 (j 1) := fun j =>
    (eq_ix2 (n0 := 1) (n1 := 1024) j).trans (congrArg (fun a => ix2 a (j 1)) (Subsingleton.elim (α := Fin 1) _ _))
  have e1 : (((View.whole main_v1_2).slice (win0_5.rect t)).emb y 1 : Fin 1024) = y 1 := by
    apply Fin.ext; blk_simp [idx5]
  rw [after0_5, e1]
  rw [Pipeline.eq_sum_fin_of_reset_step_apply_last (fun n h => (outsAt0 m c n h).2.2) 16 (fun _ => 0)
     (fun t (j : S1x1024.Idx) => ((∑ s, rowDg (fun s => X (row t s)) g (fun s => T (row t s)) s (j 1) : ℝ) : EReal))
      (fun t h' j => by
         rw [outsAt0_A m c t h']; frame_out
         obtain ⟨k, rfl⟩ : ∃ k : Fin 1024, j = ix2 0 k := ⟨_, hix j⟩
         refine (dg_block _ _ _ _ _ _ (blk0 h t) (blk1 h t) (blk2 h t) _ k).trans ?_
         unfold k0_pay3; pointwise)
      (fun t h' j => by
         rw [outsAt0_B m c t h']; frame_out
         obtain ⟨k, rfl⟩ : ∃ k : Fin 1024, j = ix2 0 k := ⟨_, hix j⟩
         exact dg_block _ _ _ _ _ _ (blk0 h t) (blk1 h t) (blk2 h t) _ k)
      (by decide) t (last_point ((flush0_5 t).mp hf)) y]
  rw [zero_add, sum_real]
  exact congrArg (fun r : ℝ => (r : EReal)) (sum_rows fun s => rowDg X g T s (y 1))

end Cert.LossKernel

end
-- ==== Proof.LossReference.lean ====
/-
  What the reference's derivative of the loss head computes, over the real numbers.
-/
module

public import proofs.«01_k».proof.Proof.LossSpec
public import proofs.«01_k».proof.Proof.Gen.ReferenceIdeal.Run
public import proofs.«01_k».proof.Proof.Gen.ReferenceIdeal.Read
public import Idealize.ShloMosaic.Lib.Pointwise
public import Idealize.ShloMosaic.Adequacy

@[expose] public section

noncomputable section

namespace Cert.LossReference

open Cert.ReferenceIdeal Cert.ReferenceIdeal.Gen Cert.ReferenceIdeal.Read Idealize.ShloMosaic
open Cert.RealOps Cert.Loss

variable {x0 : (⟨S8192x1024, .f32⟩ : BufTy).Contents (Elt Ideal)} {x1 : (⟨S1024, .f32⟩ : BufTy).Contents (Elt Ideal)}
  {x2 : (⟨S8192x1024, .f32⟩ : BufTy).Contents (Elt Ideal)}
variable {X : Fin 8192 → Fin 1024 → ℝ} {g : Fin 1024 → ℝ} {T : Fin 8192 → Fin 1024 → ℝ}

/-- The normalising factor. -/
theorem factor (h0 : ∀ i, x0 i = X (i 0) (i 1)) (i : S8192x1.Idx) :
    val_main_v6 (F := Ideal) x0 i = ((ms X (i 0) : ℝ) : EReal) ∧ val_main_v7 (F := Ideal) x0 i = ((rs X (i 0) : ℝ) : EReal) := by
  have h6 : val_main_v6 (F := Ideal) x0 i = ((ms X (i 0) : ℝ) : EReal) := by
    simp only [val_main_v6_apply, val_main_v5_apply, val_main_v4_apply, val_main_v3_apply, val_main_v2_apply, val_main_v1_apply,
      val_main_v0_apply, val_main_cst_apply, val_main_cst_0_apply, val_main_cst_1_apply]
    pointwise
    simp only [h0, bits_width, bits_eps, mul_real, sum_real, div_real _ (by norm_num : (1024 : ℝ) ≠ 0), add_real]
    rfl
  refine ⟨h6, ?_⟩
  rw [val_main_v7_apply, h6]
  exact rsqrt_real (ms_pos X _)

/-- Half the derivative of the factor in the mean square. -/
theorem slope (h0 : ∀ i, x0 i = X (i 0) (i 1)) (i : S8192x1.Idx) :
    val_main_v10 (F := Ideal) x0 i = ((-1 / 2 * (rs X (i 0) * rs X (i 0) * rs X (i 0)) : ℝ) : EReal) := by
  simp only [val_main_v10_apply, val_main_v9_apply, val_main_v8_apply, val_main_cst_2_apply, (factor h0 _).1, (factor h0 _).2]
  pointwise
  have key (s : Fin 8192) : Ideal.ofBits .f32 3204448256#32 * Ideal.div ((rs X s : ℝ) : EReal) ((ms X s : ℝ) : EReal)
      = ((-1 / 2 * (rs X s * rs X s * rs X s) : ℝ) : EReal) := by
    rw [bits_neg_half, div_real _ (ms_pos X s).ne', mul_real, rs_div]
  exact key _

/-- The normalised row. -/
theorem normed (h0 : ∀ i, x0 i = X (i 0) (i 1)) (i : S8192x1024.Idx) :
    val_main_v12 (F := Ideal) x0 i = ((X (i 0) (i 1) * rs X (i 0) : ℝ) : EReal) := by
  simp only [val_main_v12_apply, val_main_v11_apply, (factor h0 _).2, h0]
  pointwise
  rw [mul_real]
  rfl

/-- The error. -/
theorem error (h0 : ∀ i, x0 i = X (i 0) (i 1)) (h1 : ∀ i, x1 i = g (i 0)) (h2 : ∀ i, x2 i = T (i 0) (i 1)) (i : S8192x1024.Idx) :
    val_main_v16 (F := Ideal) x0 x1 x2 i = ((err X g T (i 0) (i 1) : ℝ) : EReal) := by
  simp only [val_main_v16_apply, val_main_v15_apply, val_main_v14_apply, val_main_v13_apply, normed h0, h1, h2]
  pointwise
  rw [mul_real, sub_real]
  rfl

/-- The loss. -/
theorem loss (h0 : ∀ i, x0 i = X (i 0) (i 1)) (h1 : ∀ i, x1 i = g (i 0)) (h2 : ∀ i, x2 i = T (i 0) (i 1)) (i : S1x1.Idx) :
    val_main_v51 (F := Ideal) x0 x1 x2 i = ((1 / 2 * ∑ s, rowLoss X g T s : ℝ) : EReal) := by
  have h22 (j : S8192.Idx) : val_main_v22 (F := Ideal) x0 x1 x2 j = ((rowLoss X g T (j 0) : ℝ) : EReal) := by
    simp only [val_main_v22_apply, val_main_v21_apply, val_main_v20_apply, val_main_v17_apply, val_main_cst_4_apply,
      val_main_cst_5_apply, error h0 h1 h2]
    pointwise
    rw [bits_width]
    simp only [mul_real, sum_real, div_real _ (by norm_num : (1024 : ℝ) ≠ 0)]
    rfl
  have h24 (j : S_.Idx) : val_main_v24 (F := Ideal) x0 x1 x2 j = ((1 / 2 * ∑ s, rowLoss X g T s : ℝ) : EReal) := by
    simp only [val_main_v24_apply, val_main_v23_apply, val_main_cst_6_apply, val_main_cst_7_apply, h22]
    pointwise
    rw [bits_half, sum_real, mul_real, sum_idx1]
    rfl
  unfold val_main_v51
  exact h24 _

/-- The derivative of the loss in the output of the norm. -/
theorem outGrad (h0 : ∀ i, x0 i = X (i 0) (i 1)) (h1 : ∀ i, x1 i = g (i 0)) (h2 : ∀ i, x2 i = T (i 0) (i 1)) (i : S8192x1024.Idx) :
    val_main_v30 (F := Ideal) x0 x1 x2 i = ((err X g T (i 0) (i 1) * (1 / 1024) : ℝ) : EReal) := by
  simp only [val_main_v30_apply, val_main_v29_apply, val_main_v28_apply, val_main_v27_apply, val_main_v26_apply, val_main_v25_apply,
    val_main_v19_apply, val_main_v18_apply, val_main_cst_3_apply, val_main_cst_8_apply, val_main_cst_9_apply, val_main_cst_10_apply,
    error h0 h1 h2]
  pointwise
  simp only [bits_half, bits_one, bits_two, bits_width, mul_real, div_real _ (by norm_num : (1024 : ℝ) ≠ 0), mul_one]
  refine congrArg _ ?_
  ring

/-- The derivative in the scale. -/
theorem scaleGrad (h0 : ∀ i, x0 i = X (i 0) (i 1)) (h1 : ∀ i, x1 i = g (i 0)) (h2 : ∀ i, x2 i = T (i 0) (i 1)) (i : S1x1024.Idx) :
    val_main_v52 (F := Ideal) x0 x1 x2 i = ((∑ s, rowDg X g T s (i 1) : ℝ) : EReal) := by
  have h32 (j : S1024.Idx) : val_main_v32 (F := Ideal) x0 x1 x2 j = ((∑ s, rowDg X g T s (j 0) : ℝ) : EReal) := by
    simp only [val_main_v32_apply, val_main_v31_apply, val_main_cst_11_apply, normed h0, outGrad h0 h1 h2]
    pointwise
    simp only [mul_real, sum_real]
    exact congrArg (fun r : ℝ => (r : EReal))
      (Finset.sum_congr rfl fun s _ => mul_comm (X s (j 0) * rs X s) (err X g T s (j 0) * (1 / 1024)))
  simp only [val_main_v52_apply, val_main_v36_apply, val_main_v33_apply, val_main_cst_12_apply, h32]
  pointwise
  rw [Fin.sum_univ_one]
  refine congrArg (fun k : Fin 1024 => ((∑ s, rowDg X g T s k : ℝ) : EReal)) (Fin.ext ?_)
  show 0 * 1024 + ((i 0).val * 1024 + (i 1).val) = (i 1).val
  have h1 : (i 0).val < 1 := (i 0).isLt
  omega

/-- The derivative in the input. -/
theorem inputGrad (h0 : ∀ i, x0 i = X (i 0) (i 1)) (h1 : ∀ i, x1 i = g (i 0)) (h2 : ∀ i, x2 i = T (i 0) (i 1)) (i : S8192x1024.Idx) :
    val_main_v50 (F := Ideal) x0 x1 x2 i = ((dx X g T (i 0) (i 1) : ℝ) : EReal) := by
  have h35 (j : S8192x1024.Idx) : val_main_v35 (F := Ideal) x0 x1 x2 j =
      ((err X g T (j 0) (j 1) * (1 / 1024) * g (j 1) : ℝ) : EReal) := by
    simp only [val_main_v35_apply, val_main_v34_apply, val_main_v13_apply, outGrad h0 h1 h2, h1]
    pointwise
    rw [mul_real]
    rfl
  have h44 (j : S8192x1.Idx) : val_main_v44 (F := Ideal) x0 x1 x2 j =
      (((∑ k, X (j 0) k * (err X g T (j 0) k * (1 / 1024) * g k)) * (-1 / 2 * (rs X (j 0) * rs X (j 0) * rs X (j 0))) / 1024 : ℝ) : EReal) := by
    have h38 (k : S8192.Idx) : val_main_v38 (F := Ideal) x0 x1 x2 k =
        ((∑ l, X (k 0) l * (err X g T (k 0) l * (1 / 1024) * g l) : ℝ) : EReal) := by
      simp only [val_main_v38_apply, val_main_v37_apply, val_main_cst_13_apply, h35, h0]
      pointwise
      simp only [mul_real, sum_real]
      rfl
    have hj : (idx_main_v39 j 0 : Fin 8192) = j 0 := Fin.ext (by
      show (j 0).val * 1 + (j 1).val = (j 0).val
      have h1 : (j 1).val < 1 := (j 1).isLt
      omega)
    simp only [val_main_v44_apply, val_main_v43_apply, val_main_v42_apply, val_main_v39_apply,
      val_main_cst_14_apply, slope h0, h38, hj]
    pointwise
    simp only [bits_width, mul_real, div_real _ (by norm_num : (1024 : ℝ) ≠ 0)]
  simp only [val_main_v50_apply, val_main_v49_apply, val_main_v48_apply, val_main_v47_apply, val_main_v46_apply, val_main_v45_apply,
    val_main_v41_apply, val_main_v40_apply, val_main_cst_15_apply, h35, h44, h0, (factor h0 _).2]
  pointwise
  simp only [mul_real, sum_real, add_real, Fin.sum_univ_one]
  refine congrArg _ ?_
  have hs : ∑ j, err X g T (i 0) j * (1 / 1024) * g j * (X (i 0) j * rs X (i 0))
      = (∑ k, X (i 0) k * (err X g T (i 0) k * (1 / 1024) * g k)) * rs X (i 0) := by
    rw [Finset.sum_mul]; exact Finset.sum_congr rfl fun k _ => by ring
  unfold dx
  rw [hs]
  show err X g T (i 0) (i 1) * (1 / 1024) * g (i 1) * rs X (i 0) + X (i 0) (i 1) * ((∑ k, X (i 0) k * (err X g T (i 0) k * (1 / 1024) * g k)) * (-1 / 2 * (rs X (i 0) * rs X (i 0) * rs X (i 0))) / 1024) + ((∑ k, X (i 0) k * (err X g T (i 0) k * (1 / 1024) * g k)) * (-1 / 2 * (rs X (i 0) * rs X (i 0) * rs X (i 0))) / 1024) * X (i 0) (i 1) = _
  ring

end Cert.LossReference

end
-- ==== Proof.Loss.lean ====
/-
  The loss head: the kernel's run and the reference's run end with the same loss and the same derivatives.
-/
module

public import proofs.«01_k».proof.Defs
public import proofs.«01_k».proof.Proof.LossKernel
public import proofs.«01_k».proof.Proof.LossReference
public import proofs.«01_k».proof.Proof.Gen.Pre_finite
public import Idealize.ShloMosaic.Lib.Claim

@[expose] public section

noncomputable section

namespace Cert.LossProof

open Idealize.ShloMosaic Idealize.SL.Sem Cert.RealOps

/-- The reference runs and ends quiescent, its arguments unchanged. -/
theorem reference_frame : Cert.quiescent_ReferenceIdeal := fun m ρ _ =>
  θ_run_mono (Cert.ReferenceIdeal.Value.run m ρ) fun r h =>
    ⟨fun c => (h c).2.2.2, sem_eq_zero_of_no_sems (by decide) _⟩

variable {m : (ℓ : Loc Cert.KernelIdeal.nD Cert.KernelIdeal.τ Cert.KernelIdeal.sig) → Buf (Elt Ideal) ℓ}

/-- The arrays of real numbers that finite arguments are. -/
theorem reads (hpre : Cert.Pre_KernelIdeal_finite m) (c : Dev Cert.KernelIdeal.nD) :
    ∃ (X : Fin 8192 → Fin 1024 → ℝ) (g : Fin 1024 → ℝ) (T : Fin 8192 → Fin 1024 → ℝ),
      (∀ i, (m (c.tc.loc Cert.KernelIdeal.main_arg0) : Vec Ideal Cert.KernelIdeal.S8192x1024 .f32) i = (X (i 0) (i 1) : EReal))
      ∧ (∀ i, (m (c.tc.loc Cert.KernelIdeal.main_arg1) : Vec Ideal Cert.KernelIdeal.S1024 .f32) i = (g (i 0) : EReal))
      ∧ (∀ i, (m (c.tc.loc Cert.KernelIdeal.main_arg2) : Vec Ideal Cert.KernelIdeal.S8192x1024 .f32) i = (T (i 0) (i 1) : EReal)) := by
  obtain ⟨h0, h1, h2⟩ := hpre c
  refine ⟨fun s k => ((m (c.tc.loc Cert.KernelIdeal.main_arg0) : Vec Ideal Cert.KernelIdeal.S8192x1024 .f32) (ix2 s k)).toReal,
    fun k => ((m (c.tc.loc Cert.KernelIdeal.main_arg1) : Vec Ideal Cert.KernelIdeal.S1024 .f32) (ix1 k)).toReal,
    fun s k => ((m (c.tc.loc Cert.KernelIdeal.main_arg2) : Vec Ideal Cert.KernelIdeal.S8192x1024 .f32) (ix2 s k)).toReal,
    fun i => ?_, fun i => ?_, fun i => ?_⟩
  · have h := congrFun h0 i
    rw [eq_ix2 (n0 := 8192) (n1 := 1024) i] at h ⊢
    exact real_of_lt_top (bits_top ▸ h)
  · have h := congrFun h1 i
    rw [eq_ix1 (n0 := 1024) i] at h ⊢
    exact real_of_lt_top (bits_top ▸ h)
  · have h := congrFun h2 i
    rw [eq_ix2 (n0 := 8192) (n1 := 1024) i] at h ⊢
    exact real_of_lt_top (bits_top ▸ h)

theorem algebraic : Cert.algebraic_KernelIdeal_ReferenceIdeal_pre_finite := by
  pair_intro
  · run_from (Cert.KernelIdeal.Value.run_blocks m g)
  · refine θ_run_mono (Cert.ReferenceIdeal.Value.run m' g') fun r h c => ?_
    obtain ⟨r0, r1, r2, k⟩ := h c
    obtain ⟨X, s, T, hX, hs, hT⟩ := reads hpre c
    obtain ⟨a0, a1, a2⟩ := hagree c
    have hk : LossKernel.Reads m c X s T := ⟨fun s k => hX (ix2 s k), fun k => hs (ix1 k), fun s k => hT (ix2 s k)⟩
    have b0 : ∀ i, (m' (c.tc.loc Cert.ReferenceIdeal.main_arg0) : Vec Ideal Cert.KernelIdeal.S8192x1024 .f32) i = (X (i 0) (i 1) : EReal) := by
      rw [a0]; exact hX
    have b1 : ∀ i, (m' (c.tc.loc Cert.ReferenceIdeal.main_arg1) : Vec Ideal Cert.KernelIdeal.S1024 .f32) i = (s (i 0) : EReal) := by
      rw [a1]; exact hs
    have b2 : ∀ i, (m' (c.tc.loc Cert.ReferenceIdeal.main_arg2) : Vec Ideal Cert.KernelIdeal.S8192x1024 .f32) i = (T (i 0) (i 1) : EReal) := by
      rw [a2]; exact hT
    refine ⟨r0.trans ?_, r1.trans ?_, r2.trans ?_, k⟩
    · rw [LossKernel.loss_array hk]
      exact funext fun i => LossReference.loss b0 b1 b2 i
    · rw [LossKernel.dx_array hk, ReferenceIdeal.Read.val_main_v50_eq]
      exact funext fun i => LossReference.inputGrad b0 b1 b2 i
    · rw [LossKernel.dg_array hk]
      exact funext fun i => LossReference.scaleGrad b0 b1 b2 i

end Cert.LossProof

end
-- ==== Proof.SbOwns.lean ====
/-
  Loads and stores of a memref that is held by what it reads: a load gives the held value at the coordinates
  loaded, and a store through a rectangle leaves the held value with the rectangle's part replaced.
-/
module

public import Idealize.ShloMosaic.Lib.Memref
public import Idealize.ShloMosaic.Lib.Tactic

@[expose] public section

noncomputable section

namespace Cert.SbProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type} [Preorder Lvl]
variable {Λ : Labels} {defs : Defs nD τ sig Val Λ} {α : Type}

local notation "𝕄" => MT nD τ sig Ix Val Name U Lvl

variable (𝒱 : Variants) (c : Thread nD τ) (bd : Option 𝒱.V) (E : Set Name)
variable {s : Shape} {e : EltTy} {cs : CoreSpace} {m : Memref sig c.2.kind cs s e}
variable {Q : α → sProp (MT nD τ sig Ix Val Name U Lvl)}

/-- A load from a memref held at `X` reads `X` at the coordinates loaded, and leaves the memref held at `X`. -/
theorem owns_load {r : LoadRect s} {hl : m.view.LoadsAt r} {k : (r.shape.Idx → Val e) → Prog (TpuEff nD τ sig Val Λ c.2) α}
    {q : PosShare TreeShare} {X : s.Idx → Val e} :
    (owns c m q X : sProp 𝕄) ⊢ iprop((owns c m q X -∗ wp frame (wpE defs 𝒱 c bd) E (k fun y => X (r.idx y)) Q)
      -∗ wp frame (wpE defs 𝒱 c bd) E (.op (.load m r hl) k) Q) := by
  iintro H Hk
  unfold owns
  icases H with ⟨%f, %hf, H⟩
  subst hf
  iapply (wp_load 𝒱 c bd E (m := m) (r := r) (View.setOn_subset_set _ _)) $$ H
  iintro H
  iapply Hk
  iexists f
  isplitr
  · ipureintro; rfl
  iexact H

/-- A store of `w` through the rectangle `r` into a memref held at `X` leaves it held at `X` with the rectangle's
    part replaced by `w`. -/
theorem owns_store {r : Rect s} {w : r.shape.Idx → Val e} {hx : (m.access r).Stores Finset.univ}
    {hm : Finset.univ = Finset.univ ∨ ∀ a, r.stride a = 1} {k : PUnit → Prog (TpuEff nD τ sig Val Λ c.2) α} {X : s.Idx → Val e} :
    (owns c m fullShare X : sProp 𝕄) ⊢ iprop((owns c m fullShare (r.overlay X w) -∗ wp frame (wpE defs 𝒱 c bd) E (k ⟨⟩) Q)
      -∗ wp frame (wpE defs 𝒱 c bd) E (.op (.store m r w Finset.univ hx hm) k) Q) := by
  iintro H Hk
  unfold owns
  icases H with ⟨%f, %hf, H⟩
  subst hf
  iapply (wp_store 𝒱 c bd E (m := m) (r := r) (Mk := Finset.univ) (S := m.view.set) (View.set_slice_subset _ _)) $$ H
  iintro H
  iapply Hk
  iexists _
  isplitr
  swap
  · iexact H
  · ipureintro
    funext y
    by_cases hy : y ∈ r.set
    · rw [← Rect.map_emb_univ, Finset.mem_map] at hy
      obtain ⟨z, -, rfl⟩ := hy
      rw [Rect.overlay_emb]
      exact View.read_slice_write_emb r f w (Finset.mem_univ z)
    · rw [Rect.overlay_of_not_mem _ _ _ hy]
      exact View.read_slice_write_of_not_mem r f w Finset.univ (by rwa [Rect.map_emb_univ])

end Cert.SbProof
-- ==== Proof.SbRows.lean ====
/-
  What the loop of the backward pass needs of its buffers, whatever program runs it: blocks of 256 rows, whole loads
  and stores, the record of what the loop carries, and the arithmetic of its counter.
-/
module

public import proofs.«01_k».proof.Proof.SbOwns
public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.ValueKit.Point
public import Idealize.ShloMosaic.Lib.WordCmp

@[expose] public section

noncomputable section

namespace Cert.SbProof

open Cert.Kernel2Ideal Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Blocks of 256 rows -/

/-- The 256 rows of block `k`. -/
def rows {e : EltTy} (X : Vec F S8192x128 e) (k : ℕ) : Vec F S256x128 e :=
  fun y => X (ix2 (n0 := 8192) (n1 := 128) ⟨(256 * k + (y 0).val) % 8192, Nat.mod_lt _ (by norm_num)⟩ (y 1))

/-- `X` with the 256 rows of block `k` replaced by `w`. -/
def putRows {e : EltTy} (X : Vec F S8192x128 e) (k : ℕ) (w : Vec F S256x128 e) : Vec F S8192x128 e :=
  fun y => if (y 0).val / 256 = k then
    w (ix2 (n0 := 256) (n1 := 128) ⟨(y 0).val % 256, Nat.mod_lt _ (by norm_num)⟩ (y 1)) else X y

/-- Loading the rows from `256 k` reads block `k`. -/
theorem load_rows {e : EltTy} (X : Vec F S8192x128 e) {k : ℕ} (hk : k < 32) {off : Fin 2 → ℕ} (hoff : off = ![256 * k, 0])
    (inb : ∀ a, off a + S256x128.size a ≤ S8192x128.size a) :
    (fun y => X ((Rect.unit (s := S8192x128) off S256x128.size inb).toLoadRect.idx y)) = rows X k := by
  subst hoff
  funext y
  unfold rows
  refine congrArg X ?_
  have hy : (y 0).val < 256 := (y 0).isLt
  funext a
  refine Fin.cases ?_ (fun a => ?_) a
  · refine Fin.ext ?_
    show 256 * k + 1 * (y 0).val = (256 * k + (y 0).val) % 8192
    omega
  · refine Fin.cases ?_ (fun b => b.elim0) a
    refine Fin.ext ?_
    show 0 + 1 * (y 1).val = (y 1).val
    omega

/-- Storing over the rows from `256 k` replaces block `k`. -/
theorem store_rows {e : EltTy} (X : Vec F S8192x128 e) (w : Vec F S256x128 e) {k : ℕ} (hk : k < 32) {off : Fin 2 → ℕ}
    (hoff : off = ![256 * k, 0]) (inb : ∀ a, off a + S256x128.size a ≤ S8192x128.size a) :
    (Rect.unit (s := S8192x128) off S256x128.size inb).overlay X w = putRows X k w := by
  subst hoff
  funext y
  unfold putRows
  have hy0 : (y 0).val < 8192 := (y 0).isLt
  by_cases h : (y 0).val / 256 = k
  · rw [if_pos h]
    have hy : y = (Rect.unit (s := S8192x128) ![256 * k, 0] S256x128.size inb).emb
        (ix2 (n0 := 256) (n1 := 128) ⟨(y 0).val % 256, Nat.mod_lt _ (by norm_num)⟩ (y 1)) := by
      funext a
      refine Fin.cases ?_ (fun a => ?_) a
      · refine Fin.ext ?_
        show (y 0).val = 256 * k + 1 * ((y 0).val % 256)
        omega
      · refine Fin.cases ?_ (fun b => b.elim0) a
        refine Fin.ext ?_
        show (y 1).val = 0 + 1 * (y 1).val
        omega
    conv_lhs => rw [hy]
    exact Rect.overlay_emb (Rect.unit (s := S8192x128) ![256 * k, 0] S256x128.size inb) X w _
  · rw [if_neg h]
    refine Rect.overlay_of_not_mem _ _ _ fun hm => h ?_
    rw [← Rect.map_emb_univ, Finset.mem_map] at hm
    obtain ⟨z, -, rfl⟩ := hm
    have hz : (z 0).val < 256 := (z 0).isLt
    show (256 * k + 1 * (z 0).val) / 256 = k
    omega

/-! ## Whole loads and stores -/

theorem load_whole {s : Shape} {e : EltTy} (X : Vec F s e) (off : Fin s.rank → ℕ) (hoff : ∀ a, off a = 0)
    (inb : ∀ a, off a + s.size a ≤ s.size a) : (fun y => X ((Rect.unit (s := s) off s.size inb).toLoadRect.idx y)) = X := by
  funext y
  refine congrArg X (funext fun a => Fin.ext ?_)
  show off a + 1 * (y a).val = (y a).val
  rw [hoff a]; omega

theorem store_whole {s : Shape} {e : EltTy} (X w : Vec F s e) (off : Fin s.rank → ℕ) (hoff : ∀ a, off a = 0)
    (inb : ∀ a, off a + s.size a ≤ s.size a) : (Rect.unit (s := s) off s.size inb).overlay X w = w := by
  funext y
  have hy : (Rect.unit (s := s) off s.size inb).emb y = y := funext fun a => Fin.ext (by
    show off a + 1 * (y a).val = (y a).val
    rw [hoff a]; omega)
  conv_lhs => rw [← hy]
  exact Rect.overlay_emb (Rect.unit (s := s) off s.size inb) X w y

theorem zeros2 : ∀ a : Fin 2, (![0, 0] : Fin 2 → ℕ) a = 0 := by decide

/-! ## What the loop carries -/

/-- What the loop carries: the running sum of the log factors and of the weighted cotangents per row, the gradient of
    the queries so far, the largest running sum, and the two gradient buffers of the keys and values. -/
structure St (F : FTy → Type) where
  /-- running sum of the log factors of the later keys, per row -/
  r : FVec F S512x1 .f32
  /-- running sum of the weighted cotangents of the later keys, per row -/
  g : FVec F S512x1 .f32
  /-- gradient of the queries so far -/
  dq : FVec F S512x128 .f32
  /-- the largest running sum of the log factors -/
  top : F .f32
  /-- gradient of the keys -/
  dk : Vec F S8192x128 .f32
  /-- gradient of the values -/
  dv : Vec F S8192x128 .f32

/-! ## Arithmetic of the counter -/

/-- The counter at key block `k - 1`. -/
abbrev ctr (k : ℕ) : BitVec 32 := Scalar.subi (BitVec.ofNat 32 k) 1#32

theorem ctr_succ : ∀ k : Fin 32, ctr (k.val + 1) = BitVec.ofNat 32 k.val := by decide

theorem sge_zero : ∀ k : Fin 33, Scalar.cmpi .sge (ctr k.val) 0#32 = if k.val = 0 then 0#1 else 1#1 := by decide

end Cert.SbProof
-- ==== Proof.SbTrip.lean ====
/-
  One trip of the inner loop of the backward pass as a function of what the loop carries, and the loop itself: how
  its label is answered by the function that runs the remaining trips.
-/
module

public import proofs.«01_k».proof.Proof.SbRows
public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.ValueKit.Point
public import Idealize.ShloMosaic.Lib.WordCmp

@[expose] public section

noncomputable section

namespace Cert.SbProof

open Cert.Kernel2Ideal Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The variants of the loop's calls: how many trips may still follow. -/
abbrev 𝒱₀ : Variants := Variants.nat

/-! ## What the loop carries, and one trip -/

section Trip

variable (K V : Vec F S8192x128 .bf16) (v56 v66 : FVec F S512x128 .bf16) (v15 v19 : FVec F S256x256 .bf16)
  (v73 : FVec F S512x1 .f32)

/-- The trip at key block `k`. -/
def trip (k : ℕ) (s : St F) : St F where
  r := k0_pay7 s.r (k0_pay39 v56 v15 (rows K k))
  g := k0_pay6 s.g (k0_pay41 v56 v15 v66 s.r (rows K k) (rows V k))
  dq := k0_pay3 s.dq (rows K k) (k0_pay37 v56 (rows K k)) (k0_pay38 v56 (rows K k))
    (k0_pay41 v56 v15 v66 s.r (rows K k) (rows V k)) (k0_pay42 v56 v15 v66 v19 s.r (rows K k) (rows V k)) (k0_pay43 v73 s.g)
  top := k0_pay8 s.r (k0_pay39 v56 v15 (rows K k))
  dk := putRows s.dk k (k0_pay4 v56 (k0_pay37 v56 (rows K k)) (k0_pay38 v56 (rows K k))
    (k0_pay41 v56 v15 v66 s.r (rows K k) (rows V k)) (k0_pay42 v56 v15 v66 v19 s.r (rows K k) (rows V k)) (k0_pay43 v73 s.g)
    (rows s.dk k))
  dv := putRows s.dv k (k0_pay5 v66 (k0_pay40 v56 v15 s.r (rows K k)) (rows s.dv k))

/-- The trips from key block `k - 1` down to the first, stopped where the largest running sum is not above the
    threshold. -/
def trips : ℕ → St F → St F
  | 0, s => s
  | k + 1, s => if Scalar.cmpf .ogt s.top (Named.named κ "exit" 0xC2DC0000#32 : F .f32) = 1#1
      then trips k (trip K V v56 v66 v15 v19 v73 k s) else s

end Trip

/-! ## Arithmetic of the counter -/

theorem off2_eq : ∀ k : Fin 32, k0_off2 (BitVec.ofNat 32 k.val) = ![256 * k.val, 0] := by decide

theorem chk1_of_lt : ∀ k : Fin 32, k0_chk1 (BitVec.ofNat 32 k.val) := by
  intro k
  refine ⟨?_, ?_⟩
  · revert k; decide
  · rw [off2_eq]
    intro a
    have hk := k.isLt
    refine Fin.cases ?_ (fun a => ?_) a
    · show 256 * k.val + 256 ≤ 8192
      omega
    · refine Fin.cases ?_ (fun b => b.elim0) a
      show 0 + 128 ≤ 128
      omega

/-! ## The label of the loop -/

section Label

variable (c : Dev nD) (i : grid0.Coords) (arg3 arg4 : Memref sig .tc .vmem S8192x128 .bf16) (h3 : arg3.IsWhole) (h4 : arg4.IsWhole)
  (arg8 arg9 : Memref sig .tc .vmem S8192x128 .f32) (h8 : arg8.IsWhole) (h9 : arg9.IsWhole)
  (K V : Vec F S8192x128 .bf16) (v56 v66 : FVec F S512x128 .bf16) (v15 v19 : FVec F S256x256 .bf16) (v73 : FVec F S512x1 .f32)

/-- The four buffers of the loop: keys and values as read, the two gradient buffers at `dk` and `dv`. -/
def held (dk dv : Vec F S8192x128 .f32) : sProp 𝕄 :=
  iprop(owns (c : Thread nD τ) arg3 fullShare K ∗ owns (c : Thread nD τ) arg4 fullShare V
    ∗ owns (c : Thread nD τ) arg8 fullShare dk ∗ owns (c : Thread nD τ) arg9 fullShare dv)

/-- The label's specification from what the loop carries: it returns some counter and what the remaining trips leave. -/
def spec (k : ℕ) (s : St F) : sWPT 𝕄 (BitVec 32 × FVec F S512x1 .f32 × FVec F S512x1 .f32 × FVec F S512x128 .f32 × F .f32) := do
  sWPT.consume (held c arg3 arg4 arg8 arg9 K V s.dk s.dv)
  let n ← sWPT.arbitrary
  sWPT.produce (held c arg3 arg4 arg8 arg9 K V (trips K V v56 v66 v15 v19 v73 k s).dk (trips K V v56 v66 v15 v19 v73 k s).dv)
  pure (n, (trips K V v56 v66 v15 v19 v73 k s).r, (trips K V v56 v66 v15 v19 v73 k s).g,
    (trips K V v56 v66 v15 v19 v73 k s).dq, (trips K V v56 v66 v15 v19 v73 k s).top)

theorem spec_apply (k : ℕ) (s : St F) (P : BitVec 32 × FVec F S512x1 .f32 × FVec F S512x1 .f32 × FVec F S512x128 .f32 × F .f32 → sProp 𝕄) :
    spec c arg3 arg4 arg8 arg9 K V v56 v66 v15 v19 v73 k s P
      = iprop(held c arg3 arg4 arg8 arg9 K V s.dk s.dv ∗ ∀ n : BitVec 32,
          (held c arg3 arg4 arg8 arg9 K V (trips K V v56 v66 v15 v19 v73 k s).dk (trips K V v56 v66 v15 v19 v73 k s).dv
            -∗ P (n, (trips K V v56 v66 v15 v19 v73 k s).r, (trips K V v56 v66 v15 v19 v73 k s).g,
              (trips K V v56 v66 v15 v19 v73 k s).dq, (trips K V v56 v66 v15 v19 v73 k s).top))) := rfl

set_option maxHeartbeats 1600000 in
/-- The label's body, entered with `k` trips to run at most, meets the specification: by induction on `k`. -/
theorem spec_le (E : Set ℕ) :
    ∀ k, k ≤ 32 → ∀ (s : St F) P, spec c arg3 arg4 arg8 arg9 K V v56 v66 v15 v19 v73 k s P
      ⊢ wp frame (wpE (defs₀ (F := F)) 𝒱₀ (c : Thread nD τ) (some k)) E
          (cc0_while1 i arg3 h3 arg4 h4 v56 v15 v66 v19 v73 arg8 h8 arg9 h9 (ctr k) s.r s.g s.dq s.top) P := by
  intro k
  induction k with
  | zero =>
    intro _ s P
    rw [spec_apply]
    have h0 : Scalar.cmpi .sge (ctr 0) 0#32 = 0#1 := sge_zero 0
    rw [cc0_while1_eq_skeleton]; unfold cc0_while1_skel
    have htest : ¬Scalar.andi (Scalar.cmpi .sge (ctr 0) 0#32) (Scalar.cmpf .ogt s.top (Named.named κ "exit" 0xC2DC0000#32 : F .f32)) = 1#1 := by
      rw [h0]
      generalize Scalar.cmpf .ogt s.top (Named.named κ "exit" 0xC2DC0000#32 : F .f32) = b
      revert b; decide
    simp only [htest, ↓reduceIte, Prog.pure_eq_ret, trips]
    iintro ⟨H, Hk⟩
    rw [wp_ret]; imodintro
    iapply Hk $$ H
  | succ k ih =>
    intro hk s P
    rw [spec_apply]
    have hk' : k < 32 := by omega
    have h0 : Scalar.cmpi .sge (ctr (k + 1)) 0#32 = 1#1 := sge_zero ⟨k + 1, by omega⟩
    have hoff : k0_off2 (BitVec.ofNat 32 k) = ![256 * k, 0] := off2_eq ⟨k, hk'⟩
    have hchk : k0_chk1 (BitVec.ofNat 32 k) := chk1_of_lt ⟨k, hk'⟩
    rw [cc0_while1_eq_skeleton]; unfold cc0_while1_skel
    by_cases ht : Scalar.cmpf .ogt s.top (Named.named κ "exit" 0xC2DC0000#32 : F .f32) = 1#1
    · have htest : Scalar.andi (Scalar.cmpi .sge (ctr (k + 1)) 0#32) (Scalar.cmpf .ogt s.top (Named.named κ "exit" 0xC2DC0000#32 : F .f32)) = 1#1 := by
        rw [h0, ht]; decide
      have hT : trips K V v56 v66 v15 v19 v73 (k + 1) s = trips K V v56 v66 v15 v19 v73 k (trip K V v56 v66 v15 v19 v73 k s) := by
        rw [trips, if_pos ht]
      rw [hT]
      simp only [htest, ↓reduceIte]
      rw [show ctr (k + 1) = BitVec.ofNat 32 k from ctr_succ ⟨k, hk'⟩, k0_part5_eq_skeleton]; unfold k0_part5_skel
      simp only [Prog.lift, Prog.bind_op, Prog.bind_ret, Prog.pure_eq_ret]
      unfold held
      iintro ⟨⟨H3, H4, H8, H9⟩, Hk⟩
      iapply (wp_assume 𝒱₀ (c : Thread nD τ) (some (k + 1)) E hchk)
      iapply (owns_load 𝒱₀ (c : Thread nD τ) (some (k + 1)) E (m := arg3)) $$ H3; iintro H3
      iapply (owns_load 𝒱₀ (c : Thread nD τ) (some (k + 1)) E (m := arg4)) $$ H4; iintro H4
      iapply (owns_load 𝒱₀ (c : Thread nD τ) (some (k + 1)) E (m := arg8)) $$ H8; iintro H8
      iapply (owns_load 𝒱₀ (c : Thread nD τ) (some (k + 1)) E (m := arg8)) $$ H8; iintro H8
      iapply (owns_store 𝒱₀ (c : Thread nD τ) (some (k + 1)) E (m := arg8)) $$ H8; iintro H8
      iapply (owns_load 𝒱₀ (c : Thread nD τ) (some (k + 1)) E (m := arg9)) $$ H9; iintro H9
      iapply (owns_load 𝒱₀ (c : Thread nD τ) (some (k + 1)) E (m := arg9)) $$ H9; iintro H9
      iapply (owns_store 𝒱₀ (c : Thread nD τ) (some (k + 1)) E (m := arg9)) $$ H9; iintro H9
      rw [load_rows K hk' hoff, load_rows V hk' hoff, load_rows s.dk hk' hoff, load_rows s.dv hk' hoff,
        store_rows s.dk _ hk' hoff, store_rows s.dv _ hk' hoff]
      iapply (wp_call_spec 𝒱₀ (c : Thread nD τ) (some (k + 1)) E
        (spec c arg3 arg4 arg8 arg9 K V v56 v66 v15 v19 v73 k (trip K V v56 v66 v15 v19 v73 k s)) k
        (fun u hu => by cases hu; exact Nat.lt_succ_self k) (ih (by omega) (trip K V v56 v66 v15 v19 v73 k s)))
      rw [spec_apply]; unfold held
      isplitl [H3 H4 H8 H9]
      · isplitl [H3]; · iexact H3
        isplitl [H4]; · iexact H4
        isplitl [H8]; · iexact H8
        iexact H9
      iintro %n ⟨H3, H4, H8, H9⟩
      rw [wp_ret]; imodintro
      iapply Hk
      isplitl [H3]; · iexact H3
      isplitl [H4]; · iexact H4
      isplitl [H8]; · iexact H8
      iexact H9
    · have htest : ¬Scalar.andi (Scalar.cmpi .sge (ctr (k + 1)) 0#32) (Scalar.cmpf .ogt s.top (Named.named κ "exit" 0xC2DC0000#32 : F .f32)) = 1#1 := by
        rw [h0]
        revert ht
        generalize Scalar.cmpf .ogt s.top (Named.named κ "exit" 0xC2DC0000#32 : F .f32) = b
        revert b; decide
      have hT : trips K V v56 v66 v15 v19 v73 (k + 1) s = s := by rw [trips, if_neg ht]
      rw [hT]
      simp only [htest, ↓reduceIte, Prog.pure_eq_ret]
      iintro ⟨H, Hk⟩
      rw [wp_ret]; imodintro
      iapply Hk $$ H

end Label

end Cert.SbProof
-- ==== Proof.SbBody.lean ====
/-
  The body of the backward pass at one grid point: the diagonal key block, then the loop over the earlier ones. What
  the body leaves in its three output buffers is stated as functions of its input blocks and of what the two key and
  value gradient buffers held before.
-/
module

public import proofs.«01_k».proof.Proof.SbTrip

@[expose] public section

noncomputable section

namespace Cert.SbProof

open Cert.Kernel2Ideal Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The values of one grid point -/

section Values

variable (i : grid0.Coords) (x2 : Vec F S256x128 .bf16) (K V : Vec F S8192x128 .bf16) (x5 : Vec F S256x128 .bf16) (x6 : Vec F S256x128 .f32)

/-- The stacked, scaled queries. -/
abbrev qst : FVec F S512x128 .bf16 := k0_pay15 k0_pay14 x2
/-- The stacked cotangents. -/
abbrev dost : FVec F S512x128 .bf16 := k0_pay16 k0_pay14 x5
/-- Per row the sum of output times cotangent. -/
abbrev dsum : FVec F S512x1 .f32 := k0_pay17 k0_pay14 x5 x6
/-- The mask of the diagonal block. -/
abbrev diag : IVec S512x256 1 := k0_pay21 (BitVec.ofNat 32 (i 1).val) (k0_pay11 i)
/-- The diagonal block's weighted cotangents. -/
abbrev gm : FVec F S512x256 .f32 := k0_pay26 k0_pay12 (qst x2) (dost x5) k0_pay18 (diag i) (rows K (i 1).val) (rows V (i 1).val)
/-- Their sums over later keys of the block. -/
abbrev later : FVec F S512x256 .f32 := k0_pay27 k0_pay12 k0_pay13 (qst x2) (dost x5) k0_pay18 (diag i) (rows K (i 1).val) (rows V (i 1).val)

/-- What the loop starts from: the diagonal block done, over gradient buffers that held `dk` and `dv`. -/
def first (dk dv : Vec F S8192x128 .f32) : St F where
  r := k0_pay34 k0_pay18 (k0_pay24 k0_pay12 (qst x2) (diag i) (rows K (i 1).val))
  g := k0_pay33 k0_pay19 (gm i x2 K V x5)
  dq := k0_pay30 k0_pay20 (diag i) (rows K (i 1).val) (k0_pay22 (qst x2) (rows K (i 1).val)) (k0_pay23 (qst x2) (rows K (i 1).val))
    (gm i x2 K V x5) (later i x2 K V x5) (k0_pay28 (dsum x5 x6) k0_pay19)
  top := k0_pay35 k0_pay18 (k0_pay24 k0_pay12 (qst x2) (diag i) (rows K (i 1).val))
  dk := putRows dk (i 1).val (k0_pay31 (qst x2) (diag i) (k0_pay22 (qst x2) (rows K (i 1).val)) (k0_pay23 (qst x2) (rows K (i 1).val))
    (gm i x2 K V x5) (later i x2 K V x5) (k0_pay28 (dsum x5 x6) k0_pay19) (rows dk (i 1).val))
  dv := putRows dv (i 1).val (k0_pay32 (dost x5) (k0_pay25 k0_pay12 (qst x2) k0_pay18 (diag i) (rows K (i 1).val)) (rows dv (i 1).val))

/-- What the body leaves, over gradient buffers that held `dk` and `dv`. -/
def last (dk dv : Vec F S8192x128 .f32) : St F :=
  trips K V (qst x2) (dost x5) k0_pay12 k0_pay13 (dsum x5 x6) (i 1).val (first i x2 K V x5 x6 dk dv)

/-- The block of the queries' gradient the body writes. -/
def dqOut (dk dv : Vec F S8192x128 .f32) : Vec F S256x128 .f32 :=
  k0_pay1 k0_pay14 (last i x2 K V x5 x6 dk dv).dq (k0_pay36 k0_pay14)

end Values

/-- The condition of the body's one branch: the first grid point of a head. -/
abbrev cond0 (i : grid0.Coords) : Prop := (Scalar.cmpi .ne (Scalar.extui (Scalar.cmpi .eq (BitVec.ofNat 32 (i 1).val) 0#32)) 0#32) = 1#1

theorem off1_eq (i : grid0.Coords) : k0_off1 i = ![256 * (i 1).val, 0] := by
  have h : ∀ k : Fin 32, (![(Scalar.indexCast (Scalar.muli (BitVec.ofNat 32 k.val) 256#32)).toNat, 0] : Fin 2 → ℕ) = ![256 * k.val, 0] := by decide
  exact h ⟨(i 1).val, (i 1).isLt⟩

section Body

variable (c : Dev nD) (i : grid0.Coords)
  (arg2 : Memref sig .tc .vmem S256x128 .bf16) (h2 : arg2.IsWhole) (arg3 : Memref sig .tc .vmem S8192x128 .bf16) (h3 : arg3.IsWhole)
  (arg4 : Memref sig .tc .vmem S8192x128 .bf16) (h4 : arg4.IsWhole) (arg5 : Memref sig .tc .vmem S256x128 .bf16) (h5 : arg5.IsWhole)
  (arg6 : Memref sig .tc .vmem S256x128 .f32) (h6 : arg6.IsWhole) (arg7 : Memref sig .tc .vmem S256x128 .f32) (h7 : arg7.IsWhole)
  (arg8 : Memref sig .tc .vmem S8192x128 .f32) (h8 : arg8.IsWhole) (arg9 : Memref sig .tc .vmem S8192x128 .f32) (h9 : arg9.IsWhole)
  (x2 : Vec F S256x128 .bf16) (K V : Vec F S8192x128 .bf16) (x5 : Vec F S256x128 .bf16) (x6 x7 : Vec F S256x128 .f32)

/-- The buffers of the body. -/
def bufs (y7 : Vec F S256x128 .f32) (dk dv : Vec F S8192x128 .f32) : sProp 𝕄 :=
  iprop(owns (c : Thread nD τ) arg2 fullShare x2 ∗ owns (c : Thread nD τ) arg3 fullShare K ∗ owns (c : Thread nD τ) arg4 fullShare V
    ∗ owns (c : Thread nD τ) arg5 fullShare x5 ∗ owns (c : Thread nD τ) arg6 fullShare x6 ∗ owns (c : Thread nD τ) arg7 fullShare y7
    ∗ owns (c : Thread nD τ) arg8 fullShare dk ∗ owns (c : Thread nD τ) arg9 fullShare dv)

/-- What follows the branch: from gradient buffers at `dk`, `dv` the body ends as `last` says. -/
theorem rest_of_body (dk dv : Vec F S8192x128 .f32) (P : PUnit → sProp 𝕄) :
    iprop(bufs c arg2 arg3 arg4 arg5 arg6 arg7 arg8 arg9 x2 K V x5 x6 x7 dk dv
      ∗ (bufs c arg2 arg3 arg4 arg5 arg6 arg7 arg8 arg9 x2 K V x5 x6 (dqOut i x2 K V x5 x6 dk dv)
          (last i x2 K V x5 x6 dk dv).dk (last i x2 K V x5 x6 dk dv).dv -∗ P ⟨⟩))
      ⊢ wp frame (wpE (defs₀ (F := F)) 𝒱₀ (c : Thread nD τ) none) Set.univ (do
          let ⟨v56, v66, v73, v74, v75, v76, v78, v82⟩ ← k0_part2 i arg2 h2 arg3 h3 arg4 h4 arg5 h5 arg6 h6 arg7 h7 arg8 h8 arg9 h9 (BitVec.ofNat 32 (i 1).val) (k0_pay11 i) k0_pay14
          let ⟨v84, v87, v91, v111, v118, v121, v128, v129⟩ ← k0_part3 i arg2 h2 arg3 h3 arg4 h4 arg5 h5 arg6 h6 arg7 h7 arg8 h8 arg9 h9 k0_pay12 k0_pay13 v56 v66 v73 v74 v75 v78 v82
          let ⟨v170_3, v172⟩ ← k0_part4 i arg2 h2 arg3 h3 arg4 h4 arg5 h5 arg6 h6 arg7 h7 arg8 h8 arg9 h9 (BitVec.ofNat 32 (i 1).val) k0_pay12 k0_pay13 k0_pay14 v56 v66 v73 v74 v75 v76 v78 v82 v84 v87 v91 v111 v118 v121 v128 v129
          let _v182 : Vec F S256x128 .f32 ← Prog.lift (.load arg7 (Rect.unit (s := S256x128) ![0, 0] S256x128.size inb_S256x128_S256x128_0_0).toLoadRect (View.loadsAt_vmem h_S256x128))
          Prog.lift (.store arg7 (Rect.unit (s := S256x128) ![0, 0] S256x128.size inb_S256x128_S256x128_0_0) (k0_pay1 k0_pay14 v170_3 v172) Finset.univ (View.stores_vmem_bits_univ h_S256x128 rfl) (.inl rfl))
          pure ⟨⟩) P := by
  have hk : (i 1).val < 32 := (i 1).isLt
  have hoff : k0_off1 i = ![256 * (i 1).val, 0] := off1_eq i
  rw [k0_part2_eq_skeleton, k0_part3_eq_skeleton, k0_part4_eq_skeleton]
  unfold k0_part2_skel k0_part3_skel k0_part4_skel
  simp only [Prog.lift, Prog.bind_op, Prog.bind_ret, Prog.pure_eq_ret]
  unfold bufs
  iintro ⟨⟨H2, H3, H4, H5, H6, H7, H8, H9⟩, Hk⟩
  iapply (owns_load 𝒱₀ (c : Thread nD τ) none Set.univ (m := arg2)) $$ H2; iintro H2
  iapply (owns_load 𝒱₀ (c : Thread nD τ) none Set.univ (m := arg5)) $$ H5; iintro H5
  iapply (owns_load 𝒱₀ (c : Thread nD τ) none Set.univ (m := arg6)) $$ H6; iintro H6
  iapply (owns_load 𝒱₀ (c : Thread nD τ) none Set.univ (m := arg3)) $$ H3; iintro H3
  iapply (owns_load 𝒱₀ (c : Thread nD τ) none Set.univ (m := arg4)) $$ H4; iintro H4
  iapply (owns_load 𝒱₀ (c : Thread nD τ) none Set.univ (m := arg8)) $$ H8; iintro H8
  iapply (owns_load 𝒱₀ (c : Thread nD τ) none Set.univ (m := arg8)) $$ H8; iintro H8
  iapply (owns_store 𝒱₀ (c : Thread nD τ) none Set.univ (m := arg8)) $$ H8; iintro H8
  iapply (owns_load 𝒱₀ (c : Thread nD τ) none Set.univ (m := arg9)) $$ H9; iintro H9
  iapply (owns_load 𝒱₀ (c : Thread nD τ) none Set.univ (m := arg9)) $$ H9; iintro H9
  iapply (owns_store 𝒱₀ (c : Thread nD τ) none Set.univ (m := arg9)) $$ H9; iintro H9
  rw [load_rows K hk hoff, load_rows V hk hoff, load_rows dk hk hoff, load_rows dv hk hoff,
    store_rows dk _ hk hoff, store_rows dv _ hk hoff, load_whole x2 _ zeros2, load_whole x5 _ zeros2, load_whole x6 _ zeros2]
  iapply (wp_call_spec 𝒱₀ (c : Thread nD τ) none Set.univ
    (spec c arg3 arg4 arg8 arg9 K V (qst x2) (dost x5) k0_pay12 k0_pay13 (dsum x5 x6) (i 1).val (first i x2 K V x5 x6 dk dv)) (i 1).val
    (fun u hu => nomatch hu)
    (spec_le c i arg3 arg4 h3 h4 arg8 arg9 h8 h9 K V (qst x2) (dost x5) k0_pay12 k0_pay13 (dsum x5 x6) Set.univ (i 1).val hk.le
      (first i x2 K V x5 x6 dk dv)))
  rw [spec_apply]; unfold held
  isplitl [H3 H4 H8 H9]
  · isplitl [H3]; · iexact H3
    isplitl [H4]; · iexact H4
    isplitl [H8]; · iexact H8
    iexact H9
  iintro %n ⟨H3, H4, H8, H9⟩
  iapply (owns_load 𝒱₀ (c : Thread nD τ) none Set.univ (m := arg7)) $$ H7; iintro H7
  iapply (owns_store 𝒱₀ (c : Thread nD τ) none Set.univ (m := arg7)) $$ H7; iintro H7
  rw [store_whole x7 _ _ zeros2, wp_ret]; imodintro
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body at the first grid point of a head: the gradient buffers are zeroed first. -/
theorem body_first (hc : cond0 i) (dk dv : Vec F S8192x128 .f32) (P : PUnit → sProp 𝕄) :
    iprop(bufs c arg2 arg3 arg4 arg5 arg6 arg7 arg8 arg9 x2 K V x5 x6 x7 dk dv
      ∗ (bufs c arg2 arg3 arg4 arg5 arg6 arg7 arg8 arg9 x2 K V x5 x6 (dqOut i x2 K V x5 x6 k0_pay9 k0_pay10)
          (last i x2 K V x5 x6 k0_pay9 k0_pay10).dk (last i x2 K V x5 x6 k0_pay9 k0_pay10).dv -∗ P ⟨⟩))
      ⊢ wp frame (wpE (defs₀ (F := F)) 𝒱₀ (c : Thread nD τ) none) Set.univ
          (cc0_sb_bwd i arg2 h2 arg3 h3 arg4 h4 arg5 h5 arg6 h6 arg7 h7 arg8 h8 arg9 h9) P := by
  rw [cc0_sb_bwd_eq_skeleton]; unfold cc0_sb_bwd_skel
  rw [k0_part1_eq_skeleton]; unfold k0_part1_skel
  simp only [dif_pos hc, Prog.lift, Prog.bind_op, Prog.bind_ret, Prog.pure_eq_ret]
  iintro ⟨HB, Hk⟩
  unfold bufs
  icases HB with ⟨H2, H3, H4, H5, H6, H7, H8, H9⟩
  iapply (owns_load 𝒱₀ (c : Thread nD τ) none Set.univ (m := arg8)) $$ H8; iintro H8
  iapply (owns_store 𝒱₀ (c : Thread nD τ) none Set.univ (m := arg8)) $$ H8; iintro H8
  iapply (owns_load 𝒱₀ (c : Thread nD τ) none Set.univ (m := arg9)) $$ H9; iintro H9
  iapply (owns_store 𝒱₀ (c : Thread nD τ) none Set.univ (m := arg9)) $$ H9; iintro H9
  rw [store_whole dk _ _ zeros2, store_whole dv _ _ zeros2]
  have hrest := rest_of_body c i arg2 h2 arg3 h3 arg4 h4 arg5 h5 arg6 h6 arg7 h7 arg8 h8 arg9 h9 x2 K V x5 x6 x7 k0_pay9 k0_pay10 P
  simp only [Prog.lift, Prog.bind_op, Prog.bind_ret, Prog.pure_eq_ret] at hrest
  iapply hrest
  unfold bufs
  isplitr [Hk]
  · isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iexact Hk

/-- The body at a later grid point of a head: the gradient buffers are added to. -/
theorem body_next (hc : ¬cond0 i) (dk dv : Vec F S8192x128 .f32) (P : PUnit → sProp 𝕄) :
    iprop(bufs c arg2 arg3 arg4 arg5 arg6 arg7 arg8 arg9 x2 K V x5 x6 x7 dk dv
      ∗ (bufs c arg2 arg3 arg4 arg5 arg6 arg7 arg8 arg9 x2 K V x5 x6 (dqOut i x2 K V x5 x6 dk dv)
          (last i x2 K V x5 x6 dk dv).dk (last i x2 K V x5 x6 dk dv).dv -∗ P ⟨⟩))
      ⊢ wp frame (wpE (defs₀ (F := F)) 𝒱₀ (c : Thread nD τ) none) Set.univ
          (cc0_sb_bwd i arg2 h2 arg3 h3 arg4 h4 arg5 h5 arg6 h6 arg7 h7 arg8 h8 arg9 h9) P := by
  rw [cc0_sb_bwd_eq_skeleton]; unfold cc0_sb_bwd_skel
  rw [k0_part1_eq_skeleton]; unfold k0_part1_skel
  simp only [dif_neg hc, Prog.lift, Prog.bind_op, Prog.bind_ret, Prog.pure_eq_ret]
  have hrest := rest_of_body c i arg2 h2 arg3 h3 arg4 h4 arg5 h5 arg6 h6 arg7 h7 arg8 h8 arg9 h9 x2 K V x5 x6 x7 dk dv P
  simp only [Prog.lift, Prog.bind_op, Prog.bind_ret, Prog.pure_eq_ret] at hrest
  exact hrest

end Body

end Cert.SbProof
-- ==== Proof.SbFrame.lean ====
/-
  The run of the backward program: the host operations before the region, the pipeline's proof data from what the body
  leaves, and what every final state holds.
-/
module

public import proofs.«01_k».proof.Proof.SbBody

@[expose] public section

set_option maxRecDepth 16384

noncomputable section

namespace Cert.SbProof

open Cert.Kernel2Ideal Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host operations before the region -/

/-- The host operations before the region, stretch by stretch. -/
abbrev opss : List (List (HloOp τ sig (Elt F))) :=
  [hostOps0, hostOps0_1, hostOps0_2, hostOps0_3, hostOps0_4, hostOps0_5, hostOps0_6, hostOps0_7, hostOps0_8, hostOps0_9]

/-- Core `c`'s buffers when the region is entered. -/
abbrev V (c : Dev nD) (b : Ref sig .tc) : Buf (Elt F) ((c : Thread nD τ).loc b) :=
  StableHlo.after (opss (F := F)).flatten (fun b => m (c, b)) b

theorem opss_fresh : (opss (F := F)).Forall fun ops => ops.Forall fun op => op.fresh = ∅ := by
  simp only [List.Forall]; repeat' constructor

theorem opss_sub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub,
    hostOps0_8_sub, hostOps0_9_sub⟩

theorem hmain : Pipeline.HMain (Ix := Unit) (Name := ℕ) (U := UR sig nD τ) (Lvl := ℕ) cfgs 0 defs₀ 𝒱₀ m (main (F := F)) (V m) :=
  Pipeline.hmain_prefixes cfgs 0 defs₀ 𝒱₀ m main opss opss_sub opss_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [opss, hostOps0, hostOps0_1, hostOps0_2, hostOps0_3, hostOps0_4, hostOps0_5, hostOps0_6, hostOps0_7, hostOps0_8, hostOps0_9,
      List.flatten_cons, List.flatten_nil, List.append_nil, List.cons_append, List.nil_append, List.Forall, StableHlo.nullary_writes,
      StableHlo.unary_writes, StableHlo.binary_writes, StableHlo.ternary_writes, StableHlo.quaternary_writes, StableHlo.reshape_writes,
      StableHlo.binaryIndexed_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [opss, hostOps0, hostOps0_1, hostOps0_2, hostOps0_3, hostOps0_4, hostOps0_5, hostOps0_6, hostOps0_7, hostOps0_8, hostOps0_9,
      List.flatten_cons, List.flatten_nil, List.append_nil, List.cons_append, List.nil_append, List.Forall, StableHlo.nullary_writes,
      StableHlo.unary_writes, StableHlo.binary_writes, StableHlo.ternary_writes, StableHlo.quaternary_writes, StableHlo.reshape_writes,
      StableHlo.binaryIndexed_writes, Finset.mem_singleton]
    repeat' apply And.intro
    all_goals exact StableHlo.devRef_ne_of_ne (by decide)))

/-! ## The windows' blocks and what the outputs hold after each point -/

/-- Window `w`'s block at point `t`, read off its array as the region finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- What the body leaves at point `t` over gradient buffers at `dk`, `dv`. -/
def lastAt (c : Dev nD) (t : Fin (cfg0 (F := F)).N) (dk dv : Vec F S8192x128 .f32) : St F :=
  last (grid0.coords t) (iblk m c 0 t) (iblk m c 1 t) (iblk m c 2 t) (iblk m c 3 t) (iblk m c 4 t) dk dv

/-- What the body leaves at position `n`, the gradient buffers accumulated over the head's points so far. -/
def stAt (c : Dev nD) : (n : ℕ) → n < (cfg0 (F := F)).N → St F
  | 0, hn => lastAt m c ⟨0, hn⟩ k0_pay9 k0_pay10
  | n + 1, hn => if (n + 1) % 32 = 0 then lastAt m c ⟨n + 1, hn⟩ k0_pay9 k0_pay10
    else lastAt m c ⟨n + 1, hn⟩ (stAt c n (Nat.lt_of_succ_lt hn)).dk (stAt c n (Nat.lt_of_succ_lt hn)).dv

theorem stAt_first (c : Dev nD) (t : Fin (cfg0 (F := F)).N) (h0 : t.val % 32 = 0) : stAt m c t.val t.isLt = lastAt m c t k0_pay9 k0_pay10 := by
  obtain ⟨n, hn⟩ := t
  cases n with
  | zero => rfl
  | succ n => exact if_pos h0

theorem stAt_next (c : Dev nD) (t : Fin (cfg0 (F := F)).N) (h0 : ¬t.val % 32 = 0) :
    stAt m c t.val t.isLt = lastAt m c t (stAt m c (t.val - 1) (Nat.lt_of_le_of_lt (Nat.sub_le _ _) t.isLt)).dk
      (stAt m c (t.val - 1) (Nat.lt_of_le_of_lt (Nat.sub_le _ _) t.isLt)).dv := by
  obtain ⟨n, hn⟩ := t
  cases n with
  | zero => exact absurd (Nat.zero_mod _) h0
  | succ n => exact if_neg h0

theorem hcond0 : ∀ t : Fin (cfg0 (F := F)).N, cond0 (grid0.coords t) ↔ t.val % 32 = 0 :=
  (fun t => by
    have ht : t.val < 64 := Nat.lt_of_lt_of_eq t.isLt N_0
    have e0 : (grid0.coords t 1).val = t.val / 1 % 32 := Pipeline.Grid.coords_val t 1 (by decide) rfl
    simp only [cond0, e0]
    word_cmp
   : ∀ t : Fin grid0.N, cond0 (grid0.coords t) ↔ t.val % 32 = 0)

/-! ## The proof data -/

/-- The proof data: the arrays as the region finds them, each input's buffer at its block after the body, the outputs'
    at what the body leaves. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay1 k0_pay14 (stAt m c t.val t.isLt).dq (k0_pay36 k0_pay14)
    | ⟨6, _⟩ => (stAt m c t.val t.isLt).dk
    | ⟨7, _⟩ => (stAt m c t.val t.isLt).dv
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = iblk m c 3 t := rfl
theorem after0_4 (c : Dev nD) (t : Fin (cfg0 (F := F)).N) : (dats m 0 c).after 4 t = iblk m c 4 t := rfl
theorem after0_5 (c : Dev nD) (t : Fin (cfg0 (F := F)).N) :
    (dats m 0 c).after 5 t = k0_pay1 k0_pay14 (stAt m c t.val t.isLt).dq (k0_pay36 k0_pay14) := rfl
theorem after0_6 (c : Dev nD) (t : Fin (cfg0 (F := F)).N) : (dats m 0 c).after 6 t = (stAt m c t.val t.isLt).dk := rfl
theorem after0_7 (c : Dev nD) (t : Fin (cfg0 (F := F)).N) : (dats m 0 c).after 7 t = (stAt m c t.val t.isLt).dv := rfl

theorem before0_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans (by unfold Dat.fetched Dat.blockOf iblk; rw [A_eq]; try rfl)
theorem before0_3 (c : Dev nD) (t : Fin (cfg0 (F := F)).N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans (by unfold Dat.fetched Dat.blockOf iblk; rw [A_eq]; try rfl)
theorem before0_4 (c : Dev nD) (t : Fin (cfg0 (F := F)).N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans (by unfold Dat.fetched Dat.blockOf iblk; rw [A_eq]; try rfl)

theorem before0_6_next (c : Dev nD) (t : Fin (cfg0 (F := F)).N) (h0 : ¬t.val % 32 = 0) (d) :
    (dats m 0 c).before 6 t d = (stAt m c (t.val - 1) (Nat.lt_of_le_of_lt (Nat.sub_le _ _) t.isLt)).dk := by
  have hN : t.val < 64 := lt_of_lt_of_eq t.isLt (show (cfg0 (F := F)).N = 64 from N_0)
  rw [Dat.before_out_kept _ 6 rfl t (by omega) (Bool.eq_false_iff.mpr fun h => by have := (flush0_6 _).mp h; dsimp only at this; omega)
    (fun _ => rfl) (fun _ _ => rfl)]
  rfl
theorem before0_7_next (c : Dev nD) (t : Fin (cfg0 (F := F)).N) (h0 : ¬t.val % 32 = 0) (d) :
    (dats m 0 c).before 7 t d = (stAt m c (t.val - 1) (Nat.lt_of_le_of_lt (Nat.sub_le _ _) t.isLt)).dv := by
  have hN : t.val < 64 := lt_of_lt_of_eq t.isLt (show (cfg0 (F := F)).N = 64 from N_0)
  rw [Dat.before_out_kept _ 7 rfl t (by omega) (Bool.eq_false_iff.mpr fun h => by have := (flush0_7 _).mp h; dsimp only at this; omega)
    (fun _ => rfl) (fun _ _ => rfl)]
  rfl

/-! ## The body at every point -/

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 800000 in
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  by_cases h0 : t.val % 32 = 0
  · rw [stAt_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_first c (grid0.coords t) _ _ _ _ _ _ _ _ _ _ _ _ _ _ _ _ (iblk m c 0 t) (iblk m c 1 t) (iblk m c 2 t) (iblk m c 3 t)
      (iblk m c 4 t) _ ((hcond0 t).mpr h0) _ _ _)
    unfold bufs
    isplitr [HΦ Ho]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [stAt_next m c t h0]
    simp only [before0_6_next m c t h0, before0_7_next m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_next c (grid0.coords t) _ _ _ _ _ _ _ _ _ _ _ _ _ _ _ _ (iblk m c 0 t) (iblk m c 1 t) (iblk m c 2 t) (iblk m c 3 t)
      (iblk m c 4 t) _ (fun h => h0 ((hcond0 t).mp h)) _ _ _)
    unfold bufs
    isplitr [HΦ Ho]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run -/

set_option backward.isDefEq.respectTransparency.types false in
/-- Every execution of the program ends, with the pipeline's arrays at what the proof data says and all counters zero. -/
theorem run_main : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m) (hA := A_eq m) (hΦ := fun _ _ => rfl)

/-- The frame: the arguments end unchanged and the counters zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨
      ((h.1 c).1 0).trans (((dats m 0 c).arrAt_in 0 rfl _).trans ((A_eq m c 0).trans (V_main_arg0 m c))),
      ((h.1 c).1 3).trans (((dats m 0 c).arrAt_in 3 rfl _).trans ((A_eq m c 3).trans (V_main_arg1 m c)))⟩, h.2⟩) (run_main m ρ)

end Cert.SbProof
-- ==== Proof.SbSaved.lean ====
/-
  The saved output the kernel program computes on the host is the reference's own forward output: the same operations.
-/
module

public import proofs.«01_k».proof.Proof.SbFrame
public import proofs.«01_k».proof.Proof.Gen.Reference2Ideal.Read
public import Idealize.ShloMosaic.Lib.StableHlo.Run

@[expose] public section

noncomputable section

namespace Cert.SbProof

open Cert.Kernel2Ideal Cert.Kernel2Ideal.Gen Idealize.ShloMosaic Idealize.ShloMosaic.TcCoe Idealize.ShloMosaic.StableHlo

set_option maxRecDepth 8192 in
set_option maxHeartbeats 20000000 in
theorem saved_eq (m : (ℓ : Loc nD τ sig) → Buf (Elt Ideal) ℓ) (c : Dev nD) :
    V m c main_v27 = Cert.Reference2Ideal.Read.val_main_v27 (F := Ideal) (m ((c.tc : Thread nD τ).loc main_arg0)) := by
  simp only [V, opss, hostOps0, hostOps0_1, hostOps0_2, hostOps0_3, hostOps0_4, hostOps0_5, hostOps0_6, hostOps0_7, hostOps0_8, hostOps0_9,
    List.flatten_cons, List.flatten_nil, List.append_nil, List.cons_append, List.nil_append,
    TRef.binary, TRef.nullary, TRef.ternary, TRef.unary, TRef.toBuf, TRef.ofBuf, cast_eq]
  after_results_simp
  rfl

end Cert.SbProof

end
-- ==== Proof.SbSpec.lean ====
/-
  One block of keys of the stick-breaking attention's backward pass over the real numbers: the logits, the running sums
  of the log factors inside the block, the weights, the weighted cotangents and the logits' cotangents.
-/
module

public import proofs.«01_k».proof.Proof.RealOps
public import Mathlib.Analysis.SpecialFunctions.Log.Basic

@[expose] public section

noncomputable section

namespace Cert.SbSpec

open Classical

/-! ## The logistic functions -/

/-- The logarithm of one plus the exponential, as both programs compute it. -/
def sp (x : ℝ) : ℝ := max x 0 + Real.log (1 + Real.exp (-(max x (-x))))

/-- The logistic function, as the kernel computes it. -/
def sig (x : ℝ) : ℝ := (if 0 ≤ x then 1 else Real.exp (-(max x (-x)))) / (1 + Real.exp (-(max x (-x))))

theorem one_add_exp_pos (x : ℝ) : 0 < 1 + Real.exp x := by positivity

theorem sub_sp (x : ℝ) : x - sp x = -sp (-x) := by
  unfold sp
  rw [neg_neg, max_comm (-x) x]
  rcases le_total 0 x with h | h
  · rw [max_eq_left h, max_eq_right (by linarith : -x ≤ 0)]; ring
  · rw [max_eq_right h, max_eq_left (by linarith : 0 ≤ -x)]; ring

/-- The logistic function as the exponential of its logarithm. -/
theorem exp_sub_sp (x : ℝ) : Real.exp (x - sp x) = sig x := by
  unfold sp sig
  have hp := one_add_exp_pos (-(max x (-x)))
  split_ifs with h
  · rw [max_eq_left h]
    have : x - (x + Real.log (1 + Real.exp (-(max x (-x))))) = -Real.log (1 + Real.exp (-(max x (-x)))) := by ring
    rw [this, Real.exp_neg, Real.exp_log hp, one_div]
  · push Not at h
    have h1 : max x (-x) = -x := max_eq_right (by linarith)
    rw [h1, neg_neg] at hp ⊢
    rw [max_eq_right h.le, zero_add, Real.exp_sub, Real.exp_log hp]

theorem sig_add (x : ℝ) : sig x + sig (-x) = 1 := by
  unfold sig
  rw [neg_neg, max_comm (-x) x]
  have hp := (one_add_exp_pos (-(max x (-x)))).ne'
  rcases lt_trichotomy x 0 with h | h | h
  · rw [if_neg (not_le.mpr h), if_pos (by linarith)]; field_simp; ring
  · subst h; simp; norm_num
  · rw [if_pos h.le, if_neg (by linarith)]; field_simp

/-! ## One block of keys -/

section Block

variable {R L : ℕ} (M : Fin R → Fin 256 → Prop) (U W : Fin 256 → Fin 256 → ℝ)
  (q d : Fin R → Fin L → ℝ) (k v : Fin 256 → Fin L → ℝ) (r g D : Fin R → ℝ)

/-- The logits. -/
def z (s : Fin R) (t : Fin 256) : ℝ := ∑ l, q s l * k t l

/-- The log factors of the keys from `t` on. -/
def cin (s : Fin R) (t : Fin 256) : ℝ := ∑ u, (if M s u then -sp (z q k s u) else 0) * U u t

/-- The weights. -/
def a (s : Fin R) (t : Fin 256) : ℝ := if M s t then Real.exp (z q k s t + cin M U q k s t + r s) else 0

/-- The weighted cotangents. -/
def w (s : Fin R) (t : Fin 256) : ℝ := a M U q k r s t * ∑ l, d s l * v t l

/-- The weighted cotangents of the keys after `t`. -/
def after (s : Fin R) (t : Fin 256) : ℝ := ∑ u, w M U q d k v r s u * W u t

/-- The logits' cotangents. -/
def dz (s : Fin R) (t : Fin 256) : ℝ :=
  if M s t then w M U q d k v r s t - sig (z q k s t) * (D s - g s - after M U W q d k v r s t) else 0

end Block

end Cert.SbSpec

end
-- ==== Proof.SbRow.lean ====
/-
  The stick-breaking attention's backward pass over a whole row of keys, as sums over the later keys, and what one block
  of 256 keys contributes to them.
-/
module

public import proofs.«01_k».proof.Proof.SbSpec
public import Mathlib.Algebra.BigOperators.Intervals

@[expose] public section

noncomputable section

namespace Cert.SbSpec

open Classical Finset

/-- A choice does not depend on how its condition is decided. -/
theorem ite_any {p : Prop} (h1 h2 : Decidable p) (x y : ℝ) : @ite _ p h1 x y = @ite _ p h2 x y := by
  rw [Subsingleton.elim h1 h2]

/-- The sum over the later part of a block of 256. -/
theorem sum_tail (f : ℕ → ℝ) (b t : ℕ) :
    ∑ u : Fin 256, f (b + u.val) * (if t ≤ u.val then 1 else 0) = ∑ u ∈ Ico (b + t) (b + 256), f u := by
  simp only [mul_ite, mul_one, mul_zero]
  rw [Fin.sum_univ_eq_sum_range (fun u => if t ≤ u then f (b + u) else 0) 256, ← sum_filter]
  have h : (range 256).filter (fun u => t ≤ u) = Ico t 256 := by ext u; simp; omega
  rw [h, sum_Ico_add f t 256 b, Nat.add_comm t, Nat.add_comm 256]

theorem sum_block (f : ℕ → ℝ) (b : ℕ) : ∑ u : Fin 256, f (b + u.val) = ∑ u ∈ Ico b (b + 256), f u := by
  have h := sum_tail f b 0
  simpa using h

/-- The matrix that sums the entries from `t` on, and the one that sums those after `t`. -/
def triU (u t : Fin 256) : ℝ := if t.val ≤ u.val then 1 else 0
def triW (u t : Fin 256) : ℝ := if t.val + 1 ≤ u.val then 1 else 0

section Row

variable {R L : ℕ} (pos : Fin R → ℕ) (q d : Fin R → Fin L → ℝ) (K V : ℕ → Fin L → ℝ) (D : Fin R → ℝ)

/-- The logit of query row `s` and key `t`. -/
def zr (s : Fin R) (t : ℕ) : ℝ := ∑ l, q s l * K t l

/-- The log factor key `t` leaves to the keys before it. -/
def lf (s : Fin R) (t : ℕ) : ℝ := if t < pos s then -sp (zr q K s t) else 0

/-- The log factors of the keys from `t` on. -/
def lsum (s : Fin R) (t : ℕ) : ℝ := ∑ u ∈ Ico t 8192, lf pos q K s u

/-- The weight of key `t`. -/
def ar (s : Fin R) (t : ℕ) : ℝ := if t < pos s then Real.exp (zr q K s t + lsum pos q K s t) else 0

/-- The weighted cotangent of key `t`. -/
def wr (s : Fin R) (t : ℕ) : ℝ := ar pos q K s t * ∑ l, d s l * V t l

/-- The weighted cotangents of the keys from `t` on. -/
def wsum (s : Fin R) (t : ℕ) : ℝ := ∑ u ∈ Ico t 8192, wr pos q d K V s u

/-- The cotangent of the logit of key `t`. -/
def dzr (s : Fin R) (t : ℕ) : ℝ :=
  if t < pos s then wr pos q d K V s t - sig (zr q K s t) * (D s - wsum pos q d K V s (t + 1)) else 0

variable {pos q d K V D}

/-! ## One block -/

variable {k : ℕ} (hk : k < 32)

/-- The keys of block `k` before each query. -/
abbrev before (pos : Fin R → ℕ) (k : ℕ) : Fin R → Fin 256 → Prop := fun s t => 256 * k + t.val < pos s

/-- The rows of block `k`. -/
abbrev rowsOf (K : ℕ → Fin L → ℝ) (k : ℕ) : Fin 256 → Fin L → ℝ := fun t l => K (256 * k + t.val) l

include hk in
theorem lsum_block (s : Fin R) (t : Fin 256) :
    cin (before pos k) triU q (rowsOf K k) s t + lsum pos q K s (256 * (k + 1)) = lsum pos q K s (256 * k + t.val) := by
  have h : cin (before pos k) triU q (rowsOf K k) s t = ∑ u ∈ Ico (256 * k + t.val) (256 * k + 256), lf pos q K s u :=
    (sum_congr rfl fun u _ => congrArg (· * triU u t) (ite_any _ _ _ _)).trans (sum_tail (lf pos q K s) (256 * k) t.val)
  rw [h]; unfold lsum
  exact sum_Ico_consecutive _ (by have := t.isLt; omega) (by omega)

include hk in
theorem a_block (s : Fin R) (t : Fin 256) :
    a (before pos k) triU q (rowsOf K k) (fun s => lsum pos q K s (256 * (k + 1))) s t = ar pos q K s (256 * k + t.val) := by
  have h := lsum_block (pos := pos) (q := q) (K := K) hk s t
  unfold a ar
  rw [add_assoc, h]; exact ite_any _ _ _ _

include hk in
theorem w_block (s : Fin R) (t : Fin 256) :
    w (before pos k) triU q d (rowsOf K k) (rowsOf V k) (fun s => lsum pos q K s (256 * (k + 1))) s t
      = wr pos q d K V s (256 * k + t.val) := by
  unfold w wr
  rw [a_block hk]

include hk in
theorem wsum_block (s : Fin R) (t : Fin 256) :
    wsum pos q d K V s (256 * (k + 1))
      + after (before pos k) triU triW q d (rowsOf K k) (rowsOf V k) (fun s => lsum pos q K s (256 * (k + 1))) s t
      = wsum pos q d K V s (256 * k + t.val + 1) := by
  have h : after (before pos k) triU triW q d (rowsOf K k) (rowsOf V k) (fun s => lsum pos q K s (256 * (k + 1))) s t
      = ∑ u ∈ Ico (256 * k + (t.val + 1)) (256 * k + 256), wr pos q d K V s u := by
    unfold after
    simp only [w_block hk]
    exact sum_tail (wr pos q d K V s) (256 * k) (t.val + 1)
  rw [h, add_comm]; unfold wsum
  exact sum_Ico_consecutive _ (by have := t.isLt; omega) (by omega)

include hk in
theorem dz_block (s : Fin R) (t : Fin 256) :
    dz (before pos k) triU triW q d (rowsOf K k) (rowsOf V k) (fun s => lsum pos q K s (256 * (k + 1)))
      (fun s => wsum pos q d K V s (256 * (k + 1))) D s t = dzr pos q d K V D s (256 * k + t.val) := by
  unfold dz dzr
  rw [w_block hk, sub_sub, wsum_block hk]; exact ite_any _ _ _ _

include hk in
theorem lsum_step (s : Fin R) :
    lsum pos q K s (256 * (k + 1)) + cin (before pos k) triU q (rowsOf K k) s 0 = lsum pos q K s (256 * k) := by
  rw [add_comm]; exact lsum_block hk s 0

include hk in
theorem wsum_step (s : Fin R) :
    wsum pos q d K V s (256 * (k + 1)) + ∑ t, w (before pos k) triU q d (rowsOf K k) (rowsOf V k) (fun s => lsum pos q K s (256 * (k + 1))) s t
      = wsum pos q d K V s (256 * k) := by
  simp only [w_block hk]
  rw [sum_block (wr pos q d K V s) (256 * k), add_comm]; unfold wsum
  exact sum_Ico_consecutive _ (by omega) (by omega)

/-- Nothing is summed from a position on that no query passes. -/
theorem lsum_eq_zero {s : Fin R} {t : ℕ} (h : pos s ≤ t) : lsum pos q K s t = 0 :=
  sum_eq_zero fun u hu => if_neg (by have := (mem_Ico.mp hu).1; omega)

theorem wr_eq_zero {s : Fin R} {t : ℕ} (h : pos s ≤ t) : wr pos q d K V s t = 0 := by
  unfold wr ar; rw [if_neg (by omega), zero_mul]

theorem wsum_eq_zero {s : Fin R} {t : ℕ} (h : pos s ≤ t) : wsum pos q d K V s t = 0 :=
  sum_eq_zero fun u hu => wr_eq_zero (by have := (mem_Ico.mp hu).1; omega)

theorem dzr_eq_zero {s : Fin R} {t : ℕ} (h : pos s ≤ t) : dzr pos q d K V D s t = 0 := if_neg (by omega)

/-- Before its query every key of an earlier block lies. -/
theorem before_eq {i : ℕ} (hpos : ∀ s, 256 * i ≤ pos s) (h : k < i) : before pos k = fun _ _ => True := by
  funext s t
  have := hpos s; have := t.isLt
  exact eq_true (show 256 * k + t.val < pos s by omega)

end Row

end Cert.SbSpec

end
-- ==== Proof.SbLoop.lean ====
/-
  The values the loop's trip computes from real blocks: each quantity of a block of keys as the real expression of
  `SbSpec`, with every key before every query.
-/
module

public import proofs.«01_k».proof.Proof.SbSpec
public import proofs.«01_k».proof.Proof.SbTrip

@[expose] public section

noncomputable section

namespace Cert.SbProof

open Classical Cert.Kernel2Ideal Cert.Kernel2Ideal.Gen Cert.SbSpec Cert.RealOps
open Idealize.ShloMosaic Idealize.ShloMosaic.TcCoe Idealize.ShloMosaic.Tactic

/-- No number is below the named threshold of the series. -/
theorem not_lt_series (x : EReal) : ¬x < Named.named (F := Ideal) κ "series" (φ := .f32) 953267991#32 := not_lt_bot

theorem one_real : (1 : EReal) = ((1 : ℝ) : EReal) := EReal.coe_one.symm

theorem abs_real (x : ℝ) : FloatOps.absf (F := Ideal) (φ := .f32) ((x : ℝ) : EReal) = ((max x (-x) : ℝ) : EReal) := by
  show max (x : EReal) (-(x : EReal)) = _
  rw [neg_real, max_real]

theorem ite_real (p : Prop) [Decidable p] (x y : ℝ) : (if p then (x : EReal) else (y : EReal)) = ((if p then x else y : ℝ) : EReal) := by
  split_ifs <;> rfl

theorem zero_le_real (x : ℝ) : ((0 : ℝ) : EReal) ≤ (x : EReal) ↔ 0 ≤ x := EReal.coe_le_coe_iff

/-- Every key before every query. -/
abbrev allKeys : Fin 512 → Fin 256 → Prop := fun _ _ => True

section Loop

variable {U W : Fin 256 → Fin 256 → ℝ} {q d : Fin 512 → Fin 128 → ℝ} {k v : Fin 256 → Fin 128 → ℝ} {r g D : Fin 512 → ℝ}
  {kk vv : Vec Ideal S256x128 .bf16} {qq dd : FVec Ideal S512x128 .bf16} {uu ww : FVec Ideal S256x256 .bf16}
  {rr gg DD : FVec Ideal S512x1 .f32}
  (hq : ∀ s l, qq (ix2 s l) = ((q s l : ℝ) : EReal)) (hd : ∀ s l, dd (ix2 s l) = ((d s l : ℝ) : EReal))
  (hk : ∀ t l, kk (ix2 t l) = ((k t l : ℝ) : EReal)) (hv : ∀ t l, vv (ix2 t l) = ((v t l : ℝ) : EReal))
  (hU : ∀ t u, uu (ix2 t u) = ((U t u : ℝ) : EReal)) (hW : ∀ t u, ww (ix2 t u) = ((W t u : ℝ) : EReal))
  (hr : ∀ s, rr (ix2 s 0) = ((r s : ℝ) : EReal)) (hg : ∀ s, gg (ix2 s 0) = ((g s : ℝ) : EReal))
  (hD : ∀ s, DD (ix2 s 0) = ((D s : ℝ) : EReal))

include hq hk in
theorem z_loop (s : Fin 512) (t : Fin 256) : k0_pay37 (F := Ideal) qq kk (ix2 s t) = ((z q k s t : ℝ) : EReal) := by
  unfold k0_pay37; pointwise
  simp only [hq, hk, mul_real, sum_real]; rfl

include hq hk in
theorem e_loop (s : Fin 512) (t : Fin 256) :
    k0_pay38 (F := Ideal) qq kk (ix2 s t) = ((Real.exp (-(max (z q k s t) (-(z q k s t)))) : ℝ) : EReal) := by
  unfold k0_pay38; pointwise
  simp only [z_loop hq hk, abs_real, zero_real, sub_real, exp_real, zero_sub]

include hq hk hU in
theorem cin_loop (s : Fin 512) (t : Fin 256) :
    k0_pay39 (F := Ideal) qq uu kk (ix2 s t) = ((cin allKeys U q k s t : ℝ) : EReal) := by
  unfold k0_pay39; pointwise
  simp only [not_lt_series, if_false, z_loop hq hk, e_loop hq hk, hU, one_real, zero_real, add_real, max_real,
    log_real (one_add_exp_pos _), sub_real, mul_real, sum_real, zero_sub, sub_self, zero_mul, Finset.sum_const_zero, add_zero]
  unfold cin
  simp only [if_true]; rfl

include hq hk hU hr in
theorem a_loop (s : Fin 512) (t : Fin 256) :
    k0_pay40 (F := Ideal) qq uu rr kk (ix2 s t) = ((a allKeys U q k r s t : ℝ) : EReal) := by
  unfold k0_pay40; pointwise
  simp only [z_loop hq hk, cin_loop hq hk hU, hr, add_real, exp_real]
  unfold a; simp only [if_true]

include hq hk hU hr hd hv in
theorem w_loop (s : Fin 512) (t : Fin 256) :
    k0_pay41 (F := Ideal) qq uu dd rr kk vv (ix2 s t) = ((w allKeys U q d k v r s t : ℝ) : EReal) := by
  unfold k0_pay41; pointwise
  simp only [a_loop hq hk hU hr, hd, hv, mul_real, sum_real]; rfl

include hq hk hU hr hd hv hW in
theorem after_loop (s : Fin 512) (t : Fin 256) :
    k0_pay42 (F := Ideal) qq uu dd ww rr kk vv (ix2 s t) = ((after allKeys U W q d k v r s t : ℝ) : EReal) := by
  unfold k0_pay42; pointwise
  simp only [w_loop hq hd hk hv hU hr, hW, sub_real, mul_real, sum_real, sub_self, zero_mul, Finset.sum_const_zero, add_zero, add_real]
  rfl

include hD hg in
theorem rest_loop (s : Fin 512) : k0_pay43 (F := Ideal) DD gg (ix2 s 0) = ((D s - g s : ℝ) : EReal) := by
  unfold k0_pay43; pointwise
  simp only [hD, hg, sub_real]

/-- The logits' cotangents of a trip, as the three products read them. -/
abbrev dzBlock (qq dd : FVec Ideal S512x128 .bf16) (uu ww : FVec Ideal S256x256 .bf16) (DD rr gg : FVec Ideal S512x1 .f32)
    (kk vv : Vec Ideal S256x128 .bf16) : FVec Ideal S512x256 .bf16 :=
  k0_pay2 (F := Ideal) (k0_pay37 qq kk) (k0_pay38 qq kk) (k0_pay41 qq uu dd rr kk vv) (k0_pay42 qq uu dd ww rr kk vv) (k0_pay43 DD gg)

include hq hk hU hr hd hv hW hD hg in
theorem dz_loop (s : Fin 512) (t : Fin 256) :
    dzBlock qq dd uu ww DD rr gg kk vv (ix2 s t) = ((dz allKeys U W q d k v r g D s t : ℝ) : EReal) := by
  unfold dzBlock k0_pay2; pointwise
  simp only [z_loop hq hk, e_loop hq hk, w_loop hq hd hk hv hU hr, after_loop hq hd hk hv hU hW hr, rest_loop hg hD, one_real,
    zero_real, zero_le_real, ite_real, add_real, div_real _ (one_add_exp_pos _).ne', sub_real, mul_real]
  unfold dz; simp only [if_true]; rfl

end Loop

end Cert.SbProof

end
-- ==== Proof.SbInv.lean ====
/-
  What the loop carries after the blocks from `n` on, as real sums over the keys from `256 n` on, and that a trip keeps it.
-/
module

public import proofs.«01_k».proof.Proof.SbRow
public import proofs.«01_k».proof.Proof.SbLoop

@[expose] public section

noncomputable section

namespace Cert.SbProof

open Classical Cert.Kernel2Ideal Cert.Kernel2Ideal.Gen Cert.SbSpec Cert.RealOps
open Idealize.ShloMosaic Idealize.ShloMosaic.TcCoe Idealize.ShloMosaic.Tactic

/-- What the loop carries after the blocks from `n` on, over gradient buffers that held `dk0` and `dv0`. -/
structure Inv (pos : Fin 512 → ℕ) (q d : Fin 512 → Fin 128 → ℝ) (K V : ℕ → Fin 128 → ℝ) (D : Fin 512 → ℝ)
    (dk0 dv0 : ℕ → Fin 128 → ℝ) (n : ℕ) (s : St Ideal) : Prop where
  r : ∀ x, s.r (ix2 x 0) = ((lsum pos q K x (256 * n) : ℝ) : EReal)
  g : ∀ x, s.g (ix2 x 0) = ((wsum pos q d K V x (256 * n) : ℝ) : EReal)
  dq : ∀ x l, s.dq (ix2 x l) = ((∑ t ∈ Finset.Ico (256 * n) 8192, dzr pos q d K V D x t * K t l : ℝ) : EReal)
  top : s.top ≠ ⊥
  dk : ∀ (t : Fin 8192) l, s.dk (ix2 t l)
    = ((dk0 t.val l + (if 256 * n ≤ t.val then ∑ x, dzr pos q d K V D x t.val * q x l else 0) : ℝ) : EReal)
  dv : ∀ (t : Fin 8192) l, s.dv (ix2 t l)
    = ((dv0 t.val l + (if 256 * n ≤ t.val then ∑ x, ar pos q K x t.val * d x l else 0) : ℝ) : EReal)

/-! ## Blocks of rows -/

theorem rows_real {e : EltTy} {X : Vec Ideal S8192x128 e} {k : ℕ} (hk : k < 32) (t : Fin 256) (l : Fin 128) :
    rows X k (ix2 t l) = X (ix2 (n0 := 8192) (n1 := 128) ⟨256 * k + t.val, by have := t.isLt; omega⟩ l) := by
  have ht := t.isLt
  have e : (⟨(256 * k + t.val) % 8192, Nat.mod_lt _ (by norm_num)⟩ : Fin 8192) = ⟨256 * k + t.val, by omega⟩ :=
    Fin.ext (Nat.mod_eq_of_lt (by omega))
  exact congrArg (fun u => X (ix2 (n0 := 8192) (n1 := 128) u l)) e

/-- A block's contribution added to the block's rows. -/
theorem put_step {X : Vec Ideal S8192x128 .f32} {w : Vec Ideal S256x128 .f32} {k : ℕ} (hk : k < 32) {x0 c : ℕ → Fin 128 → ℝ}
    (hX : ∀ (t : Fin 8192) l, X (ix2 t l) = ((x0 t.val l + (if 256 * (k + 1) ≤ t.val then c t.val l else 0) : ℝ) : EReal))
    (hw : ∀ (t : Fin 256) l, w (ix2 t l) = rows X k (ix2 t l) + ((c (256 * k + t.val) l : ℝ) : EReal)) (t : Fin 8192) (l : Fin 128) :
    putRows X k w (ix2 t l) = ((x0 t.val l + (if 256 * k ≤ t.val then c t.val l else 0) : ℝ) : EReal) := by
  have e : putRows X k w (ix2 t l) = if t.val / 256 = k then
      w (ix2 (n0 := 256) (n1 := 128) ⟨t.val % 256, Nat.mod_lt _ (by norm_num)⟩ l) else X (ix2 t l) := rfl
  rw [e]
  split_ifs with h h'
  · have h1 : 256 * k + t.val % 256 = t.val := by omega
    rw [hw, rows_real hk, hX]
    simp only [h1]
    rw [if_neg (by omega), add_zero, add_real]
  · omega
  · rw [hX, if_pos (by omega)]
  · rw [hX, if_neg (by omega)]

/-! ## The largest entry -/

theorem fold_max_ne_bot {ι : Type*} (s : Finset ι) (b : EReal) (f : ι → EReal) {i : ι} (hi : i ∈ s) (h : f i ≠ ⊥) :
    Finset.fold max b f s ≠ ⊥ := by
  have h' : ⊥ < Finset.fold max b f s := (Finset.lt_fold_max (c := (⊥ : EReal))).mpr (.inr ⟨i, hi, bot_lt_iff_ne_bot.mpr h⟩)
  exact h'.ne'

section Trip

variable {pos : Fin 512 → ℕ} {q d : Fin 512 → Fin 128 → ℝ} {Kr Vr : ℕ → Fin 128 → ℝ} {D : Fin 512 → ℝ} {dk0 dv0 : ℕ → Fin 128 → ℝ}
  {K V : Vec Ideal S8192x128 .bf16} {qq dd : FVec Ideal S512x128 .bf16} {uu ww : FVec Ideal S256x256 .bf16} {DD : FVec Ideal S512x1 .f32}
  (hq : ∀ s l, qq (ix2 s l) = ((q s l : ℝ) : EReal)) (hd : ∀ s l, dd (ix2 s l) = ((d s l : ℝ) : EReal))
  (hK : ∀ (t : Fin 8192) l, K (ix2 t l) = ((Kr t.val l : ℝ) : EReal)) (hV : ∀ (t : Fin 8192) l, V (ix2 t l) = ((Vr t.val l : ℝ) : EReal))
  (hU : ∀ t u, uu (ix2 t u) = ((triU t u : ℝ) : EReal)) (hW : ∀ t u, ww (ix2 t u) = ((triW t u : ℝ) : EReal))
  (hD : ∀ s, DD (ix2 s 0) = ((D s : ℝ) : EReal))

/-- The sums over a block added to the sums over the later keys. -/
theorem dq_step {k : ℕ} (hk : k < 32) (f : ℕ → ℝ) :
    ∑ t ∈ Finset.Ico (256 * (k + 1)) 8192, f t + ∑ t : Fin 256, f (256 * k + t.val) = ∑ t ∈ Finset.Ico (256 * k) 8192, f t := by
  rw [sum_block, add_comm]
  exact Finset.sum_Ico_consecutive _ (by omega) (by omega)

include hq hd hK hV hU hW hD in
/-- A trip goes from the sums from block `k + 1` on to those from block `k` on. -/
theorem trip_inv {k : ℕ} (hk : k < 32) {i : ℕ} (hki : k < i) (hpos : ∀ s, 256 * i ≤ pos s) {s : St Ideal}
    (h : Inv pos q d Kr Vr D dk0 dv0 (k + 1) s) :
    Inv pos q d Kr Vr D dk0 dv0 k (trip K V qq dd uu ww DD k s) := by
  have e : (allKeys : Fin 512 → Fin 256 → Prop) = before pos k := (before_eq hpos hki).symm
  have hkb : ∀ t l, rows K k (ix2 t l) = ((rowsOf Kr k t l : ℝ) : EReal) := fun t l => (rows_real hk t l).trans (hK _ l)
  have hvb : ∀ t l, rows V k (ix2 t l) = ((rowsOf Vr k t l : ℝ) : EReal) := fun t l => (rows_real hk t l).trans (hV _ l)
  have cinV : ∀ x t, k0_pay39 (F := Ideal) qq uu (rows K k) (ix2 x t) = ((cin (before pos k) triU q (rowsOf Kr k) x t : ℝ) : EReal) :=
    fun x t => by rw [← e]; exact cin_loop hq hkb hU x t
  have aV : ∀ x t, k0_pay40 (F := Ideal) qq uu s.r (rows K k) (ix2 x t) = ((ar pos q Kr x (256 * k + t.val) : ℝ) : EReal) :=
    fun x t => by rw [← a_block hk, ← e]; exact a_loop hq hkb hU h.r x t
  have wV : ∀ x t, k0_pay41 (F := Ideal) qq uu dd s.r (rows K k) (rows V k) (ix2 x t)
      = ((w (before pos k) triU q d (rowsOf Kr k) (rowsOf Vr k) (fun x => lsum pos q Kr x (256 * (k + 1))) x t : ℝ) : EReal) :=
    fun x t => by rw [← e]; exact w_loop hq hd hkb hvb hU h.r x t
  have dzV : ∀ x t, dzBlock qq dd uu ww DD s.r s.g (rows K k) (rows V k) (ix2 x t) = ((dzr pos q d Kr Vr D x (256 * k + t.val) : ℝ) : EReal) :=
    fun x t => by rw [← dz_block hk, ← e]; exact dz_loop hq hd hkb hvb hU hW h.r h.g hD x t
  simp only [dzBlock] at dzV
  have rV : ∀ x, k0_pay7 (F := Ideal) s.r (k0_pay39 qq uu (rows K k)) (ix2 x 0) = ((lsum pos q Kr x (256 * k) : ℝ) : EReal) := fun x => by
    rw [← lsum_step hk]
    unfold k0_pay7; pointwise
    rw [h.r, cinV, add_real]
  constructor
  · exact rV
  · intro x
    rw [← wsum_step hk]
    unfold trip; dsimp only; unfold k0_pay6; pointwise
    simp only [h.g, wV, sum_real, add_real]
  · intro x l
    rw [← dq_step hk]
    unfold trip; dsimp only; unfold k0_pay3; pointwise
    simp only [h.dq, dzV, hkb, mul_real, sum_real, add_real]
  · unfold trip; dsimp only; unfold k0_pay8; pointwise
    refine fold_max_ne_bot _ _ _ (Finset.mem_univ (0, 0)) ?_
    rw [rV]; exact EReal.coe_ne_bot _
  · refine put_step (c := fun t l => ∑ x, dzr pos q d Kr Vr D x t * q x l) hk h.dk fun t l => ?_
    unfold k0_pay4; pointwise
    simp only [dzV, hq, mul_real, sum_real]
  · refine put_step (c := fun t l => ∑ x, ar pos q Kr x t * d x l) hk h.dv fun t l => ?_
    unfold k0_pay5; pointwise
    simp only [aV, hd, mul_real, sum_real]

include hq hd hK hV hU hW hD in
/-- The loop runs through: no running sum is at the named threshold. -/
theorem trips_inv {i : ℕ} (hi : i < 32) (hpos : ∀ s, 256 * i ≤ pos s) : ∀ (k : ℕ), k ≤ i → ∀ {s : St Ideal},
    Inv pos q d Kr Vr D dk0 dv0 k s → Inv pos q d Kr Vr D dk0 dv0 0 (trips K V qq dd uu ww DD k s) := by
  intro k
  induction k with
  | zero => intro _ s h; exact h
  | succ k ih =>
    intro hk s h
    have hc : Scalar.cmpf .ogt s.top (Named.named κ "exit" 0xC2DC0000#32 : Ideal .f32) = 1#1 := by
      show BitVec.ofBool (decide (s.top > (⊥ : EReal))) = 1#1
      rw [decide_eq_true (bot_lt_iff_ne_bot.mpr h.top)]; rfl
    rw [trips, if_pos hc]
    exact ih (by omega) (trip_inv hq hd hK hV hU hW hD (by omega) (by omega) hpos h)

end Trip

end Cert.SbProof

end
-- ==== Proof.SbDiag.lean ====
/-
  The diagonal block of keys: the values before the loop, where a mask keeps the keys before each query.
-/
module

public import proofs.«01_k».proof.Proof.SbInv
public import proofs.«01_k».proof.Proof.SbBody

@[expose] public section

noncomputable section

namespace Cert.SbProof

open Classical Cert.Kernel2Ideal Cert.Kernel2Ideal.Gen Cert.SbSpec Cert.RealOps
open Idealize.ShloMosaic Idealize.ShloMosaic.TcCoe Idealize.ShloMosaic.Tactic

theorem select_mask {α : Type} (p : Prop) [Decidable p] (x y : α) : Scalar.select (if p then 1#1 else 0#1) x y = if p then x else y := by
  split_ifs <;> rfl

section Diag

variable {M : Fin 512 → Fin 256 → Prop} {U W : Fin 256 → Fin 256 → ℝ} {q d : Fin 512 → Fin 128 → ℝ} {k v : Fin 256 → Fin 128 → ℝ}
  {r g D : Fin 512 → ℝ} {mm : IVec S512x256 1}
  {kk vv : Vec Ideal S256x128 .bf16} {qq dd : FVec Ideal S512x128 .bf16} {uu ww : FVec Ideal S256x256 .bf16}
  {rr gg DD : FVec Ideal S512x1 .f32}
  (hq : ∀ s l, qq (ix2 s l) = ((q s l : ℝ) : EReal)) (hd : ∀ s l, dd (ix2 s l) = ((d s l : ℝ) : EReal))
  (hk : ∀ t l, kk (ix2 t l) = ((k t l : ℝ) : EReal)) (hv : ∀ t l, vv (ix2 t l) = ((v t l : ℝ) : EReal))
  (hU : ∀ t u, uu (ix2 t u) = ((U t u : ℝ) : EReal)) (hW : ∀ t u, ww (ix2 t u) = ((W t u : ℝ) : EReal))
  (hr : ∀ s, rr (ix2 s 0) = ((r s : ℝ) : EReal)) (hg : ∀ s, gg (ix2 s 0) = ((g s : ℝ) : EReal))
  (hD : ∀ s, DD (ix2 s 0) = ((D s : ℝ) : EReal)) (hM : ∀ s t, mm (ix2 s t) = if M s t then 1#1 else 0#1)

include hq hk in
theorem z_diag (s : Fin 512) (t : Fin 256) : k0_pay22 (F := Ideal) qq kk (ix2 s t) = ((z q k s t : ℝ) : EReal) :=
  z_loop hq hk s t

include hq hk in
theorem e_diag (s : Fin 512) (t : Fin 256) :
    k0_pay23 (F := Ideal) qq kk (ix2 s t) = ((Real.exp (-(max (z q k s t) (-(z q k s t)))) : ℝ) : EReal) :=
  e_loop hq hk s t

include hq hk hU hM in
theorem cin_diag (s : Fin 512) (t : Fin 256) :
    k0_pay24 (F := Ideal) uu qq mm kk (ix2 s t) = ((cin M U q k s t : ℝ) : EReal) := by
  unfold k0_pay24; pointwise
  simp only [not_lt_series, if_false, z_diag hq hk, e_diag hq hk, hU, hM, select_mask, one_real, zero_real, add_real, max_real,
    log_real (one_add_exp_pos _), sub_real, ite_real, mul_real, sum_real, zero_sub, sub_self, zero_mul, Finset.sum_const_zero, add_zero]
  simp only [cin, sp, ite_mul, zero_mul]

include hq hk hU hr hM in
theorem a_diag (s : Fin 512) (t : Fin 256) :
    k0_pay25 (F := Ideal) uu qq rr mm kk (ix2 s t) = ((a M U q k r s t : ℝ) : EReal) := by
  unfold k0_pay25; pointwise
  simp only [z_diag hq hk, cin_diag hq hk hU hM, hr, hM, select_mask, add_real, exp_real, zero_real, ite_real]
  rfl

include hq hk hU hr hd hv hM in
theorem w_diag (s : Fin 512) (t : Fin 256) :
    k0_pay26 (F := Ideal) uu qq dd rr mm kk vv (ix2 s t) = ((w M U q d k v r s t : ℝ) : EReal) := by
  unfold k0_pay26; pointwise
  simp only [a_diag hq hk hU hr hM, hd, hv, mul_real, sum_real]; rfl

include hq hk hU hr hd hv hW hM in
theorem after_diag (s : Fin 512) (t : Fin 256) :
    k0_pay27 (F := Ideal) uu ww qq dd rr mm kk vv (ix2 s t) = ((after M U W q d k v r s t : ℝ) : EReal) := by
  unfold k0_pay27; pointwise
  simp only [w_diag hq hd hk hv hU hr hM, hW, sub_real, mul_real, sum_real, sub_self, zero_mul, Finset.sum_const_zero, add_zero, add_real]
  rfl

include hq hk hU hr hd hv hW hD hg hM in
theorem dz_diag (s : Fin 512) (t : Fin 256) :
    k0_pay29 (F := Ideal) mm (k0_pay22 qq kk) (k0_pay23 qq kk) (k0_pay26 uu qq dd rr mm kk vv) (k0_pay27 uu ww qq dd rr mm kk vv)
      (k0_pay28 DD gg) (ix2 s t) = ((dz M U W q d k v r g D s t : ℝ) : EReal) := by
  have h28 : k0_pay28 (F := Ideal) DD gg (ix2 s 0) = ((D s - g s : ℝ) : EReal) := rest_loop hg hD s
  unfold k0_pay29; pointwise
  simp only [z_diag hq hk, e_diag hq hk, w_diag hq hd hk hv hU hr hM, after_diag hq hd hk hv hU hW hr hM, h28, one_real, hM, select_mask,
    zero_real, zero_le_real, ite_real, add_real, div_real _ (one_add_exp_pos _).ne', sub_real, mul_real]
  rfl

end Diag

section First

variable {pos : Fin 512 → ℕ} {q d : Fin 512 → Fin 128 → ℝ} {Kr Vr : ℕ → Fin 128 → ℝ} {D : Fin 512 → ℝ} {dk0 dv0 : ℕ → Fin 128 → ℝ}
  {i : grid0.Coords} {x2 : Vec Ideal S256x128 .bf16} {K V : Vec Ideal S8192x128 .bf16} {x5 : Vec Ideal S256x128 .bf16}
  {x6 : Vec Ideal S256x128 .f32} {dk dv : Vec Ideal S8192x128 .f32}
  (hq : ∀ s l, qst x2 (ix2 s l) = ((q s l : ℝ) : EReal)) (hd : ∀ s l, dost x5 (ix2 s l) = ((d s l : ℝ) : EReal))
  (hK : ∀ (t : Fin 8192) l, K (ix2 t l) = ((Kr t.val l : ℝ) : EReal)) (hV : ∀ (t : Fin 8192) l, V (ix2 t l) = ((Vr t.val l : ℝ) : EReal))
  (hU : ∀ t u, k0_pay12 (F := Ideal) (ix2 t u) = ((triU t u : ℝ) : EReal)) (hW : ∀ t u, k0_pay13 (F := Ideal) (ix2 t u) = ((triW t u : ℝ) : EReal))
  (hD : ∀ s, dsum x5 x6 (ix2 s 0) = ((D s : ℝ) : EReal))
  (hM : ∀ s t, diag i (ix2 s t) = if before pos (i 1).val s t then 1#1 else 0#1)
  (hpos : ∀ s, pos s ≤ 256 * ((i 1).val + 1))
  (hdk : ∀ (t : Fin 8192) l, dk (ix2 t l) = ((dk0 t.val l : ℝ) : EReal)) (hdv : ∀ (t : Fin 8192) l, dv (ix2 t l) = ((dv0 t.val l : ℝ) : EReal))

include hq hd hK hV hU hW hD hM hpos hdk hdv in
/-- The diagonal block done: the sums from its first key on. -/
theorem first_inv : Inv pos q d Kr Vr D dk0 dv0 (i 1).val (first i x2 K V x5 x6 dk dv) := by
  have hk : (i 1).val < 32 := (i 1).isLt
  replace hM : ∀ s t, diag i (ix2 s t) = @ite _ (before pos (i 1).val s t) (propDecidable _) 1#1 0#1 := fun s t => by rw [hM]; congr
  have hkb : ∀ t l, rows K (i 1).val (ix2 t l) = ((rowsOf Kr (i 1).val t l : ℝ) : EReal) := fun t l => (rows_real hk t l).trans (hK _ l)
  have hvb : ∀ t l, rows V (i 1).val (ix2 t l) = ((rowsOf Vr (i 1).val t l : ℝ) : EReal) := fun t l => (rows_real hk t l).trans (hV _ l)
  have l0 : ∀ x, lsum pos q Kr x (256 * ((i 1).val + 1)) = 0 := fun x => lsum_eq_zero (hpos x)
  have w0 : ∀ x, wsum pos q d Kr Vr x (256 * ((i 1).val + 1)) = 0 := fun x => wsum_eq_zero (hpos x)
  have r0 : ∀ x : Fin 512, k0_pay18 (F := Ideal) (ix2 x 0) = ((lsum pos q Kr x (256 * ((i 1).val + 1)) : ℝ) : EReal) := fun x => by
    rw [l0]; unfold k0_pay18; pointwise; exact zero_real
  have g0 : ∀ x : Fin 512, k0_pay19 (F := Ideal) (ix2 x 0) = ((wsum pos q d Kr Vr x (256 * ((i 1).val + 1)) : ℝ) : EReal) := fun x => by
    rw [w0]; unfold k0_pay19; pointwise; exact zero_real
  have cinV : ∀ x t, k0_pay24 (F := Ideal) k0_pay12 (qst x2) (diag i) (rows K (i 1).val) (ix2 x t)
      = ((cin (before pos (i 1).val) triU q (rowsOf Kr (i 1).val) x t : ℝ) : EReal) := cin_diag hq hkb hU hM
  have aV : ∀ x t, k0_pay25 (F := Ideal) k0_pay12 (qst x2) k0_pay18 (diag i) (rows K (i 1).val) (ix2 x t)
      = ((ar pos q Kr x (256 * (i 1).val + t.val) : ℝ) : EReal) :=
    fun x t => by rw [← a_block hk]; exact a_diag hq hkb hU r0 hM x t
  have wV : ∀ x t, gm i x2 K V x5 (ix2 x t)
      = ((w (before pos (i 1).val) triU q d (rowsOf Kr (i 1).val) (rowsOf Vr (i 1).val) (fun x => lsum pos q Kr x (256 * ((i 1).val + 1))) x t : ℝ) : EReal) :=
    w_diag hq hd hkb hvb hU r0 hM
  have dzV : ∀ x t, k0_pay29 (F := Ideal) (diag i) (k0_pay22 (qst x2) (rows K (i 1).val)) (k0_pay23 (qst x2) (rows K (i 1).val))
      (gm i x2 K V x5) (later i x2 K V x5) (k0_pay28 (dsum x5 x6) k0_pay19) (ix2 x t)
      = ((dzr pos q d Kr Vr D x (256 * (i 1).val + t.val) : ℝ) : EReal) :=
    fun x t => by rw [← dz_block hk]; exact dz_diag hq hd hkb hvb hU hW r0 g0 hD hM x t
  have rV : ∀ x, k0_pay34 (F := Ideal) k0_pay18 (k0_pay24 k0_pay12 (qst x2) (diag i) (rows K (i 1).val)) (ix2 x 0)
      = ((lsum pos q Kr x (256 * (i 1).val) : ℝ) : EReal) := fun x => by
    rw [← lsum_step hk]
    unfold k0_pay34; pointwise
    rw [r0, cinV, add_real]
  have z0 : ∀ {α : ℕ → Fin 128 → ℝ} (_ : ∀ t, 256 * ((i 1).val + 1) ≤ t → ∀ l, α t l = 0) {X : Vec Ideal S8192x128 .f32} {x0 : ℕ → Fin 128 → ℝ}
      (_ : ∀ (t : Fin 8192) l, X (ix2 t l) = ((x0 t.val l : ℝ) : EReal)) (t : Fin 8192) (l : Fin 128),
      X (ix2 t l) = ((x0 t.val l + (if 256 * ((i 1).val + 1) ≤ t.val then α t.val l else 0) : ℝ) : EReal) := by
    intro α hα X x0 hX t l
    rw [hX]
    split_ifs with h
    · rw [hα _ h, add_zero]
    · rw [add_zero]
  constructor
  · exact rV
  · intro x
    rw [← wsum_step hk]
    unfold first; dsimp only; unfold k0_pay33; pointwise
    simp only [g0, wV, sum_real, add_real]
  · intro x l
    rw [← dq_step hk]
    have hz : ∑ t ∈ Finset.Ico (256 * ((i 1).val + 1)) 8192, dzr pos q d Kr Vr D x t * Kr t l = 0 :=
      Finset.sum_eq_zero fun t ht => by
        rw [dzr_eq_zero ((hpos x).trans (Finset.mem_Ico.mp ht).1), zero_mul]
    rw [hz, zero_add]
    unfold first; dsimp only; unfold k0_pay30; pointwise
    unfold k0_pay20; pointwise
    simp only [dzV, hkb, mul_real, sum_real, zero_add]
  · unfold first; dsimp only; unfold k0_pay35; pointwise
    refine fold_max_ne_bot _ _ _ (Finset.mem_univ (0, 0)) ?_
    rw [rV]; exact EReal.coe_ne_bot _
  · refine put_step (c := fun t l => ∑ x, dzr pos q d Kr Vr D x t * q x l) hk (z0 (α := fun t l => ∑ x, dzr pos q d Kr Vr D x t * q x l) (fun t ht l => Finset.sum_eq_zero fun x _ => by
      rw [dzr_eq_zero ((hpos x).trans ht), zero_mul]) hdk) fun t l => ?_
    unfold k0_pay31; pointwise
    simp only [dzV, hq, mul_real, sum_real]
  · refine put_step (c := fun t l => ∑ x, ar pos q Kr x t * d x l) hk (z0 (α := fun t l => ∑ x, ar pos q Kr x t * d x l) (fun t ht l => Finset.sum_eq_zero fun x _ => by
      rw [ar, if_neg (by have := hpos x; omega), zero_mul]) hdv) fun t l => ?_
    unfold k0_pay32; pointwise
    simp only [aV, hd, mul_real, sum_real]

include hq hd hK hV hU hW hD hM hpos hdk hdv in
/-- What the body leaves: the sums over all keys. -/
theorem last_inv (hpos' : ∀ s, 256 * (i 1).val ≤ pos s) : Inv pos q d Kr Vr D dk0 dv0 0 (last i x2 K V x5 x6 dk dv) :=
  trips_inv hq hd hK hV hU hW hD (i 1).isLt hpos' _ le_rfl (first_inv hq hd hK hV hU hW hD hM hpos hdk hdv)

end First

end Cert.SbProof

end
-- ==== Proof.SbStack.lean ====
/-
  The values the body forms before the diagonal block: the two triangles, the head of each lane, the query and cotangent
  rows stacked once per head, the sums of the cotangent times the output, the mask; and the output block of the queries'
  gradient, the two heads put side by side again.
-/
module

public import proofs.«01_k».proof.Proof.SbDiag

@[expose] public section

noncomputable section

namespace Cert.SbSpec

/-- The query a stacked row belongs to. -/
def qrow (s : Fin 512) : Fin 256 := ⟨s.val % 256, Nat.mod_lt _ (by decide)⟩

/-- The rows once per head, each with the lanes of its head. -/
def stack (X : Fin 256 → Fin 128 → ℝ) (s : Fin 512) (l : Fin 128) : ℝ := if l.val / 64 = s.val / 256 then X (qrow s) l else 0

/-- A query's row among the stacked rows of the lane's head. -/
def srow (t : Fin 256) (l : Fin 128) : Fin 512 := ⟨256 * (l.val / 64) + t.val, by omega⟩

/-- The keys before a stacked row's query. -/
def posAt (i : ℕ) (s : Fin 512) : ℕ := 256 * i + s.val % 256

end Cert.SbSpec

namespace Cert.SbProof

open Classical Cert.Kernel2Ideal Cert.Kernel2Ideal.Gen Cert.SbSpec Cert.RealOps
open Idealize.ShloMosaic Idealize.ShloMosaic.TcCoe Idealize.ShloMosaic.Tactic

theorem ahead_lt {i s u : ℕ} (hi : i < 32) (hs : s < 256) (hu : u < 256) :
    IntOp.cmpi .slt (IntOp.subi (BitVec.ofNat 32 u) (IntOp.addi (BitVec.ofNat 32 s) (IntOp.muli (BitVec.ofNat 32 i) 256#32)))
      (IntOp.muli (IntOp.subi 0#32 (BitVec.ofNat 32 i)) 256#32) = if 256 * i + u < 256 * i + s then 1#1 else 0#1 := by
  have e1 : IntOp.subi (BitVec.ofNat 32 u) (IntOp.addi (BitVec.ofNat 32 s) (IntOp.muli (BitVec.ofNat 32 i) 256#32))
      = BitVec.ofInt 32 (u - (s + 256 * i)) := by
    simp only [IntOp.subi, IntOp.addi, IntOp.muli]
    apply BitVec.eq_of_toNat_eq
    simp
    omega
  have e2 : IntOp.muli (IntOp.subi 0#32 (BitVec.ofNat 32 i)) 256#32 = BitVec.ofInt 32 (-(256 * i)) := by
    simp only [IntOp.subi, IntOp.muli]
    apply BitVec.eq_of_toNat_eq
    simp
    omega
  rw [WordCmp.cmpi_slt_eq, e1, e2, BitVec.toInt_ofInt, BitVec.toInt_ofInt, Int.bmod_eq_of_le (by norm_num; omega) (by norm_num; omega),
    Int.bmod_eq_of_le (by norm_num; omega) (by norm_num; omega)]
  by_cases h : 256 * i + u < 256 * i + s
  · rw [if_pos h, decide_eq_true (by omega)]; rfl
  · rw [if_neg h, decide_eq_false (by omega)]; rfl

theorem mask_key {i : ℕ} (hi : i < 32) (s : Fin 512) (t : Fin 256) :
    IntOp.cmpi .slt (if _h : s.val < 256 then
        IntOp.subi (BitVec.ofNat 32 t.val) (IntOp.addi (BitVec.ofNat 32 s.val) (Scalar.muli (BitVec.ofNat 32 i) 256#32))
      else IntOp.subi (BitVec.ofNat 32 t.val) (IntOp.addi (BitVec.ofNat 32 (s.val - 256)) (Scalar.muli (BitVec.ofNat 32 i) 256#32)))
      (Scalar.muli (Scalar.subi 0#32 (BitVec.ofNat 32 i)) 256#32) = if before (posAt i) i s t then 1#1 else 0#1 := by
  unfold before posAt
  split_ifs with h h' h'
  · exact (ahead_lt hi h t.isLt).trans (if_pos (by omega))
  · exact (ahead_lt hi h t.isLt).trans (if_neg (by omega))
  · exact (ahead_lt hi (by omega) t.isLt).trans (if_pos (by omega))
  · exact (ahead_lt hi (by omega) t.isLt).trans (if_neg (by omega))

theorem mask_val (i : grid0.Coords) (s : Fin 512) (t : Fin 256) :
    diag i (ix2 s t) = if before (posAt (i 1).val) (i 1).val s t then 1#1 else 0#1 := by
  unfold diag k0_pay21; pointwise; unfold k0_pay11; pointwise
  exact mask_key (i 1).isLt s t

theorem sitofp_one : (FloatOps.sitofp .f32 (BitVec.setWidth 32 1#1) : Ideal .f32) = ((1 : ℝ) : EReal) := by
  show (((BitVec.setWidth 32 1#1).toInt : ℝ) : EReal) = _
  norm_num
theorem sitofp_zero : (FloatOps.sitofp .f32 (BitVec.setWidth 32 0#1) : Ideal .f32) = ((0 : ℝ) : EReal) := by
  show (((BitVec.setWidth 32 0#1).toInt : ℝ) : EReal) = _
  norm_num

theorem triU_val (t u : Fin 256) : k0_pay12 (F := Ideal) (ix2 t u) = ((triU t u : ℝ) : EReal) := by
  unfold k0_pay12; pointwise
  rw [WordCmp.cmpi_sge_ofNat (by omega) (by omega)]
  unfold triU
  by_cases h : u.val ≤ t.val
  · rw [decide_eq_true h, if_pos h]; exact sitofp_one
  · rw [decide_eq_false h, if_neg h]; exact sitofp_zero

theorem triW_val (t u : Fin 256) : k0_pay13 (F := Ideal) (ix2 t u) = ((triW t u : ℝ) : EReal) := by
  unfold k0_pay13; pointwise
  rw [WordCmp.cmpi_sgt_ofNat (by omega) (by omega)]
  unfold triW
  by_cases h : u.val < t.val
  · rw [decide_eq_true h, if_pos (by omega)]; exact sitofp_one
  · rw [decide_eq_false h, if_neg (by omega)]; exact sitofp_zero

theorem lane_val (t : Fin 256) (l : Fin 128) : k0_pay14 (ix2 t l) = BitVec.ofNat 32 (l.val / 64) := by
  unfold k0_pay14; pointwise
  revert l
  decide +kernel

theorem lane0 : ∀ l : Fin 128, IntOp.cmpi .eq (BitVec.ofNat 32 (l.val / 64)) 0#32 = if l.val / 64 = 0 then 1#1 else 0#1 := by decide +kernel
theorem lane1 : ∀ l : Fin 128, IntOp.cmpi .eq (BitVec.ofNat 32 (l.val / 64)) 1#32 = if l.val / 64 = 1 then 1#1 else 0#1 := by decide +kernel

theorem eighth16_real : Ideal.ofBits .bf16 15872#16 = ((1 / 8 : ℝ) : EReal) := by
  simp [Ideal.ofBits, Ideal.ieee, -EReal.coe_mul]; norm_num
theorem eighth_real : Ideal.ofBits .f32 1040187392#32 = ((1 / 8 : ℝ) : EReal) := by
  simp [Ideal.ofBits, Ideal.ieee, -EReal.coe_mul]; norm_num

theorem qst_val {x : Vec Ideal S256x128 .bf16} {X : Fin 256 → Fin 128 → ℝ} (hx : ∀ t l, x (ix2 t l) = ((X t l : ℝ) : EReal))
    (s : Fin 512) (l : Fin 128) : qst x (ix2 s l) = ((stack X s l * (1 / 8) : ℝ) : EReal) := by
  unfold qst k0_pay15; pointwise
  simp only [lane_val, lane0, lane1, select_mask, hx, eighth16_real, mul_real]
  unfold stack
  by_cases h : s.val < 256
  · have e : qrow s = ⟨s.val, h⟩ := Fin.ext (Nat.mod_eq_of_lt h)
    rw [dif_pos h, e, show s.val / 256 = 0 by omega]
    split_ifs <;> first | rfl | (rw [zero_mul]; rfl)
  · have e : qrow s = ⟨s.val - 256, by omega⟩ := Fin.ext (by show s.val % 256 = s.val - 256; omega)
    rw [dif_neg h, e, show s.val / 256 = 1 by omega]
    split_ifs <;> first | rfl | (rw [zero_mul]; rfl)

theorem dost_val {x : Vec Ideal S256x128 .bf16} {X : Fin 256 → Fin 128 → ℝ} (hx : ∀ t l, x (ix2 t l) = ((X t l : ℝ) : EReal))
    (s : Fin 512) (l : Fin 128) : dost x (ix2 s l) = ((stack X s l : ℝ) : EReal) := by
  unfold dost k0_pay16; pointwise
  simp only [lane_val, lane0, lane1, select_mask, hx]
  unfold stack
  by_cases h : s.val < 256
  · have e : qrow s = ⟨s.val, h⟩ := Fin.ext (Nat.mod_eq_of_lt h)
    rw [dif_pos h, e, show s.val / 256 = 0 by omega]
    split_ifs <;> rfl
  · have e : qrow s = ⟨s.val - 256, by omega⟩ := Fin.ext (by show s.val % 256 = s.val - 256; omega)
    rw [dif_neg h, e, show s.val / 256 = 1 by omega]
    split_ifs <;> rfl

theorem dsum_val {x : Vec Ideal S256x128 .bf16} {y : Vec Ideal S256x128 .f32} {X Y : Fin 256 → Fin 128 → ℝ}
    (hx : ∀ t l, x (ix2 t l) = ((X t l : ℝ) : EReal)) (hy : ∀ t l, y (ix2 t l) = ((Y t l : ℝ) : EReal)) (s : Fin 512) :
    dsum x y (ix2 s 0) = ((∑ l, stack X s l * Y (qrow s) l : ℝ) : EReal) := by
  unfold dsum k0_pay17; pointwise
  rw [← sum_real]
  refine Finset.sum_congr rfl fun l _ => ?_
  rw [← mul_real]
  refine congrArg₂ (· * ·) (dost_val hx s l) ?_
  by_cases h : s.val < 256
  · have e : qrow s = ⟨s.val, h⟩ := Fin.ext (Nat.mod_eq_of_lt h)
    rw [dif_pos h, e]; exact hy _ _
  · have e : qrow s = ⟨s.val - 256, by omega⟩ := Fin.ext (by show s.val % 256 = s.val - 256; omega)
    rw [dif_neg h, e]; exact hy _ _

theorem unstack_val {x : FVec Ideal S512x128 .f32} {X : Fin 512 → Fin 128 → ℝ} (hx : ∀ s l, x (ix2 s l) = ((X s l : ℝ) : EReal))
    (t : Fin 256) (l : Fin 128) : k0_pay1 k0_pay14 x (k0_pay36 k0_pay14) (ix2 t l) = ((X (srow t l) l * (1 / 8) : ℝ) : EReal) := by
  unfold k0_pay1; pointwise
  unfold k0_pay36; pointwise
  simp only [lane_val, lane0, lane1, select_mask, hx, eighth_real]
  by_cases h : l.val / 64 = 1
  · rw [if_pos h, mul_real]
    rw [show srow t l = ⟨256 + t.val, by omega⟩ from Fin.ext (by show 256 * (l.val / 64) + t.val = 256 + t.val; rw [h])]
  · have h0 : l.val / 64 = 0 := by omega
    rw [if_neg h, if_pos h0, mul_real]
    rw [show srow t l = ⟨t.val, by omega⟩ from Fin.ext (by show 256 * (l.val / 64) + t.val = t.val; rw [h0]; simp)]

end Cert.SbProof

end
-- ==== Proof.SbKernel.lean ====
/-
  What the backward kernel leaves in its three result arrays, over the real numbers: the queries' gradient block by
  block, the keys' and values' gradients summed over the query blocks of each pair of heads.
-/
module

public import proofs.«01_k».proof.Proof.SbStack
public import proofs.«01_k».proof.Proof.SbFrame

@[expose] public section

noncomputable section

namespace Cert.SbSpec

section Arrays

variable (X : Fin 8192 → Fin 256 → ℝ)

/-- The rows of query block `i` (the block of 256 it starts), the lanes of pair `p`. -/
def blk (p : Fin 2) (i : Fin 32) (t : Fin 256) (l : Fin 128) : ℝ := X ⟨256 * i.val + t.val, by omega⟩ ⟨128 * p.val + l.val, by omega⟩

/-- All rows, the lanes of pair `p`. -/
def keysOf (p : Fin 2) (t : ℕ) (l : Fin 128) : ℝ := if h : t < 8192 then X ⟨t, h⟩ ⟨128 * p.val + l.val, by omega⟩ else 0

variable (Q K V DO O : Fin 8192 → Fin 256 → ℝ) (p : Fin 2) (i : Fin 32)

/-- The stacked queries with the scale in them. -/
def qAt (s : Fin 512) (l : Fin 128) : ℝ := stack (blk Q p i) s l * (1 / 8)
/-- The stacked cotangents. -/
def dAt : Fin 512 → Fin 128 → ℝ := stack (blk DO p i)
/-- The cotangent times the output. -/
def DAt (s : Fin 512) : ℝ := ∑ l, dAt DO p i s l * blk O p i (qrow s) l
/-- The derivative by the logits of block `i`. -/
def dzAt (s : Fin 512) (t : ℕ) : ℝ := dzr (posAt i.val) (qAt Q p i) (dAt DO p i) (keysOf K p) (keysOf V p) (DAt DO O p i) s t

def dqBlk (t : Fin 256) (l : Fin 128) : ℝ := (∑ u ∈ Finset.Ico 0 8192, dzAt Q K V DO O p i (srow t l) u * keysOf K p u l) * (1 / 8)
def dkBlk (t : ℕ) (l : Fin 128) : ℝ := ∑ x, dzAt Q K V DO O p i x t * qAt Q p i x l
def dvBlk (t : ℕ) (l : Fin 128) : ℝ := ∑ x, ar (posAt i.val) (qAt Q p i) (keysOf K p) x t * dAt DO p i x l

end Arrays

end Cert.SbSpec

namespace Cert.SbProof

open Classical Cert.Kernel2Ideal Cert.Kernel2Ideal.Gen Cert.SbSpec Cert.RealOps
open Idealize.ShloMosaic Idealize.ShloMosaic.TcCoe Idealize.ShloMosaic.Tactic

variable (m : (ℓ : Loc nD τ sig) → Buf (Elt Ideal) ℓ) (c : Dev nD)
variable (Q K V' DO O : Fin 8192 → Fin 256 → ℝ)

/-- The arguments as real arrays: the three column ranges of the projection, the cotangent, the output computed on the host. -/
structure Reads : Prop where
  q : ∀ s (k : Fin 256), m ((c.tc : Thread nD τ).loc main_arg0) (ix2 s ⟨2304 + k.val, by omega⟩) = ((Q s k : ℝ) : EReal)
  k : ∀ s (k : Fin 256), m ((c.tc : Thread nD τ).loc main_arg0) (ix2 s ⟨2560 + k.val, by omega⟩) = ((K s k : ℝ) : EReal)
  v : ∀ s (k : Fin 256), m ((c.tc : Thread nD τ).loc main_arg0) (ix2 s ⟨2816 + k.val, by omega⟩) = ((V' s k : ℝ) : EReal)
  d : ∀ s k, m ((c.tc : Thread nD τ).loc main_arg1) (ix2 s k) = ((DO s k : ℝ) : EReal)
  o : ∀ s k, V m c main_v27 (ix2 s k) = ((O s k : ℝ) : EReal)

theorem idx0 : ∀ t : Fin (cfg0 (F := Ideal)).N, win0_0.index t = ![t.val % 32, 18 + t.val / 32] := (by decide +kernel : ∀ t : Fin grid0.N, _)
theorem idx1 : ∀ t : Fin (cfg0 (F := Ideal)).N, win0_1.index t = ![0, 20 + t.val / 32] := (by decide +kernel : ∀ t : Fin grid0.N, _)
theorem idx2 : ∀ t : Fin (cfg0 (F := Ideal)).N, win0_2.index t = ![0, 22 + t.val / 32] := (by decide +kernel : ∀ t : Fin grid0.N, _)
theorem idx3 : ∀ t : Fin (cfg0 (F := Ideal)).N, win0_3.index t = ![t.val % 32, t.val / 32] := (by decide +kernel : ∀ t : Fin grid0.N, _)
theorem idx4 : ∀ t : Fin (cfg0 (F := Ideal)).N, win0_4.index t = ![t.val % 32, t.val / 32] := (by decide +kernel : ∀ t : Fin grid0.N, _)
theorem idx5 : ∀ t : Fin (cfg0 (F := Ideal)).N, win0_5.index t = ![t.val % 32, t.val / 32] := (by decide +kernel : ∀ t : Fin grid0.N, _)
theorem idx6 : ∀ t : Fin (cfg0 (F := Ideal)).N, win0_6.index t = ![0, t.val / 32] := (by decide +kernel : ∀ t : Fin grid0.N, _)
theorem idx7 : ∀ t : Fin (cfg0 (F := Ideal)).N, win0_7.index t = ![0, t.val / 32] := (by decide +kernel : ∀ t : Fin grid0.N, _)

/-- The pair of heads and the query block of point `t`. -/
def pr (t : Fin (cfg0 (F := Ideal)).N) : Fin 2 := ⟨t.val / 32, by have := t.isLt; have h : (cfg0 (F := Ideal)).N = 64 := N_0; omega⟩
def qb (t : Fin (cfg0 (F := Ideal)).N) : Fin 32 := ⟨t.val % 32, by omega⟩

theorem coord1 (t : Fin (cfg0 (F := Ideal)).N) : (grid0.coords t 1).val = (qb t).val := by
  have h : (grid0.coords t 1).val = t.val / 1 % 32 := Pipeline.Grid.coords_val t 1 (by decide) rfl
  rw [h, Nat.div_one]; rfl

variable {m c Q K V' DO O}

theorem blk0 (h : Reads m c Q K V' DO O) (t : Fin (cfg0 (F := Ideal)).N) (s : Fin 256) (l : Fin 128) :
    (iblk m c 0 t : Vec Ideal S256x128 .bf16) (ix2 s l) = ((blk Q (pr t) (qb t) s l : ℝ) : EReal) := by
  unfold blk
  rw [← h.q, ← V_main_arg0 m c]
  blk_ext! [iblk, idx0, pr, qb]

theorem blk3 (h : Reads m c Q K V' DO O) (t : Fin (cfg0 (F := Ideal)).N) (s : Fin 256) (l : Fin 128) :
    (iblk m c 3 t : Vec Ideal S256x128 .bf16) (ix2 s l) = ((blk DO (pr t) (qb t) s l : ℝ) : EReal) := by
  unfold blk
  rw [← h.d, ← V_main_arg1 m c]
  blk_ext! [iblk, idx3, pr, qb]

theorem blk4 (h : Reads m c Q K V' DO O) (t : Fin (cfg0 (F := Ideal)).N) (s : Fin 256) (l : Fin 128) :
    (iblk m c 4 t : Vec Ideal S256x128 .f32) (ix2 s l) = ((blk O (pr t) (qb t) s l : ℝ) : EReal) := by
  have key : ∀ A : Vec Ideal S8192x256 .f32, ((((cfg0 (F := Ideal)).win 4).blk t).view.read (Elt Ideal) A : Vec Ideal S256x128 .f32) (ix2 s l)
      = A (ix2 ⟨256 * (qb t).val + s.val, by have := (qb t).isLt; omega⟩ ⟨128 * (pr t).val + l.val, by have := (pr t).isLt; omega⟩) := by
    intro A
    blk_ext! [idx4, pr, qb]
  exact (key _).trans (h.o _ _)

theorem blk1 (h : Reads m c Q K V' DO O) (t : Fin (cfg0 (F := Ideal)).N) (s : Fin 8192) (l : Fin 128) :
    (iblk m c 1 t : Vec Ideal S8192x128 .bf16) (ix2 s l) = ((keysOf K (pr t) s.val l : ℝ) : EReal) := by
  unfold keysOf
  rw [dif_pos s.isLt, ← h.k, ← V_main_arg0 m c]
  blk_ext! [iblk, idx1, pr, qb]

theorem blk2 (h : Reads m c Q K V' DO O) (t : Fin (cfg0 (F := Ideal)).N) (s : Fin 8192) (l : Fin 128) :
    (iblk m c 2 t : Vec Ideal S8192x128 .bf16) (ix2 s l) = ((keysOf V' (pr t) s.val l : ℝ) : EReal) := by
  unfold keysOf
  rw [dif_pos s.isLt, ← h.v, ← V_main_arg0 m c]
  blk_ext! [iblk, idx2, pr, qb]

theorem lastAt_inv (h : Reads m c Q K V' DO O) (t : Fin (cfg0 (F := Ideal)).N) {dk dv : Vec Ideal S8192x128 .f32} {dk0 dv0 : ℕ → Fin 128 → ℝ}
    (hdk : ∀ (t : Fin 8192) l, dk (ix2 t l) = ((dk0 t.val l : ℝ) : EReal)) (hdv : ∀ (t : Fin 8192) l, dv (ix2 t l) = ((dv0 t.val l : ℝ) : EReal)) :
    Inv (posAt (qb t).val) (qAt Q (pr t) (qb t)) (dAt DO (pr t) (qb t)) (keysOf K (pr t)) (keysOf V' (pr t)) (DAt DO O (pr t) (qb t)) dk0 dv0 0
      (lastAt m c t dk dv) := by
  have hp : ∀ s, 256 * (qb t).val ≤ posAt (qb t).val s := fun s => by unfold posAt; omega
  have hp' : ∀ s, posAt (qb t).val s ≤ 256 * ((qb t).val + 1) := fun s => by unfold posAt; omega
  rw [← coord1] at hp hp' ⊢
  exact last_inv (qst_val (blk0 h t)) (dost_val (blk3 h t)) (blk1 h t) (blk2 h t) triU_val triW_val
    (fun s => dsum_val (blk3 h t) (blk4 h t) s) (mask_val _) hp' hdk hdv hp

/-- The sums over the query blocks up to block `n`. -/
theorem stAt_sum (h : Reads m c Q K V' DO O) (p : Fin 2) : ∀ n : ℕ, ∀ (hn : n < 32) (hN : 32 * p.val + n < (cfg0 (F := Ideal)).N),
    (∀ (t : Fin 8192) l, (stAt m c (32 * p.val + n) hN).dk (ix2 t l)
      = ((∑ i : Fin (n + 1), dkBlk Q K V' DO O p ⟨i.val, by omega⟩ t.val l : ℝ) : EReal))
    ∧ (∀ (t : Fin 8192) l, (stAt m c (32 * p.val + n) hN).dv (ix2 t l)
      = ((∑ i : Fin (n + 1), dvBlk Q K DO p ⟨i.val, by omega⟩ t.val l : ℝ) : EReal)) := by
  intro n
  induction n with
  | zero =>
    intro hn hN
    have e1 : pr ⟨32 * p.val + 0, hN⟩ = p := Fin.ext (by show (32 * p.val + 0) / 32 = p.val; omega)
    have e2 : qb ⟨32 * p.val + 0, hN⟩ = 0 := Fin.ext (by show (32 * p.val + 0) % 32 = 0; omega)
    have k := lastAt_inv h ⟨32 * p.val + 0, hN⟩ (dk := k0_pay9 (F := Ideal)) (dv := k0_pay10 (F := Ideal)) (dk0 := fun _ _ => 0) (dv0 := fun _ _ => 0)
      (fun t l => by unfold k0_pay9; pointwise; exact zero_real) (fun t l => by unfold k0_pay10; pointwise; exact zero_real)
    rw [e1, e2] at k
    have e := stAt_first m c ⟨32 * p.val + 0, hN⟩ (by show (32 * p.val + 0) % 32 = 0; omega)
    rw [show stAt m c (32 * p.val + 0) hN = _ from e]
    constructor
    · intro t l
      rw [k.dk, if_pos (by omega), zero_add, Fin.sum_univ_one]; rfl
    · intro t l
      rw [k.dv, if_pos (by omega), zero_add, Fin.sum_univ_one]; rfl
  | succ n ih =>
    intro hn hN
    obtain ⟨i1, i2⟩ := ih (by omega) (by omega)
    have e1 : pr ⟨32 * p.val + (n + 1), hN⟩ = p := Fin.ext (by show (32 * p.val + (n + 1)) / 32 = p.val; omega)
    have e2 : qb ⟨32 * p.val + (n + 1), hN⟩ = ⟨n + 1, hn⟩ := Fin.ext (by show (32 * p.val + (n + 1)) % 32 = n + 1; omega)
    have k := lastAt_inv h ⟨32 * p.val + (n + 1), hN⟩
      (dk0 := fun t l => ∑ i : Fin (n + 1), dkBlk Q K V' DO O p ⟨i.val, by omega⟩ t l)
      (dv0 := fun t l => ∑ i : Fin (n + 1), dvBlk Q K DO p ⟨i.val, by omega⟩ t l) i1 i2
    rw [e1, e2] at k
    have e := stAt_next m c ⟨32 * p.val + (n + 1), hN⟩ (by show ¬(32 * p.val + (n + 1)) % 32 = 0; omega)
    rw [show stAt m c (32 * p.val + (n + 1)) hN = _ from e]
    constructor
    · intro t l
      refine (k.dk t l).trans ?_
      rw [if_pos (by omega), Fin.sum_univ_castSucc (n := n + 1)]; rfl
    · intro t l
      refine (k.dv t l).trans ?_
      rw [if_pos (by omega), Fin.sum_univ_castSucc (n := n + 1)]; rfl

/-- The queries' gradient at every point. -/
theorem stAt_dq (h : Reads m c Q K V' DO O) (t : Fin (cfg0 (F := Ideal)).N) (s : Fin 256) (l : Fin 128) :
    k0_pay1 k0_pay14 (stAt m c t.val t.isLt).dq (k0_pay36 k0_pay14) (ix2 s l) = ((dqBlk Q K V' DO O (pr t) (qb t) s l : ℝ) : EReal) := by
  have key : ∀ {dk dv : Vec Ideal S8192x128 .f32} {dk0 dv0 : ℕ → Fin 128 → ℝ}
      (_ : ∀ (t : Fin 8192) l, dk (ix2 t l) = ((dk0 t.val l : ℝ) : EReal)) (_ : ∀ (t : Fin 8192) l, dv (ix2 t l) = ((dv0 t.val l : ℝ) : EReal)),
      k0_pay1 k0_pay14 (lastAt m c t dk dv).dq (k0_pay36 k0_pay14) (ix2 s l) = ((dqBlk Q K V' DO O (pr t) (qb t) s l : ℝ) : EReal) :=
    fun hdk hdv => unstack_val (lastAt_inv h t hdk hdv).dq s l
  have hN : t.val < 64 := lt_of_lt_of_eq t.isLt (show (cfg0 (F := Ideal)).N = 64 from N_0)
  by_cases h0 : t.val % 32 = 0
  · rw [stAt_first m c t h0]
    exact key (dk0 := fun _ _ => 0) (dv0 := fun _ _ => 0)
      (fun t l => by unfold k0_pay9; pointwise; exact zero_real) (fun t l => by unfold k0_pay10; pointwise; exact zero_real)
  · rw [stAt_next m c t h0]
    have e : t.val - 1 = 32 * (pr t).val + (t.val % 32 - 1) := by show t.val - 1 = 32 * (t.val / 32) + (t.val % 32 - 1); omega
    have k := stAt_sum h (pr t) (t.val % 32 - 1) (by omega) (e ▸ (Nat.lt_of_le_of_lt (Nat.sub_le _ _) t.isLt))
    simp only [← e] at k
    exact key (dk0 := fun u l => ∑ i : Fin (t.val % 32 - 1 + 1), dkBlk Q K V' DO O (pr t) ⟨i.val, by omega⟩ u l)
      (dv0 := fun u l => ∑ i : Fin (t.val % 32 - 1 + 1), dvBlk Q K DO (pr t) ⟨i.val, by omega⟩ u l) k.1 k.2

/-- The pair of heads of a column, the lane in it, the block of a row and the row in it. -/
def pairOf (j : Fin 256) : Fin 2 := ⟨j.val / 128, by omega⟩
def laneOf (j : Fin 256) : Fin 128 := ⟨j.val % 128, by omega⟩
def blockOf (s : Fin 8192) : Fin 32 := ⟨s.val / 256, by omega⟩
def rowOf (s : Fin 8192) : Fin 256 := ⟨s.val % 256, by omega⟩

/-- Row `t` of block `b`, lane `l` of pair `p`. -/
def rowAt (b : Fin 32) (t : Fin 256) : Fin 8192 := ⟨b.val * 256 + t.val, by omega⟩
def colAt (p : Fin 2) (l : Fin 128) : Fin 256 := ⟨p.val * 128 + l.val, by omega⟩

theorem pairOf_colAt (p : Fin 2) (l : Fin 128) : pairOf (colAt p l) = p := Fin.ext (by show (p.val * 128 + l.val) / 128 = p.val; omega)
theorem laneOf_colAt (p : Fin 2) (l : Fin 128) : laneOf (colAt p l) = l := Fin.ext (by show (p.val * 128 + l.val) % 128 = l.val; omega)
theorem blockOf_rowAt (b : Fin 32) (t : Fin 256) : blockOf (rowAt b t) = b := Fin.ext (by show (b.val * 256 + t.val) / 256 = b.val; omega)
theorem rowOf_rowAt (b : Fin 32) (t : Fin 256) : rowOf (rowAt b t) = t := Fin.ext (by show (b.val * 256 + t.val) % 256 = t.val; omega)

/-- The three gradients, whole. -/
def dqAll (Q K V' DO O : Fin 8192 → Fin 256 → ℝ) (s : Fin 8192) (j : Fin 256) : ℝ :=
  dqBlk Q K V' DO O (pairOf j) (blockOf s) (rowOf s) (laneOf j)
def dkAll (Q K V' DO O : Fin 8192 → Fin 256 → ℝ) (s : Fin 8192) (j : Fin 256) : ℝ := ∑ b, dkBlk Q K V' DO O (pairOf j) b s.val (laneOf j)
def dvAll (Q K DO : Fin 8192 → Fin 256 → ℝ) (s : Fin 8192) (j : Fin 256) : ℝ := ∑ b, dvBlk Q K DO (pairOf j) b s.val (laneOf j)

theorem dqAll_at (Q K V' DO O : Fin 8192 → Fin 256 → ℝ) (p : Fin 2) (b : Fin 32) (t : Fin 256) (l : Fin 128) :
    dqAll Q K V' DO O (rowAt b t) (colAt p l) = dqBlk Q K V' DO O p b t l := by
  unfold dqAll; rw [pairOf_colAt, laneOf_colAt, blockOf_rowAt, rowOf_rowAt]
theorem dkAll_at (Q K V' DO O : Fin 8192 → Fin 256 → ℝ) (p : Fin 2) (s : Fin 8192) (l : Fin 128) :
    dkAll Q K V' DO O s (colAt p l) = ∑ b : Fin (31 + 1), dkBlk Q K V' DO O p ⟨b.val, by omega⟩ s.val l := by
  unfold dkAll; rw [pairOf_colAt, laneOf_colAt]
theorem dvAll_at (Q K DO : Fin 8192 → Fin 256 → ℝ) (p : Fin 2) (s : Fin 8192) (l : Fin 128) :
    dvAll Q K DO s (colAt p l) = ∑ b : Fin (31 + 1), dvBlk Q K DO p ⟨b.val, by omega⟩ s.val l := by
  unfold dvAll; rw [pairOf_colAt, laneOf_colAt]

theorem dq_array (h : Reads m c Q K V' DO O) :
    (dats m 0 c).arrAt 5 (cfg0 (F := Ideal)).N = fun i : S8192x256.Idx => ((dqAll Q K V' DO O (i 0) (i 1) : ℝ) : EReal) := by
  refine (dats m 0 c).arrAt_eq_of_covers 5 _ (by decide +kernel) fun t hf y => ?_
  blk_simp
  have key := stAt_dq h t (y 0) (y 1)
  have e0 : (((View.whole main_v28_0).slice (win0_5.rect t)).emb y 0 : Fin 8192) = rowAt (qb t) (y 0) := by
    apply Fin.ext; blk_simp [idx5, qb, rowAt]
  have e1 : (((View.whole main_v28_0).slice (win0_5.rect t)).emb y 1 : Fin 256) = colAt (pr t) (y 1) := by
    apply Fin.ext; blk_simp [idx5, pr, colAt]
  have f := dqAll_at Q K V' DO O (pr t) (qb t) (y 0) (y 1)
  rw [after0_5, e0, e1, f]
  exact (congrArg _ (eq_ix2 (n0 := 256) (n1 := 128) y)).trans key

/-- The last point of a pair of heads. -/
theorem last_of_pair {t : Fin (cfg0 (F := Ideal)).N} (h : t.val % 32 = 31) : t.val = 32 * (pr t).val + 31 := by
  show t.val = 32 * (t.val / 32) + 31; omega

theorem dk_array (h : Reads m c Q K V' DO O) :
    (dats m 0 c).arrAt 6 (cfg0 (F := Ideal)).N = fun i : S8192x256.Idx => ((dkAll Q K V' DO O (i 0) (i 1) : ℝ) : EReal) := by
  refine (dats m 0 c).arrAt_eq_of_covers 6 _ (by decide +kernel) fun t hf y => ?_
  blk_simp
  have e0 : (((View.whole main_v28_1).slice (win0_6.rect t)).emb y 0 : Fin 8192) = y 0 := by
    apply Fin.ext; blk_simp [idx6]
  have e1 : (((View.whole main_v28_1).slice (win0_6.rect t)).emb y 1 : Fin 256) = colAt (pr t) (y 1) := by
    apply Fin.ext; blk_simp [idx6, pr, colAt]
  have e := last_of_pair ((flush0_6 t).mp hf)
  have k := (stAt_sum h (pr t) 31 (by omega) (e ▸ t.isLt)).1 (y 0) (y 1)
  simp only [← e] at k
  have f := dkAll_at Q K V' DO O (pr t) (y 0) (y 1)
  rw [after0_6, e0, e1, f]
  exact (congrArg _ (eq_ix2 (n0 := 8192) (n1 := 128) y)).trans k

theorem dv_array (h : Reads m c Q K V' DO O) :
    (dats m 0 c).arrAt 7 (cfg0 (F := Ideal)).N = fun i : S8192x256.Idx => ((dvAll Q K DO (i 0) (i 1) : ℝ) : EReal) := by
  refine (dats m 0 c).arrAt_eq_of_covers 7 _ (by decide +kernel) fun t hf y => ?_
  blk_simp
  have e0 : (((View.whole main_v28_2).slice (win0_7.rect t)).emb y 0 : Fin 8192) = y 0 := by
    apply Fin.ext; blk_simp [idx7]
  have e1 : (((View.whole main_v28_2).slice (win0_7.rect t)).emb y 1 : Fin 256) = colAt (pr t) (y 1) := by
    apply Fin.ext; blk_simp [idx7, pr, colAt]
  have e := last_of_pair ((flush0_7 t).mp hf)
  have k := (stAt_sum h (pr t) 31 (by omega) (e ▸ t.isLt)).2 (y 0) (y 1)
  simp only [← e] at k
  have f := dvAll_at Q K DO (pr t) (y 0) (y 1)
  rw [after0_7, e0, e1, f]
  exact (congrArg _ (eq_ix2 (n0 := 8192) (n1 := 128) y)).trans k

end Cert.SbProof

end
-- ==== Proof.SbHead.lean ====
/-
  One query row of one head over all keys, and the gradients as sums over such rows: what the reference computes.
-/
module

public import proofs.«01_k».proof.Proof.SbSpec

@[expose] public section

noncomputable section

namespace Cert.SbSpec

section HeadRow

/- `n` keys come before the query, `z` are the logits and `o` the cotangents of the weights. -/
variable (n : ℕ) (z o : ℕ → ℝ)

/-- The log factor key `t` leaves to the keys before it. -/
def rlf (t : ℕ) : ℝ := if t < n then -sp (z t) else 0
/-- The weight of key `t`. -/
def rA (t : ℕ) : ℝ := if t < n then Real.exp (z t + ∑ u ∈ Finset.Ico t 8192, rlf n z u) else 0
/-- The weighted cotangent of key `t`. -/
def rG (t : ℕ) : ℝ := rA n z t * o t
/-- The cotangent of the logit of key `t`. -/
def rdz (t : ℕ) : ℝ := if t < n then rG n z o t - sig (z t) * ∑ u ∈ Finset.range (t + 1), rG n z o u else 0

end HeadRow

/-- Column `c` of head `h`. -/
def hc (h : Fin 4) (c : Fin 64) : Fin 256 := ⟨64 * h.val + c.val, by omega⟩
/-- The head of a column. -/
def headOf (j : Fin 256) : Fin 4 := ⟨j.val / 64, by omega⟩

/-- Row `t`, zero from the last row on. -/
def rowN (X : Fin 8192 → Fin 256 → ℝ) (t : ℕ) (j : Fin 256) : ℝ := if h : t < 8192 then X ⟨t, h⟩ j else 0

variable (Q K V DO : Fin 8192 → Fin 256 → ℝ)

/-- The logits of head `h`, query `s`. -/
def logit (h : Fin 4) (s : Fin 8192) (t : ℕ) : ℝ := (∑ c, Q s (hc h c) * rowN K t (hc h c)) * (1 / 8)
/-- The cotangents of its weights. -/
def cotan (h : Fin 4) (s : Fin 8192) (t : ℕ) : ℝ := ∑ c, DO s (hc h c) * rowN V t (hc h c)
/-- Its weights. -/
def weight (h : Fin 4) (s : Fin 8192) (t : ℕ) : ℝ := rA s.val (logit Q K h s) t
/-- The cotangents of its logits. -/
def dlogit (h : Fin 4) (s : Fin 8192) (t : ℕ) : ℝ := rdz s.val (logit Q K h s) (cotan V DO h s) t

/-- The output and the three gradients. -/
def out (s : Fin 8192) (j : Fin 256) : ℝ := ∑ t : Fin 8192, V t j * weight Q K (headOf j) s t.val
def gradQ (s : Fin 8192) (j : Fin 256) : ℝ := ∑ t : Fin 8192, dlogit Q K V DO (headOf j) s t.val * (1 / 8) * K t j
def gradK (t : Fin 8192) (j : Fin 256) : ℝ := ∑ s : Fin 8192, dlogit Q K V DO (headOf j) s t.val * (1 / 8) * Q s j
def gradV (t : Fin 8192) (j : Fin 256) : ℝ := ∑ s : Fin 8192, DO s j * weight Q K (headOf j) s t.val

end Cert.SbSpec

end
-- ==== Proof.SbEq.lean ====
/-
  The kernel's gradients, taken block by block with two heads' queries stacked, are the reference's sums over rows of one
  head.
-/
module

public import proofs.«01_k».proof.Proof.SbKernel
public import proofs.«01_k».proof.Proof.SbHead

@[expose] public section

noncomputable section

namespace Cert.SbSpec

open Cert.SbProof Finset

variable (Q K V DO : Fin 8192 → Fin 256 → ℝ) (p : Fin 2) (i : Fin 32) (x : Fin 512) (t : ℕ)

/-- A lane, by head of the pair and column. -/
def lane (b : Fin 2) (c : Fin 64) : Fin 128 := ⟨b.val * 64 + c.val, by omega⟩
theorem sum_lanes (f : Fin 128 → ℝ) : ∑ b : Fin 2, ∑ c : Fin 64, f (lane b c) = ∑ l, f l := Fin.sum_mul_add_congr fun _ _ _ => rfl

/-- A stacked row, by head of the pair and row of the block. -/
def xrow (b : Fin 2) (r : Fin 256) : Fin 512 := ⟨b.val * 256 + r.val, by omega⟩
theorem sum_xrows (f : Fin 512 → ℝ) : ∑ b : Fin 2, ∑ r : Fin 256, f (xrow b r) = ∑ x, f x := Fin.sum_mul_add_congr fun _ _ _ => rfl

theorem sum_queries (f : Fin 8192 → ℝ) : ∑ b : Fin 32, ∑ r : Fin 256, f (rowAt b r) = ∑ s, f s := Fin.sum_mul_add_congr fun _ _ _ => rfl

/-- The head of the pair, the head and the query of a stacked row. -/
def xhalf : Fin 2 := ⟨x.val / 256, by omega⟩
def xhead : Fin 4 := ⟨2 * p.val + x.val / 256, by omega⟩
def xquery : Fin 8192 := ⟨256 * i.val + x.val % 256, by omega⟩

/-- A stacked row times a row of the pair's lanes: the product over the head's columns. -/
theorem sum_stack_lane (X : Fin 8192 → Fin 256 → ℝ) (Y : Fin 128 → ℝ) :
    ∑ l, stack (blk X p i) x l * Y l = ∑ c, X (xquery i x) (hc (xhead p x) c) * Y (lane (xhalf x) c) := by
  rw [← sum_lanes, sum_eq_single (xhalf x)]
  · refine sum_congr rfl fun c _ => congrArg (· * _) ?_
    unfold stack
    rw [if_pos (by show (x.val / 256 * 64 + c.val) / 64 = x.val / 256; omega)]
    unfold blk
    refine congrArg₂ X (Fin.ext rfl) (Fin.ext ?_)
    show 128 * p.val + (x.val / 256 * 64 + c.val) = 64 * (2 * p.val + x.val / 256) + c.val
    omega
  · intro b _ hb
    refine sum_eq_zero fun c _ => ?_
    unfold stack
    rw [if_neg (fun h => hb (Fin.ext ?_)), zero_mul]
    have h' : (b.val * 64 + c.val) / 64 = x.val / 256 := h
    show b.val = x.val / 256
    omega
  · exact fun h => absurd (mem_univ _) h

/-- A sum over the stacked rows at one lane: the rows of the lane's head. -/
theorem sum_stack_row (X : Fin 256 → Fin 128 → ℝ) (f : Fin 512 → ℝ) (l : Fin 128) :
    ∑ x, f x * stack X x l = ∑ r, f (srow r l) * X r l := by
  have hl : l.val / 64 < 2 := by omega
  rw [← sum_xrows, sum_eq_single (⟨l.val / 64, hl⟩ : Fin 2)]
  · refine sum_congr rfl fun r _ => ?_
    have e : xrow ⟨l.val / 64, hl⟩ r = srow r l := Fin.ext (by show l.val / 64 * 256 + r.val = 256 * (l.val / 64) + r.val; omega)
    rw [e]
    unfold stack
    rw [if_pos (by show l.val / 64 = (256 * (l.val / 64) + r.val) / 256; omega)]
    refine congrArg (fun q => f (srow r l) * X q l) (Fin.ext ?_)
    show (256 * (l.val / 64) + r.val) % 256 = r.val
    omega
  · intro b _ hb
    refine sum_eq_zero fun r _ => ?_
    unfold stack
    rw [if_neg (fun h => hb (Fin.ext ?_)), mul_zero]
    have h' : l.val / 64 = (b.val * 256 + r.val) / 256 := h
    show b.val = l.val / 64
    omega
  · exact fun h => absurd (mem_univ _) h

theorem keysOf_lane (X : Fin 8192 → Fin 256 → ℝ) (c : Fin 64) : keysOf X p t (lane (xhalf x) c) = rowN X t (hc (xhead p x) c) := by
  unfold keysOf rowN
  split_ifs
  · refine congrArg (X _) (Fin.ext ?_)
    show 128 * p.val + (x.val / 256 * 64 + c.val) = 64 * (2 * p.val + x.val / 256) + c.val
    omega
  · rfl

/-! ## The rows -/

theorem logit_row : zr (qAt Q p i) (keysOf K p) x t = logit Q K (xhead p x) (xquery i x) t := by
  unfold zr logit qAt
  rw [sum_mul]
  have e : ∀ l, stack (blk Q p i) x l * (1 / 8) * keysOf K p t l = stack (blk Q p i) x l * (keysOf K p t l * (1 / 8)) := fun l => by ring
  simp only [e]
  rw [sum_stack_lane]
  exact sum_congr rfl fun c _ => by rw [keysOf_lane, mul_assoc]

theorem cotan_row : ∑ l, dAt DO p i x l * keysOf V p t l = cotan V DO (xhead p x) (xquery i x) t := by
  unfold dAt cotan
  rw [sum_stack_lane]
  exact sum_congr rfl fun c _ => by rw [keysOf_lane]

theorem weight_row : ar (posAt i.val) (qAt Q p i) (keysOf K p) x t = weight Q K (xhead p x) (xquery i x) t := by
  unfold ar weight rA lsum lf rlf
  simp only [logit_row]
  rfl

theorem weighted_row : wr (posAt i.val) (qAt Q p i) (dAt DO p i) (keysOf K p) (keysOf V p) x t
    = rG (xquery i x).val (logit Q K (xhead p x) (xquery i x)) (cotan V DO (xhead p x) (xquery i x)) t := by
  unfold wr rG
  rw [weight_row, cotan_row]
  rfl

/-- The row's cotangent times its output is the sum of all its weighted cotangents. -/
theorem total_row : DAt DO (out Q K V) p i x
    = ∑ u ∈ range 8192, rG (xquery i x).val (logit Q K (xhead p x) (xquery i x)) (cotan V DO (xhead p x) (xquery i x)) u := by
  unfold DAt dAt
  rw [sum_stack_lane]
  have e : ∀ c : Fin 64, blk (out Q K V) p i (qrow x) (lane (xhalf x) c)
      = ∑ u : Fin 8192, V u (hc (xhead p x) c) * weight Q K (xhead p x) (xquery i x) u.val := by
    intro c
    have ej : (⟨128 * p.val + (lane (xhalf x) c).val, by have := (lane (xhalf x) c).isLt; omega⟩ : Fin 256) = hc (xhead p x) c :=
      Fin.ext (by show 128 * p.val + (x.val / 256 * 64 + c.val) = 64 * (2 * p.val + x.val / 256) + c.val; omega)
    have eh : headOf (hc (xhead p x) c) = xhead p x :=
      Fin.ext (by show (64 * (2 * p.val + x.val / 256) + c.val) / 64 = 2 * p.val + x.val / 256; omega)
    unfold blk
    rw [ej]
    unfold out
    rw [eh]
    rfl
  simp only [e, mul_sum]
  rw [sum_comm, ← Fin.sum_univ_eq_sum_range]
  refine sum_congr rfl fun u _ => ?_
  unfold rG cotan weight
  rw [mul_sum]
  refine sum_congr rfl fun c _ => ?_
  rw [show rowN V u.val (hc (xhead p x) c) = V u (hc (xhead p x) c) from dif_pos u.isLt]
  ring

theorem dlogit_row (ht : t < 8192) : dzAt Q K V DO (out Q K V) p i x t = dlogit Q K V DO (xhead p x) (xquery i x) t := by
  unfold dzAt dzr dlogit rdz
  rw [weighted_row, logit_row, total_row]
  unfold wsum
  simp only [weighted_row]
  rw [← sum_range_add_sum_Ico _ (show t + 1 ≤ 8192 by omega), add_sub_cancel_right]
  rfl

/-! ## The gradients -/

theorem xhead_srow (r : Fin 256) (j : Fin 256) : xhead (pairOf j) (srow r (laneOf j)) = headOf j :=
  Fin.ext (by show 2 * (j.val / 128) + (256 * (j.val % 128 / 64) + r.val) / 256 = j.val / 64; omega)

theorem xquery_srow (r : Fin 256) (l : Fin 128) : xquery i (srow r l) = rowAt i r :=
  Fin.ext (by show 256 * i.val + (256 * (l.val / 64) + r.val) % 256 = i.val * 256 + r.val; omega)

theorem blk_at (X : Fin 8192 → Fin 256 → ℝ) (r : Fin 256) (j : Fin 256) : blk X (pairOf j) i r (laneOf j) = X (rowAt i r) j :=
  congrArg₂ X (Fin.ext (by show 256 * i.val + r.val = i.val * 256 + r.val; omega))
    (Fin.ext (by show 128 * (j.val / 128) + j.val % 128 = j.val; omega))

theorem keysOf_at (X : Fin 8192 → Fin 256 → ℝ) (u : Fin 8192) (j : Fin 256) : keysOf X (pairOf j) u.val (laneOf j) = X u j :=
  (dif_pos u.isLt).trans (congrArg (X _) (Fin.ext (by show 128 * (j.val / 128) + j.val % 128 = j.val; omega)))

theorem rowAt_split (s : Fin 8192) : rowAt (blockOf s) (rowOf s) = s := Fin.ext (by show s.val / 256 * 256 + s.val % 256 = s.val; omega)

theorem dq_eq (s : Fin 8192) (j : Fin 256) : dqAll Q K V DO (out Q K V) s j = gradQ Q K V DO s j := by
  unfold dqAll dqBlk gradQ
  rw [← range_eq_Ico, ← Fin.sum_univ_eq_sum_range (fun u => dzAt Q K V DO (out Q K V) (pairOf j) (blockOf s) (srow (rowOf s) (laneOf j)) u
    * keysOf K (pairOf j) u (laneOf j)), sum_mul]
  refine sum_congr rfl fun u _ => ?_
  rw [dlogit_row _ _ _ _ _ _ _ _ u.isLt, xhead_srow, xquery_srow, rowAt_split, keysOf_at]
  ring

theorem dk_eq (t : Fin 8192) (j : Fin 256) : dkAll Q K V DO (out Q K V) t j = gradK Q K V DO t j := by
  unfold dkAll dkBlk gradK
  rw [← sum_queries]
  refine sum_congr rfl fun b _ => ?_
  unfold qAt
  simp only [dlogit_row _ _ _ _ _ _ _ _ t.isLt]
  have e : ∀ x l, dlogit Q K V DO (xhead (pairOf j) x) (xquery b x) t.val * (stack (blk Q (pairOf j) b) x l * (1 / 8))
      = dlogit Q K V DO (xhead (pairOf j) x) (xquery b x) t.val * (1 / 8) * stack (blk Q (pairOf j) b) x l := fun x l => by ring
  simp only [e]
  rw [sum_stack_row _ (fun x => dlogit Q K V DO (xhead (pairOf j) x) (xquery b x) t.val * (1 / 8))]
  refine sum_congr rfl fun r _ => ?_
  rw [xhead_srow, xquery_srow, blk_at]

theorem dv_eq (t : Fin 8192) (j : Fin 256) : dvAll Q K DO t j = gradV Q K DO t j := by
  unfold dvAll dvBlk gradV
  rw [← sum_queries]
  refine sum_congr rfl fun b _ => ?_
  unfold dAt
  simp only [weight_row]
  rw [sum_stack_row _ (fun x => weight Q K (xhead (pairOf j) x) (xquery b x) t.val)]
  refine sum_congr rfl fun r _ => ?_
  rw [xhead_srow, xquery_srow, blk_at, mul_comm]

end Cert.SbSpec

end
-- ==== Proof.SbCumsum.lean ====
/-
  The running sums of the reference over the keys: from the end, and from the start.
-/
module

public import proofs.«01_k».proof.Proof.Gen.Reference2Ideal.Read
public import Idealize.ShloMosaic.Lib.Pipeline.ValueKit.Point

@[expose] public section

noncomputable section

namespace Cert.SbReference

open Cert.Reference2Ideal Cert.Reference2Ideal.Read Idealize.ShloMosaic

/-- The shape of a window over the keys. -/
abbrev win : Shape := ⟨3, ![1, 1, 8192]⟩

theorem numel_win : win.numel = 8192 := by
  show ∏ a, (![1, 1, 8192] : Fin 3 → ℕ) a = 8192
  rw [Fin.prod_univ_three]; rfl

theorem win_pos (n : Fin win.numel) :
    (win.rowMajor.symm n 0).val = 0 ∧ (win.rowMajor.symm n 1).val = 0 ∧ (win.rowMajor.symm n 2).val = n.val := by
  have h0 : (win.rowMajor.symm n 0).val < 1 := (win.rowMajor.symm n 0).isLt
  have h1 : (win.rowMajor.symm n 1).val < 1 := (win.rowMajor.symm n 1).isLt
  have h := congrArg Fin.val (win.rowMajor.apply_symm_apply n)
  rw [Shape.rowMajor_val_three] at h
  have e0 : (win.rowMajor.symm n 0).val = 0 := by omega
  have e1 : (win.rowMajor.symm n 1).val = 0 := by omega
  rw [e0, e1, Nat.zero_mul, Nat.zero_add, Nat.zero_mul, Nat.zero_add] at h
  exact ⟨e0, e1, h⟩

theorem foldl_sum {N : ℕ} (g : Fin N → EReal) : (List.finRange N).foldl (fun r n => r + g n) 0 = ∑ n, g n := by
  rw [Fin.sum_univ_def, List.sum_eq_foldl, List.foldl_map]

/-- The host's window sum, as a sum over the window. -/
theorem windows_sum {s t u : Shape} (window strides lo hi : Fin s.rank → ℕ) (x : s.Idx → EReal) (init : u.Idx → EReal) (hinit : ∀ i, init i = 0)
    (h : s.ReduceWindows window strides lo hi t) (hu : 0 < u.numel) (j : t.Idx) :
    Host.reduceWindowAdd (F := Ideal) (φ := .f32) window strides lo hi x init h hu j
      = ∑ n : Fin (⟨s.rank, window⟩ : Shape).numel,
        if hin : ∀ a, lo a ≤ (j (a.cast h.1.symm)).val * strides a + ((⟨s.rank, window⟩ : Shape).rowMajor.symm n a).val
          ∧ (j (a.cast h.1.symm)).val * strides a + ((⟨s.rank, window⟩ : Shape).rowMajor.symm n a).val - lo a < s.size a
        then x (fun a => ⟨_, (hin a).2⟩) else 0 := by
  refine Eq.trans ?_ (foldl_sum _)
  have e : init (Shape.Idx.first hu) = 0 := hinit _
  show Host.reduceWindow (· + ·) window strides lo hi x (fun _ : (⟨0, ![]⟩ : Shape).Idx => init (Shape.Idx.first hu)) h (by decide) j = _
  rw [e]
  unfold Host.reduceWindow
  refine congrArg (fun f => List.foldl f 0 _) (funext fun r => funext fun n => congrArg (r + ·) ?_)
  split_ifs <;> rfl

variable (x : S4x8192x8192.Idx → EReal)

/-- The entries of row `(h, s)`, zero from the last key on. -/
def entry (h : Fin 4) (s : Fin 8192) (u : ℕ) : EReal := if hu : u < 8192 then x (ix3 h s ⟨u, hu⟩) else 0

theorem sum_win (f : ℕ → EReal) : ∑ n : Fin win.numel, f n.val = ∑ n ∈ Finset.range 8192, f n := by
  rw [← numel_win]; exact Fin.sum_univ_eq_sum_range f _

theorem shift_sum (f : ℕ → EReal) {T N : ℕ} (h : T ≤ N) :
    ∑ n ∈ Finset.range (N + 1), (if N ≤ T + n then f (T + n - N) else 0) = ∑ u ∈ Finset.range (T + 1), f u := by
  rw [← Finset.sum_filter]
  refine Finset.sum_nbij' (fun n => T + n - N) (fun u => u + N - T) ?_ ?_ ?_ ?_ ?_
  · intro n hn; simp only [Finset.mem_filter, Finset.mem_range] at hn ⊢; omega
  · intro n hn; simp only [Finset.mem_filter, Finset.mem_range] at hn ⊢; omega
  · intro n hn; simp only [Finset.mem_filter, Finset.mem_range] at hn ⊢; omega
  · intro n hn; simp only [Finset.mem_range] at hn ⊢; omega
  · intro n hn; rfl

/-- From the end. -/
theorem sum_from (init : S_.Idx → EReal) (hinit : ∀ i, init i = 0) (hw) (hu) (h : Fin 4) (s t : Fin 8192) :
    Host.reduceWindowAdd (F := Ideal) (φ := .f32) (s := S4x8192x8192) (t := S4x8192x8192) (u := S_) ![1, 1, 8192] ![1, 1, 1] ![0, 0, 0] ![0, 0, 8191]
      x init hw hu (ix3 h s t) = ∑ u ∈ Finset.Ico t.val 8192, entry x h s u := by
  have ht := t.isLt
  have key : ∑ n : Fin win.numel, entry x h s (t.val + n.val) = ∑ u ∈ Finset.Ico t.val 8192, entry x h s u := by
    rw [sum_win (fun n => entry x h s (t.val + n)), Finset.range_eq_Ico, Finset.sum_Ico_add (fun n => entry x h s n) 0 8192 t.val,
      ← Finset.sum_Ico_consecutive (n := 8192) _ (by omega) (by omega), Nat.zero_add]
    refine (congrArg (_ + ·) (Finset.sum_eq_zero fun u hu => dif_neg ?_)).trans (add_zero _)
    have := Finset.mem_Ico.mp hu; omega
  rw [← key]
  refine (windows_sum _ _ _ _ x init hinit hw hu _).trans (Finset.sum_congr rfl fun n _ => ?_)
  obtain ⟨p0, p1, p2⟩ := win_pos n
  unfold entry
  by_cases hn : t.val + n.val < 8192
  · rw [dif_pos hn, dif_pos fun a => ?_]
    · refine congrArg x (funext fun a => Fin.ext ?_)
      match a with
      | ⟨0, _⟩ => show h.val * 1 + (win.rowMajor.symm n 0).val - 0 = h.val; omega
      | ⟨1, _⟩ => show s.val * 1 + (win.rowMajor.symm n 1).val - 0 = s.val; omega
      | ⟨2, _⟩ => show t.val * 1 + (win.rowMajor.symm n 2).val - 0 = t.val + n.val; omega
    · have hh := h.isLt
      have hs := s.isLt
      match a with
      | ⟨0, _⟩ => show 0 ≤ h.val * 1 + (win.rowMajor.symm n 0).val ∧ h.val * 1 + (win.rowMajor.symm n 0).val - 0 < 4; omega
      | ⟨1, _⟩ => show 0 ≤ s.val * 1 + (win.rowMajor.symm n 1).val ∧ s.val * 1 + (win.rowMajor.symm n 1).val - 0 < 8192; omega
      | ⟨2, _⟩ => show 0 ≤ t.val * 1 + (win.rowMajor.symm n 2).val ∧ t.val * 1 + (win.rowMajor.symm n 2).val - 0 < 8192; omega
  · rw [dif_neg hn, dif_neg fun hin => ?_]
    have h2 : 0 ≤ t.val * 1 + (win.rowMajor.symm n 2).val ∧ t.val * 1 + (win.rowMajor.symm n 2).val - 0 < 8192 := hin 2
    omega

/-- From the start. -/
theorem sum_upto (init : S_.Idx → EReal) (hinit : ∀ i, init i = 0) (hw) (hu) (h : Fin 4) (s t : Fin 8192) :
    Host.reduceWindowAdd (F := Ideal) (φ := .f32) (s := S4x8192x8192) (t := S4x8192x8192) (u := S_) ![1, 1, 8192] ![1, 1, 1] ![0, 0, 8191] ![0, 0, 0]
      x init hw hu (ix3 h s t) = ∑ u ∈ Finset.range (t.val + 1), entry x h s u := by
  have ht := t.isLt
  have key : ∑ n : Fin win.numel, (if 8191 ≤ t.val + n.val then entry x h s (t.val + n.val - 8191) else 0)
      = ∑ u ∈ Finset.range (t.val + 1), entry x h s u := by
    rw [sum_win (fun n => if 8191 ≤ t.val + n then entry x h s (t.val + n - 8191) else 0)]
    exact shift_sum (entry x h s) (N := 8191) (by omega)
  rw [← key]
  refine (windows_sum _ _ _ _ x init hinit hw hu _).trans (Finset.sum_congr rfl fun n _ => ?_)
  obtain ⟨p0, p1, p2⟩ := win_pos n
  have hn' : n.val < 8192 := lt_of_lt_of_eq n.isLt numel_win
  unfold entry
  by_cases hn : 8191 ≤ t.val + n.val
  · rw [if_pos hn, dif_pos (show t.val + n.val - 8191 < 8192 by omega), dif_pos fun a => ?_]
    · refine congrArg x (funext fun a => Fin.ext ?_)
      match a with
      | ⟨0, _⟩ => show h.val * 1 + (win.rowMajor.symm n 0).val - 0 = h.val; omega
      | ⟨1, _⟩ => show s.val * 1 + (win.rowMajor.symm n 1).val - 0 = s.val; omega
      | ⟨2, _⟩ => show t.val * 1 + (win.rowMajor.symm n 2).val - 8191 = t.val + n.val - 8191; omega
    · have hh := h.isLt
      have hs := s.isLt
      match a with
      | ⟨0, _⟩ => show 0 ≤ h.val * 1 + (win.rowMajor.symm n 0).val ∧ h.val * 1 + (win.rowMajor.symm n 0).val - 0 < 4; omega
      | ⟨1, _⟩ => show 0 ≤ s.val * 1 + (win.rowMajor.symm n 1).val ∧ s.val * 1 + (win.rowMajor.symm n 1).val - 0 < 8192; omega
      | ⟨2, _⟩ => show 8191 ≤ t.val * 1 + (win.rowMajor.symm n 2).val ∧ t.val * 1 + (win.rowMajor.symm n 2).val - 8191 < 8192; omega
  · rw [if_neg hn, dif_neg fun hin => ?_]
    have h2 : 8191 ≤ t.val * 1 + (win.rowMajor.symm n 2).val ∧ t.val * 1 + (win.rowMajor.symm n 2).val - 8191 < 8192 := hin 2
    omega

end Cert.SbReference

end
-- ==== Proof.SbReference.lean ====
/-
  The reference's arrays for real arguments, one stage after another: the logits, the weights, the output, and the
  gradients as jax's derivative rules write them.
-/
module

public import proofs.«01_k».proof.Proof.SbCumsum
public import proofs.«01_k».proof.Proof.SbLoop
public import proofs.«01_k».proof.Proof.SbHead

@[expose] public section

noncomputable section

namespace Cert.SbReference

open Cert.Reference2Ideal Cert.Reference2Ideal.Read Cert.SbSpec Cert.RealOps Cert.SbProof Idealize.ShloMosaic

variable {x0 : (⟨S8192x5120, .bf16⟩ : BufTy).Contents (Elt Ideal)} {x1 : (⟨S8192x256, .bf16⟩ : BufTy).Contents (Elt Ideal)}

/-! ## Softplus -/

section Softplus

variable {i : S4x8192x8192.Idx} {y : ℝ}

/-- The softplus of a real number, with the branch for what is no number. -/
theorem softplus_real (y : ℝ) [Decidable ((y : EReal) ≠ (y : EReal))] :
    (if (y : EReal) ≠ (y : EReal) then (y : EReal)
      else max (y : EReal) 0 + Ideal.log1p (Ideal.exp (-FloatOps.absf (F := Ideal) (φ := .f32) (y : EReal)))) = ((sp y : ℝ) : EReal) := by
  rw [if_neg (fun h => h rfl), abs_real, neg_real, exp_real, log1p_real (one_add_exp_pos _), zero_real, max_real, add_real]
  rfl

/-- Its derivative, which the reference takes from the softplus itself. -/
theorem slope_real (y : ℝ) [Decidable ((y : EReal) = ⊤)] [Decidable (((sp y : ℝ) : EReal) = ⊤)] :
    Ideal.exp ((if (y : EReal) = ⊤ then 0 else (y : EReal)) - (if ((sp y : ℝ) : EReal) = ⊤ then 0 else ((sp y : ℝ) : EReal)))
      = ((SbSpec.sig y : ℝ) : EReal) := by
  rw [if_neg (EReal.coe_ne_top _), if_neg (EReal.coe_ne_top _), sub_real, exp_real, exp_sub_sp]

theorem softplus_late (h : val_main_call0_v0 (F := Ideal) x0 i = ((y : ℝ) : EReal)) :
    val_main_call0_v1_0 (F := Ideal) x0 i = ((sp y : ℝ) : EReal) := by
  simp only [
    val_main_call0_v1_0_apply, val_main_call0_call0_v4_apply, val_main_call0_call0_v6_apply,
    val_main_call0_call0_v11_apply, val_main_call0_call0_v10_apply, val_main_call0_call0_v9_apply,
    val_main_call0_call0_v8_apply, val_main_call0_call0_v7_apply, val_main_call0_call0_v5_apply,
    val_main_call0_call0_v3_apply, val_main_call0_call0_v2_apply, val_main_call0_call0_v1_apply,
    val_main_call0_call0_v0_apply, val_main_call0_call0_cst_apply, h]
  pointwise
  exact softplus_real y

theorem slope_late (h : val_main_call0_v0 (F := Ideal) x0 i = ((y : ℝ) : EReal)) :
    val_main_v17_1 (F := Ideal) x0 i = ((SbSpec.sig y : ℝ) : EReal) := by
  simp only [
    val_main_v17_1_apply, val_main_call0_call0_v21_apply, val_main_call0_call0_v20_apply,
    val_main_call0_call0_v19_apply, val_main_call0_call0_v18_apply, val_main_call0_call0_v17_apply,
    val_main_call0_call0_v16_apply, val_main_call0_call0_v15_apply, val_main_call0_call0_v14_apply,
    val_main_call0_call0_v13_apply, val_main_call0_call0_cst_0_apply, val_main_call0_call0_cst_1_apply,
    val_main_call0_call0_cst_2_apply, val_main_call0_call0_cst_3_apply,
    h, softplus_late h]
  pointwise
  simp only [bits_top]
  exact slope_real y

theorem softplus_here (h : val_main_call3_v0 (F := Ideal) x0 i = ((y : ℝ) : EReal)) :
    val_main_call3_v1_0 (F := Ideal) x0 i = ((sp y : ℝ) : EReal) := by
  simp only [
    val_main_call3_v1_0_apply, val_main_call3_call0_v4_apply, val_main_call3_call0_v6_apply,
    val_main_call3_call0_v11_apply, val_main_call3_call0_v10_apply, val_main_call3_call0_v9_apply,
    val_main_call3_call0_v8_apply, val_main_call3_call0_v7_apply, val_main_call3_call0_v5_apply,
    val_main_call3_call0_v3_apply, val_main_call3_call0_v2_apply, val_main_call3_call0_v1_apply,
    val_main_call3_call0_v0_apply, val_main_call3_call0_cst_apply, h]
  pointwise
  exact softplus_real y

theorem slope_here (h : val_main_call3_v0 (F := Ideal) x0 i = ((y : ℝ) : EReal)) :
    val_main_v21_1 (F := Ideal) x0 i = ((SbSpec.sig y : ℝ) : EReal) := by
  simp only [
    val_main_v21_1_apply, val_main_call3_call0_v21_apply, val_main_call3_call0_v20_apply,
    val_main_call3_call0_v19_apply, val_main_call3_call0_v18_apply, val_main_call3_call0_v17_apply,
    val_main_call3_call0_v16_apply, val_main_call3_call0_v15_apply, val_main_call3_call0_v14_apply,
    val_main_call3_call0_v13_apply, val_main_call3_call0_cst_0_apply, val_main_call3_call0_cst_1_apply,
    val_main_call3_call0_cst_2_apply, val_main_call3_call0_cst_3_apply,
    h, softplus_here h]
  pointwise
  simp only [bits_top]
  exact slope_real y

end Softplus

/-! ## The arguments -/

variable (x0 x1) (Q K V DO : Fin 8192 → Fin 256 → ℝ)

/-- The reference's two arguments hold the real arrays of queries, keys, values and output cotangents. -/
structure Args : Prop where
  q : ∀ s (k : Fin 256), x0 (ix2 s ⟨2304 + k.val, by omega⟩) = ((Q s k : ℝ) : EReal)
  k : ∀ s (k : Fin 256), x0 (ix2 s ⟨2560 + k.val, by omega⟩) = ((K s k : ℝ) : EReal)
  v : ∀ s (k : Fin 256), x0 (ix2 s ⟨2816 + k.val, by omega⟩) = ((V s k : ℝ) : EReal)
  d : ∀ s k, x1 (ix2 s k) = ((DO s k : ℝ) : EReal)

variable {x0 x1 Q K V DO} (H : Args x0 x1 Q K V DO) (h : Fin 4) (s t : Fin 8192) (c : Fin 64) (j : Fin 256)

include H

theorem q_head : val_main_v4 (F := Ideal) x0 (ix3 s h c) = ((Q s (hc h c) : ℝ) : EReal) := by
  rw [val_main_v4_apply, val_main_v1_apply, ← H.q]
  refine congrArg x0 (funext fun a => ?_)
  match a with
  | ⟨0, _⟩ => apply Fin.ext; show ((s.val * 4 + h.val) * 64 + c.val) / 256 = s.val; omega
  | ⟨1, _⟩ => apply Fin.ext; show 2304 + ((s.val * 4 + h.val) * 64 + c.val) % 256 = 2304 + (64 * h.val + c.val); omega

theorem k_head : val_main_v5 (F := Ideal) x0 (ix3 s h c) = ((K s (hc h c) : ℝ) : EReal) := by
  rw [val_main_v5_apply, val_main_v2_apply, ← H.k]
  refine congrArg x0 (funext fun a => ?_)
  match a with
  | ⟨0, _⟩ => apply Fin.ext; show ((s.val * 4 + h.val) * 64 + c.val) / 256 = s.val; omega
  | ⟨1, _⟩ => apply Fin.ext; show 2560 + ((s.val * 4 + h.val) * 64 + c.val) % 256 = 2560 + (64 * h.val + c.val); omega

theorem v_head : val_main_v6 (F := Ideal) x0 (ix3 s h c) = ((V s (hc h c) : ℝ) : EReal) := by
  rw [val_main_v6_apply, val_main_v3_apply, ← H.v]
  refine congrArg x0 (funext fun a => ?_)
  match a with
  | ⟨0, _⟩ => apply Fin.ext; show ((s.val * 4 + h.val) * 64 + c.val) / 256 = s.val; omega
  | ⟨1, _⟩ => apply Fin.ext; show 2816 + ((s.val * 4 + h.val) * 64 + c.val) % 256 = 2816 + (64 * h.val + c.val); omega

theorem d_head : val_main_v30 (F := Ideal) x1 (ix3 h c s) = ((DO s (hc h c) : ℝ) : EReal) := by
  rw [val_main_v30_apply, val_main_v29_apply, ← H.d]
  refine congrArg x1 (funext fun a => ?_)
  match a with
  | ⟨0, _⟩ => apply Fin.ext; show ((s.val * 4 + h.val) * 64 + c.val) / 256 = s.val; omega
  | ⟨1, _⟩ => apply Fin.ext; show ((s.val * 4 + h.val) * 64 + c.val) % 256 = 64 * h.val + c.val; omega

/-! ## The logits and the mask -/

omit H in
theorem bits_eighth : Ideal.ofBits .f32 1040187392#32 = ((1 / 8 : ℝ) : EReal) := by
  simp [Ideal.ofBits, Ideal.ieee, -EReal.coe_mul]; norm_num

omit H in
theorem rowN_at (X : Fin 8192 → Fin 256 → ℝ) : rowN X t.val j = X t j := dif_pos t.isLt

theorem logit_at : val_main_v9 (F := Ideal) x0 (ix3 h s t) = ((logit Q K h s t.val : ℝ) : EReal) := by
  rw [val_main_v9_apply, val_main_v7_apply, val_main_v8_apply, val_main_cst_apply]
  have e : ∀ k : Fin 64, val_main_v4 (F := Ideal) x0 (lidx_main_v7 (ix3 h s t) k) * val_main_v5 (F := Ideal) x0 (ridx_main_v7 (ix3 h s t) k)
      = ((Q s (hc h k) * rowN K t.val (hc h k) : ℝ) : EReal) := by
    intro k
    rw [rowN_at, ← mul_real, ← q_head H, ← k_head H]
    refine congrArg₂ (· * ·) (congrArg _ (funext fun a => ?_)) (congrArg _ (funext fun a => ?_))
    · match a with
      | ⟨0, _⟩ => rfl
      | ⟨1, _⟩ => rfl
      | ⟨2, _⟩ => rfl
    · match a with
      | ⟨0, _⟩ => rfl
      | ⟨1, _⟩ => rfl
      | ⟨2, _⟩ => rfl
  simp only [e, sum_real]
  exact (congrArg _ bits_eighth).trans (mul_real _ _)

omit H in
theorem mask_at : val_main_v15 (F := Ideal) (ix2 s t) = if t.val < s.val then 1#1 else 0#1 := by
  rw [val_main_v15_apply, val_main_v13_apply, val_main_v14_apply, val_main_v11_apply, val_main_v12_apply, val_main_v10_apply,
    val_main_v10_apply]
  exact (WordCmp.cmpi_slt_ofNat (w := 32) (a := t.val) (b := s.val) (by omega) (by omega)).trans
    (by by_cases hp : t.val < s.val <;> simp [hp])

omit H in
theorem mask_late : val_main_v18_1 (F := Ideal) (ix3 h s t) = if t.val < s.val then 1#1 else 0#1 := by
  rw [val_main_v18_1_apply, ← mask_at]
  exact congrArg _ (funext fun a => match a with | ⟨0, _⟩ => rfl | ⟨1, _⟩ => rfl)

omit H in
theorem mask_here : val_main_v24_1 (F := Ideal) (ix3 h s t) = if t.val < s.val then 1#1 else 0#1 := by
  rw [val_main_v24_1_apply, ← mask_at]
  exact congrArg _ (funext fun a => match a with | ⟨0, _⟩ => rfl | ⟨1, _⟩ => rfl)

omit H in
/-- A choice by the mask between a real number and zero. -/
theorem select_mask (p : Prop) [Decidable p] (x : ℝ) :
    Scalar.select (if p then 1#1 else 0#1) ((x : ℝ) : EReal) (Ideal.ofBits .f32 0#32) = ((if p then x else 0 : ℝ) : EReal) := by
  rw [bits_zero]
  by_cases hp : p <;> simp [hp, Scalar.select]

/-! ## The weights and the output -/

theorem late_at : val_main_v17_0 (F := Ideal) x0 (ix3 h s t) = ((-sp (logit Q K h s t.val) : ℝ) : EReal) := by
  have e : val_main_call0_v0 (F := Ideal) x0 (ix3 h s t) = ((logit Q K h s t.val : ℝ) : EReal) := by
    rw [val_main_call0_v0_apply, val_main_v16_apply, logit_at H]
    pointwise
    simp only [neg_real, neg_neg]
  rw [val_main_v17_0_apply, softplus_late e]
  exact neg_real _

theorem slope_late_at : val_main_v17_1 (F := Ideal) x0 (ix3 h s t) = ((SbSpec.sig (logit Q K h s t.val) : ℝ) : EReal) := by
  refine slope_late ?_
  rw [val_main_call0_v0_apply, val_main_v16_apply, logit_at H]
  pointwise
  simp only [neg_real, neg_neg]

theorem here_at : val_main_v21_0 (F := Ideal) x0 (ix3 h s t) = ((-sp (-logit Q K h s t.val) : ℝ) : EReal) := by
  have e : val_main_call3_v0 (F := Ideal) x0 (ix3 h s t) = ((-logit Q K h s t.val : ℝ) : EReal) := by
    rw [val_main_call3_v0_apply, logit_at H]
    exact neg_real _
  rw [val_main_v21_0_apply, softplus_here e]
  exact neg_real _

theorem slope_here_at : val_main_v21_1 (F := Ideal) x0 (ix3 h s t) = ((SbSpec.sig (-logit Q K h s t.val) : ℝ) : EReal) := by
  refine slope_here ?_
  rw [val_main_call3_v0_apply, logit_at H]
  exact neg_real _

theorem factor_at : val_main_v18_0 (F := Ideal) x0 (ix3 h s t) = ((rlf s.val (logit Q K h s) t.val : ℝ) : EReal) := by
  rw [val_main_v18_0_apply, mask_late, late_at H, val_main_call1_v2_apply, val_main_call1_v0_apply, val_main_cst_0_apply]
  exact select_mask _ _

theorem factor_entry {u : ℕ} (hu : u < 8192) :
    entry (val_main_v18_0 (F := Ideal) x0) h s u = ((rlf s.val (logit Q K h s) u : ℝ) : EReal) := by
  rw [entry, dif_pos hu]
  exact factor_at H h s ⟨u, hu⟩

theorem factors_at : val_main_v19 (F := Ideal) x0 (ix3 h s t)
    = ((∑ u ∈ Finset.Ico t.val 8192, rlf s.val (logit Q K h s) u : ℝ) : EReal) := by
  unfold val_main_v19
  refine (sum_from (val_main_v18_0 (F := Ideal) x0) _ (fun i => ?_) _ _ h s t).trans ?_
  · rw [val_main_call2_v0_apply, val_main_call2_cst_apply]; exact bits_zero.trans zero_real.symm
  · rw [← sum_real]
    exact Finset.sum_congr rfl fun u hu => factor_entry H h s (Finset.mem_Ico.mp hu).2

theorem exp_at : val_main_v23 (F := Ideal) x0 (ix3 h s t)
    = ((Real.exp (-sp (-logit Q K h s t.val)
        + (∑ u ∈ Finset.Ico t.val 8192, rlf s.val (logit Q K h s) u - rlf s.val (logit Q K h s) t.val)) : ℝ) : EReal) := by
  rw [val_main_v23_apply, val_main_v22_apply, val_main_v20_apply, here_at H, factors_at H, factor_at H]
  pointwise
  rw [sub_real, add_real, exp_real]

omit H in
theorem exp_weight {n u : ℕ} (hn : u < n) (z : ℕ → ℝ) :
    Real.exp (-sp (-z u) + (∑ u ∈ Finset.Ico u 8192, rlf n z u - rlf n z u)) = rA n z u := by
  rw [rA, if_pos hn, ← sub_sp, show rlf n z u = -sp (z u) from if_pos hn]
  congr 1; ring

theorem weight_at : val_main_v24_0 (F := Ideal) x0 (ix3 h s t) = ((weight Q K h s t.val : ℝ) : EReal) := by
  rw [val_main_v24_0_apply, mask_here, exp_at H, val_main_call4_v2_apply, val_main_call4_v0_apply, val_main_cst_1_apply]
  refine (select_mask _ _).trans (congrArg _ ?_)
  unfold weight
  by_cases hn : t.val < s.val
  · rw [if_pos hn, exp_weight hn]
  · rw [if_neg hn, rA, if_neg hn]

omit H in
theorem hc_split (j : Fin 256) (h : Fin 4) (c : Fin 64) (e0 : h.val = j.val / 64) (e1 : c.val = j.val % 64) : hc h c = j := by
  apply Fin.ext; show 64 * h.val + c.val = _; omega

/-- The reference's output. -/
theorem out_at : val_main_v27 (F := Ideal) x0 (ix2 s j) = ((out Q K V s j : ℝ) : EReal) := by
  rw [val_main_v27_apply, val_main_v26_apply, val_main_v25_apply]
  unfold out
  rw [← sum_real]
  refine Finset.sum_congr rfl fun t _ => ?_
  rw [← mul_real, ← weight_at H]
  have hj : hc (headOf j) ⟨j.val % 64, by omega⟩ = j := hc_split j _ _ rfl rfl
  conv => rhs; rw [← hj]
  rw [← v_head H]
  refine congrArg₂ (· * ·) (congrArg _ (funext fun a => ?_)) (congrArg _ (funext fun a => ?_))
  · match a with
    | ⟨0, _⟩ => rfl
    | ⟨1, _⟩ => apply Fin.ext; show (s.val * 256 + j.val) / 64 % 4 = j.val / 64; omega
    | ⟨2, _⟩ => apply Fin.ext; show (s.val * 256 + j.val) % 64 = j.val % 64; omega
  · match a with
    | ⟨0, _⟩ => apply Fin.ext; show (s.val * 256 + j.val) / 64 % 4 = _; rw [hj]; show _ = j.val / 64; omega
    | ⟨1, _⟩ => apply Fin.ext; show (s.val * 256 + j.val) / 256 = s.val; omega
    | ⟨2, _⟩ => rfl

/-! ## The gradients -/

theorem cotan_at : val_main_v31 (F := Ideal) x0 x1 (ix3 h s t) = ((cotan V DO h s t.val : ℝ) : EReal) := by
  rw [val_main_v31_apply]
  unfold cotan
  rw [← sum_real]
  refine Finset.sum_congr rfl fun k _ => ?_
  rw [rowN_at, ← mul_real, ← d_head H, ← v_head H]
  refine congrArg₂ (· * ·) (congrArg _ (funext fun a => ?_)) (congrArg _ (funext fun a => ?_))
  · match a with
    | ⟨0, _⟩ => rfl
    | ⟨1, _⟩ => rfl
    | ⟨2, _⟩ => rfl
  · match a with
    | ⟨0, _⟩ => rfl
    | ⟨1, _⟩ => rfl
    | ⟨2, _⟩ => rfl

theorem weighted_at : val_main_v35 (F := Ideal) x0 x1 (ix3 h s t)
    = ((rG s.val (logit Q K h s) (cotan V DO h s) t.val : ℝ) : EReal) := by
  have e : val_main_v34 (F := Ideal) x0 x1 (ix3 h s t) = ((if t.val < s.val then cotan V DO h s t.val else 0 : ℝ) : EReal) := by
    rw [val_main_v34_apply, mask_here, cotan_at H, val_main_call5_v0_apply, val_main_call5_cst_apply]
    exact select_mask _ _
  rw [val_main_v35_apply, e, exp_at H]
  refine (mul_real _ _).trans (congrArg _ ?_)
  unfold rG
  by_cases hn : t.val < s.val
  · rw [if_pos hn, exp_weight hn, mul_comm]
  · rw [if_neg hn, rA, if_neg hn, zero_mul, zero_mul]

theorem weighted_entry {u : ℕ} (hu : u < 8192) : entry (val_main_v35 (F := Ideal) x0 x1) h s u
    = ((rG s.val (logit Q K h s) (cotan V DO h s) u : ℝ) : EReal) := by
  rw [entry, dif_pos hu]
  exact weighted_at H h s ⟨u, hu⟩

theorem earlier_at : val_main_v38 (F := Ideal) x0 x1 (ix3 h s t)
    = ((∑ u ∈ Finset.range (t.val + 1), rG s.val (logit Q K h s) (cotan V DO h s) u : ℝ) : EReal) := by
  unfold val_main_v38
  refine (sum_upto (val_main_v35 (F := Ideal) x0 x1) _ (fun i => ?_) _ _ h s t).trans ?_
  · rw [val_main_call7_v0_apply, val_main_call7_cst_apply]; exact bits_zero.trans zero_real.symm
  · rw [← sum_real]
    exact Finset.sum_congr rfl fun u hu => weighted_entry H h s (by have := Finset.mem_range.mp hu; omega)

omit H in
/-- The two branches of the reference's derivative together. -/
theorem branches (n u : ℕ) (z o : ℕ → ℝ) :
    -(-rG n z o u * SbSpec.sig (-z u))
        + -(-(-(if u < n then -rG n z o u + ∑ v ∈ Finset.range (u + 1), rG n z o v else 0) * SbSpec.sig (z u)))
      = rdz n z o u := by
  have h := sig_add (z u)
  unfold rdz
  by_cases hn : u < n
  · rw [if_pos hn, if_pos hn]
    linear_combination rG n z o u * h
  · have e : rG n z o u = 0 := by rw [rG, rA, if_neg hn, zero_mul]
    rw [if_neg hn, if_neg hn, e]
    ring

theorem dlogit_at : val_main_v45 (F := Ideal) x0 x1 (ix3 h s t) = ((dlogit Q K V DO h s t.val * (1 / 8) : ℝ) : EReal) := by
  have e : val_main_v40 (F := Ideal) x0 x1 (ix3 h s t) = ((if t.val < s.val then -rG s.val (logit Q K h s) (cotan V DO h s) t.val
      + ∑ v ∈ Finset.range (t.val + 1), rG s.val (logit Q K h s) (cotan V DO h s) v else 0 : ℝ) : EReal) := by
    have e9 : val_main_v39 (F := Ideal) x0 x1 (ix3 h s t) = ((-rG s.val (logit Q K h s) (cotan V DO h s) t.val
        + ∑ v ∈ Finset.range (t.val + 1), rG s.val (logit Q K h s) (cotan V DO h s) v : ℝ) : EReal) := by
      rw [val_main_v39_apply, val_main_v37_apply, weighted_at H, earlier_at H, ← add_real, ← neg_real]
      pointwise
    rw [val_main_v40_apply, mask_late, e9, val_main_call8_v0_apply, val_main_call8_cst_apply]
    exact select_mask _ _
  rw [val_main_v45_apply, val_main_v44_apply, val_main_cst_2_apply, val_main_v43_apply, val_main_v42_apply, val_main_v41_apply,
    val_main_call9_v1_apply, val_main_call9_v0_apply, val_main_v36_apply, val_main_call6_v1_apply, val_main_call6_v0_apply, e,
    weighted_at H, slope_late_at H, slope_here_at H]
  pointwise
  simp only [bits_eighth, neg_real, mul_real, add_real, branches]
  rfl

theorem gradQ_at : val_main_v52 (F := Ideal) x0 x1 (ix2 s j) = ((gradQ Q K V DO s j : ℝ) : EReal) := by
  rw [val_main_v52_apply, val_main_v49_apply, val_main_v48_apply]
  unfold gradQ
  rw [← sum_real]
  refine Finset.sum_congr rfl fun t _ => ?_
  rw [← mul_real, ← dlogit_at H]
  have hj : hc (headOf j) ⟨j.val % 64, by omega⟩ = j := hc_split j _ _ rfl rfl
  conv => rhs; rw [← hj]
  rw [← k_head H]
  refine congrArg₂ (· * ·) (congrArg _ (funext fun a => ?_)) (congrArg _ (funext fun a => ?_))
  · match a with
    | ⟨0, _⟩ => apply Fin.ext; show (s.val * 256 + j.val) / 64 % 4 = _; rw [hj]; show _ = j.val / 64; omega
    | ⟨1, _⟩ => apply Fin.ext; show (s.val * 256 + j.val) / 256 = s.val; omega
    | ⟨2, _⟩ => rfl
  · match a with
    | ⟨0, _⟩ => rfl
    | ⟨1, _⟩ => apply Fin.ext; show (s.val * 256 + j.val) / 64 % 4 = j.val / 64; omega
    | ⟨2, _⟩ => apply Fin.ext; show (s.val * 256 + j.val) % 64 = j.val % 64; omega

theorem gradK_at : val_main_v51 (F := Ideal) x0 x1 (ix2 t j) = ((gradK Q K V DO t j : ℝ) : EReal) := by
  rw [val_main_v51_apply, val_main_v47_apply, val_main_v46_apply]
  unfold gradK
  rw [← sum_real]
  refine Finset.sum_congr rfl fun s _ => ?_
  rw [← mul_real, ← dlogit_at H]
  have hj : hc (headOf j) ⟨j.val % 64, by omega⟩ = j := hc_split j _ _ rfl rfl
  conv => rhs; rw [← hj]
  rw [← q_head H]
  refine congrArg₂ (· * ·) (congrArg _ (funext fun a => ?_)) (congrArg _ (funext fun a => ?_))
  · match a with
    | ⟨0, _⟩ => apply Fin.ext; show (t.val * 256 + j.val) / 64 % 4 = _; rw [hj]; show _ = j.val / 64; omega
    | ⟨1, _⟩ => rfl
    | ⟨2, _⟩ => apply Fin.ext; show (t.val * 256 + j.val) / 256 = t.val; omega
  · match a with
    | ⟨0, _⟩ => rfl
    | ⟨1, _⟩ => apply Fin.ext; show (t.val * 256 + j.val) / 64 % 4 = j.val / 64; omega
    | ⟨2, _⟩ => apply Fin.ext; show (t.val * 256 + j.val) % 64 = j.val % 64; omega

theorem gradV_at : val_main_v50 (F := Ideal) x0 x1 (ix2 t j) = ((gradV Q K DO t j : ℝ) : EReal) := by
  rw [val_main_v50_apply, val_main_v33_apply, val_main_v32_apply]
  unfold gradV
  rw [← sum_real]
  refine Finset.sum_congr rfl fun s _ => ?_
  rw [← mul_real, ← weight_at H]
  have hj : hc (headOf j) ⟨j.val % 64, by omega⟩ = j := hc_split j _ _ rfl rfl
  conv => rhs; rw [← hj]
  rw [← d_head H]
  refine congrArg₂ (· * ·) (congrArg _ (funext fun a => ?_)) (congrArg _ (funext fun a => ?_))
  · match a with
    | ⟨0, _⟩ => apply Fin.ext; show (t.val * 256 + j.val) / 64 % 4 = j.val / 64; omega
    | ⟨1, _⟩ => apply Fin.ext; show (t.val * 256 + j.val) % 64 = j.val % 64; omega
    | ⟨2, _⟩ => rfl
  · match a with
    | ⟨0, _⟩ => apply Fin.ext; show (t.val * 256 + j.val) / 64 % 4 = _; rw [hj]; show _ = j.val / 64; omega
    | ⟨1, _⟩ => rfl
    | ⟨2, _⟩ => apply Fin.ext; show (t.val * 256 + j.val) / 256 = t.val; omega

end Cert.SbReference

end
-- ==== Proof.Sb.lean ====
/-
  The stick-breaking attention's backward pass: the kernel's run and the reference's run end with the same gradients.
-/
module

public import proofs.«01_k».proof.Defs
public import proofs.«01_k».proof.Proof.SbSaved
public import proofs.«01_k».proof.Proof.SbEq
public import proofs.«01_k».proof.Proof.SbReference
public import proofs.«01_k».proof.Proof.Gen.Pre_finite2
public import Idealize.ShloMosaic.Lib.Claim

@[expose] public section

noncomputable section

namespace Cert.SbProof

open Idealize.ShloMosaic Idealize.SL.Sem Cert.RealOps Cert.SbSpec

/-- The reference runs and ends quiescent, its arguments unchanged. -/
theorem reference_frame : Cert.quiescent_Reference2Ideal := fun m ρ _ =>
  θ_run_mono (Cert.Reference2Ideal.Value.run m ρ) fun r h =>
    ⟨fun c => (h c).2.2.2, sem_eq_zero_of_no_sems (by decide) _⟩

theorem preserves : Cert.preserves_Kernel2_Kernel2Ideal :=
  ⟨IdealRules.named_const.statement _ _ _ _ _ rfl, IdealRules.named_const.statement _ _ _ _ _ rfl⟩

variable {m : (ℓ : Loc Cert.Kernel2Ideal.nD Cert.Kernel2Ideal.τ Cert.Kernel2Ideal.sig) → Buf (Elt Ideal) ℓ}

/-- The arrays of real numbers that finite arguments are. -/
theorem reals (hpre : Cert.Pre_Kernel2Ideal_finite2 m) (c : Dev Cert.Kernel2Ideal.nD) :
    ∃ (X : Fin 8192 → Fin 5120 → ℝ) (DO : Fin 8192 → Fin 256 → ℝ),
      (∀ s k, (m (c.tc.loc Cert.Kernel2Ideal.main_arg0) : Vec Ideal Cert.Kernel2Ideal.S8192x5120 .bf16) (ix2 s k) = (X s k : EReal))
      ∧ (∀ s k, (m (c.tc.loc Cert.Kernel2Ideal.main_arg1) : Vec Ideal Cert.Kernel2Ideal.S8192x256 .bf16) (ix2 s k) = (DO s k : EReal)) := by
  obtain ⟨h0, h1⟩ := hpre c
  exact ⟨fun s k => ((m (c.tc.loc Cert.Kernel2Ideal.main_arg0) : Vec Ideal Cert.Kernel2Ideal.S8192x5120 .bf16) (ix2 s k)).toReal,
    fun s k => ((m (c.tc.loc Cert.Kernel2Ideal.main_arg1) : Vec Ideal Cert.Kernel2Ideal.S8192x256 .bf16) (ix2 s k)).toReal,
    fun s k => real_of_lt_top (bits_top16 ▸ congrFun h0 (ix2 s k)), fun s k => real_of_lt_top (bits_top16 ▸ congrFun h1 (ix2 s k))⟩

section Run

open Cert.Kernel2Ideal Cert.Kernel2Ideal.Gen Idealize.ShloMosaic.TcCoe

theorem run_blocks (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v28_0) = (dats m 0 c).arrAt 5 (cfg0 (F := Ideal)).N
      ∧ r.2.mem ((c : Thread nD τ).loc main_v28_1) = (dats m 0 c).arrAt 6 (cfg0 (F := Ideal)).N
      ∧ r.2.mem ((c : Thread nD τ).loc main_v28_2) = (dats m 0 c).arrAt 7 (cfg0 (F := Ideal)).N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h.1 c).1 5, (h.1 c).1 6, (h.1 c).1 7,
      ((h.1 c).1 0).trans (((dats m 0 c).arrAt_in 0 rfl _).trans ((A_eq m c 0).trans (V_main_arg0 m c))),
      ((h.1 c).1 3).trans (((dats m 0 c).arrAt_in 3 rfl _).trans ((A_eq m c 3).trans (V_main_arg1 m c)))⟩) (run_main m ρ)

end Run

theorem algebraic : Cert.algebraic_Kernel2Ideal_Reference2Ideal_pre_finite2 := by
  intro m g m' g' hpre hagree
  refine ⟨fun c => (dats m 0 c).arrAt 5 (Cert.Kernel2Ideal.cfg0 (F := Ideal)).N, fun c => (dats m 0 c).arrAt 6 (Cert.Kernel2Ideal.cfg0 (F := Ideal)).N,
    fun c => (dats m 0 c).arrAt 7 (Cert.Kernel2Ideal.cfg0 (F := Ideal)).N, run_blocks m g, ?_⟩
  · refine θ_run_mono (Cert.Reference2Ideal.Value.run m' g') fun r h c => ?_
    obtain ⟨r0, r1, r2, k⟩ := h c
    obtain ⟨X, DO, hX, hD⟩ := reals hpre c
    obtain ⟨a0, a1⟩ := hagree c
    have H : SbReference.Args (m (c.tc.loc Cert.Kernel2Ideal.main_arg0)) (m (c.tc.loc Cert.Kernel2Ideal.main_arg1))
        (fun s k => X s ⟨2304 + k.val, by omega⟩) (fun s k => X s ⟨2560 + k.val, by omega⟩) (fun s k => X s ⟨2816 + k.val, by omega⟩) DO :=
      ⟨fun _ _ => hX _ _, fun _ _ => hX _ _, fun _ _ => hX _ _, hD⟩
    have hk : Reads m c _ _ _ DO (out _ _ _) := ⟨H.q, H.k, H.v, H.d, fun s k => by
      rw [saved_eq]; exact SbReference.out_at H s k⟩
    refine ⟨r0.trans ?_, r1.trans ?_, r2.trans ?_, k⟩
    · refine Eq.trans ?_ (dq_array hk).symm
      rw [Cert.Reference2Ideal.Read.val_main_v52_eq, a0, a1]
      exact funext fun i => (congrArg _ (eq_ix2 (n0 := 8192) (n1 := 256) i)).trans
        ((SbReference.gradQ_at H (i 0) (i 1)).trans (congrArg _ (dq_eq _ _ _ _ (i 0) (i 1)).symm))
    · refine Eq.trans ?_ (dk_array hk).symm
      rw [Cert.Reference2Ideal.Read.val_main_v51_eq, a0, a1]
      exact funext fun i => (congrArg _ (eq_ix2 (n0 := 8192) (n1 := 256) i)).trans
        ((SbReference.gradK_at H (i 0) (i 1)).trans (congrArg _ (dk_eq _ _ _ _ (i 0) (i 1)).symm))
    · refine Eq.trans ?_ (dv_array hk).symm
      rw [Cert.Reference2Ideal.Read.val_main_v50_eq, a0, a1]
      exact funext fun i => (congrArg _ (eq_ix2 (n0 := 8192) (n1 := 256) i)).trans
        ((SbReference.gradV_at H (i 0) (i 1)).trans (congrArg _ (dv_eq _ _ _ (i 0) (i 1)).symm))

end Cert.SbProof

end
-- ==== Proof.NormSpec.lean ====
/-
  The derivative of a product with a normalised row, over the real numbers: the cotangent of the product is taken back
  through the weights, then through the norm.
-/
module

public import proofs.«01_k».proof.Proof.LossSpec

@[expose] public section

noncomputable section

namespace Cert.Norm

open Cert.RealOps
open Cert.Loss (rs)

/-- The cotangent of the normalised row. -/
def back {S K : ℕ} (Y : Fin S → Fin K → ℝ) (W : Fin 1024 → Fin K → ℝ) (s : Fin S) (k : Fin 1024) : ℝ := ∑ l, Y s l * W k l

/-- The derivative in the input: what passes by the norm, and what comes through it. -/
def dx {S : ℕ} (X : Fin S → Fin 1024 → ℝ) (g : Fin 1024 → ℝ) (H D : Fin S → Fin 1024 → ℝ) (s : Fin S) (k : Fin 1024) : ℝ :=
  D s k + rs X s * (H s k * g k - X s k * rs X s * ((∑ j, H s j * g j * (X s j * rs X s)) / 1024))

/-- One row's part of the derivative in the scale. -/
def rowDg {S : ℕ} (X H : Fin S → Fin 1024 → ℝ) (s : Fin S) (k : Fin 1024) : ℝ := H s k * (X s k * rs X s)

end Cert.Norm

end
-- ==== Proof.NormKernel.lean ====
/-
  What the kernel of the product's derivative with the norm's continued leaves in its two result arrays, over the real
  numbers.
-/
module

public import proofs.«01_k».proof.Proof.NormSpec
public import proofs.«01_k».proof.Proof.Gen.Kernel3Ideal.Value
public import Idealize.ShloMosaic.Lib.Pipeline.ValueKit.Point
public import Idealize.ShloMosaic.Adequacy

@[expose] public section

noncomputable section

namespace Cert.NormKernel

open Cert.Kernel3Ideal Cert.Kernel3Ideal.Gen Idealize.ShloMosaic Idealize.ShloMosaic.TcCoe Idealize.SL.Sem
open Idealize.ShloMosaic.Pipeline (Dat)
open Cert.RealOps Cert.Norm
open Cert.Loss (rs ms_pos)

section Block

variable (y : Vec Ideal S512x5120 .bf16) (w : Vec Ideal S1024x5120 .bf16) (x : Vec Ideal S512x1024 .f32)
  (gv : Vec Ideal S1x1024 .f32) (d : Vec Ideal S512x1024 .f32)
variable (Y : Fin 512 → Fin 5120 → ℝ) (W : Fin 1024 → Fin 5120 → ℝ) (X : Fin 512 → Fin 1024 → ℝ) (g : Fin 1024 → ℝ)
  (D : Fin 512 → Fin 1024 → ℝ)

/-- The normalising factor at a block of real rows. -/
theorem rsqrt_ms (s : Fin 512) :
    Ideal.rsqrt (((∑ k, X s k * X s k) / 1024 + eps : ℝ) : EReal) = ((rs X s : ℝ) : EReal) :=
  rsqrt_real (ms_pos X s)

theorem factor_block (hx : ∀ s k, x (ix2 s k) = X s k) (s : Fin 512) :
    k0_pay4 (F := Ideal) x (ix2 s 0) = ((rs X s : ℝ) : EReal) := by
  unfold_payloads
  pointwise
  simp only [hx, bits_width, bits_eps, mul_real, sum_real, div_real _ (by norm_num : (1024 : ℝ) ≠ 0), add_real, rsqrt_ms]

theorem back_block (hy : ∀ s k, y (ix2 s k) = Y s k) (hw : ∀ s k, w (ix2 s k) = W s k) (s : Fin 512) (k : Fin 1024) :
    k0_pay3 (F := Ideal) y w (ix2 s k) = ((back Y W s k : ℝ) : EReal) := by
  unfold k0_pay3
  pointwise
  simp only [hy, hw, mul_real, sum_real]
  rfl

theorem dx_block (hy : ∀ s k, y (ix2 s k) = Y s k) (hw : ∀ s k, w (ix2 s k) = W s k) (hx : ∀ s k, x (ix2 s k) = X s k)
    (hg : ∀ k, gv (ix2 0 k) = g k) (hd : ∀ s k, d (ix2 s k) = D s k) (s : Fin 512) (k : Fin 1024) :
    k0_pay1 (F := Ideal) (k0_pay4 x) (k0_pay5 x) (k0_pay7 y w gv) d (k0_pay8 y w x gv) (ix2 s k)
      = ((dx X g (back Y W) D s k : ℝ) : EReal) := by
  unfold k0_pay1 k0_pay8 k0_pay7 k0_pay5
  pointwise
  simp only [hx, hg, hd, factor_block x X hx, back_block y w Y W hy hw, bits_width, mul_real, sum_real,
    div_real _ (by norm_num : (1024 : ℝ) ≠ 0), add_real, sub_real]
  rfl

theorem dg_block (hy : ∀ s k, y (ix2 s k) = Y s k) (hw : ∀ s k, w (ix2 s k) = W s k) (hx : ∀ s k, x (ix2 s k) = X s k)
    (v : Vec Ideal S1x1024 .f32) (k : Fin 1024) :
    k0_pay6 (F := Ideal) y w x v (ix2 0 k) = v (ix2 0 k) + ((∑ s, rowDg X (back Y W) s k : ℝ) : EReal) := by
  unfold k0_pay6 k0_pay5
  pointwise
  simp only [hx, factor_block x X hx, back_block y w Y W hy hw, mul_real, sum_real]
  rfl

end Block

variable (m : (ℓ : Loc nD τ sig) → Buf (Elt Ideal) ℓ) (ρ : Dev nD → PrngReg) (c : Dev nD)
variable (Y : Fin 8192 → Fin 5120 → ℝ) (W : Fin 1024 → Fin 5120 → ℝ) (X : Fin 8192 → Fin 1024 → ℝ) (g : Fin 1024 → ℝ)
  (D : Fin 8192 → Fin 1024 → ℝ)

/-- Row `s` of block `t` in the whole array. -/
def row (t : Fin cfg0.N) (s : Fin 512) : Fin 8192 :=
  ⟨t.val * 512 + s.val, by have := t.isLt; have h : cfg0.N = 16 := by decide
                           have := s.isLt; omega⟩

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)

/-- The arguments as real arrays. -/
structure Reads : Prop where
  y : ∀ s k, m ((c.tc : Thread nD τ).loc main_arg0) (ix2 s k) = ((Y s k : ℝ) : EReal)
  w : ∀ s k, m ((c.tc : Thread nD τ).loc main_arg1) (ix2 s k) = ((W s k : ℝ) : EReal)
  x : ∀ s k, m ((c.tc : Thread nD τ).loc main_arg2) (ix2 s k) = ((X s k : ℝ) : EReal)
  g : ∀ k, m ((c.tc : Thread nD τ).loc main_arg3) (ix1 k) = ((g k : ℝ) : EReal)
  d : ∀ s k, m ((c.tc : Thread nD τ).loc main_arg4) (ix2 s k) = ((D s k : ℝ) : EReal)

variable {m c Y W X g D}

theorem blk0 (h : Reads m c Y W X g D) (t : Fin cfg0.N) (s : Fin 512) (k : Fin 5120) :
    (iblk m c 0 t : Vec Ideal S512x5120 .bf16) (ix2 s k) = ((Y (row t s) k : ℝ) : EReal) := by
  rw [← h.y]
  blk_ext! [iblk, V, idx0, row]

theorem blk1 (h : Reads m c Y W X g D) (t : Fin cfg0.N) (s : Fin 1024) (k : Fin 5120) :
    (iblk m c 1 t : Vec Ideal S1024x5120 .bf16) (ix2 s k) = ((W s k : ℝ) : EReal) := by
  rw [← h.w]
  blk_ext! [iblk, V, idx1, row]

theorem blk2 (h : Reads m c Y W X g D) (t : Fin cfg0.N) (s : Fin 512) (k : Fin 1024) :
    (iblk m c 2 t : Vec Ideal S512x1024 .f32) (ix2 s k) = ((X (row t s) k : ℝ) : EReal) := by
  rw [← h.x]
  blk_ext! [iblk, V, idx2, row]

theorem blk3 (h : Reads m c Y W X g D) (t : Fin cfg0.N) (k : Fin 1024) :
    (iblk m c 3 t : Vec Ideal S1x1024 .f32) (ix2 0 k) = ((g k : ℝ) : EReal) := by
  rw [← h.g]
  blk_ext! [iblk, V, idx3, row]

theorem blk4 (h : Reads m c Y W X g D) (t : Fin cfg0.N) (s : Fin 512) (k : Fin 1024) :
    (iblk m c 4 t : Vec Ideal S512x1024 .f32) (ix2 s k) = ((D (row t s) k : ℝ) : EReal) := by
  rw [← h.d]
  blk_ext! [iblk, V, idx4, row]

/-- The input's derivative, whole. -/
theorem dx_array (h : Reads m c Y W X g D) :
    (dats m 0 c).arrAt 5 cfg0.N = fun i : S8192x1024.Idx => ((dx X g (back Y W) D (i 0) (i 1) : ℝ) : EReal) := by
  refine (dats m 0 c).arrAt_eq_of_covers 5 _ (by decide +kernel) fun t hf y => ?_
  blk_simp
  have key := dx_block (iblk m c 0 t) (iblk m c 1 t) (iblk m c 2 t) (iblk m c 3 t) (iblk m c 4 t) _ _ _ _ _
    (blk0 h t) (blk1 h t) (blk2 h t) (blk3 h t) (blk4 h t) (y 0) (y 1)
  have e0 : (((View.whole main_v1_0).slice (win0_5.rect t)).emb y 0 : Fin 8192) = row t (y 0) := by
    apply Fin.ext; blk_simp [idx5, row]
  have e1 : (((View.whole main_v1_0).slice (win0_5.rect t)).emb y 1 : Fin 1024) = y 1 := by
    apply Fin.ext; blk_simp [idx5]
  rw [after0_5, e0, e1]
  by_cases h' : t.val % 16 = 0
  · rw [outsAt0_A m c t h']; frame_out
    exact (congrArg _ (eq_ix2 (n0 := 512) (n1 := 1024) y)).trans key
  · rw [outsAt0_B m c t h']; frame_out
    exact (congrArg _ (eq_ix2 (n0 := 512) (n1 := 1024) y)).trans key

/-- The last point of the grid. -/
theorem last_point {t : Fin cfg0.N} (h : t.val % 16 = 15) : t.val + 1 = cfg0.N := by
  have h16 : cfg0.N = 16 := N_0
  have := t.isLt
  omega

/-- The rows of the sixteen blocks are the rows of the array. -/
theorem sum_rows (f : Fin 8192 → ℝ) : ∑ t : Fin cfg0.N, ∑ s : Fin 512, f (row t s) = ∑ s, f s :=
  Fin.sum_mul_add_congr fun _ _ _ => rfl

/-- The scale's derivative. -/
theorem dg_array (h : Reads m c Y W X g D) :
    (dats m 0 c).arrAt 6 cfg0.N = fun i : S1x1024.Idx => ((∑ s, rowDg X (back Y W) s (i 1) : ℝ) : EReal) := by
  refine (dats m 0 c).arrAt_eq_of_covers 6 _ (by decide +kernel) fun t hf y => ?_
  blk_simp
  have hix : ∀ j : S1x1024.Idx, j = ix2 0 (j 1) := fun j =>
    (eq_ix2 (n0 := 1) (n1 := 1024) j).trans (congrArg (fun a => ix2 a (j 1)) (Subsingleton.elim (α := Fin 1) _ _))
  have e1 : (((View.whole main_v1_1).slice (win0_6.rect t)).emb y 1 : Fin 1024) = y 1 := by
    apply Fin.ext; blk_simp [idx6]
  rw [after0_6, e1]
  rw [Pipeline.eq_sum_fin_of_reset_step_apply_last (fun n h => (outsAt0 m c n h).2) 16 (fun _ => 0)
     (fun t (j : S1x1024.Idx) => ((∑ s, rowDg (fun s => X (row t s)) (back (fun s => Y (row t s)) W) s (j 1) : ℝ) : EReal))
      (fun t h' j => by
         rw [outsAt0_A m c t h']; frame_out
         obtain ⟨k, rfl⟩ : ∃ k : Fin 1024, j = ix2 0 k := ⟨_, hix j⟩
         refine (dg_block _ _ _ _ _ _ (blk0 h t) (blk1 h t) (blk2 h t) _ k).trans ?_
         unfold k0_pay2; pointwise)
      (fun t h' j => by
         rw [outsAt0_B m c t h']; frame_out
         obtain ⟨k, rfl⟩ : ∃ k : Fin 1024, j = ix2 0 k := ⟨_, hix j⟩
         exact dg_block _ _ _ _ _ _ (blk0 h t) (blk1 h t) (blk2 h t) _ k)
      (by decide) t (last_point ((flush0_6 t).mp hf)) y]
  rw [zero_add, sum_real]
  exact congrArg (fun r : ℝ => (r : EReal)) (sum_rows fun s => rowDg X (back Y W) s (y 1))

end Cert.NormKernel

end
-- ==== Proof.NormReference.lean ====
/-
  What the reference's derivative of the product with a normalised row computes, over the real numbers.
-/
module

public import proofs.«01_k».proof.Proof.NormSpec
public import proofs.«01_k».proof.Proof.Gen.Reference3Ideal.Run
public import proofs.«01_k».proof.Proof.Gen.Reference3Ideal.Read
public import Idealize.ShloMosaic.Lib.Pointwise
public import Idealize.ShloMosaic.Adequacy

@[expose] public section

noncomputable section

namespace Cert.NormReference

open Cert.Reference3Ideal Cert.Reference3Ideal.Gen Cert.Reference3Ideal.Read Idealize.ShloMosaic
open Cert.RealOps Cert.Norm
open Cert.Loss (rs ms ms_pos rs_div)

variable {x0 : (⟨S8192x5120, .bf16⟩ : BufTy).Contents (Elt Ideal)} {x1 : (⟨S1024x5120, .bf16⟩ : BufTy).Contents (Elt Ideal)}
  {x2 : (⟨S8192x1024, .f32⟩ : BufTy).Contents (Elt Ideal)} {x3 : (⟨S1024, .f32⟩ : BufTy).Contents (Elt Ideal)}
  {x4 : (⟨S8192x1024, .f32⟩ : BufTy).Contents (Elt Ideal)}
variable {Y : Fin 8192 → Fin 5120 → ℝ} {W : Fin 1024 → Fin 5120 → ℝ} {X : Fin 8192 → Fin 1024 → ℝ} {g : Fin 1024 → ℝ}
  {D : Fin 8192 → Fin 1024 → ℝ}

/-- The normalising factor. -/
theorem factor (h2 : ∀ i, x2 i = X (i 0) (i 1)) (i : S8192x1.Idx) :
    val_main_v7 (F := Ideal) x2 i = ((ms X (i 0) : ℝ) : EReal) ∧ val_main_v8 (F := Ideal) x2 i = ((rs X (i 0) : ℝ) : EReal) := by
  have h7 : val_main_v7 (F := Ideal) x2 i = ((ms X (i 0) : ℝ) : EReal) := by
    simp only [val_main_v7_apply, val_main_v6_apply, val_main_v5_apply, val_main_v4_apply, val_main_v3_apply, val_main_v2_apply,
      val_main_v1_apply, val_main_cst_apply, val_main_cst_0_apply, val_main_cst_1_apply]
    pointwise
    simp only [h2, bits_width, bits_eps, mul_real, sum_real, div_real _ (by norm_num : (1024 : ℝ) ≠ 0), add_real]
    rfl
  refine ⟨h7, ?_⟩
  rw [val_main_v8_apply, h7]
  exact rsqrt_real (ms_pos X _)

/-- Half the derivative of the factor in the mean square. -/
theorem slope (h2 : ∀ i, x2 i = X (i 0) (i 1)) (i : S8192x1.Idx) :
    val_main_v11 (F := Ideal) x2 i = ((-1 / 2 * (rs X (i 0) * rs X (i 0) * rs X (i 0)) : ℝ) : EReal) := by
  simp only [val_main_v11_apply, val_main_v10_apply, val_main_v9_apply, val_main_cst_2_apply, (factor h2 _).1, (factor h2 _).2]
  pointwise
  have key (s : Fin 8192) : Ideal.ofBits .f32 3204448256#32 * Ideal.div ((rs X s : ℝ) : EReal) ((ms X s : ℝ) : EReal)
      = ((-1 / 2 * (rs X s * rs X s * rs X s) : ℝ) : EReal) := by
    rw [bits_neg_half, div_real _ (ms_pos X s).ne', mul_real, rs_div]
  exact key _

/-- The normalised row. -/
theorem normed (h2 : ∀ i, x2 i = X (i 0) (i 1)) (i : S8192x1024.Idx) :
    val_main_v13 (F := Ideal) x2 i = ((X (i 0) (i 1) * rs X (i 0) : ℝ) : EReal) := by
  simp only [val_main_v13_apply, val_main_v12_apply, (factor h2 _).2, h2]
  pointwise
  rw [mul_real]
  rfl

/-- The cotangent of the normalised and scaled row. -/
theorem outGrad (h0 : ∀ i, x0 i = Y (i 0) (i 1)) (h1 : ∀ i, x1 i = W (i 0) (i 1)) (i : S8192x1024.Idx) :
    val_main_v19 (F := Ideal) x0 x1 i = ((back Y W (i 0) (i 1) : ℝ) : EReal) := by
  simp only [val_main_v19_apply, val_main_v18_apply, val_main_v0_apply, h0, h1]
  pointwise
  simp only [mul_real, sum_real]
  rfl

/-- The derivative in the scale. -/
theorem scaleGrad (h0 : ∀ i, x0 i = Y (i 0) (i 1)) (h1 : ∀ i, x1 i = W (i 0) (i 1)) (h2 : ∀ i, x2 i = X (i 0) (i 1))
    (i : S1x1024.Idx) :
    val_main_v41 (F := Ideal) x0 x1 x2 i = ((∑ s, rowDg X (back Y W) s (i 1) : ℝ) : EReal) := by
  have h21 (j : S1024.Idx) : val_main_v21 (F := Ideal) x0 x1 x2 j = ((∑ s, rowDg X (back Y W) s (j 0) : ℝ) : EReal) := by
    simp only [val_main_v21_apply, val_main_v20_apply, val_main_cst_3_apply, normed h2, outGrad h0 h1]
    pointwise
    simp only [mul_real, sum_real]
    exact congrArg (fun r : ℝ => (r : EReal))
      (Finset.sum_congr rfl fun s _ => mul_comm (X s (j 0) * rs X s) (back Y W s (j 0)))
  simp only [val_main_v41_apply, val_main_v25_apply, val_main_v22_apply, val_main_cst_4_apply, h21]
  pointwise
  rw [Fin.sum_univ_one]
  refine congrArg (fun k : Fin 1024 => ((∑ s, rowDg X (back Y W) s k : ℝ) : EReal)) (Fin.ext ?_)
  show 0 * 1024 + ((i 0).val * 1024 + (i 1).val) = (i 1).val
  have h1 : (i 0).val < 1 := (i 0).isLt
  omega

/-- The derivative in the input. -/
theorem inputGrad (h0 : ∀ i, x0 i = Y (i 0) (i 1)) (h1 : ∀ i, x1 i = W (i 0) (i 1)) (h2 : ∀ i, x2 i = X (i 0) (i 1))
    (h3 : ∀ i, x3 i = g (i 0)) (h4 : ∀ i, x4 i = D (i 0) (i 1)) (i : S8192x1024.Idx) :
    val_main_v40 (F := Ideal) x0 x1 x2 x3 x4 i = ((dx X g (back Y W) D (i 0) (i 1) : ℝ) : EReal) := by
  have h24 (j : S8192x1024.Idx) : val_main_v24 (F := Ideal) x0 x1 x3 j = ((back Y W (j 0) (j 1) * g (j 1) : ℝ) : EReal) := by
    simp only [val_main_v24_apply, val_main_v23_apply, val_main_v14_apply, outGrad h0 h1, h3]
    pointwise
    rw [mul_real]
    rfl
  have h34 (j : S8192x1.Idx) : val_main_v34 (F := Ideal) x0 x1 x2 x3 j =
      (((∑ k, X (j 0) k * (back Y W (j 0) k * g k)) * (-1 / 2 * (rs X (j 0) * rs X (j 0) * rs X (j 0))) / 1024 : ℝ) : EReal) := by
    have h27 (k : S8192.Idx) : val_main_v27 (F := Ideal) x0 x1 x2 x3 k =
        ((∑ l, X (k 0) l * (back Y W (k 0) l * g l) : ℝ) : EReal) := by
      simp only [val_main_v27_apply, val_main_v26_apply, val_main_cst_5_apply, h24, h2]
      pointwise
      simp only [mul_real, sum_real]
      rfl
    have hj : (idx_main_v28 j 0 : Fin 8192) = j 0 := Fin.ext (by
      show (j 0).val * 1 + (j 1).val = (j 0).val
      have h1 : (j 1).val < 1 := (j 1).isLt
      omega)
    simp only [val_main_v34_apply, val_main_v33_apply, val_main_v32_apply, val_main_v28_apply,
      val_main_cst_6_apply, slope h2, h27, hj]
    pointwise
    simp only [bits_width, mul_real, div_real _ (by norm_num : (1024 : ℝ) ≠ 0)]
  simp only [val_main_v40_apply, val_main_v39_apply, val_main_v38_apply, val_main_v37_apply, val_main_v36_apply, val_main_v35_apply,
    val_main_v31_apply, val_main_v30_apply, val_main_v29_apply, val_main_cst_7_apply, h24, h34, h2, h4, (factor h2 _).2]
  pointwise
  simp only [mul_real, sum_real, add_real, Fin.sum_univ_one]
  refine congrArg _ ?_
  have hs : ∑ j, back Y W (i 0) j * g j * (X (i 0) j * rs X (i 0))
      = (∑ k, X (i 0) k * (back Y W (i 0) k * g k)) * rs X (i 0) := by
    rw [Finset.sum_mul]; exact Finset.sum_congr rfl fun k _ => by ring
  unfold dx
  rw [hs]
  show D (i 0) (i 1) + back Y W (i 0) (i 1) * g (i 1) * rs X (i 0) + X (i 0) (i 1) * ((∑ k, X (i 0) k * (back Y W (i 0) k * g k)) * (-1 / 2 * (rs X (i 0) * rs X (i 0) * rs X (i 0))) / 1024) + ((∑ k, X (i 0) k * (back Y W (i 0) k * g k)) * (-1 / 2 * (rs X (i 0) * rs X (i 0) * rs X (i 0))) / 1024) * X (i 0) (i 1) = _
  ring

end Cert.NormReference

end
-- ==== Proof.Norm.lean ====
/-
  The derivative of a product with a normalised row: the kernel's run and the reference's run end with the same
  derivatives in the input and in the scale.
-/
module

public import proofs.«01_k».proof.Defs
public import proofs.«01_k».proof.Proof.NormKernel
public import proofs.«01_k».proof.Proof.NormReference
public import proofs.«01_k».proof.Proof.Gen.Pre_finite3
public import Idealize.ShloMosaic.Lib.Claim

@[expose] public section

noncomputable section

namespace Cert.NormProof

open Idealize.ShloMosaic Idealize.SL.Sem Cert.RealOps

/-- The reference runs and ends quiescent, its arguments unchanged. -/
theorem reference_frame : Cert.quiescent_Reference3Ideal := fun m ρ _ =>
  θ_run_mono (Cert.Reference3Ideal.Value.run m ρ) fun r h =>
    ⟨fun c => (h c).2.2, sem_eq_zero_of_no_sems (by decide) _⟩

variable {m : (ℓ : Loc Cert.Kernel3Ideal.nD Cert.Kernel3Ideal.τ Cert.Kernel3Ideal.sig) → Buf (Elt Ideal) ℓ}

/-- The arrays of real numbers that finite arguments are. -/
theorem reads (hpre : Cert.Pre_Kernel3Ideal_finite3 m) (c : Dev Cert.Kernel3Ideal.nD) :
    ∃ Y W X g D, NormKernel.Reads m c Y W X g D := by
  obtain ⟨h0, h1, h2, h3, h4⟩ := hpre c
  exact ⟨_, _, _, _, _, fun s k => real_of_lt_top (bits_top16 ▸ congrFun h0 (ix2 s k)),
    fun s k => real_of_lt_top (bits_top16 ▸ congrFun h1 (ix2 s k)), fun s k => real_of_lt_top (bits_top ▸ congrFun h2 (ix2 s k)),
    fun k => real_of_lt_top (bits_top ▸ congrFun h3 (ix1 k)), fun s k => real_of_lt_top (bits_top ▸ congrFun h4 (ix2 s k))⟩

theorem algebraic : Cert.algebraic_Kernel3Ideal_Reference3Ideal_pre_finite3 := by
  intro m g m' g' hpre hagree
  refine ⟨fun c => (Cert.Kernel3Ideal.Gen.dats m 0 c).arrAt 5 Cert.Kernel3Ideal.cfg0.N,
    fun c => (Cert.Kernel3Ideal.Gen.dats m 0 c).arrAt 6 Cert.Kernel3Ideal.cfg0.N, Cert.Kernel3Ideal.Value.run_blocks m g, ?_⟩
  refine θ_run_mono (Cert.Reference3Ideal.Value.run m' g') fun r h c => ?_
  obtain ⟨r0, r1, k⟩ := h c
  obtain ⟨Y, W, X, s, D, hk⟩ := reads hpre c
  obtain ⟨a0, a1, a2, a3, a4⟩ := hagree c
  have b0 : ∀ i, (m' (c.tc.loc Cert.Reference3Ideal.main_arg0) : Vec Ideal Cert.Kernel3Ideal.S8192x5120 .bf16) i = (Y (i 0) (i 1) : EReal) := by
    rw [a0]; exact fun i => (congrArg _ (eq_ix2 (n0 := 8192) (n1 := 5120) i)).trans (hk.y _ _)
  have b1 : ∀ i, (m' (c.tc.loc Cert.Reference3Ideal.main_arg1) : Vec Ideal Cert.Kernel3Ideal.S1024x5120 .bf16) i = (W (i 0) (i 1) : EReal) := by
    rw [a1]; exact fun i => (congrArg _ (eq_ix2 (n0 := 1024) (n1 := 5120) i)).trans (hk.w _ _)
  have b2 : ∀ i, (m' (c.tc.loc Cert.Reference3Ideal.main_arg2) : Vec Ideal Cert.Kernel3Ideal.S8192x1024 .f32) i = (X (i 0) (i 1) : EReal) := by
    rw [a2]; exact fun i => (congrArg _ (eq_ix2 (n0 := 8192) (n1 := 1024) i)).trans (hk.x _ _)
  have b3 : ∀ i, (m' (c.tc.loc Cert.Reference3Ideal.main_arg3) : Vec Ideal Cert.Kernel3Ideal.S1024 .f32) i = (s (i 0) : EReal) := by
    rw [a3]; exact fun i => (congrArg _ (eq_ix1 (n0 := 1024) i)).trans (hk.g _)
  have b4 : ∀ i, (m' (c.tc.loc Cert.Reference3Ideal.main_arg4) : Vec Ideal Cert.Kernel3Ideal.S8192x1024 .f32) i = (D (i 0) (i 1) : EReal) := by
    rw [a4]; exact fun i => (congrArg _ (eq_ix2 (n0 := 8192) (n1 := 1024) i)).trans (hk.d _ _)
  refine ⟨r0.trans ?_, r1.trans ?_, k⟩
  · refine Eq.trans ?_ (NormKernel.dx_array hk).symm
    rw [Reference3Ideal.Read.val_main_v40_eq]
    exact funext fun i => NormReference.inputGrad b0 b1 b2 b3 b4 i
  · refine Eq.trans ?_ (NormKernel.dg_array hk).symm
    exact funext fun i => NormReference.scaleGrad b0 b1 b2 i

end Cert.NormProof

end
-- ==== Proof.Norm2Kernel.lean ====
/-
  What the same kernel, at the width of the feed-forward layer's first product, leaves in its two result arrays, over the real
  numbers.
-/
module

public import proofs.«01_k».proof.Proof.NormKernel
public import proofs.«01_k».proof.Proof.Gen.Kernel6Ideal.Value
public import Idealize.ShloMosaic.Lib.Pipeline.ValueKit.Point
public import Idealize.ShloMosaic.Adequacy

@[expose] public section

noncomputable section

namespace Cert.Norm2Kernel

open Cert.Kernel6Ideal Cert.Kernel6Ideal.Gen Idealize.ShloMosaic Idealize.ShloMosaic.TcCoe Idealize.SL.Sem
open Idealize.ShloMosaic.Pipeline (Dat)
open Cert.RealOps Cert.Norm
open Cert.Loss (rs ms_pos)

section Block

variable (y : Vec Ideal S512x5632 .bf16) (w : Vec Ideal S1024x5632 .bf16) (x : Vec Ideal S512x1024 .f32)
  (gv : Vec Ideal S1x1024 .f32) (d : Vec Ideal S512x1024 .f32)
variable (Y : Fin 512 → Fin 5632 → ℝ) (W : Fin 1024 → Fin 5632 → ℝ) (X : Fin 512 → Fin 1024 → ℝ) (g : Fin 1024 → ℝ)
  (D : Fin 512 → Fin 1024 → ℝ)

theorem factor_block (hx : ∀ s k, x (ix2 s k) = X s k) (s : Fin 512) :
    k0_pay4 (F := Ideal) x (ix2 s 0) = ((rs X s : ℝ) : EReal) := NormKernel.factor_block x X hx s

theorem back_block (hy : ∀ s k, y (ix2 s k) = Y s k) (hw : ∀ s k, w (ix2 s k) = W s k) (s : Fin 512) (k : Fin 1024) :
    k0_pay3 (F := Ideal) y w (ix2 s k) = ((back Y W s k : ℝ) : EReal) := by
  unfold k0_pay3
  pointwise
  simp only [hy, hw, mul_real, sum_real]
  rfl

theorem dx_block (hy : ∀ s k, y (ix2 s k) = Y s k) (hw : ∀ s k, w (ix2 s k) = W s k) (hx : ∀ s k, x (ix2 s k) = X s k)
    (hg : ∀ k, gv (ix2 0 k) = g k) (hd : ∀ s k, d (ix2 s k) = D s k) (s : Fin 512) (k : Fin 1024) :
    k0_pay1 (F := Ideal) (k0_pay4 x) (k0_pay5 x) (k0_pay7 y w gv) d (k0_pay8 y w x gv) (ix2 s k)
      = ((dx X g (back Y W) D s k : ℝ) : EReal) := by
  unfold k0_pay1 k0_pay8 k0_pay7 k0_pay5
  pointwise
  simp only [hx, hg, hd, factor_block x X hx, back_block y w Y W hy hw, bits_width, mul_real, sum_real,
    div_real _ (by norm_num : (1024 : ℝ) ≠ 0), add_real, sub_real]
  rfl

theorem dg_block (hy : ∀ s k, y (ix2 s k) = Y s k) (hw : ∀ s k, w (ix2 s k) = W s k) (hx : ∀ s k, x (ix2 s k) = X s k)
    (v : Vec Ideal S1x1024 .f32) (k : Fin 1024) :
    k0_pay6 (F := Ideal) y w x v (ix2 0 k) = v (ix2 0 k) + ((∑ s, rowDg X (back Y W) s k : ℝ) : EReal) := by
  unfold k0_pay6 k0_pay5
  pointwise
  simp only [hx, factor_block x X hx, back_block y w Y W hy hw, mul_real, sum_real]
  rfl

end Block

variable (m : (ℓ : Loc nD τ sig) → Buf (Elt Ideal) ℓ) (ρ : Dev nD → PrngReg) (c : Dev nD)
variable (Y : Fin 8192 → Fin 5632 → ℝ) (W : Fin 1024 → Fin 5632 → ℝ) (X : Fin 8192 → Fin 1024 → ℝ) (g : Fin 1024 → ℝ)
  (D : Fin 8192 → Fin 1024 → ℝ)

/-- Row `s` of block `t` in the whole array. -/
def row (t : Fin cfg0.N) (s : Fin 512) : Fin 8192 :=
  ⟨t.val * 512 + s.val, by have := t.isLt; have h : cfg0.N = 16 := by decide
                           have := s.isLt; omega⟩

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)

/-- The arguments as real arrays. -/
structure Reads : Prop where
  y : ∀ s k, m ((c.tc : Thread nD τ).loc main_arg0) (ix2 s k) = ((Y s k : ℝ) : EReal)
  w : ∀ s k, m ((c.tc : Thread nD τ).loc main_arg1) (ix2 s k) = ((W s k : ℝ) : EReal)
  x : ∀ s k, m ((c.tc : Thread nD τ).loc main_arg2) (ix2 s k) = ((X s k : ℝ) : EReal)
  g : ∀ k, m ((c.tc : Thread nD τ).loc main_arg3) (ix1 k) = ((g k : ℝ) : EReal)
  d : ∀ s k, m ((c.tc : Thread nD τ).loc main_arg4) (ix2 s k) = ((D s k : ℝ) : EReal)

variable {m c Y W X g D}

theorem blk0 (h : Reads m c Y W X g D) (t : Fin cfg0.N) (s : Fin 512) (k : Fin 5632) :
    (iblk m c 0 t : Vec Ideal S512x5632 .bf16) (ix2 s k) = ((Y (row t s) k : ℝ) : EReal) := by
  rw [← h.y]
  blk_ext! [iblk, V, idx0, row]

theorem blk1 (h : Reads m c Y W X g D) (t : Fin cfg0.N) (s : Fin 1024) (k : Fin 5632) :
    (iblk m c 1 t : Vec Ideal S1024x5632 .bf16) (ix2 s k) = ((W s k : ℝ) : EReal) := by
  rw [← h.w]
  blk_ext! [iblk, V, idx1, row]

theorem blk2 (h : Reads m c Y W X g D) (t : Fin cfg0.N) (s : Fin 512) (k : Fin 1024) :
    (iblk m c 2 t : Vec Ideal S512x1024 .f32) (ix2 s k) = ((X (row t s) k : ℝ) : EReal) := by
  rw [← h.x]
  blk_ext! [iblk, V, idx2, row]

theorem blk3 (h : Reads m c Y W X g D) (t : Fin cfg0.N) (k : Fin 1024) :
    (iblk m c 3 t : Vec Ideal S1x1024 .f32) (ix2 0 k) = ((g k : ℝ) : EReal) := by
  rw [← h.g]
  blk_ext! [iblk, V, idx3, row]

theorem blk4 (h : Reads m c Y W X g D) (t : Fin cfg0.N) (s : Fin 512) (k : Fin 1024) :
    (iblk m c 4 t : Vec Ideal S512x1024 .f32) (ix2 s k) = ((D (row t s) k : ℝ) : EReal) := by
  rw [← h.d]
  blk_ext! [iblk, V, idx4, row]

/-- The input's derivative, whole. -/
theorem dx_array (h : Reads m c Y W X g D) :
    (dats m 0 c).arrAt 5 cfg0.N = fun i : S8192x1024.Idx => ((dx X g (back Y W) D (i 0) (i 1) : ℝ) : EReal) := by
  refine (dats m 0 c).arrAt_eq_of_covers 5 _ (by decide +kernel) fun t hf y => ?_
  blk_simp
  have key := dx_block (iblk m c 0 t) (iblk m c 1 t) (iblk m c 2 t) (iblk m c 3 t) (iblk m c 4 t) _ _ _ _ _
    (blk0 h t) (blk1 h t) (blk2 h t) (blk3 h t) (blk4 h t) (y 0) (y 1)
  have e0 : (((View.whole main_v1_0).slice (win0_5.rect t)).emb y 0 : Fin 8192) = row t (y 0) := by
    apply Fin.ext; blk_simp [idx5, row]
  have e1 : (((View.whole main_v1_0).slice (win0_5.rect t)).emb y 1 : Fin 1024) = y 1 := by
    apply Fin.ext; blk_simp [idx5]
  rw [after0_5, e0, e1]
  by_cases h' : t.val % 16 = 0
  · rw [outsAt0_A m c t h']; frame_out
    exact (congrArg _ (eq_ix2 (n0 := 512) (n1 := 1024) y)).trans key
  · rw [outsAt0_B m c t h']; frame_out
    exact (congrArg _ (eq_ix2 (n0 := 512) (n1 := 1024) y)).trans key

/-- The last point of the grid. -/
theorem last_point {t : Fin cfg0.N} (h : t.val % 16 = 15) : t.val + 1 = cfg0.N := by
  have h16 : cfg0.N = 16 := N_0
  have := t.isLt
  omega

/-- The rows of the sixteen blocks are the rows of the array. -/
theorem sum_rows (f : Fin 8192 → ℝ) : ∑ t : Fin cfg0.N, ∑ s : Fin 512, f (row t s) = ∑ s, f s :=
  Fin.sum_mul_add_congr fun _ _ _ => rfl

/-- The scale's derivative. -/
theorem dg_array (h : Reads m c Y W X g D) :
    (dats m 0 c).arrAt 6 cfg0.N = fun i : S1x1024.Idx => ((∑ s, rowDg X (back Y W) s (i 1) : ℝ) : EReal) := by
  refine (dats m 0 c).arrAt_eq_of_covers 6 _ (by decide +kernel) fun t hf y => ?_
  blk_simp
  have hix : ∀ j : S1x1024.Idx, j = ix2 0 (j 1) := fun j =>
    (eq_ix2 (n0 := 1) (n1 := 1024) j).trans (congrArg (fun a => ix2 a (j 1)) (Subsingleton.elim (α := Fin 1) _ _))
  have e1 : (((View.whole main_v1_1).slice (win0_6.rect t)).emb y 1 : Fin 1024) = y 1 := by
    apply Fin.ext; blk_simp [idx6]
  rw [after0_6, e1]
  rw [Pipeline.eq_sum_fin_of_reset_step_apply_last (fun n h => (outsAt0 m c n h).2) 16 (fun _ => 0)
     (fun t (j : S1x1024.Idx) => ((∑ s, rowDg (fun s => X (row t s)) (back (fun s => Y (row t s)) W) s (j 1) : ℝ) : EReal))
      (fun t h' j => by
         rw [outsAt0_A m c t h']; frame_out
         obtain ⟨k, rfl⟩ : ∃ k : Fin 1024, j = ix2 0 k := ⟨_, hix j⟩
         refine (dg_block _ _ _ _ _ _ (blk0 h t) (blk1 h t) (blk2 h t) _ k).trans ?_
         unfold k0_pay2; pointwise)
      (fun t h' j => by
         rw [outsAt0_B m c t h']; frame_out
         obtain ⟨k, rfl⟩ : ∃ k : Fin 1024, j = ix2 0 k := ⟨_, hix j⟩
         exact dg_block _ _ _ _ _ _ (blk0 h t) (blk1 h t) (blk2 h t) _ k)
      (by decide) t (last_point ((flush0_6 t).mp hf)) y]
  rw [zero_add, sum_real]
  exact congrArg (fun r : ℝ => (r : EReal)) (sum_rows fun s => rowDg X (back Y W) s (y 1))

end Cert.Norm2Kernel

end
-- ==== Proof.Norm2Reference.lean ====
/-
  What the reference's derivative of the feed-forward layer's first product with its norm computes, over the real numbers.
-/
module

public import proofs.«01_k».proof.Proof.NormReference
public import proofs.«01_k».proof.Proof.Gen.Reference6Ideal.Run
public import proofs.«01_k».proof.Proof.Gen.Reference6Ideal.Read
public import Idealize.ShloMosaic.Lib.Pointwise
public import Idealize.ShloMosaic.Adequacy

@[expose] public section

noncomputable section

namespace Cert.Norm2Reference

open Cert.Reference6Ideal Cert.Reference6Ideal.Gen Cert.Reference6Ideal.Read Idealize.ShloMosaic
open Cert.RealOps Cert.Norm
open Cert.Loss (rs ms ms_pos rs_div)

variable {x0 : (⟨S8192x5632, .bf16⟩ : BufTy).Contents (Elt Ideal)} {x1 : (⟨S1024x5632, .bf16⟩ : BufTy).Contents (Elt Ideal)}
  {x2 : (⟨S8192x1024, .f32⟩ : BufTy).Contents (Elt Ideal)} {x3 : (⟨S1024, .f32⟩ : BufTy).Contents (Elt Ideal)}
  {x4 : (⟨S8192x1024, .f32⟩ : BufTy).Contents (Elt Ideal)}
variable {Y : Fin 8192 → Fin 5632 → ℝ} {W : Fin 1024 → Fin 5632 → ℝ} {X : Fin 8192 → Fin 1024 → ℝ} {g : Fin 1024 → ℝ}
  {D : Fin 8192 → Fin 1024 → ℝ}

/-- The normalising factor. -/
theorem factor (h2 : ∀ i, x2 i = X (i 0) (i 1)) (i : S8192x1.Idx) :
    val_main_v7 (F := Ideal) x2 i = ((ms X (i 0) : ℝ) : EReal) ∧ val_main_v8 (F := Ideal) x2 i = ((rs X (i 0) : ℝ) : EReal) :=
  NormReference.factor h2 i

/-- Half the derivative of the factor in the mean square. -/
theorem slope (h2 : ∀ i, x2 i = X (i 0) (i 1)) (i : S8192x1.Idx) :
    val_main_v11 (F := Ideal) x2 i = ((-1 / 2 * (rs X (i 0) * rs X (i 0) * rs X (i 0)) : ℝ) : EReal) := NormReference.slope h2 i

/-- The normalised row. -/
theorem normed (h2 : ∀ i, x2 i = X (i 0) (i 1)) (i : S8192x1024.Idx) :
    val_main_v13 (F := Ideal) x2 i = ((X (i 0) (i 1) * rs X (i 0) : ℝ) : EReal) := NormReference.normed h2 i

/-- The cotangent of the normalised and scaled row. -/
theorem outGrad (h0 : ∀ i, x0 i = Y (i 0) (i 1)) (h1 : ∀ i, x1 i = W (i 0) (i 1)) (i : S8192x1024.Idx) :
    val_main_v19 (F := Ideal) x0 x1 i = ((back Y W (i 0) (i 1) : ℝ) : EReal) := by
  simp only [val_main_v19_apply, val_main_v18_apply, val_main_v0_apply, h0, h1]
  pointwise
  simp only [mul_real, sum_real]
  rfl

/-- The derivative in the scale. -/
theorem scaleGrad (h0 : ∀ i, x0 i = Y (i 0) (i 1)) (h1 : ∀ i, x1 i = W (i 0) (i 1)) (h2 : ∀ i, x2 i = X (i 0) (i 1))
    (i : S1x1024.Idx) :
    val_main_v41 (F := Ideal) x0 x1 x2 i = ((∑ s, rowDg X (back Y W) s (i 1) : ℝ) : EReal) := by
  have h21 (j : S1024.Idx) : val_main_v21 (F := Ideal) x0 x1 x2 j = ((∑ s, rowDg X (back Y W) s (j 0) : ℝ) : EReal) := by
    simp only [val_main_v21_apply, val_main_v20_apply, val_main_cst_3_apply, normed h2, outGrad h0 h1]
    pointwise
    simp only [mul_real, sum_real]
    exact congrArg (fun r : ℝ => (r : EReal))
      (Finset.sum_congr rfl fun s _ => mul_comm (X s (j 0) * rs X s) (back Y W s (j 0)))
  simp only [val_main_v41_apply, val_main_v25_apply, val_main_v22_apply, val_main_cst_4_apply, h21]
  pointwise
  rw [Fin.sum_univ_one]
  refine congrArg (fun k : Fin 1024 => ((∑ s, rowDg X (back Y W) s k : ℝ) : EReal)) (Fin.ext ?_)
  show 0 * 1024 + ((i 0).val * 1024 + (i 1).val) = (i 1).val
  have h1 : (i 0).val < 1 := (i 0).isLt
  omega

/-- The derivative in the input. -/
theorem inputGrad (h0 : ∀ i, x0 i = Y (i 0) (i 1)) (h1 : ∀ i, x1 i = W (i 0) (i 1)) (h2 : ∀ i, x2 i = X (i 0) (i 1))
    (h3 : ∀ i, x3 i = g (i 0)) (h4 : ∀ i, x4 i = D (i 0) (i 1)) (i : S8192x1024.Idx) :
    val_main_v40 (F := Ideal) x0 x1 x2 x3 x4 i = ((dx X g (back Y W) D (i 0) (i 1) : ℝ) : EReal) := by
  have h24 (j : S8192x1024.Idx) : val_main_v24 (F := Ideal) x0 x1 x3 j = ((back Y W (j 0) (j 1) * g (j 1) : ℝ) : EReal) := by
    simp only [val_main_v24_apply, val_main_v23_apply, val_main_v14_apply, outGrad h0 h1, h3]
    pointwise
    rw [mul_real]
    rfl
  have h34 (j : S8192x1.Idx) : val_main_v34 (F := Ideal) x0 x1 x2 x3 j =
      (((∑ k, X (j 0) k * (back Y W (j 0) k * g k)) * (-1 / 2 * (rs X (j 0) * rs X (j 0) * rs X (j 0))) / 1024 : ℝ) : EReal) := by
    have h27 (k : S8192.Idx) : val_main_v27 (F := Ideal) x0 x1 x2 x3 k =
        ((∑ l, X (k 0) l * (back Y W (k 0) l * g l) : ℝ) : EReal) := by
      simp only [val_main_v27_apply, val_main_v26_apply, val_main_cst_5_apply, h24, h2]
      pointwise
      simp only [mul_real, sum_real]
      rfl
    have hj : (idx_main_v28 j 0 : Fin 8192) = j 0 := Fin.ext (by
      show (j 0).val * 1 + (j 1).val = (j 0).val
      have h1 : (j 1).val < 1 := (j 1).isLt
      omega)
    simp only [val_main_v34_apply, val_main_v33_apply, val_main_v32_apply, val_main_v28_apply,
      val_main_cst_6_apply, slope h2, h27, hj]
    pointwise
    simp only [bits_width, mul_real, div_real _ (by norm_num : (1024 : ℝ) ≠ 0)]
  simp only [val_main_v40_apply, val_main_v39_apply, val_main_v38_apply, val_main_v37_apply, val_main_v36_apply, val_main_v35_apply,
    val_main_v31_apply, val_main_v30_apply, val_main_v29_apply, val_main_cst_7_apply, h24, h34, h2, h4, (factor h2 _).2]
  pointwise
  simp only [mul_real, sum_real, add_real, Fin.sum_univ_one]
  refine congrArg _ ?_
  have hs : ∑ j, back Y W (i 0) j * g j * (X (i 0) j * rs X (i 0))
      = (∑ k, X (i 0) k * (back Y W (i 0) k * g k)) * rs X (i 0) := by
    rw [Finset.sum_mul]; exact Finset.sum_congr rfl fun k _ => by ring
  unfold dx
  rw [hs]
  show D (i 0) (i 1) + back Y W (i 0) (i 1) * g (i 1) * rs X (i 0) + X (i 0) (i 1) * ((∑ k, X (i 0) k * (back Y W (i 0) k * g k)) * (-1 / 2 * (rs X (i 0) * rs X (i 0) * rs X (i 0))) / 1024) + ((∑ k, X (i 0) k * (back Y W (i 0) k * g k)) * (-1 / 2 * (rs X (i 0) * rs X (i 0) * rs X (i 0))) / 1024) * X (i 0) (i 1) = _
  ring

end Cert.Norm2Reference

end
-- ==== Proof.Norm2.lean ====
/-
  The derivative of the feed-forward layer's first product with its norm: the kernel's run and the reference's run end with the same
  derivatives in the input and in the scale.
-/
module

public import proofs.«01_k».proof.Defs
public import proofs.«01_k».proof.Proof.Norm2Kernel
public import proofs.«01_k».proof.Proof.Norm2Reference
public import proofs.«01_k».proof.Proof.Gen.Pre_finite6
public import Idealize.ShloMosaic.Lib.Claim

@[expose] public section

noncomputable section

namespace Cert.Norm2Proof

open Idealize.ShloMosaic Idealize.SL.Sem Cert.RealOps

/-- The reference runs and ends quiescent, its arguments unchanged. -/
theorem reference_frame : Cert.quiescent_Reference6Ideal := fun m ρ _ =>
  θ_run_mono (Cert.Reference6Ideal.Value.run m ρ) fun r h =>
    ⟨fun c => (h c).2.2, sem_eq_zero_of_no_sems (by decide) _⟩

variable {m : (ℓ : Loc Cert.Kernel6Ideal.nD Cert.Kernel6Ideal.τ Cert.Kernel6Ideal.sig) → Buf (Elt Ideal) ℓ}

/-- The arrays of real numbers that finite arguments are. -/
theorem reads (hpre : Cert.Pre_Kernel6Ideal_finite6 m) (c : Dev Cert.Kernel6Ideal.nD) :
    ∃ Y W X g D, Norm2Kernel.Reads m c Y W X g D := by
  obtain ⟨h0, h1, h2, h3, h4⟩ := hpre c
  exact ⟨_, _, _, _, _, fun s k => real_of_lt_top (bits_top16 ▸ congrFun h0 (ix2 s k)),
    fun s k => real_of_lt_top (bits_top16 ▸ congrFun h1 (ix2 s k)), fun s k => real_of_lt_top (bits_top ▸ congrFun h2 (ix2 s k)),
    fun k => real_of_lt_top (bits_top ▸ congrFun h3 (ix1 k)), fun s k => real_of_lt_top (bits_top ▸ congrFun h4 (ix2 s k))⟩

theorem algebraic : Cert.algebraic_Kernel6Ideal_Reference6Ideal_pre_finite6 := by
  intro m g m' g' hpre hagree
  refine ⟨fun c => (Cert.Kernel6Ideal.Gen.dats m 0 c).arrAt 5 Cert.Kernel6Ideal.cfg0.N,
    fun c => (Cert.Kernel6Ideal.Gen.dats m 0 c).arrAt 6 Cert.Kernel6Ideal.cfg0.N, Cert.Kernel6Ideal.Value.run_blocks m g, ?_⟩
  refine θ_run_mono (Cert.Reference6Ideal.Value.run m' g') fun r h c => ?_
  obtain ⟨r0, r1, k⟩ := h c
  obtain ⟨Y, W, X, s, D, hk⟩ := reads hpre c
  obtain ⟨a0, a1, a2, a3, a4⟩ := hagree c
  have b0 : ∀ i, (m' (c.tc.loc Cert.Reference6Ideal.main_arg0) : Vec Ideal Cert.Kernel6Ideal.S8192x5632 .bf16) i = (Y (i 0) (i 1) : EReal) := by
    rw [a0]; exact fun i => (congrArg _ (eq_ix2 (n0 := 8192) (n1 := 5632) i)).trans (hk.y _ _)
  have b1 : ∀ i, (m' (c.tc.loc Cert.Reference6Ideal.main_arg1) : Vec Ideal Cert.Kernel6Ideal.S1024x5632 .bf16) i = (W (i 0) (i 1) : EReal) := by
    rw [a1]; exact fun i => (congrArg _ (eq_ix2 (n0 := 1024) (n1 := 5632) i)).trans (hk.w _ _)
  have b2 : ∀ i, (m' (c.tc.loc Cert.Reference6Ideal.main_arg2) : Vec Ideal Cert.Kernel6Ideal.S8192x1024 .f32) i = (X (i 0) (i 1) : EReal) := by
    rw [a2]; exact fun i => (congrArg _ (eq_ix2 (n0 := 8192) (n1 := 1024) i)).trans (hk.x _ _)
  have b3 : ∀ i, (m' (c.tc.loc Cert.Reference6Ideal.main_arg3) : Vec Ideal Cert.Kernel6Ideal.S1024 .f32) i = (s (i 0) : EReal) := by
    rw [a3]; exact fun i => (congrArg _ (eq_ix1 (n0 := 1024) i)).trans (hk.g _)
  have b4 : ∀ i, (m' (c.tc.loc Cert.Reference6Ideal.main_arg4) : Vec Ideal Cert.Kernel6Ideal.S8192x1024 .f32) i = (D (i 0) (i 1) : EReal) := by
    rw [a4]; exact fun i => (congrArg _ (eq_ix2 (n0 := 8192) (n1 := 1024) i)).trans (hk.d _ _)
  refine ⟨r0.trans ?_, r1.trans ?_, k⟩
  · refine Eq.trans ?_ (Norm2Kernel.dx_array hk).symm
    rw [Reference6Ideal.Read.val_main_v40_eq]
    exact funext fun i => Norm2Reference.inputGrad b0 b1 b2 b3 b4 i
  · refine Eq.trans ?_ (Norm2Kernel.dg_array hk).symm
    exact funext fun i => Norm2Reference.scaleGrad b0 b1 b2 i

end Cert.Norm2Proof

end
-- ==== Proof.MergeSpec.lean ====
/-
  The derivative of the gated merge of the two branches, over the real numbers: the cotangent goes back through the
  output weights, to the two gates and the two branches, and through the branches' weights to the two attentions'
  outputs; and the row products of the first output with its cotangent.
-/
module

public import proofs.«01_k».proof.Proof.RealOps

@[expose] public section

noncomputable section

namespace Cert.Merge

open Cert.RealOps Idealize.ShloMosaic

/-- The gate. -/
def gate (a : ℝ) : ℝ := 1 / (1 + Real.exp (-a))

theorem gate_real (a : ℝ) : Ideal.logistic (a : EReal) = ((gate a : ℝ) : EReal) := by
  have h : (0 : ℝ) < 1 + Real.exp (-a) := by positivity
  unfold Ideal.logistic gate
  rw [neg_real, exp_real, ← EReal.coe_one, add_real, div_real _ h.ne']

/-- The columns of the first half of the gates, and of the second. -/
def lo (j : Fin 1024) : Fin 2048 := ⟨j.val, by omega⟩
def hi (j : Fin 1024) : Fin 2048 := ⟨1024 + j.val, by omega⟩

/-- Two halves beside each other. -/
def both {S : ℕ} (f g : Fin S → Fin 1024 → ℝ) (s : Fin S) (j : Fin 2048) : ℝ :=
  if h : j.val < 1024 then f s ⟨j.val, h⟩ else g s ⟨j.val - 1024, by omega⟩

theorem both_lo {S : ℕ} (f g : Fin S → Fin 1024 → ℝ) (s : Fin S) (j : Fin 1024) : both f g s (lo j) = f s j :=
  dif_pos j.isLt

theorem both_hi {S : ℕ} (f g : Fin S → Fin 1024 → ℝ) (s : Fin S) (j : Fin 1024) : both f g s (hi j) = g s j := by
  have h : ¬ (hi j).val < 1024 := by show ¬ 1024 + j.val < 1024; omega
  have e : (⟨(hi j).val - 1024, by have := (hi j).isLt; omega⟩ : Fin 1024) = j := Fin.ext (by show 1024 + j.val - 1024 = j.val; omega)
  unfold both
  rw [dif_neg h, e]

/-- The rows of the branches' weights that are the first branch's, and the second's. -/
def top (l : Fin 256) : Fin 512 := ⟨l.val, by omega⟩
def bot (l : Fin 256) : Fin 512 := ⟨256 + l.val, by omega⟩

section

variable {S : ℕ} (DX : Fin S → Fin 1024 → ℝ) (Wo : Fin 1024 → Fin 1024 → ℝ) (O : Fin S → Fin 256 → ℝ)
  (W : Fin 256 → Fin 1024 → ℝ) (P : Fin S → Fin 1024 → ℝ) (b : Fin 1024 → ℝ) (L : Fin S → Fin 256 → EReal)

/-- The cotangent of the merged row. -/
def dm (s : Fin S) (j : Fin 1024) : ℝ := ∑ k, DX s k * Wo j k

/-- A branch. -/
def branch (s : Fin S) (j : Fin 1024) : ℝ := ∑ l, O s l * W l j

/-- A branch's cotangent. -/
def dy (s : Fin S) (j : Fin 1024) : ℝ := dm DX Wo s j * gate (P s j + b j)

/-- A gate's cotangent, before the gate. -/
def dgate (s : Fin S) (j : Fin 1024) : ℝ :=
  dm DX Wo s j * branch O W s j * gate (P s j + b j) * (1 - gate (P s j + b j))

/-- The cotangent of an attention's output. -/
def dout (s : Fin S) (l : Fin 256) : ℝ := ∑ j, dy DX Wo P b s j * W l j

/-- The row products of an output with its cotangent, head by head, beside the rows' log sums. -/
def stat (s : Fin S) (l : Fin 256) : EReal :=
  if l.val % 64 < 32 then L s l
  else ((∑ k : Fin 256, if k.val / 64 = l.val / 64 then dout DX Wo W P b s k * O s k else 0 : ℝ) : EReal)

end

end Cert.Merge

end
-- ==== Proof.MergeBlock.lean ====
/-
  What one point of the merge's derivative computes, over the real numbers: column chunk by column chunk.
-/
module

public import proofs.«01_k».proof.Proof.MergeSpec
public import proofs.«01_k».proof.Proof.Gen.Kernel4Ideal.Value
public import Idealize.ShloMosaic.Lib.Pipeline.ValueKit.Point
public import Idealize.ShloMosaic.Lib.Pipeline.ReadBack
public import Idealize.ShloMosaic.Adequacy

@[expose] public section

noncomputable section

namespace Cert.MergeBlock

open Cert.Kernel4Ideal Cert.Kernel4Ideal.Gen Idealize.ShloMosaic Idealize.ShloMosaic.TcCoe Idealize.SL.Sem
open Cert.RealOps Cert.Merge

/-- Column `k` of chunk `p`. -/
def col (p : Fin 4) (k : Fin 256) : Fin 1024 := ⟨p.val * 256 + k.val, by omega⟩

/-- The chunks' columns are the columns. -/
theorem sum_cols (f : Fin 1024 → ℝ) :
    ∑ j, f j = ∑ k, f (col 0 k) + ∑ k, f (col 1 k) + ∑ k, f (col 2 k) + ∑ k, f (col 3 k) := by
  rw [← Fin.sum_univ_four fun p => ∑ k, f (col p k)]
  exact (Fin.sum_mul_add_congr (L := 1024) (S := 4) (n := 256) fun _ _ _ => rfl).symm

/-- A rectangle's place in the array, coordinate by coordinate. -/
theorem emb_unit {R C r c a b : ℕ} (inb : ∀ x, (![a, b] : Fin 2 → ℕ) x + (![r, c] : Fin 2 → ℕ) x ≤ (⟨2, ![R, C]⟩ : Shape).size x)
    (s : Fin r) (k : Fin c) (s' : Fin R) (k' : Fin C) (hs : s'.val = a + s.val) (hk : k'.val = b + k.val) :
    (Rect.unit (s := ⟨2, ![R, C]⟩) ![a, b] ![r, c] inb).emb (ix2 s k) = ix2 s' k' := by
  funext x
  apply Fin.ext
  match x with
  | ⟨0, _⟩ => show a + 1 * s.val = s'.val; omega
  | ⟨1, _⟩ => show b + 1 * k.val = k'.val; omega

/-- A part of a block. -/
theorem ld_part {e : EltTy} {R C r c a b : ℕ} {v : Vec Ideal ⟨2, ![R, C]⟩ e} {V : Fin R → Fin C → Elt Ideal e}
    (h : ∀ s k, v (ix2 s k) = V s k)
    (inb : ∀ x, (![a, b] : Fin 2 → ℕ) x + (![r, c] : Fin 2 → ℕ) x ≤ (⟨2, ![R, C]⟩ : Shape).size x)
    (s : Fin r) (k : Fin c) (s' : Fin R) (k' : Fin C) (hs : s'.val = a + s.val) (hk : k'.val = b + k.val) :
    View.ld v (Rect.unit (s := ⟨2, ![R, C]⟩) ![a, b] ![r, c] inb) (ix2 s k) = V s' k' := by
  rw [← h, ← emb_unit inb s k s' k' hs hk]
  rfl

/-- A stored part that is, element by element, a part of an array. -/
theorem block_piece {e : EltTy} {R C r c a b : ℕ} {G : Fin R → Fin C → Elt Ideal e}
    {inb : ∀ x, (![a, b] : Fin 2 → ℕ) x + (![r, c] : Fin 2 → ℕ) x ≤ (⟨2, ![R, C]⟩ : Shape).size x}
    {v : Vec Ideal ⟨2, ![r, c]⟩ e} (f : Fin r → Fin R) (g : Fin c → Fin C) (hf : ∀ s, (f s).val = a + s.val)
    (hg : ∀ k, (g k).val = b + k.val) (h : ∀ s k, v (ix2 s k) = G (f s) (g k))
    (x : (⟨2, ![r, c]⟩ : Shape).Idx) :
    v x = (fun i : (⟨2, ![R, C]⟩ : Shape).Idx => G (i 0) (i 1))
      ((Rect.unit (s := ⟨2, ![R, C]⟩) ![a, b] ![r, c] inb).emb x) := by
  have hx : x = (ix2 (x 0 : Fin r) (x 1 : Fin c) : (⟨2, ![r, c]⟩ : Shape).Idx) := eq_ix2 x
  have he := (congrArg (Rect.unit (s := ⟨2, ![R, C]⟩) ![a, b] ![r, c] inb).emb hx).trans
    (emb_unit inb (x 0 : Fin r) (x 1 : Fin c) (f (x 0)) (g (x 1)) (hf _) (hg _))
  exact ((congrArg v hx).trans (h (x 0) (x 1))).trans
    (congrArg (fun i : (⟨2, ![R, C]⟩ : Shape).Idx => G (i 0) (i 1)) he).symm

section Chunk

variable {dx : Vec Ideal S256x1024 .f32} {wo : Vec Ideal S256x1024 .bf16} {o : Vec Ideal S256x256 .f32}
  {w : Vec Ideal S256x256 .bf16} {g : Vec Ideal S256x256 .bf16} {bv : Vec Ideal S1x256 .f32}
variable {DX : Fin 256 → Fin 1024 → ℝ} {Wo : Fin 1024 → Fin 1024 → ℝ} {O : Fin 256 → Fin 256 → ℝ} {W : Fin 256 → Fin 1024 → ℝ}
  {P : Fin 256 → Fin 1024 → ℝ} {b : Fin 1024 → ℝ} (p : Fin 4)

theorem dm_chunk (h0 : ∀ s k, dx (ix2 s k) = DX s k) (h1 : ∀ k l, wo (ix2 k l) = Wo (col p k) l) (s k : Fin 256) :
    k0_pay8 (F := Ideal) dx wo (ix2 s k) = ((dm DX Wo s (col p k) : ℝ) : EReal) := by
  unfold_payloads
  pointwise
  simp only [h0, h1, mul_real, sum_real]
  rfl

theorem branch_chunk (h0 : ∀ s k, o (ix2 s k) = O s k) (h1 : ∀ l k, w (ix2 l k) = W l (col p k)) (s k : Fin 256) :
    k0_pay9 (F := Ideal) o w (ix2 s k) = ((branch O W s (col p k) : ℝ) : EReal) := by
  unfold_payloads
  pointwise
  simp only [h0, h1, mul_real, sum_real]
  rfl

theorem gate_chunk (h0 : ∀ s k, g (ix2 s k) = P s (col p k)) (h1 : ∀ k, bv (ix2 0 k) = b (col p k)) (s k : Fin 256) :
    k0_pay11 (F := Ideal) g bv (ix2 s k) = ((gate (P s (col p k) + b (col p k)) : ℝ) : EReal) := by
  unfold k0_pay11
  pointwise
  simp only [h0, h1, add_real]
  exact gate_real _

variable (h0 : ∀ s k, dx (ix2 s k) = DX s k) (h1 : ∀ k l, wo (ix2 k l) = Wo (col p k) l)
  (h2 : ∀ s k, o (ix2 s k) = O s k) (h3 : ∀ l k, w (ix2 l k) = W l (col p k))
  (h4 : ∀ s k, g (ix2 s k) = P s (col p k)) (h5 : ∀ k, bv (ix2 0 k) = b (col p k))
include h0 h1 h4 h5

theorem dy_chunk (s k : Fin 256) :
    k0_pay19 (F := Ideal) (k0_pay8 dx wo) (k0_pay11 g bv) (ix2 s k) = ((dy DX Wo P b s (col p k) : ℝ) : EReal) := by
  unfold k0_pay19
  pointwise
  rw [dm_chunk p h0 h1, gate_chunk p h4 h5, mul_real]
  rfl

include h3 in
/-- The part of the output's cotangent that a chunk of columns gives. -/
theorem dout_chunk (acc : FVec Ideal S256x256 .f32) (s l : Fin 256) :
    k0_pay22 (F := Ideal) acc (k0_pay21 w (k0_pay8 dx wo) (k0_pay11 g bv)) (ix2 s l)
      = acc (ix2 s l) + ((∑ k, dy DX Wo P b s (col p k) * W l (col p k) : ℝ) : EReal) := by
  unfold k0_pay22 k0_pay21
  pointwise
  simp only [dy_chunk p h0 h1 h4 h5, h3, mul_real, sum_real]

include h2 h3

theorem dgate_chunk (s k : Fin 256) :
    k0_pay13 (F := Ideal) (k0_pay8 dx wo) (k0_pay9 o w) (k0_pay11 g bv) (ix2 s k)
      = ((dgate DX Wo O W P b s (col p k) : ℝ) : EReal) := by
  unfold k0_pay13
  pointwise
  simp only [dm_chunk p h0 h1, branch_chunk p h2 h3, gate_chunk p h4 h5, bits_one, mul_real, sub_real]
  rfl

theorem dbias_chunk (v : Vec Ideal S1x256 .f32) (k : Fin 256) :
    k0_pay17 (F := Ideal) (k0_pay8 dx wo) (k0_pay9 o w) (k0_pay11 g bv) v (ix2 0 k)
      = v (ix2 0 k) + ((∑ s, dgate DX Wo O W P b s (col p k) : ℝ) : EReal) := by
  unfold k0_pay17
  pointwise
  simp only [dgate_chunk p h0 h1 h2 h3 h4 h5, sum_real]

end Chunk

/-! ## The head of a column -/

theorem head_row (s k : Fin 256) : k0_pay70 (ix2 s k) = BitVec.ofNat 32 (s.val / 64) := by
  unfold k0_pay70
  pointwise
  revert s
  decide +kernel

theorem head_col (s k : Fin 256) : k0_pay71 (ix2 s k) = BitVec.ofNat 32 (k.val / 64) := by
  unfold k0_pay71
  pointwise
  revert k
  decide +kernel

theorem head_lane (s k : Fin 256) : k0_pay75 (ix2 s k) = BitVec.ofNat 32 (k.val % 64) := by
  unfold k0_pay75
  pointwise
  revert k
  decide +kernel

/-- The column's head once more, with the rounding towards minus infinity spelt out. -/
theorem head_again (k : Fin 256) :
    Scalar.select (IntOp.andi (IntOp.cmpi .ne
        (IntOp.subi (BitVec.setWidth 32 (IntOp.cmpi .sgt (BitVec.ofNat 32 k.val) 0#32))
          (BitVec.setWidth 32 (IntOp.cmpi .slt (BitVec.ofNat 32 k.val) 0#32)))
        (Scalar.subi (Scalar.extui (Scalar.cmpi .sgt 64#32 0#32)) (Scalar.extui (Scalar.cmpi .slt 64#32 0#32))))
      (IntOp.cmpi .ne (IntOp.remsi .vector (BitVec.ofNat 32 k.val) 64#32) 0#32))
      (IntOp.subi (BitVec.ofNat 32 (k.val / 64)) 1#32) (BitVec.ofNat 32 (k.val / 64)) = BitVec.ofNat 32 (k.val / 64) := by
  revert k
  decide +kernel

theorem first_half (k : Fin 256) :
    IntOp.cmpi .slt (BitVec.ofNat 32 (k.val % 64)) 32#32 = if k.val % 64 < 32 then 1#1 else 0#1 := by
  revert k
  decide +kernel

/-- The entry of the table that says whether two columns are of one head. -/
theorem same_head (j k : Fin 256) :
    (FloatOps.sitofp .f32 (BitVec.setWidth 32 (IntOp.cmpi .eq (BitVec.ofNat 32 (j.val / 64)) (BitVec.ofNat 32 (k.val / 64)))) :
      Ideal .f32) = ((if j.val / 64 = k.val / 64 then 1 else 0 : ℝ) : EReal) := by
  have h : IntOp.cmpi .eq (BitVec.ofNat 32 (j.val / 64)) (BitVec.ofNat 32 (k.val / 64))
      = if j.val / 64 = k.val / 64 then 1#1 else 0#1 := by
    have hj := j.isLt
    have hk := k.isLt
    show BitVec.ofBool (decide _) = _
    by_cases e : j.val / 64 = k.val / 64
    · simp [e]
    · have : BitVec.ofNat 32 (j.val / 64) ≠ BitVec.ofNat 32 (k.val / 64) := fun h => e (by
        have := congrArg BitVec.toNat h; simp only [BitVec.toNat_ofNat] at this; omega)
      simp [e, this]
  rw [h]
  by_cases e : j.val / 64 = k.val / 64
  · rw [if_pos e, if_pos e]; show ((((BitVec.setWidth 32 1#1).toInt : ℤ) : ℝ) : EReal) = _; norm_num
  · rw [if_neg e, if_neg e]; show ((((BitVec.setWidth 32 0#1).toInt : ℤ) : ℝ) : EReal) = _; norm_num

theorem stat_block (x d : Vec Ideal S256x256 .f32) (l : Vec Ideal S256x256 .f32) (O D : Fin 256 → Fin 256 → ℝ) (L : Fin 256 → Fin 256 → EReal)
    (hx : ∀ s k, x (ix2 s k) = O s k) (hd : ∀ s k, d (ix2 s k) = D s k) (hl : ∀ s k, l (ix2 s k) = L s k) (s k : Fin 256) :
    k0_pay1 (F := Ideal)
        (k0_pay74 x d k0_pay70 (iota Kind.tc S256x256 32 [1] iota_S256x256_d1_w32) (64#32) k0_pay71 k0_pay72 k0_pay73)
        k0_pay75 (32#32) l (ix2 s k)
      = if k.val % 64 < 32 then L s k else ((∑ j : Fin 256, if j.val / 64 = k.val / 64 then D s j * O s j else 0 : ℝ) : EReal) := by
  unfold k0_pay1 k0_pay74 k0_pay72 k0_pay73
  pointwise
  simp only [hx, hd, hl, head_row, head_col, head_lane, mul_real, sub_real]
  rw [head_again k, first_half k]
  simp only [same_head, mul_real, sum_real, add_real, sub_self, zero_mul, Finset.sum_const_zero, add_zero, mul_ite, mul_one, mul_zero, ite_self]
  by_cases h : k.val % 64 < 32
  · rw [if_pos h, if_pos h]; rfl
  · rw [if_neg h, if_neg h]; rfl

end Cert.MergeBlock

end
-- ==== Proof.MergeKernel.lean ====
/-
  What the kernel of the merge's derivative leaves in its result arrays, over the real numbers.
-/
module

public import proofs.«01_k».proof.Proof.MergeBlock

@[expose] public section

noncomputable section

namespace Cert.MergeKernel

open Cert.Kernel4Ideal Cert.Kernel4Ideal.Gen Idealize.ShloMosaic Idealize.ShloMosaic.TcCoe Idealize.SL.Sem
open Idealize.ShloMosaic.Pipeline (Dat)
open Cert.RealOps Cert.Merge Cert.MergeBlock

variable (m : (ℓ : Loc nD τ sig) → Buf (Elt Ideal) ℓ) (ρ : Dev nD → PrngReg) (c : Dev nD)
variable (DX : Fin 8192 → Fin 1024 → ℝ) (Wo : Fin 1024 → Fin 1024 → ℝ) (Oa Ob : Fin 8192 → Fin 256 → ℝ) (L : Fin 8192 → Fin 256 → EReal)
  (P : Fin 8192 → Fin 5120 → ℝ) (b : Fin 2048 → ℝ) (Wr : Fin 512 → Fin 1024 → ℝ)

/-- Row `s` of block `t` in the whole array. -/
def row (t : Fin cfg0.N) (s : Fin 256) : Fin 8192 :=
  ⟨t.val * 256 + s.val, by have := t.isLt; have h : cfg0.N = 32 := by decide
                           have := s.isLt; omega⟩

/-- The columns of the projected row that the first gate, and the second, is made of. -/
def colA (k : Fin 1024) : Fin 5120 := ⟨3072 + k.val, by omega⟩
def colB (k : Fin 1024) : Fin 5120 := ⟨4096 + k.val, by omega⟩

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 3] := (by decide +kernel : ∀ t : Fin grid0.N, _)
theorem idx6 : ∀ t : Fin cfg0.N, win0_6.index t = ![t.val, 4] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val, 0] := (by decide +kernel : ∀ t : Fin grid0.N, _)
theorem idx15 : ∀ t : Fin cfg0.N, win0_15.index t = ![0, 0] := (by decide +kernel : ∀ t : Fin grid0.N, _)

/-- The arguments as real arrays. -/
structure Reads : Prop where
  dx : ∀ s k, m ((c.tc : Thread nD τ).loc main_arg0) (ix2 s k) = ((DX s k : ℝ) : EReal)
  wo : ∀ s k, m ((c.tc : Thread nD τ).loc main_arg1) (ix2 s k) = ((Wo s k : ℝ) : EReal)
  oa : ∀ s k, m ((c.tc : Thread nD τ).loc main_arg2) (ix2 s k) = ((Oa s k : ℝ) : EReal)
  ob : ∀ s k, m ((c.tc : Thread nD τ).loc main_arg3) (ix2 s k) = ((Ob s k : ℝ) : EReal)
  l : ∀ s k, m ((c.tc : Thread nD τ).loc main_arg4) (ix2 s k) = L s k
  p : ∀ s k, m ((c.tc : Thread nD τ).loc main_arg5) (ix2 s k) = ((P s k : ℝ) : EReal)
  b : ∀ k, m ((c.tc : Thread nD τ).loc main_arg6) (ix1 k) = ((b k : ℝ) : EReal)
  w : ∀ s k, m ((c.tc : Thread nD τ).loc main_arg7) (ix2 s k) = ((Wr s k : ℝ) : EReal)

variable {m c DX Wo Oa Ob L P b Wr}

theorem blk0 (h : Reads m c DX Wo Oa Ob L P b Wr) (t : Fin cfg0.N) (s : Fin 256) (k : Fin 1024) :
    (iblk m c 0 t : Vec Ideal S256x1024 .f32) (ix2 s k) = ((DX (row t s) k : ℝ) : EReal) := by
  rw [← h.dx]
  blk_ext! [iblk, V, idx0, row]

theorem blk1 (h : Reads m c DX Wo Oa Ob L P b Wr) (t : Fin cfg0.N) (s k : Fin 1024) :
    (iblk m c 1 t : Vec Ideal S1024x1024 .bf16) (ix2 s k) = ((Wo s k : ℝ) : EReal) := by
  rw [← h.wo]
  blk_ext! [iblk, V, idx1, row]

theorem blk2 (h : Reads m c DX Wo Oa Ob L P b Wr) (t : Fin cfg0.N) (s k : Fin 256) :
    (iblk m c 2 t : Vec Ideal S256x256 .f32) (ix2 s k) = ((Oa (row t s) k : ℝ) : EReal) := by
  rw [← h.oa]
  blk_ext! [iblk, V, idx2, row]

theorem blk3 (h : Reads m c DX Wo Oa Ob L P b Wr) (t : Fin cfg0.N) (s k : Fin 256) :
    (iblk m c 3 t : Vec Ideal S256x256 .f32) (ix2 s k) = ((Ob (row t s) k : ℝ) : EReal) := by
  rw [← h.ob]
  blk_ext! [iblk, V, idx3, row]

theorem blk4 (h : Reads m c DX Wo Oa Ob L P b Wr) (t : Fin cfg0.N) (s k : Fin 256) :
    (iblk m c 4 t : Vec Ideal S256x256 .f32) (ix2 s k) = L (row t s) k := by
  rw [← h.l]
  blk_ext! [iblk, V, idx4, row]

theorem blk5 (h : Reads m c DX Wo Oa Ob L P b Wr) (t : Fin cfg0.N) (s : Fin 256) (k : Fin 1024) :
    (iblk m c 5 t : Vec Ideal S256x1024 .bf16) (ix2 s k) = ((P (row t s) (colA k) : ℝ) : EReal) := by
  rw [← h.p]
  blk_ext! [iblk, V, idx5, row, colA]

theorem blk6 (h : Reads m c DX Wo Oa Ob L P b Wr) (t : Fin cfg0.N) (s : Fin 256) (k : Fin 1024) :
    (iblk m c 6 t : Vec Ideal S256x1024 .bf16) (ix2 s k) = ((P (row t s) (colB k) : ℝ) : EReal) := by
  rw [← h.p]
  blk_ext! [iblk, V, idx6, row, colB]

theorem blk7 (h : Reads m c DX Wo Oa Ob L P b Wr) (t : Fin cfg0.N) (k : Fin 2048) :
    (iblk m c 7 t : Vec Ideal S1x2048 .f32) (ix2 0 k) = ((b k : ℝ) : EReal) := by
  rw [← h.b]
  blk_ext! [iblk, V, idx7, row]

theorem blk8 (h : Reads m c DX Wo Oa Ob L P b Wr) (t : Fin cfg0.N) (s : Fin 512) (k : Fin 1024) :
    (iblk m c 8 t : Vec Ideal S512x1024 .bf16) (ix2 s k) = ((Wr s k : ℝ) : EReal) := by
  rw [← h.w]
  blk_ext! [iblk, V, idx8, row]

/-! ## A block's parts, chunk by chunk -/

section Parts

variable (h : Reads m c DX Wo Oa Ob L P b Wr) (t : Fin cfg0.N) (p : Fin 4)
include h

theorem wo_part (inb) (k : Fin 256) (l : Fin 1024) :
    View.ld (iblk m c 1 t : Vec Ideal S1024x1024 .bf16) (Rect.unit ![p.val * 256, 0] ![256, 1024] inb) (ix2 k l)
      = ((Wo (col p k) l : ℝ) : EReal) :=
  ld_part (blk1 h t) inb k l (col p k) l rfl (Nat.zero_add _).symm

theorem wa_part (inb) (l k : Fin 256) :
    View.ld (iblk m c 8 t : Vec Ideal S512x1024 .bf16) (Rect.unit ![0, p.val * 256] ![256, 256] inb) (ix2 l k)
      = ((Wr (top l) (col p k) : ℝ) : EReal) :=
  ld_part (blk8 h t) inb l k (top l) (col p k) (Nat.zero_add _).symm rfl

theorem wb_part (inb) (l k : Fin 256) :
    View.ld (iblk m c 8 t : Vec Ideal S512x1024 .bf16) (Rect.unit ![256, p.val * 256] ![256, 256] inb) (ix2 l k)
      = ((Wr (bot l) (col p k) : ℝ) : EReal) :=
  ld_part (blk8 h t) inb l k (bot l) (col p k) rfl rfl

theorem pa_part (inb) (s k : Fin 256) :
    View.ld (iblk m c 5 t : Vec Ideal S256x1024 .bf16) (Rect.unit ![0, p.val * 256] ![256, 256] inb) (ix2 s k)
      = ((P (row t s) (colA (col p k)) : ℝ) : EReal) :=
  ld_part (blk5 h t) inb s k s (col p k) (Nat.zero_add _).symm rfl

theorem pb_part (inb) (s k : Fin 256) :
    View.ld (iblk m c 6 t : Vec Ideal S256x1024 .bf16) (Rect.unit ![0, p.val * 256] ![256, 256] inb) (ix2 s k)
      = ((P (row t s) (colB (col p k)) : ℝ) : EReal) :=
  ld_part (blk6 h t) inb s k s (col p k) (Nat.zero_add _).symm rfl

theorem b7 (s : Fin 1) (k : Fin 2048) : (iblk m c 7 t : Vec Ideal S1x2048 .f32) (ix2 s k) = ((b k : ℝ) : EReal) := by
  rw [Subsingleton.elim s 0]
  exact blk7 h t k

theorem ba_part (inb) (k : Fin 256) :
    View.ld (iblk m c 7 t : Vec Ideal S1x2048 .f32) (Rect.unit ![0, p.val * 256] ![1, 256] inb) (ix2 0 k)
      = ((b (lo (col p k)) : ℝ) : EReal) :=
  ld_part (b7 h t) inb 0 k 0 (lo (col p k)) rfl rfl

theorem bb_part (inb) (k : Fin 256) :
    View.ld (iblk m c 7 t : Vec Ideal S1x2048 .f32) (Rect.unit ![0, 1024 + p.val * 256] ![1, 256] inb) (ix2 0 k)
      = ((b (hi (col p k)) : ℝ) : EReal) :=
  ld_part (b7 h t) inb 0 k 0 (hi (col p k)) rfl (Nat.add_assoc _ _ _).symm

end Parts

/-! ## The arrays -/

section Arrays

variable (DX Wo Oa Ob L P b Wr)

/-- The two branches' cotangents. -/
def yA : Fin 8192 → Fin 1024 → ℝ := dy DX Wo (fun s k => P s (colA k)) fun k => b (lo k)
def yB : Fin 8192 → Fin 1024 → ℝ := dy DX Wo (fun s k => P s (colB k)) fun k => b (hi k)

/-- The gates' cotangents before the gates. -/
def gA : Fin 8192 → Fin 1024 → ℝ := dgate DX Wo Oa (fun l k => Wr (top l) k) (fun s k => P s (colA k)) fun k => b (lo k)
def gB : Fin 8192 → Fin 1024 → ℝ := dgate DX Wo Ob (fun l k => Wr (bot l) k) (fun s k => P s (colB k)) fun k => b (hi k)

/-- The cotangents of the attentions' outputs. -/
def oA : Fin 8192 → Fin 256 → ℝ := dout DX Wo (fun l k => Wr (top l) k) (fun s k => P s (colA k)) fun k => b (lo k)
def oB : Fin 8192 → Fin 256 → ℝ := dout DX Wo (fun l k => Wr (bot l) k) (fun s k => P s (colB k)) fun k => b (hi k)

/-- The rows' log sums beside the row products. -/
def st : Fin 8192 → Fin 256 → EReal := stat DX Wo Oa (fun l k => Wr (top l) k) (fun s k => P s (colA k)) (fun k => b (lo k)) L

end Arrays

section Keys

variable (h : Reads m c DX Wo Oa Ob L P b Wr) (t : Fin cfg0.N) (p : Fin 4)
include h

theorem yA_part (i1 i2 i3) (s k : Fin 256) :
    k0_pay19 (F := Ideal) (k0_pay8 (iblk m c 0 t) (View.ld (iblk m c 1 t : Vec Ideal S1024x1024 .bf16) (Rect.unit ![p.val * 256, 0] ![256, 1024] i1)))
        (k0_pay11 (View.ld (iblk m c 5 t : Vec Ideal S256x1024 .bf16) (Rect.unit ![0, p.val * 256] ![256, 256] i2))
          (View.ld (iblk m c 7 t : Vec Ideal S1x2048 .f32) (Rect.unit ![0, p.val * 256] ![1, 256] i3))) (ix2 s k)
      = ((yA DX Wo P b (row t s) (col p k) : ℝ) : EReal) :=
  dy_chunk (P := fun s k => P (row t s) (colA k)) (b := fun k => b (lo k)) p (blk0 h t) (wo_part h t p i1)
    (pa_part h t p i2) (ba_part h t p i3) s k

theorem yB_part (i1 i2 i3) (s k : Fin 256) :
    k0_pay19 (F := Ideal) (k0_pay8 (iblk m c 0 t) (View.ld (iblk m c 1 t : Vec Ideal S1024x1024 .bf16) (Rect.unit ![p.val * 256, 0] ![256, 1024] i1)))
        (k0_pay11 (View.ld (iblk m c 6 t : Vec Ideal S256x1024 .bf16) (Rect.unit ![0, p.val * 256] ![256, 256] i2))
          (View.ld (iblk m c 7 t : Vec Ideal S1x2048 .f32) (Rect.unit ![0, 1024 + p.val * 256] ![1, 256] i3))) (ix2 s k)
      = ((yB DX Wo P b (row t s) (col p k) : ℝ) : EReal) :=
  dy_chunk (P := fun s k => P (row t s) (colB k)) (b := fun k => b (hi k)) p (blk0 h t) (wo_part h t p i1)
    (pb_part h t p i2) (bb_part h t p i3) s k

theorem oA_part (i1 i2 i3 i4) (acc : FVec Ideal S256x256 .f32) (s l : Fin 256) :
    k0_pay22 (F := Ideal) acc (k0_pay21 (View.ld (iblk m c 8 t : Vec Ideal S512x1024 .bf16) (Rect.unit ![0, p.val * 256] ![256, 256] i4))
        (k0_pay8 (iblk m c 0 t) (View.ld (iblk m c 1 t : Vec Ideal S1024x1024 .bf16) (Rect.unit ![p.val * 256, 0] ![256, 1024] i1)))
        (k0_pay11 (View.ld (iblk m c 5 t : Vec Ideal S256x1024 .bf16) (Rect.unit ![0, p.val * 256] ![256, 256] i2))
          (View.ld (iblk m c 7 t : Vec Ideal S1x2048 .f32) (Rect.unit ![0, p.val * 256] ![1, 256] i3)))) (ix2 s l)
      = acc (ix2 s l) + ((∑ k, yA DX Wo P b (row t s) (col p k) * Wr (top l) (col p k) : ℝ) : EReal) :=
  dout_chunk (P := fun s k => P (row t s) (colA k)) (b := fun k => b (lo k)) (W := fun l k => Wr (top l) k) p (blk0 h t)
    (wo_part h t p i1) (wa_part h t p i4) (pa_part h t p i2) (ba_part h t p i3) acc s l

theorem oB_part (i1 i2 i3 i4) (acc : FVec Ideal S256x256 .f32) (s l : Fin 256) :
    k0_pay22 (F := Ideal) acc (k0_pay21 (View.ld (iblk m c 8 t : Vec Ideal S512x1024 .bf16) (Rect.unit ![256, p.val * 256] ![256, 256] i4))
        (k0_pay8 (iblk m c 0 t) (View.ld (iblk m c 1 t : Vec Ideal S1024x1024 .bf16) (Rect.unit ![p.val * 256, 0] ![256, 1024] i1)))
        (k0_pay11 (View.ld (iblk m c 6 t : Vec Ideal S256x1024 .bf16) (Rect.unit ![0, p.val * 256] ![256, 256] i2))
          (View.ld (iblk m c 7 t : Vec Ideal S1x2048 .f32) (Rect.unit ![0, 1024 + p.val * 256] ![1, 256] i3)))) (ix2 s l)
      = acc (ix2 s l) + ((∑ k, yB DX Wo P b (row t s) (col p k) * Wr (bot l) (col p k) : ℝ) : EReal) :=
  dout_chunk (P := fun s k => P (row t s) (colB k)) (b := fun k => b (hi k)) (W := fun l k => Wr (bot l) k) p (blk0 h t)
    (wo_part h t p i1) (wb_part h t p i4) (pb_part h t p i2) (bb_part h t p i3) acc s l

theorem gA_part (i1 i2 i3 i4) (s k : Fin 256) :
    k0_pay13 (F := Ideal) (k0_pay8 (iblk m c 0 t) (View.ld (iblk m c 1 t : Vec Ideal S1024x1024 .bf16) (Rect.unit ![p.val * 256, 0] ![256, 1024] i1)))
        (k0_pay9 (iblk m c 2 t) (View.ld (iblk m c 8 t : Vec Ideal S512x1024 .bf16) (Rect.unit ![0, p.val * 256] ![256, 256] i4)))
        (k0_pay11 (View.ld (iblk m c 5 t : Vec Ideal S256x1024 .bf16) (Rect.unit ![0, p.val * 256] ![256, 256] i2))
          (View.ld (iblk m c 7 t : Vec Ideal S1x2048 .f32) (Rect.unit ![0, p.val * 256] ![1, 256] i3))) (ix2 s k)
      = ((gA DX Wo Oa P b Wr (row t s) (col p k) : ℝ) : EReal) :=
  dgate_chunk (P := fun s k => P (row t s) (colA k)) (b := fun k => b (lo k)) (W := fun l k => Wr (top l) k) p (blk0 h t)
    (wo_part h t p i1) (blk2 h t) (wa_part h t p i4) (pa_part h t p i2) (ba_part h t p i3) s k

theorem gB_part (i1 i2 i3 i4) (s k : Fin 256) :
    k0_pay13 (F := Ideal) (k0_pay8 (iblk m c 0 t) (View.ld (iblk m c 1 t : Vec Ideal S1024x1024 .bf16) (Rect.unit ![p.val * 256, 0] ![256, 1024] i1)))
        (k0_pay9 (iblk m c 3 t) (View.ld (iblk m c 8 t : Vec Ideal S512x1024 .bf16) (Rect.unit ![256, p.val * 256] ![256, 256] i4)))
        (k0_pay11 (View.ld (iblk m c 6 t : Vec Ideal S256x1024 .bf16) (Rect.unit ![0, p.val * 256] ![256, 256] i2))
          (View.ld (iblk m c 7 t : Vec Ideal S1x2048 .f32) (Rect.unit ![0, 1024 + p.val * 256] ![1, 256] i3))) (ix2 s k)
      = ((gB DX Wo Ob P b Wr (row t s) (col p k) : ℝ) : EReal) :=
  dgate_chunk (P := fun s k => P (row t s) (colB k)) (b := fun k => b (hi k)) (W := fun l k => Wr (bot l) k) p (blk0 h t)
    (wo_part h t p i1) (blk3 h t) (wb_part h t p i4) (pb_part h t p i2) (bb_part h t p i3) s k

theorem sA_part (i1 i2 i3 i4) (v : Vec Ideal S1x256 .f32) (k : Fin 256) :
    k0_pay17 (F := Ideal) (k0_pay8 (iblk m c 0 t) (View.ld (iblk m c 1 t : Vec Ideal S1024x1024 .bf16) (Rect.unit ![p.val * 256, 0] ![256, 1024] i1)))
        (k0_pay9 (iblk m c 2 t) (View.ld (iblk m c 8 t : Vec Ideal S512x1024 .bf16) (Rect.unit ![0, p.val * 256] ![256, 256] i4)))
        (k0_pay11 (View.ld (iblk m c 5 t : Vec Ideal S256x1024 .bf16) (Rect.unit ![0, p.val * 256] ![256, 256] i2))
          (View.ld (iblk m c 7 t : Vec Ideal S1x2048 .f32) (Rect.unit ![0, p.val * 256] ![1, 256] i3))) v (ix2 0 k)
      = v (ix2 0 k) + ((∑ s, gA DX Wo Oa P b Wr (row t s) (col p k) : ℝ) : EReal) :=
  dbias_chunk (P := fun s k => P (row t s) (colA k)) (b := fun k => b (lo k)) (W := fun l k => Wr (top l) k) p (blk0 h t)
    (wo_part h t p i1) (blk2 h t) (wa_part h t p i4) (pa_part h t p i2) (ba_part h t p i3) v k

theorem sB_part (i1 i2 i3 i4) (v : Vec Ideal S1x256 .f32) (k : Fin 256) :
    k0_pay17 (F := Ideal) (k0_pay8 (iblk m c 0 t) (View.ld (iblk m c 1 t : Vec Ideal S1024x1024 .bf16) (Rect.unit ![p.val * 256, 0] ![256, 1024] i1)))
        (k0_pay9 (iblk m c 3 t) (View.ld (iblk m c 8 t : Vec Ideal S512x1024 .bf16) (Rect.unit ![256, p.val * 256] ![256, 256] i4)))
        (k0_pay11 (View.ld (iblk m c 6 t : Vec Ideal S256x1024 .bf16) (Rect.unit ![0, p.val * 256] ![256, 256] i2))
          (View.ld (iblk m c 7 t : Vec Ideal S1x2048 .f32) (Rect.unit ![0, 1024 + p.val * 256] ![1, 256] i3))) v (ix2 0 k)
      = v (ix2 0 k) + ((∑ s, gB DX Wo Ob P b Wr (row t s) (col p k) : ℝ) : EReal) :=
  dbias_chunk (P := fun s k => P (row t s) (colB k)) (b := fun k => b (hi k)) (W := fun l k => Wr (bot l) k) p (blk0 h t)
    (wo_part h t p i1) (blk3 h t) (wb_part h t p i4) (pb_part h t p i2) (bb_part h t p i3) v k

end Keys

end Cert.MergeKernel

end
-- ==== Proof.MergeArrays.lean ====
/-
  The result arrays of the kernel of the merge's derivative, over the real numbers.
-/
module

public import proofs.«01_k».proof.Proof.MergeKernel

@[expose] public section

noncomputable section

namespace Cert.MergeKernel

open Cert.Kernel4Ideal Cert.Kernel4Ideal.Gen Idealize.ShloMosaic Idealize.ShloMosaic.TcCoe Idealize.SL.Sem
open Idealize.ShloMosaic.Pipeline (Dat)
open Cert.RealOps Cert.Merge Cert.MergeBlock

variable (m : (ℓ : Loc nD τ sig) → Buf (Elt Ideal) ℓ) (ρ : Dev nD → PrngReg) (c : Dev nD)
variable (DX : Fin 8192 → Fin 1024 → ℝ) (Wo : Fin 1024 → Fin 1024 → ℝ) (Oa Ob : Fin 8192 → Fin 256 → ℝ) (L : Fin 8192 → Fin 256 → EReal)
  (P : Fin 8192 → Fin 5120 → ℝ) (b : Fin 2048 → ℝ) (Wr : Fin 512 → Fin 1024 → ℝ)

variable {m c DX Wo Oa Ob L P b Wr}

theorem array9 (h : Reads m c DX Wo Oa Ob L P b Wr) :
    (dats m 0 c).arrAt 9 cfg0.N = fun i : S8192x1024.Idx => ((yA DX Wo P b (i 0) (i 1) : ℝ) : EReal) := by
  refine (dats m 0 c).arrAt_eq_of_covers 9 _ (by decide +kernel) fun t hf y => ?_
  blk_simp
  have e0 : (((View.whole main_v1_0).slice (win0_9.rect t)).emb y 0 : Fin 8192) = row t (y 0) := by
    apply Fin.ext; blk_simp [idx9, row]
  have e1 : (((View.whole main_v1_0).slice (win0_9.rect t)).emb y 1 : Fin 1024) = y 1 := by
    apply Fin.ext; blk_simp [idx9]
  rw [after0_9, e0, e1]
  by_cases h' : t.val % 32 = 0
  on_goal 1 => rw [outsAt0_A m c t h']
  on_goal 2 => rw [outsAt0_B m c t h']
  all_goals
    frame_out
    let G : Fin 256 → Fin 1024 → Elt Ideal .bf16 := fun s j => ((yA DX Wo P b (row t s) j : ℝ) : EReal)
    refine View.canon_append_of_piecesOf (Val := Elt Ideal) (e := .bf16) (fun i : S256x1024.Idx => G (i 0) (i 1)) [] [_, _, _, _]
      ⟨?_, ?_, ?_, ?_, trivial⟩ y ?_
    · exact block_piece (G := G) (inb := inb_S256x1024_S256x256_0_768) id (col 3) (fun _ => (Nat.zero_add _).symm) (fun _ => rfl) (yA_part h t 3 _ _ _)
    · exact block_piece (G := G) (inb := inb_S256x1024_S256x256_0_512) id (col 2) (fun _ => (Nat.zero_add _).symm) (fun _ => rfl) (yA_part h t 2 _ _ _)
    · exact block_piece (G := G) (inb := inb_S256x1024_S256x256_0_256) id (col 1) (fun _ => (Nat.zero_add _).symm) (fun _ => rfl) (yA_part h t 1 _ _ _)
    · exact block_piece (G := G) (inb := inb_S256x1024_S256x256_0_0) id (col 0) (fun _ => (Nat.zero_add _).symm) (fun _ => rfl) (yA_part h t 0 _ _ _)
    · exact View.cover_of_tiledL (s := S256x1024) _ S256x256.size (by sl_kernel_rfl) y

theorem array10 (h : Reads m c DX Wo Oa Ob L P b Wr) :
    (dats m 0 c).arrAt 10 cfg0.N = fun i : S8192x1024.Idx => ((yB DX Wo P b (i 0) (i 1) : ℝ) : EReal) := by
  refine (dats m 0 c).arrAt_eq_of_covers 10 _ (by decide +kernel) fun t hf y => ?_
  blk_simp
  have e0 : (((View.whole main_v1_1).slice (win0_10.rect t)).emb y 0 : Fin 8192) = row t (y 0) := by
    apply Fin.ext; blk_simp [idx10, row]
  have e1 : (((View.whole main_v1_1).slice (win0_10.rect t)).emb y 1 : Fin 1024) = y 1 := by
    apply Fin.ext; blk_simp [idx10]
  rw [after0_10, e0, e1]
  by_cases h' : t.val % 32 = 0
  on_goal 1 => rw [outsAt0_A m c t h']
  on_goal 2 => rw [outsAt0_B m c t h']
  all_goals
    frame_out
    let G : Fin 256 → Fin 1024 → Elt Ideal .bf16 := fun s j => ((yB DX Wo P b (row t s) j : ℝ) : EReal)
    refine View.canon_append_of_piecesOf (Val := Elt Ideal) (e := .bf16) (fun i : S256x1024.Idx => G (i 0) (i 1)) [] [_, _, _, _]
      ⟨?_, ?_, ?_, ?_, trivial⟩ y ?_
    · exact block_piece (G := G) (inb := inb_S256x1024_S256x256_0_768) id (col 3) (fun _ => (Nat.zero_add _).symm) (fun _ => rfl) (yB_part h t 3 _ _ _)
    · exact block_piece (G := G) (inb := inb_S256x1024_S256x256_0_512) id (col 2) (fun _ => (Nat.zero_add _).symm) (fun _ => rfl) (yB_part h t 2 _ _ _)
    · exact block_piece (G := G) (inb := inb_S256x1024_S256x256_0_256) id (col 1) (fun _ => (Nat.zero_add _).symm) (fun _ => rfl) (yB_part h t 1 _ _ _)
    · exact block_piece (G := G) (inb := inb_S256x1024_S256x256_0_0) id (col 0) (fun _ => (Nat.zero_add _).symm) (fun _ => rfl) (yB_part h t 0 _ _ _)
    · exact View.cover_of_tiledL (s := S256x1024) _ S256x256.size (by sl_kernel_rfl) y

/-- Four products over 256 columns each, added up from zero, are the product over all 1024 columns. -/
theorem dout_sum (f : Fin 1024 → ℝ) (D0 D1 D2 D3 : FVec Ideal S256x256 .f32) (s l : Fin 256)
    (h0 : ∀ acc, k0_pay22 (F := Ideal) acc D0 (ix2 s l) = acc (ix2 s l) + ((∑ k, f (col 0 k) : ℝ) : EReal))
    (h1 : ∀ acc, k0_pay22 (F := Ideal) acc D1 (ix2 s l) = acc (ix2 s l) + ((∑ k, f (col 1 k) : ℝ) : EReal))
    (h2 : ∀ acc, k0_pay22 (F := Ideal) acc D2 (ix2 s l) = acc (ix2 s l) + ((∑ k, f (col 2 k) : ℝ) : EReal))
    (h3 : ∀ acc, k0_pay22 (F := Ideal) acc D3 (ix2 s l) = acc (ix2 s l) + ((∑ k, f (col 3 k) : ℝ) : EReal)) :
    k0_pay22 (F := Ideal) (k0_pay22 (k0_pay22 (k0_pay22 k0_pay6 D0) D1) D2) D3 (ix2 s l) = ((∑ j, f j : ℝ) : EReal) := by
  have z : k0_pay6 (F := Ideal) (ix2 s l) = ((0 : ℝ) : EReal) := bits_zero
  rw [h3, h2, h1, h0, z]
  simp only [add_real, zero_add]
  exact congrArg (fun r : ℝ => (r : EReal)) (sum_cols f).symm

theorem array11 (h : Reads m c DX Wo Oa Ob L P b Wr) :
    (dats m 0 c).arrAt 11 cfg0.N = fun i : S8192x256.Idx => ((oA DX Wo P b Wr (i 0) (i 1) : ℝ) : EReal) := by
  refine (dats m 0 c).arrAt_eq_of_covers 11 _ (by decide +kernel) fun t hf y => ?_
  blk_simp
  have e0 : (((View.whole main_v1_2).slice (win0_11.rect t)).emb y 0 : Fin 8192) = row t (y 0) := by
    apply Fin.ext; blk_simp [idx11, row]
  have e1 : (((View.whole main_v1_2).slice (win0_11.rect t)).emb y 1 : Fin 256) = y 1 := by
    apply Fin.ext; blk_simp [idx11]
  rw [after0_11, e0, e1]
  by_cases h' : t.val % 32 = 0
  on_goal 1 => rw [outsAt0_A m c t h']
  on_goal 2 => rw [outsAt0_B m c t h']
  all_goals
    frame_out
    refine (congrArg _ (eq_ix2 (n0 := 256) (n1 := 256) y)).trans ?_
    exact (dout_sum (fun j => yA DX Wo P b (row t (y 0)) j * Wr (top (y 1)) j) _ _ _ _ (y 0) (y 1)
      (fun acc => oA_part h t 0 _ _ _ _ acc (y 0) (y 1)) (fun acc => oA_part h t 1 _ _ _ _ acc (y 0) (y 1))
      (fun acc => oA_part h t 2 _ _ _ _ acc (y 0) (y 1)) (fun acc => oA_part h t 3 _ _ _ _ acc (y 0) (y 1)))

theorem array12 (h : Reads m c DX Wo Oa Ob L P b Wr) :
    (dats m 0 c).arrAt 12 cfg0.N = fun i : S8192x256.Idx => ((oB DX Wo P b Wr (i 0) (i 1) : ℝ) : EReal) := by
  refine (dats m 0 c).arrAt_eq_of_covers 12 _ (by decide +kernel) fun t hf y => ?_
  blk_simp
  have e0 : (((View.whole main_v1_3).slice (win0_12.rect t)).emb y 0 : Fin 8192) = row t (y 0) := by
    apply Fin.ext; blk_simp [idx12, row]
  have e1 : (((View.whole main_v1_3).slice (win0_12.rect t)).emb y 1 : Fin 256) = y 1 := by
    apply Fin.ext; blk_simp [idx12]
  rw [after0_12, e0, e1]
  by_cases h' : t.val % 32 = 0
  on_goal 1 => rw [outsAt0_A m c t h']
  on_goal 2 => rw [outsAt0_B m c t h']
  all_goals
    frame_out
    refine (congrArg _ (eq_ix2 (n0 := 256) (n1 := 256) y)).trans ?_
    exact (dout_sum (fun j => yB DX Wo P b (row t (y 0)) j * Wr (bot (y 1)) j) _ _ _ _ (y 0) (y 1)
      (fun acc => oB_part h t 0 _ _ _ _ acc (y 0) (y 1)) (fun acc => oB_part h t 1 _ _ _ _ acc (y 0) (y 1))
      (fun acc => oB_part h t 2 _ _ _ _ acc (y 0) (y 1)) (fun acc => oB_part h t 3 _ _ _ _ acc (y 0) (y 1)))

theorem array13 (h : Reads m c DX Wo Oa Ob L P b Wr) :
    (dats m 0 c).arrAt 13 cfg0.N = fun i : S8192x256.Idx => st DX Wo Oa L P b Wr (i 0) (i 1) := by
  refine (dats m 0 c).arrAt_eq_of_covers 13 _ (by decide +kernel) fun t hf y => ?_
  blk_simp
  have e0 : (((View.whole main_v1_4).slice (win0_13.rect t)).emb y 0 : Fin 8192) = row t (y 0) := by
    apply Fin.ext; blk_simp [idx13, row]
  have e1 : (((View.whole main_v1_4).slice (win0_13.rect t)).emb y 1 : Fin 256) = y 1 := by
    apply Fin.ext; blk_simp [idx13]
  rw [after0_13, e0, e1]
  by_cases h' : t.val % 32 = 0
  on_goal 1 => rw [outsAt0_A m c t h']
  on_goal 2 => rw [outsAt0_B m c t h']
  all_goals
    frame_out
    refine (congrArg _ (eq_ix2 (n0 := 256) (n1 := 256) y)).trans ?_
    exact stat_block _ _ _ _ _ _ (blk2 h t) (fun s l => (dout_sum (fun j => yA DX Wo P b (row t s) j * Wr (top l) j) _ _ _ _ s l
      (fun acc => oA_part h t 0 _ _ _ _ acc s l) (fun acc => oA_part h t 1 _ _ _ _ acc s l)
      (fun acc => oA_part h t 2 _ _ _ _ acc s l) (fun acc => oA_part h t 3 _ _ _ _ acc s l))) (blk4 h t) (y 0) (y 1)

theorem array14 (h : Reads m c DX Wo Oa Ob L P b Wr) :
    (dats m 0 c).arrAt 14 cfg0.N = fun i : S8192x2048.Idx => ((both (gA DX Wo Oa P b Wr) (gB DX Wo Ob P b Wr) (i 0) (i 1) : ℝ) : EReal) := by
  refine (dats m 0 c).arrAt_eq_of_covers 14 _ (by decide +kernel) fun t hf y => ?_
  blk_simp
  have e0 : (((View.whole main_v1_5).slice (win0_14.rect t)).emb y 0 : Fin 8192) = row t (y 0) := by
    apply Fin.ext; blk_simp [idx14, row]
  have e1 : (((View.whole main_v1_5).slice (win0_14.rect t)).emb y 1 : Fin 2048) = y 1 := by
    apply Fin.ext; blk_simp [idx14]
  rw [after0_14, e0, e1]
  by_cases h' : t.val % 32 = 0
  on_goal 1 => rw [outsAt0_A m c t h']
  on_goal 2 => rw [outsAt0_B m c t h']
  all_goals
    frame_out
    let G : Fin 256 → Fin 2048 → Elt Ideal .bf16 := fun s j =>
      ((both (gA DX Wo Oa P b Wr) (gB DX Wo Ob P b Wr) (row t s) j : ℝ) : EReal)
    refine View.canon_append_of_piecesOf (Val := Elt Ideal) (e := .bf16) (fun i : S256x2048.Idx => G (i 0) (i 1)) [] [_, _, _, _, _, _, _, _]
      ⟨?_, ?_, ?_, ?_, ?_, ?_, ?_, ?_, trivial⟩ y ?_
    · exact block_piece (G := G) (inb := inb_S256x2048_S256x256_0_1792) id (fun k => hi (col 3 k)) (fun _ => (Nat.zero_add _).symm) (fun _ => (Nat.add_assoc 1024 (3 * 256) _).symm)
        fun s k => (gB_part h t 3 _ _ _ _ s k).trans (congrArg (fun r : ℝ => (r : EReal)) (both_hi _ _ _ _).symm)
    · exact block_piece (G := G) (inb := inb_S256x2048_S256x256_0_768) id (fun k => lo (col 3 k)) (fun _ => (Nat.zero_add _).symm) (fun _ => rfl)
        fun s k => (gA_part h t 3 _ _ _ _ s k).trans (congrArg (fun r : ℝ => (r : EReal)) (both_lo _ _ _ _).symm)
    · exact block_piece (G := G) (inb := inb_S256x2048_S256x256_0_1536) id (fun k => hi (col 2 k)) (fun _ => (Nat.zero_add _).symm) (fun _ => (Nat.add_assoc 1024 (2 * 256) _).symm)
        fun s k => (gB_part h t 2 _ _ _ _ s k).trans (congrArg (fun r : ℝ => (r : EReal)) (both_hi _ _ _ _).symm)
    · exact block_piece (G := G) (inb := inb_S256x2048_S256x256_0_512) id (fun k => lo (col 2 k)) (fun _ => (Nat.zero_add _).symm) (fun _ => rfl)
        fun s k => (gA_part h t 2 _ _ _ _ s k).trans (congrArg (fun r : ℝ => (r : EReal)) (both_lo _ _ _ _).symm)
    · exact block_piece (G := G) (inb := inb_S256x2048_S256x256_0_1280) id (fun k => hi (col 1 k)) (fun _ => (Nat.zero_add _).symm) (fun _ => (Nat.add_assoc 1024 (1 * 256) _).symm)
        fun s k => (gB_part h t 1 _ _ _ _ s k).trans (congrArg (fun r : ℝ => (r : EReal)) (both_hi _ _ _ _).symm)
    · exact block_piece (G := G) (inb := inb_S256x2048_S256x256_0_256) id (fun k => lo (col 1 k)) (fun _ => (Nat.zero_add _).symm) (fun _ => rfl)
        fun s k => (gA_part h t 1 _ _ _ _ s k).trans (congrArg (fun r : ℝ => (r : EReal)) (both_lo _ _ _ _).symm)
    · exact block_piece (G := G) (inb := inb_S256x2048_S256x256_0_1024) id (fun k => hi (col 0 k)) (fun _ => (Nat.zero_add _).symm) (fun _ => (Nat.add_assoc 1024 (0 * 256) _).symm)
        fun s k => (gB_part h t 0 _ _ _ _ s k).trans (congrArg (fun r : ℝ => (r : EReal)) (both_hi _ _ _ _).symm)
    · exact block_piece (G := G) (inb := inb_S256x2048_S256x256_0_0) id (fun k => lo (col 0 k)) (fun _ => (Nat.zero_add _).symm) (fun _ => rfl)
        fun s k => (gA_part h t 0 _ _ _ _ s k).trans (congrArg (fun r : ℝ => (r : EReal)) (both_lo _ _ _ _).symm)
    · exact View.cover_of_tiledL (s := S256x2048) _ S256x256.size (by sl_kernel_rfl) y

end Cert.MergeKernel

end
-- ==== Proof.MergeBias.lean ====
/-
  The bias's derivative from the kernel of the merge's derivative: a sum over the grid, over the real numbers.
-/
module

public import proofs.«01_k».proof.Proof.MergeKernel

@[expose] public section

noncomputable section

namespace Cert.MergeKernel

open Cert.Kernel4Ideal Cert.Kernel4Ideal.Gen Idealize.ShloMosaic Idealize.ShloMosaic.TcCoe Idealize.SL.Sem
open Idealize.ShloMosaic.Pipeline (Dat)
open Cert.RealOps Cert.Merge Cert.MergeBlock

variable (m : (ℓ : Loc nD τ sig) → Buf (Elt Ideal) ℓ) (ρ : Dev nD → PrngReg) (c : Dev nD)
variable (DX : Fin 8192 → Fin 1024 → ℝ) (Wo : Fin 1024 → Fin 1024 → ℝ) (Oa Ob : Fin 8192 → Fin 256 → ℝ) (L : Fin 8192 → Fin 256 → EReal)
  (P : Fin 8192 → Fin 5120 → ℝ) (b : Fin 2048 → ℝ) (Wr : Fin 512 → Fin 1024 → ℝ)

variable {m c DX Wo Oa Ob L P b Wr}

theorem last_point {t : Fin cfg0.N} (h : t.val % 32 = 31) : t.val + 1 = cfg0.N := by
  have h32 : cfg0.N = 32 := N_0
  have := t.isLt
  omega

/-- The rows of the thirty-two blocks are the rows of the array. -/
theorem sum_rows (f : Fin 8192 → ℝ) : ∑ t : Fin cfg0.N, ∑ s : Fin 256, f (row t s) = ∑ s, f s :=
  Fin.sum_mul_add_congr fun _ _ _ => rfl

/-- The bias's derivative at column `j`, from block `t`'s rows. -/
def part15 (t : Fin cfg0.N) (j : Fin 2048) : ℝ := ∑ s, both (gA DX Wo Oa P b Wr) (gB DX Wo Ob P b Wr) (row t s) j

/-- What the sum over the blocks holds after block `t`, over what it held before. -/
def added (h : Reads m c DX Wo Oa Ob L P b Wr) (t : Fin cfg0.N) (prev : Vec Ideal S1x2048 .f32) : Fin 1 → Fin 2048 → Elt Ideal .f32 := fun s j =>
  prev (ix2 s j) + ((part15 (DX := DX) (Wo := Wo) (Oa := Oa) (Ob := Ob) (P := P) (b := b) (Wr := Wr) t j : ℝ) : EReal)

section Parts
variable (h : Reads m c DX Wo Oa Ob L P b Wr) (t : Fin cfg0.N) (p : Fin 4) (prev : Vec Ideal S1x2048 .f32)

theorem biasA (i1 i2 i3 i4) (i5 : ∀ x, (![0, p.val * 256] : Fin 2 → ℕ) x + (![1, 256] : Fin 2 → ℕ) x ≤ S1x2048.size x) (x : S1x256.Idx) :
    k0_pay17 (F := Ideal) (k0_pay8 (iblk m c 0 t) (View.ld (iblk m c 1 t : Vec Ideal S1024x1024 .bf16) (Rect.unit ![p.val * 256, 0] ![256, 1024] i1)))
        (k0_pay9 (iblk m c 2 t) (View.ld (iblk m c 8 t : Vec Ideal S512x1024 .bf16) (Rect.unit ![0, p.val * 256] ![256, 256] i4)))
        (k0_pay11 (View.ld (iblk m c 5 t : Vec Ideal S256x1024 .bf16) (Rect.unit ![0, p.val * 256] ![256, 256] i2))
          (View.ld (iblk m c 7 t : Vec Ideal S1x2048 .f32) (Rect.unit ![0, p.val * 256] ![1, 256] i3)))
        (View.ld prev (Rect.unit ![0, p.val * 256] ![1, 256] i5)) x
      = (fun i : S1x2048.Idx => added h t prev (i 0) (i 1)) ((Rect.unit (s := S1x2048) ![0, p.val * 256] ![1, 256] i5).emb x) :=
  block_piece (G := added h t prev) (inb := i5) id (fun k => lo (col p k)) (fun _ => (Nat.zero_add _).symm) (fun _ => rfl) (fun s k => by
    obtain rfl : s = 0 := Subsingleton.elim _ _
    refine (sA_part h t p i1 i2 i3 i4 _ k).trans ?_
    rw [ld_part (V := fun s j => prev (ix2 s j)) (fun _ _ => rfl) i5 0 k 0 (lo (col p k)) rfl ((fun _ => rfl) k)]
    exact congrArg (fun r : ℝ => prev (ix2 0 (lo (col p k))) + (r : EReal)) (Finset.sum_congr rfl fun _ _ => (both_lo _ _ _ _).symm)) x

theorem biasB (i1 i2 i3 i4) (i5 : ∀ x, (![0, 1024 + p.val * 256] : Fin 2 → ℕ) x + (![1, 256] : Fin 2 → ℕ) x ≤ S1x2048.size x) (x : S1x256.Idx) :
    k0_pay17 (F := Ideal) (k0_pay8 (iblk m c 0 t) (View.ld (iblk m c 1 t : Vec Ideal S1024x1024 .bf16) (Rect.unit ![p.val * 256, 0] ![256, 1024] i1)))
        (k0_pay9 (iblk m c 3 t) (View.ld (iblk m c 8 t : Vec Ideal S512x1024 .bf16) (Rect.unit ![256, p.val * 256] ![256, 256] i4)))
        (k0_pay11 (View.ld (iblk m c 6 t : Vec Ideal S256x1024 .bf16) (Rect.unit ![0, p.val * 256] ![256, 256] i2))
          (View.ld (iblk m c 7 t : Vec Ideal S1x2048 .f32) (Rect.unit ![0, 1024 + p.val * 256] ![1, 256] i3)))
        (View.ld prev (Rect.unit ![0, 1024 + p.val * 256] ![1, 256] i5)) x
      = (fun i : S1x2048.Idx => added h t prev (i 0) (i 1)) ((Rect.unit (s := S1x2048) ![0, 1024 + p.val * 256] ![1, 256] i5).emb x) :=
  block_piece (G := added h t prev) (inb := i5) id (fun k => hi (col p k)) (fun _ => (Nat.zero_add _).symm) (fun _ => (Nat.add_assoc 1024 (p.val * 256) _).symm) (fun s k => by
    obtain rfl : s = 0 := Subsingleton.elim _ _
    refine (sB_part h t p i1 i2 i3 i4 _ k).trans ?_
    rw [ld_part (V := fun s j => prev (ix2 s j)) (fun _ _ => rfl) i5 0 k 0 (hi (col p k)) rfl ((fun _ => (Nat.add_assoc 1024 (p.val * 256) _).symm) k)]
    exact congrArg (fun r : ℝ => prev (ix2 0 (hi (col p k))) + (r : EReal)) (Finset.sum_congr rfl fun _ _ => (both_hi _ _ _ _).symm)) x

end Parts

theorem array15 (h : Reads m c DX Wo Oa Ob L P b Wr) :
    (dats m 0 c).arrAt 15 cfg0.N = fun i : S1x2048.Idx => ((∑ r, both (gA DX Wo Oa P b Wr) (gB DX Wo Ob P b Wr) r (i 1) : ℝ) : EReal) := by
  refine (dats m 0 c).arrAt_eq_of_covers 15 _ (by decide +kernel) fun t hf y => ?_
  blk_simp
  have hix : ∀ j : S1x2048.Idx, j = ix2 0 (j 1) := fun j =>
    (eq_ix2 (n0 := 1) (n1 := 2048) j).trans (congrArg (fun a => ix2 a (j 1)) (Subsingleton.elim (α := Fin 1) _ _))
  have e1 : (((View.whole main_v1_6).slice (win0_15.rect t)).emb y 1 : Fin 2048) = y 1 := by
    apply Fin.ext; blk_simp [idx15]
  rw [after0_15, e1]
  rw [Pipeline.eq_sum_fin_of_reset_step_apply_last (fun n h => (outsAt0 m c n h).2.2.2.2.2.2) 32 (fun _ => 0)
     (fun t (j : S1x2048.Idx) => ((part15 (DX := DX) (Wo := Wo) (Oa := Oa) (Ob := Ob) (P := P) (b := b) (Wr := Wr) t (j 1) : ℝ) : EReal))
      (fun t h' j => by
         rw [outsAt0_A m c t h']; frame_out
         simp (disch := decide) only [↓View.readCov_skip, ↓View.readCov_fill]
         obtain ⟨k, hk⟩ : ∃ k : Fin 2048, j = ix2 0 k := ⟨_, hix j⟩
         refine (View.canon_append_of_piecesOf (Val := Elt Ideal) (e := .f32)
           (fun i : S1x2048.Idx => added h t (k0_pay2 (F := Ideal)) (i 0) (i 1)) [_] [_, _, _, _, _, _, _, _]
           ⟨?_, ?_, ?_, ?_, ?_, ?_, ?_, ?_, trivial⟩ j ?_).trans (by subst hk; exact congrArg (fun r : EReal => r + _) bits_zero)
         · exact biasB h t 3 (k0_pay2 (F := Ideal)) _ _ _ _ _
         · exact biasA h t 3 (k0_pay2 (F := Ideal)) _ _ _ _ _
         · exact biasB h t 2 (k0_pay2 (F := Ideal)) _ _ _ _ inb_S1x2048_S1x256_0_1536
         · exact biasA h t 2 (k0_pay2 (F := Ideal)) _ _ _ _ _
         · exact biasB h t 1 (k0_pay2 (F := Ideal)) _ _ _ _ _
         · exact biasA h t 1 (k0_pay2 (F := Ideal)) _ _ _ _ _
         · exact biasB h t 0 (k0_pay2 (F := Ideal)) _ _ _ _ _
         · exact biasA h t 0 (k0_pay2 (F := Ideal)) _ _ _ _ _
         · exact View.cover_of_tiledL (s := S1x2048) _ S1x256.size (by sl_kernel_rfl) j)
      (fun t h' j => by
         rw [outsAt0_B m c t h']; frame_out
         obtain ⟨k, hk⟩ : ∃ k : Fin 2048, j = ix2 0 k := ⟨_, hix j⟩
         refine (View.canon_append_of_piecesOf (Val := Elt Ideal) (e := .f32)
           (fun i : S1x2048.Idx => added h t _ (i 0) (i 1)) [] [_, _, _, _, _, _, _, _]
           ⟨?_, ?_, ?_, ?_, ?_, ?_, ?_, ?_, trivial⟩ j ?_).trans (by subst hk; rfl)
         · exact biasB h t 3 _ _ _ _ _ _
         · exact biasA h t 3 _ _ _ _ _ _
         · exact biasB h t 2 _ _ _ _ _ inb_S1x2048_S1x256_0_1536
         · exact biasA h t 2 _ _ _ _ _ _
         · exact biasB h t 1 _ _ _ _ _ _
         · exact biasA h t 1 _ _ _ _ _ _
         · exact biasB h t 0 _ _ _ _ _ _
         · exact biasA h t 0 _ _ _ _ _ _
         · exact View.cover_of_tiledL (s := S1x2048) _ S1x256.size (by sl_kernel_rfl) j)
      (by decide) t (last_point ((flush0_15 t).mp hf)) y]
  rw [zero_add, sum_real]
  exact congrArg (fun r : ℝ => (r : EReal)) (sum_rows fun r => both (gA DX Wo Oa P b Wr) (gB DX Wo Ob P b Wr) r (y 1))

end Cert.MergeKernel

end
-- ==== Proof.MergeReference.lean ====
/-
  What the reference's derivative of the gated merge computes, over the real numbers.
-/
module

public import proofs.«01_k».proof.Proof.MergeKernel
public import proofs.«01_k».proof.Proof.Gen.Reference4Ideal.Run
public import proofs.«01_k».proof.Proof.Gen.Reference4Ideal.Read
public import Idealize.ShloMosaic.Lib.Pointwise
public import Idealize.ShloMosaic.Lib.KernelVsHost
public import Idealize.ShloMosaic.Adequacy

@[expose] public section

noncomputable section

namespace Cert.MergeReference

open Cert.Reference4Ideal Cert.Reference4Ideal.Gen Cert.Reference4Ideal.Read Idealize.ShloMosaic
open Cert.RealOps Cert.Merge
open Cert.MergeKernel (yA yB gA gB oA oB st colA colB)

variable {x0 : (⟨S8192x1024, .f32⟩ : BufTy).Contents (Elt Ideal)} {x1 : (⟨S1024x1024, .bf16⟩ : BufTy).Contents (Elt Ideal)}
  {x2 x3 x4 : (⟨S8192x256, .f32⟩ : BufTy).Contents (Elt Ideal)} {x5 : (⟨S8192x5120, .bf16⟩ : BufTy).Contents (Elt Ideal)}
  {x6 : (⟨S2048, .f32⟩ : BufTy).Contents (Elt Ideal)} {x7 : (⟨S512x1024, .bf16⟩ : BufTy).Contents (Elt Ideal)}
variable {DX : Fin 8192 → Fin 1024 → ℝ} {Wo : Fin 1024 → Fin 1024 → ℝ} {Oa Ob : Fin 8192 → Fin 256 → ℝ} {L : Fin 8192 → Fin 256 → EReal}
  {P : Fin 8192 → Fin 5120 → ℝ} {b : Fin 2048 → ℝ} {Wr : Fin 512 → Fin 1024 → ℝ}

/-- The column of the projected row that a gate is made of. -/
def gcol (j : Fin 2048) : Fin 5120 := ⟨3072 + j.val, by omega⟩

theorem gcol_hi (k : Fin 1024) : gcol (hi k) = colB k := Fin.ext (by show 3072 + (1024 + k.val) = 4096 + k.val; omega)

theorem halves (j : Fin 2048) : (∃ k, j = lo k) ∨ ∃ k, j = hi k := by
  by_cases h : j.val < 1024
  · exact Or.inl ⟨⟨j.val, h⟩, rfl⟩
  · exact Or.inr ⟨⟨j.val - 1024, by omega⟩, Fin.ext (by show j.val = 1024 + (j.val - 1024); omega)⟩

/-- The gates. -/
theorem gates (h5 : ∀ i, x5 i = P (i 0) (i 1)) (h6 : ∀ i, x6 i = b (i 0)) (i : S8192x2048.Idx) :
    val_main_v16 (F := Ideal) x5 x6 i = ((gate (P (i 0) (gcol (i 1)) + b (i 1)) : ℝ) : EReal) := by
  simp only [val_main_v16_apply, val_main_v15_apply, val_main_cst_0_apply, val_main_v14_apply, val_main_v13_apply, val_main_cst_apply,
    val_main_v12_apply, val_main_v11_apply, val_main_v10_apply, val_main_v9_apply, val_main_v8_apply, val_main_v3_apply,
    val_main_v2_apply, h5, h6]
  pointwise
  have h : (0 : ℝ) < 1 + Real.exp (-(P (i 0) (gcol (i 1)) + b (i 1))) := by positivity
  have key : Ideal.div 1 (1 + Ideal.exp (-(((P (i 0) (gcol (i 1)) : ℝ) : EReal) + ((b (i 1) : ℝ) : EReal))))
      = ((gate (P (i 0) (gcol (i 1)) + b (i 1)) : ℝ) : EReal) := by
    rw [← EReal.coe_one, add_real, neg_real, exp_real, add_real, div_real _ h.ne']
    rfl
  exact key

theorem gateA (h5 : ∀ i, x5 i = P (i 0) (i 1)) (h6 : ∀ i, x6 i = b (i 0)) (i : S8192x1024.Idx) :
    val_main_v20 (F := Ideal) x5 x6 i = ((gate (P (i 0) (colA (i 1)) + b (lo (i 1))) : ℝ) : EReal) := by
  rw [val_main_v20_apply, gates h5 h6]
  rfl

theorem gateB (h5 : ∀ i, x5 i = P (i 0) (i 1)) (h6 : ∀ i, x6 i = b (i 0)) (i : S8192x1024.Idx) :
    val_main_v21 (F := Ideal) x5 x6 i = ((gate (P (i 0) (colB (i 1)) + b (hi (i 1))) : ℝ) : EReal) := by
  rw [val_main_v21_apply, gates h5 h6]
  exact congrArg (fun q : Fin 5120 => ((gate (P (i 0) q + b (hi (i 1))) : ℝ) : EReal)) (gcol_hi (i 1))

/-- The cotangent of the merged row. -/
theorem merged (h0 : ∀ i, x0 i = DX (i 0) (i 1)) (h1 : ∀ i, x1 i = Wo (i 0) (i 1)) (i : S8192x1024.Idx) :
    val_main_v26 (F := Ideal) x0 x1 i = ((dm DX Wo (i 0) (i 1) : ℝ) : EReal) := by
  simp only [val_main_v26_apply, val_main_v0_apply, h0, h1]
  pointwise
  simp only [mul_real, sum_real]
  rfl

/-- The two branches' cotangents. -/
theorem branchGradA (h0 : ∀ i, x0 i = DX (i 0) (i 1)) (h1 : ∀ i, x1 i = Wo (i 0) (i 1)) (h5 : ∀ i, x5 i = P (i 0) (i 1))
    (h6 : ∀ i, x6 i = b (i 0)) (i : S8192x1024.Idx) :
    val_main_v29 (F := Ideal) x0 x1 x5 x6 i = ((yA DX Wo P b (i 0) (i 1) : ℝ) : EReal) := by
  simp only [val_main_v29_apply, gateA h5 h6, merged h0 h1]
  pointwise
  rw [mul_real]
  exact congrArg (fun r : ℝ => (r : EReal)) (mul_comm _ _)

theorem branchGradB (h0 : ∀ i, x0 i = DX (i 0) (i 1)) (h1 : ∀ i, x1 i = Wo (i 0) (i 1)) (h5 : ∀ i, x5 i = P (i 0) (i 1))
    (h6 : ∀ i, x6 i = b (i 0)) (i : S8192x1024.Idx) :
    val_main_v27 (F := Ideal) x0 x1 x5 x6 i = ((yB DX Wo P b (i 0) (i 1) : ℝ) : EReal) := by
  simp only [val_main_v27_apply, gateB h5 h6, merged h0 h1]
  pointwise
  rw [mul_real]
  exact congrArg (fun r : ℝ => (r : EReal)) (mul_comm _ _)

/-- The cotangents of the attentions' outputs. -/
theorem outGradA (h0 : ∀ i, x0 i = DX (i 0) (i 1)) (h1 : ∀ i, x1 i = Wo (i 0) (i 1)) (h5 : ∀ i, x5 i = P (i 0) (i 1))
    (h6 : ∀ i, x6 i = b (i 0)) (h7 : ∀ i, x7 i = Wr (i 0) (i 1)) (i : S8192x256.Idx) :
    val_main_v39 (F := Ideal) x0 x1 x5 x6 x7 i = ((oA DX Wo P b Wr (i 0) (i 1) : ℝ) : EReal) := by
  simp only [val_main_v39_apply, branchGradA h0 h1 h5 h6, val_main_v4_apply, val_main_v1_apply, h7]
  pointwise
  simp only [mul_real, sum_real]
  rfl

theorem outGradB (h0 : ∀ i, x0 i = DX (i 0) (i 1)) (h1 : ∀ i, x1 i = Wo (i 0) (i 1)) (h5 : ∀ i, x5 i = P (i 0) (i 1))
    (h6 : ∀ i, x6 i = b (i 0)) (h7 : ∀ i, x7 i = Wr (i 0) (i 1)) (i : S8192x256.Idx) :
    val_main_v38 (F := Ideal) x0 x1 x5 x6 x7 i = ((oB DX Wo P b Wr (i 0) (i 1) : ℝ) : EReal) := by
  simp only [val_main_v38_apply, branchGradB h0 h1 h5 h6, val_main_v6_apply, val_main_v1_apply, h7]
  pointwise
  simp only [mul_real, sum_real]
  rfl

/-- A branch times the merged row's cotangent. -/
theorem slopeA (h0 : ∀ i, x0 i = DX (i 0) (i 1)) (h1 : ∀ i, x1 i = Wo (i 0) (i 1)) (h2 : ∀ i, x2 i = Oa (i 0) (i 1))
    (h7 : ∀ i, x7 i = Wr (i 0) (i 1)) (i : S8192x1024.Idx) :
    val_main_v30 (F := Ideal) x0 x1 x2 x7 i
      = ((dm DX Wo (i 0) (i 1) * branch Oa (fun l k => Wr (top l) k) (i 0) (i 1) : ℝ) : EReal) := by
  simp only [val_main_v30_apply, merged h0 h1, val_main_v5_apply, val_main_v4_apply, val_main_v1_apply, h2, h7]
  pointwise
  simp only [mul_real, sum_real]
  rfl

theorem slopeB (h0 : ∀ i, x0 i = DX (i 0) (i 1)) (h1 : ∀ i, x1 i = Wo (i 0) (i 1)) (h3 : ∀ i, x3 i = Ob (i 0) (i 1))
    (h7 : ∀ i, x7 i = Wr (i 0) (i 1)) (i : S8192x1024.Idx) :
    val_main_v28 (F := Ideal) x0 x1 x3 x7 i
      = ((dm DX Wo (i 0) (i 1) * branch Ob (fun l k => Wr (bot l) k) (i 0) (i 1) : ℝ) : EReal) := by
  simp only [val_main_v28_apply, merged h0 h1, val_main_v7_apply, val_main_v6_apply, val_main_v1_apply, h3, h7]
  pointwise
  simp only [mul_real, sum_real]
  rfl

/-- The gates' cotangents before the gates, the two halves beside each other. -/
theorem gateGrad (h0 : ∀ i, x0 i = DX (i 0) (i 1)) (h1 : ∀ i, x1 i = Wo (i 0) (i 1)) (h2 : ∀ i, x2 i = Oa (i 0) (i 1))
    (h3 : ∀ i, x3 i = Ob (i 0) (i 1)) (h5 : ∀ i, x5 i = P (i 0) (i 1)) (h6 : ∀ i, x6 i = b (i 0))
    (h7 : ∀ i, x7 i = Wr (i 0) (i 1)) (i : S8192x2048.Idx) :
    val_main_v34 (F := Ideal) x0 x1 x2 x3 x5 x6 x7 i
      = ((both (gA DX Wo Oa P b Wr) (gB DX Wo Ob P b Wr) (i 0) (i 1) : ℝ) : EReal) := by
  obtain ⟨s, j, rfl⟩ : ∃ (s : Fin 8192) (j : Fin 2048), i = ix2 s j := ⟨i 0, i 1, eq_ix2 i⟩
  have e19 : val_main_v19 (F := Ideal) x5 x6 (ix2 s j) = ((gate (P s (gcol j) + b j) * (1 - gate (P s (gcol j) + b j)) : ℝ) : EReal) := by
    simp only [val_main_v19_apply, val_main_v18_apply, val_main_v17_apply, val_main_cst_1_apply, gates h5 h6]
    pointwise
    have key : ∀ r : ℝ, ((r : ℝ) : EReal) * (1 - ((r : ℝ) : EReal)) = ((r * (1 - r) : ℝ) : EReal) := fun r => by
      rw [← EReal.coe_one, sub_real, mul_real]
    exact key _
  have key : ∀ a z r : ℝ, (((a : ℝ) : EReal) + ((z : ℝ) : EReal)) * ((r : ℝ) : EReal) = (((a + z) * r : ℝ) : EReal) := fun a z r => by
    rw [add_real, mul_real]
  rw [val_main_v34_apply, val_main_v33_apply, e19]
  rcases halves j with ⟨k, rfl⟩ | ⟨k, rfl⟩
  · have e31 : val_main_v31 (F := Ideal) x0 x1 x3 x7 (ix2 s (lo k)) = ((0 : ℝ) : EReal) :=
      (pad_apply_of_not_inside _ _ _ _ _ _ _ _ 1 (fun h => absurd (h.1 : 1024 ≤ k.val) (Nat.not_le.2 k.isLt))).trans bits_zero
    have e32 : val_main_v32 (F := Ideal) x0 x1 x2 x7 (ix2 s (lo k)) = val_main_v30 (F := Ideal) x0 x1 x2 x7 (ix2 s k) :=
      pad_apply_of_inside _ _ _ _ _ _ _ _ (ix2 s k) (fun a => match a with
        | ⟨0, _⟩ => by show s.val = 0 + s.val * (0 + 1); omega
        | ⟨1, _⟩ => by show k.val = 0 + k.val * (0 + 1); omega)
    rw [e31, e32, slopeA h0 h1 h2 h7]
    refine (key _ _ _).trans (congrArg (fun r : ℝ => (r : EReal)) (Eq.trans ?_ (both_lo _ _ s k).symm))
    show (0 + dm DX Wo s k * branch Oa (fun l k => Wr (top l) k) s k) *
      (gate (P s (colA k) + b (lo k)) * (1 - gate (P s (colA k) + b (lo k)))) = gA DX Wo Oa P b Wr s k
    unfold gA dgate
    ring
  · have e31 : val_main_v32 (F := Ideal) x0 x1 x2 x7 (ix2 s (hi k)) = ((0 : ℝ) : EReal) :=
      (pad_apply_of_not_inside _ _ _ _ _ _ _ _ 1 (fun h => by
        have h' : (1024 + k.val - 0) / (0 + 1) < 1024 := h.2.2
        omega)).trans bits_zero
    have e32 : val_main_v31 (F := Ideal) x0 x1 x3 x7 (ix2 s (hi k)) = val_main_v28 (F := Ideal) x0 x1 x3 x7 (ix2 s k) :=
      pad_apply_of_inside _ _ _ _ _ _ _ _ (ix2 s k) (fun a => match a with
        | ⟨0, _⟩ => by show s.val = 0 + s.val * (0 + 1); omega
        | ⟨1, _⟩ => by show 1024 + k.val = 1024 + k.val * (0 + 1); omega)
    rw [e31, e32, slopeB h0 h1 h3 h7]
    refine (key _ _ _).trans (congrArg (fun r : ℝ => (r : EReal)) (Eq.trans ?_ (both_hi _ _ s k).symm))
    rw [gcol_hi k]
    show (dm DX Wo s k * branch Ob (fun l k => Wr (bot l) k) s k + 0) *
      (gate (P s (colB k) + b (hi k)) * (1 - gate (P s (colB k) + b (hi k)))) = gB DX Wo Ob P b Wr s k
    unfold gB dgate
    ring

/-- The bias's derivative. -/
theorem biasGrad (h0 : ∀ i, x0 i = DX (i 0) (i 1)) (h1 : ∀ i, x1 i = Wo (i 0) (i 1)) (h2 : ∀ i, x2 i = Oa (i 0) (i 1))
    (h3 : ∀ i, x3 i = Ob (i 0) (i 1)) (h5 : ∀ i, x5 i = P (i 0) (i 1)) (h6 : ∀ i, x6 i = b (i 0))
    (h7 : ∀ i, x7 i = Wr (i 0) (i 1)) (i : S1x2048.Idx) :
    val_main_v55 (F := Ideal) x0 x1 x2 x3 x5 x6 x7 i
      = ((∑ s, both (gA DX Wo Oa P b Wr) (gB DX Wo Ob P b Wr) s (i 1) : ℝ) : EReal) := by
  have h35 (j : S2048.Idx) : val_main_v35 (F := Ideal) x0 x1 x2 x3 x5 x6 x7 j
      = ((∑ s, both (gA DX Wo Oa P b Wr) (gB DX Wo Ob P b Wr) s (j 0) : ℝ) : EReal) := by
    simp only [val_main_v35_apply, val_main_cst_4_apply, gateGrad h0 h1 h2 h3 h5 h6 h7]
    pointwise
    simp only [sum_real]
    rfl
  simp only [val_main_v55_apply, val_main_v37_apply, val_main_v36_apply, val_main_cst_5_apply, h35]
  pointwise
  rw [Fin.sum_univ_one]
  refine congrArg (fun k : Fin 2048 => ((∑ s, both (gA DX Wo Oa P b Wr) (gB DX Wo Ob P b Wr) s k : ℝ) : EReal)) (Fin.ext ?_)
  show 0 * 2048 + ((i 0).val * 2048 + (i 1).val) = (i 1).val
  have h1 : (i 0).val < 1 := (i 0).isLt
  omega

/-- The remainder of a lane by the head's width, below its half. -/
theorem lane (k : Fin 256) : val_main_v46 (F := Ideal) (ix1 k) = if k.val % 64 < 32 then 1#1 else 0#1 := by
  simp only [val_main_v46_apply, val_main_v45_apply, val_main_c_7_apply, val_main_v44_apply, val_main_call0_v12_apply,
    val_main_call0_v14_apply, val_main_call0_v13_apply, val_main_call0_v11_apply, val_main_call0_v10_apply,
    val_main_call0_v9_apply, val_main_call0_c_3_apply, val_main_call0_v8_apply, val_main_call0_v7_apply,
    val_main_call0_c_2_apply, val_main_call0_v6_apply, val_main_call0_v5_apply, val_main_call0_c_1_apply,
    val_main_call0_v4_apply, val_main_call0_v3_apply, val_main_call0_v2_apply, val_main_call0_c_0_apply,
    val_main_call0_v1_apply, val_main_call0_c_apply, val_main_call0_v0_apply, val_main_c_apply, val_main_v43_apply]
  revert k
  decide +kernel

/-- Lane `i` of the head that lane `k` is in. -/
def lane_of (k : Fin 256) (i : Fin 64) : Fin 256 := ⟨k.val / 64 * 64 + i.val, by have := k.isLt; have := i.isLt; omega⟩

/-- A head's lanes are those of the 256 that lie in it. -/
theorem head_sum (f : Fin 256 → ℝ) (k : Fin 256) :
    ∑ i, f (lane_of k i) = ∑ j : Fin 256, if j.val / 64 = k.val / 64 then f j else 0 := by
  let at' : Fin 4 → Fin 64 → Fin 256 := fun p i => ⟨p.val * 64 + i.val, by omega⟩
  rw [← Fin.sum_mul_add_congr (L := 256) (S := 4) (n := 64)
    (F := fun p i => if (at' p i).val / 64 = k.val / 64 then f (at' p i) else 0) fun _ _ _ => rfl]
  let q : Fin 4 := ⟨k.val / 64, by omega⟩
  rw [Finset.sum_eq_single q]
  · refine Finset.sum_congr rfl fun i _ => ?_
    rw [if_pos (show (k.val / 64 * 64 + i.val) / 64 = k.val / 64 by omega)]
    rfl
  · intro p _ hp
    refine Finset.sum_eq_zero fun i _ => if_neg fun h => hp (Fin.ext ?_)
    have h' : (p.val * 64 + i.val) / 64 = k.val / 64 := h
    show p.val = k.val / 64
    omega
  · exact fun h => absurd (Finset.mem_univ q) h

/-- The rows' log sums beside the row products. -/
theorem stats (h0 : ∀ i, x0 i = DX (i 0) (i 1)) (h1 : ∀ i, x1 i = Wo (i 0) (i 1)) (h2 : ∀ i, x2 i = Oa (i 0) (i 1))
    (h4 : ∀ i, x4 i = L (i 0) (i 1)) (h5 : ∀ i, x5 i = P (i 0) (i 1)) (h6 : ∀ i, x6 i = b (i 0))
    (h7 : ∀ i, x7 i = Wr (i 0) (i 1)) (i : S8192x256.Idx) :
    val_main_v49 (F := Ideal) x0 x1 x2 x4 x5 x6 x7 i = st DX Wo Oa L P b Wr (i 0) (i 1) := by
  obtain ⟨s, k, rfl⟩ : ∃ (s : Fin 8192) (k : Fin 256), i = ix2 s k := ⟨i 0, i 1, eq_ix2 i⟩
  have e : val_main_call1_v0 (F := Ideal) (ix2 s k) = if k.val % 64 < 32 then 1#1 else 0#1 := by
    rw [val_main_call1_v0_apply]
    exact (congrArg _ (eq_ix1 _)).trans (lane k)
  have h40 (j : S8192x256.Idx) : val_main_v40 (F := Ideal) x0 x1 x2 x5 x6 x7 j
      = ((oA DX Wo P b Wr (j 0) (j 1) * Oa (j 0) (j 1) : ℝ) : EReal) := by
    simp only [val_main_v40_apply, outGradA h0 h1 h5 h6 h7, h2]
    pointwise
    rw [mul_real]
  have e48 : val_main_v48 (F := Ideal) x0 x1 x2 x5 x6 x7 (ix2 s k)
      = ((∑ j : Fin 256, if j.val / 64 = k.val / 64 then oA DX Wo P b Wr s j * Oa s j else 0 : ℝ) : EReal) := by
    simp only [val_main_v48_apply, val_main_v47_apply, val_main_v42_apply, val_main_cst_6_apply, val_main_v41_apply, h40]
    pointwise
    simp only [sum_real]
    refine congrArg (fun r : ℝ => (r : EReal)) (Eq.trans (Finset.sum_congr rfl fun i _ => ?_)
      (head_sum (fun j => oA DX Wo P b Wr s j * Oa s j) k))
    have hs := s.isLt
    have hk := k.isLt
    have hi := i.isLt
    have r0 : (idx_main_v41 (idx_main_v42 (idx_main_v47 (idx_main_v48 (ix2 s k))) i) 0 : Fin 8192) = s := Fin.ext (by
      show (((s.val * 256 + k.val) / 256 * 4 + (s.val * 256 + k.val) / 64 % 4) * 64 + i.val) / 256 = s.val
      omega)
    have r1 : (idx_main_v41 (idx_main_v42 (idx_main_v47 (idx_main_v48 (ix2 s k))) i) 1 : Fin 256) = lane_of k i := Fin.ext (by
      show (((s.val * 256 + k.val) / 256 * 4 + (s.val * 256 + k.val) / 64 % 4) * 64 + i.val) % 256 = k.val / 64 * 64 + i.val
      omega)
    exact congrArg₂ (fun (a : Fin 8192) (c : Fin 256) => oA DX Wo P b Wr a c * Oa a c) r0 r1
  rw [val_main_v49_apply, e, h4, e48]
  show Scalar.select _ _ _ = stat DX Wo Oa (fun l k => Wr (top l) k) (fun s k => P s (colA k)) (fun k => b (lo k)) L s k
  unfold stat
  by_cases h : k.val % 64 < 32
  · rw [if_pos h, if_pos h]; rfl
  · rw [if_neg h, if_neg h]; rfl

end Cert.MergeReference

end
-- ==== Proof.Merge.lean ====
/-
  The derivative of the gated merge: the kernel's run and the reference's run end with the same cotangents of the two
  branches, of the two attentions' outputs and of the gates, the same bias derivative, and the same rows of log sums and
  row products.
-/
module

public import proofs.«01_k».proof.Defs
public import proofs.«01_k».proof.Proof.MergeArrays
public import proofs.«01_k».proof.Proof.MergeBias
public import proofs.«01_k».proof.Proof.MergeReference
public import proofs.«01_k».proof.Proof.Gen.Pre_finite4
public import Idealize.ShloMosaic.Lib.Claim

@[expose] public section

noncomputable section

namespace Cert.MergeProof

open Idealize.ShloMosaic Idealize.SL.Sem Cert.RealOps

/-- The reference runs and ends quiescent, its arguments unchanged. -/
theorem reference_frame : Cert.quiescent_Reference4Ideal := fun m ρ _ =>
  θ_run_mono (Cert.Reference4Ideal.Value.run m ρ) fun r h =>
    ⟨fun c => (h c).2.2.2.2.2.2.2, sem_eq_zero_of_no_sems (by decide) _⟩

variable {m : (ℓ : Loc Cert.Kernel4Ideal.nD Cert.Kernel4Ideal.τ Cert.Kernel4Ideal.sig) → Buf (Elt Ideal) ℓ}

/-- The arrays of real numbers that finite arguments are. -/
theorem reads (hpre : Cert.Pre_Kernel4Ideal_finite4 m) (c : Dev Cert.Kernel4Ideal.nD) :
    ∃ DX Wo Oa Ob L P b Wr, MergeKernel.Reads m c DX Wo Oa Ob L P b Wr := by
  obtain ⟨h0, h1, h2, h3, h5, h6, h7⟩ := hpre c
  exact ⟨_, _, _, _, _, _, _, _, fun s k => real_of_lt_top (bits_top ▸ congrFun h0 (ix2 s k)),
    fun s k => real_of_lt_top (bits_top16 ▸ congrFun h1 (ix2 s k)), fun s k => real_of_lt_top (bits_top ▸ congrFun h2 (ix2 s k)),
    fun s k => real_of_lt_top (bits_top ▸ congrFun h3 (ix2 s k)), fun _ _ => rfl,
    fun s k => real_of_lt_top (bits_top16 ▸ congrFun h5 (ix2 s k)), fun k => real_of_lt_top (bits_top ▸ congrFun h6 (ix1 k)),
    fun s k => real_of_lt_top (bits_top16 ▸ congrFun h7 (ix2 s k))⟩

theorem algebraic : Cert.algebraic_Kernel4Ideal_Reference4Ideal_pre_finite4 := by
  intro m g m' g' hpre hagree
  refine ⟨fun c => (Cert.Kernel4Ideal.Gen.dats m 0 c).arrAt 9 Cert.Kernel4Ideal.cfg0.N,
    fun c => (Cert.Kernel4Ideal.Gen.dats m 0 c).arrAt 10 Cert.Kernel4Ideal.cfg0.N,
    fun c => (Cert.Kernel4Ideal.Gen.dats m 0 c).arrAt 11 Cert.Kernel4Ideal.cfg0.N,
    fun c => (Cert.Kernel4Ideal.Gen.dats m 0 c).arrAt 12 Cert.Kernel4Ideal.cfg0.N,
    fun c => (Cert.Kernel4Ideal.Gen.dats m 0 c).arrAt 13 Cert.Kernel4Ideal.cfg0.N,
    fun c => (Cert.Kernel4Ideal.Gen.dats m 0 c).arrAt 14 Cert.Kernel4Ideal.cfg0.N,
    fun c => (Cert.Kernel4Ideal.Gen.dats m 0 c).arrAt 15 Cert.Kernel4Ideal.cfg0.N,
    Cert.Kernel4Ideal.Value.run_blocks m g, ?_⟩
  refine θ_run_mono (Cert.Reference4Ideal.Value.run m' g') fun r h c => ?_
  obtain ⟨r0, r1, r2, r3, r4, r5, r6, k⟩ := h c
  obtain ⟨DX, Wo, Oa, Ob, L, P, b, Wr, hk⟩ := reads hpre c
  obtain ⟨a0, a1, a2, a3, a4, a5, a6, a7⟩ := hagree c
  have b0 : ∀ i, (m' (c.tc.loc Cert.Reference4Ideal.main_arg0) : Vec Ideal Cert.Kernel4Ideal.S8192x1024 .f32) i = (DX (i 0) (i 1) : EReal) := by
    rw [a0]; exact fun i => (congrArg _ (eq_ix2 (n0 := 8192) (n1 := 1024) i)).trans (hk.dx _ _)
  have b1 : ∀ i, (m' (c.tc.loc Cert.Reference4Ideal.main_arg1) : Vec Ideal Cert.Kernel4Ideal.S1024x1024 .bf16) i = (Wo (i 0) (i 1) : EReal) := by
    rw [a1]; exact fun i => (congrArg _ (eq_ix2 (n0 := 1024) (n1 := 1024) i)).trans (hk.wo _ _)
  have b2 : ∀ i, (m' (c.tc.loc Cert.Reference4Ideal.main_arg2) : Vec Ideal Cert.Kernel4Ideal.S8192x256 .f32) i = (Oa (i 0) (i 1) : EReal) := by
    rw [a2]; exact fun i => (congrArg _ (eq_ix2 (n0 := 8192) (n1 := 256) i)).trans (hk.oa _ _)
  have b3 : ∀ i, (m' (c.tc.loc Cert.Reference4Ideal.main_arg3) : Vec Ideal Cert.Kernel4Ideal.S8192x256 .f32) i = (Ob (i 0) (i 1) : EReal) := by
    rw [a3]; exact fun i => (congrArg _ (eq_ix2 (n0 := 8192) (n1 := 256) i)).trans (hk.ob _ _)
  have b4 : ∀ i, (m' (c.tc.loc Cert.Reference4Ideal.main_arg4) : Vec Ideal Cert.Kernel4Ideal.S8192x256 .f32) i = L (i 0) (i 1) := by
    rw [a4]; exact fun i => (congrArg _ (eq_ix2 (n0 := 8192) (n1 := 256) i)).trans (hk.l _ _)
  have b5 : ∀ i, (m' (c.tc.loc Cert.Reference4Ideal.main_arg5) : Vec Ideal Cert.Kernel4Ideal.S8192x5120 .bf16) i = (P (i 0) (i 1) : EReal) := by
    rw [a5]; exact fun i => (congrArg _ (eq_ix2 (n0 := 8192) (n1 := 5120) i)).trans (hk.p _ _)
  have b6 : ∀ i, (m' (c.tc.loc Cert.Reference4Ideal.main_arg6) : Vec Ideal Cert.Kernel4Ideal.S2048 .f32) i = (b (i 0) : EReal) := by
    rw [a6]; exact fun i => (congrArg _ (eq_ix1 (n0 := 2048) i)).trans (hk.b _)
  have b7 : ∀ i, (m' (c.tc.loc Cert.Reference4Ideal.main_arg7) : Vec Ideal Cert.Kernel4Ideal.S512x1024 .bf16) i = (Wr (i 0) (i 1) : EReal) := by
    rw [a7]; exact fun i => (congrArg _ (eq_ix2 (n0 := 512) (n1 := 1024) i)).trans (hk.w _ _)
  refine ⟨r0.trans ?_, r1.trans ?_, r2.trans ?_, r3.trans ?_, r4.trans ?_, r5.trans ?_, r6.trans ?_, k⟩
  · refine Eq.trans ?_ (MergeKernel.array9 hk).symm
    rw [Reference4Ideal.Read.val_main_v50_eq]
    exact funext fun i => MergeReference.branchGradA b0 b1 b5 b6 i
  · refine Eq.trans ?_ (MergeKernel.array10 hk).symm
    rw [Reference4Ideal.Read.val_main_v51_eq]
    exact funext fun i => MergeReference.branchGradB b0 b1 b5 b6 i
  · refine Eq.trans ?_ (MergeKernel.array11 hk).symm
    rw [Reference4Ideal.Read.val_main_v52_eq]
    exact funext fun i => MergeReference.outGradA b0 b1 b5 b6 b7 i
  · refine Eq.trans ?_ (MergeKernel.array12 hk).symm
    rw [Reference4Ideal.Read.val_main_v53_eq]
    exact funext fun i => MergeReference.outGradB b0 b1 b5 b6 b7 i
  · refine Eq.trans ?_ (MergeKernel.array13 hk).symm
    rw [Reference4Ideal.Read.val_main_v49_eq]
    exact funext fun i => MergeReference.stats b0 b1 b2 b4 b5 b6 b7 i
  · refine Eq.trans ?_ (MergeKernel.array14 hk).symm
    rw [Reference4Ideal.Read.val_main_v54_eq]
    exact funext fun i => MergeReference.gateGrad b0 b1 b2 b3 b5 b6 b7 i
  · refine Eq.trans ?_ (MergeKernel.array15 hk).symm
    rw [Reference4Ideal.Read.val_main_v55_eq]
    exact funext fun i => MergeReference.biasGrad b0 b1 b2 b3 b5 b6 b7 i

end Cert.MergeProof

end
-- ==== Proof.FwdRows.lean ====
/-
  What the loop of the stick-breaking forward pass needs of its buffers, whatever program runs it: the blocks of 256
  keys and the record of what the loop carries.
-/
module

public import proofs.«01_k».proof.Proof.SbRows
public import proofs.«01_k».proof.Proof.Gen.Kernel5Ideal

@[expose] public section

noncomputable section

namespace Cert.SbFwd

open Cert.Kernel5Ideal Idealize.ShloMosaic Idealize.ShloMosaic.TcCoe Idealize.ShloMosaic.Tactic

variable {F : FTy → Type} [FloatOps F]

/-- The 256 rows of block `k`, all four heads' lanes. -/
def rows {e : EltTy} (X : Vec F S8192x256 e) (k : ℕ) : Vec F S256x256 e :=
  fun y => X (ix2 (n0 := 8192) (n1 := 256) ⟨(256 * k + (y 0).val) % 8192, Nat.mod_lt _ (by norm_num)⟩ (y 1))

/-- Loading the rows from `256 k` reads block `k`. -/
theorem load_rows {e : EltTy} (X : Vec F S8192x256 e) {k : ℕ} (hk : k < 32) {off : Fin 2 → ℕ} (hoff : off = ![256 * k, 0])
    (inb : ∀ a, off a + S256x256.size a ≤ S8192x256.size a) :
    (fun y => X ((Rect.unit (s := S8192x256) off S256x256.size inb).toLoadRect.idx y)) = rows X k := by
  subst hoff
  funext y
  unfold rows
  refine congrArg X (funext fun a => ?_)
  have hy : (y 0).val < 256 := (y 0).isLt
  match a with
  | ⟨0, _⟩ => exact Fin.ext (by show 256 * k + 1 * (y 0).val = (256 * k + (y 0).val) % 8192; omega)
  | ⟨1, _⟩ => exact Fin.ext (by show 0 + 1 * (y 1).val = (y 1).val; omega)

/-- What the loop carries: the running sum of the log factors per row, the output so far, the largest running sum. -/
structure St (F : FTy → Type) where
  /-- running sum of the log factors of the later keys, per row -/
  r : FVec F S1024x1 .f32
  /-- output so far -/
  acc : FVec F S1024x256 .f32
  /-- the largest running sum of the log factors -/
  top : F .f32

end Cert.SbFwd
-- ==== Proof.FwdTrip.lean ====
/-
  One trip of the inner loop of the forward pass as a function of what the loop carries, and the loop itself: how its
  label is answered by the function that runs the remaining trips.
-/
module

public import proofs.«01_k».proof.Proof.FwdRows
public import proofs.«01_k».proof.Proof.Gen.Kernel5Ideal.Launch
public import proofs.«01_k».proof.Proof.Gen.Kernel5Ideal.Skeleton
public import proofs.«01_k».proof.Proof.Gen.Kernel5Ideal.Points

@[expose] public section

noncomputable section

namespace Cert.SbFwd

open Cert.Kernel5Ideal Cert.Kernel5Ideal.Gen Cert.SbProof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The threshold of the loop's early exit. -/
abbrev exit : F .f32 := Named.named κ "exit" 0xC2DC0000#32

section Trip

variable (K V : Vec F S8192x256 .bf16) (q : FVec F S1024x256 .bf16) (u : FVec F S256x256 .bf16)

/-- The trip at key block `k`. -/
def trip (k : ℕ) (s : St F) : St F where
  r := k0_pay4 q u s.r (rows K k)
  acc := k0_pay3 q u s.r s.acc (rows K k) (rows V k)
  top := k0_pay5 q u s.r (rows K k)

/-- The trips from key block `k - 1` down to the first, stopped where the largest running sum is not above the
    threshold. -/
def trips : ℕ → St F → St F
  | 0, s => s
  | k + 1, s => if Scalar.cmpf .ogt s.top exit = 1#1 then trips k (trip K V q u k s) else s

end Trip

theorem off2_eq : ∀ k : Fin 32, k0_off2 (BitVec.ofNat 32 k.val) = ![256 * k.val, 0] := by decide

theorem chk1_of_lt (k : Fin 32) : k0_chk1 (BitVec.ofNat 32 k.val) := by
  refine ⟨?_, ?_⟩
  · revert k; decide
  · rw [off2_eq]
    intro a
    have hk := k.isLt
    match a with
    | ⟨0, _⟩ => show 256 * k.val + 256 ≤ 8192; omega
    | ⟨1, _⟩ => show 0 + 256 ≤ 256; omega

/-! ## The label of the loop -/

section Label

variable (c : Dev nD) (i : grid0.Coords) (arg3 arg4 : Memref sig .tc .vmem S8192x256 .bf16) (h3 : arg3.IsWhole) (h4 : arg4.IsWhole)
  (K V : Vec F S8192x256 .bf16) (q : FVec F S1024x256 .bf16) (u : FVec F S256x256 .bf16)

/-- The two buffers of the loop: keys and values. -/
def held : sProp 𝕄 := iprop(owns (c : Thread nD τ) arg3 fullShare K ∗ owns (c : Thread nD τ) arg4 fullShare V)

/-- The label's specification from what the loop carries: it returns some counter and what the remaining trips leave. -/
def spec (k : ℕ) (s : St F) : sWPT 𝕄 (BitVec 32 × FVec F S1024x1 .f32 × FVec F S1024x256 .f32 × F .f32) := do
  sWPT.consume (held c arg3 arg4 K V)
  let n ← sWPT.arbitrary
  sWPT.produce (held c arg3 arg4 K V)
  pure (n, (trips K V q u k s).r, (trips K V q u k s).acc, (trips K V q u k s).top)

theorem spec_apply (k : ℕ) (s : St F) (P : BitVec 32 × FVec F S1024x1 .f32 × FVec F S1024x256 .f32 × F .f32 → sProp 𝕄) :
    spec c arg3 arg4 K V q u k s P = iprop(held c arg3 arg4 K V ∗ ∀ n : BitVec 32,
      (held c arg3 arg4 K V -∗ P (n, (trips K V q u k s).r, (trips K V q u k s).acc, (trips K V q u k s).top))) := rfl

set_option maxHeartbeats 1600000 in
/-- The label's body, entered with `k` trips to run at most, meets the specification: by induction on `k`. -/
theorem spec_le (E : Set ℕ) : ∀ k, k ≤ 32 → ∀ (s : St F) P, spec c arg3 arg4 K V q u k s P
      ⊢ wp frame (wpE (defs₀ (F := F)) Variants.nat (c : Thread nD τ) (some k)) E
          (cc0_while1 i arg3 h3 q u arg4 h4 (ctr k) s.r s.acc s.top) P := by
  intro k
  induction k with
  | zero =>
    intro _ s P
    rw [spec_apply, cc0_while1_eq_skeleton]; unfold cc0_while1_skel
    have htest : ¬Scalar.andi (Scalar.cmpi .sge (ctr 0) 0#32) (Scalar.cmpf .ogt s.top (exit : F .f32)) = 1#1 := by
      rw [show Scalar.cmpi .sge (ctr 0) 0#32 = 0#1 from sge_zero 0]
      generalize Scalar.cmpf .ogt s.top (exit : F .f32) = b
      revert b; decide
    simp only [htest, ↓reduceIte, Prog.pure_eq_ret, trips]
    iintro ⟨H, Hk⟩
    rw [wp_ret]; imodintro
    iapply Hk $$ H
  | succ k ih =>
    intro hk s P
    rw [spec_apply]
    have hk' : k < 32 := by omega
    have h0 : Scalar.cmpi .sge (ctr (k + 1)) 0#32 = 1#1 := sge_zero ⟨k + 1, by omega⟩
    have hoff : k0_off2 (BitVec.ofNat 32 k) = ![256 * k, 0] := off2_eq ⟨k, hk'⟩
    have hchk : k0_chk1 (BitVec.ofNat 32 k) := chk1_of_lt ⟨k, hk'⟩
    rw [cc0_while1_eq_skeleton]; unfold cc0_while1_skel
    by_cases ht : Scalar.cmpf .ogt s.top (exit : F .f32) = 1#1
    · have htest : Scalar.andi (Scalar.cmpi .sge (ctr (k + 1)) 0#32) (Scalar.cmpf .ogt s.top (exit : F .f32)) = 1#1 := by
        rw [h0, ht]; decide
      have hT : trips K V q u (k + 1) s = trips K V q u k (trip K V q u k s) := by rw [trips, if_pos ht]
      rw [hT]
      simp only [htest, ↓reduceIte]
      rw [show ctr (k + 1) = BitVec.ofNat 32 k from ctr_succ ⟨k, hk'⟩]
      simp only [Prog.lift, Prog.bind_op, Prog.bind_ret, Prog.pure_eq_ret]
      unfold held
      iintro ⟨⟨H3, H4⟩, Hk⟩
      iapply (wp_assume Variants.nat (c : Thread nD τ) (some (k + 1)) E hchk)
      iapply (owns_load Variants.nat (c : Thread nD τ) (some (k + 1)) E (m := arg3)) $$ H3; iintro H3
      iapply (owns_load Variants.nat (c : Thread nD τ) (some (k + 1)) E (m := arg4)) $$ H4; iintro H4
      rw [load_rows K hk' hoff, load_rows V hk' hoff]
      iapply (wp_call_spec Variants.nat (c : Thread nD τ) (some (k + 1)) E (spec c arg3 arg4 K V q u k (trip K V q u k s)) k
        (fun v hv => by cases hv; exact Nat.lt_succ_self k) (ih (by omega) (trip K V q u k s)))
      rw [spec_apply]; unfold held
      isplitl [H3 H4]
      · isplitl [H3]; · iexact H3
        iexact H4
      iintro %n ⟨H3, H4⟩
      rw [wp_ret]; imodintro
      iapply Hk
      isplitl [H3]; · iexact H3
      iexact H4
    · have htest : ¬Scalar.andi (Scalar.cmpi .sge (ctr (k + 1)) 0#32) (Scalar.cmpf .ogt s.top (exit : F .f32)) = 1#1 := by
        rw [h0]
        revert ht
        generalize Scalar.cmpf .ogt s.top (exit : F .f32) = b
        revert b; decide
      have hT : trips K V q u (k + 1) s = s := by rw [trips, if_neg ht]
      rw [hT]
      simp only [htest, ↓reduceIte, Prog.pure_eq_ret]
      iintro ⟨H, Hk⟩
      rw [wp_ret]; imodintro
      iapply Hk $$ H

end Label

end Cert.SbFwd
-- ==== Proof.FwdRun.lean ====
/-
  The run of the forward program: the body at one grid point, the pipeline's proof data from what the body leaves, and
  what every final state holds.
-/
module

public import proofs.«01_k».proof.Proof.FwdTrip
public import Idealize.ShloMosaic.Lib.Pipeline.FrameBody
public import Idealize.ShloMosaic.Lib.Pipeline.ValueKit.Point

@[expose] public section

set_option maxRecDepth 16384

noncomputable section

namespace Cert.SbFwd

open Cert.Kernel5Ideal Cert.Kernel5Ideal.Gen Cert.SbProof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The values of one grid point -/

section Values

variable (i : grid0.Coords) (x : Vec F S256x256 .bf16) (K V : Vec F S8192x256 .bf16)

/-- The stacked, scaled queries. -/
abbrev qst : FVec F S1024x256 .bf16 := k0_pay11 k0_pay8 (k0_pay9 x) (k0_pay10 x)
/-- The mask of the diagonal block. -/
abbrev diag : IVec S1024x256 1 := k0_pay14 (BitVec.ofNat 32 (i 1).val) (k0_pay6 i)
/-- The diagonal block's logits, -/
abbrev dlog : FVec F S1024x256 .f32 := k0_pay15 k0_pay8 (k0_pay9 x) (k0_pay10 x) (rows K (i 1).val)
/-- and its log factors. -/
abbrev dfac : FVec F S1024x256 .f32 :=
  k0_pay16 (BitVec.ofNat 32 (i 1).val) (k0_pay6 i) k0_pay8 (k0_pay9 x) (k0_pay10 x) (rows K (i 1).val)

/-- What the loop starts from: the diagonal block done. -/
def first : St F where
  r := k0_pay19 k0_pay7 k0_pay12 (dfac i x K)
  acc := k0_pay18 k0_pay7 k0_pay12 k0_pay13 (diag i) (dlog i x K) (dfac i x K) (rows V (i 1).val)
  top := k0_pay20 k0_pay7 k0_pay12 (dfac i x K)

/-- What the loop leaves. -/
def last : St F := trips K V (qst x) k0_pay7 (i 1).val (first i x K V)

/-- The block of the output the body writes. -/
def outBlk : Vec F S256x256 .f32 := k0_pay21 k0_pay8 (last i x K V).acc

end Values

theorem off1_eq (i : grid0.Coords) : k0_off1 i = ![256 * (i 1).val, 0] := by
  have h : ∀ k : Fin 32, (![(Scalar.indexCast (Scalar.muli (BitVec.ofNat 32 k.val) 256#32)).toNat, 0] : Fin 2 → ℕ) = ![256 * k.val, 0] := by decide
  exact h ⟨(i 1).val, (i 1).isLt⟩

section Body

variable (c : Dev nD) (i : grid0.Coords)
  (arg2 : Memref sig .tc .vmem S256x256 .bf16) (h2 : arg2.IsWhole) (arg3 : Memref sig .tc .vmem S8192x256 .bf16) (h3 : arg3.IsWhole)
  (arg4 : Memref sig .tc .vmem S8192x256 .bf16) (h4 : arg4.IsWhole) (arg5 : Memref sig .tc .vmem S256x256 .f32) (h5 : arg5.IsWhole)
  (x : Vec F S256x256 .bf16) (K V : Vec F S8192x256 .bf16) (y : Vec F S256x256 .f32)

/-- The buffers of the body. -/
def bufs (y : Vec F S256x256 .f32) : sProp 𝕄 :=
  iprop(owns (c : Thread nD τ) arg2 fullShare x ∗ owns (c : Thread nD τ) arg3 fullShare K ∗ owns (c : Thread nD τ) arg4 fullShare V
    ∗ owns (c : Thread nD τ) arg5 fullShare y)

/-- The body at one grid point leaves the output block. -/
theorem body_wp (P : PUnit → sProp 𝕄) :
    iprop(bufs c arg2 arg3 arg4 arg5 x K V y ∗ (bufs c arg2 arg3 arg4 arg5 x K V (outBlk i x K V) -∗ P ⟨⟩))
      ⊢ wp frame (wpE (defs₀ (F := F)) Variants.nat (c : Thread nD τ) none) Set.univ
          (cc0_sb_fwd i arg2 h2 arg3 h3 arg4 h4 arg5 h5) P := by
  have hk : (i 1).val < 32 := (i 1).isLt
  have hoff : k0_off1 i = ![256 * (i 1).val, 0] := off1_eq i
  rw [cc0_sb_fwd_eq_skeleton]; unfold cc0_sb_fwd_skel
  rw [k0_part3_eq_skeleton]; unfold k0_part3_skel
  rw [k0_part1_eq_skeleton, k0_part2_eq_skeleton]; unfold k0_part1_skel k0_part2_skel
  simp only [Prog.lift, Prog.bind_op, Prog.bind_ret, Prog.pure_eq_ret]
  unfold bufs
  iintro ⟨⟨H2, H3, H4, H5⟩, Hk⟩
  iapply (owns_load Variants.nat (c : Thread nD τ) none Set.univ (m := arg2)) $$ H2; iintro H2
  iapply (owns_load Variants.nat (c : Thread nD τ) none Set.univ (m := arg3)) $$ H3; iintro H3
  iapply (owns_load Variants.nat (c : Thread nD τ) none Set.univ (m := arg4)) $$ H4; iintro H4
  rw [load_rows K hk hoff, load_rows V hk hoff, load_whole x _ zeros2]
  iapply (wp_call_spec Variants.nat (c : Thread nD τ) none Set.univ
    (spec c arg3 arg4 K V (qst x) k0_pay7 (i 1).val (first i x K V)) (i 1).val (fun u hu => nomatch hu)
    (spec_le c i arg3 arg4 h3 h4 K V (qst x) k0_pay7 Set.univ (i 1).val hk.le (first i x K V)))
  rw [spec_apply]; unfold held
  isplitl [H3 H4]
  · isplitl [H3]; · iexact H3
    iexact H4
  iintro %n ⟨H3, H4⟩
  iapply (owns_load Variants.nat (c : Thread nD τ) none Set.univ (m := arg5)) $$ H5; iintro H5
  iapply (owns_store Variants.nat (c : Thread nD τ) none Set.univ (m := arg5)) $$ H5; iintro H5
  rw [store_whole y _ _ zeros2, wp_ret]; imodintro
  iapply Hk
  isplitl [H2]; · iexact H2
  isplitl [H3]; · iexact H3
  isplitl [H4]; · iexact H4
  iexact H5

end Body

variable (m : (ℓ : Loc nD τ sig) → Buf (Elt F) ℓ) (ρ : Dev nD → PrngReg)

/-! ## The proof data -/

/-- Core `c`'s buffers when the region is entered: no host operation comes before it. -/
abbrev V (c : Dev nD) (b : Ref sig .tc) : Buf (Elt F) ((c : Thread nD τ).loc b) := m ((c : Thread nD τ).loc b)

theorem hmain : Pipeline.HMain (Ix := Unit) (Name := ℕ) (U := UR sig nD τ) (Lvl := ℕ) cfgs 0 defs₀ Variants.nat m (main (F := F)) (V m) :=
  Pipeline.hmain_prefixes cfgs 0 defs₀ Variants.nat m main [] trivial trivial main_chain

/-- Window `w`'s block at point `t`, read off its array as the region finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The output block of point `t`. -/
def outAt (c : Dev nD) (t : Fin (cfg0 (F := F)).N) : Vec F S256x256 .f32 :=
  outBlk (grid0.coords t) (iblk m c 0 t) (iblk m c 1 t) (iblk m c 2 t)

/-- The proof data: each input's buffer at its block after the body, the output's at what the body leaves. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = outAt m c t := rfl

theorem before0_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans (by unfold Dat.fetched Dat.blockOf iblk; rw [A_eq]; try rfl)

/-! ## The body at every point -/

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl, after0_0, after0_1, after0_2, after0_3]
  iintro ⟨HΦ, Ho, ⟨%d0, H0⟩, ⟨%d1, H1⟩, ⟨%d2, H2⟩, ⟨%d3, H3⟩⟩
  iapply (body_wp c (grid0.coords t) _ _ _ _ _ _ _ _ (iblk m c 0 t) (iblk m c 1 t) (iblk m c 2 t) _ _)
  unfold bufs
  isplitr [HΦ Ho]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

/-! ## The run -/

set_option backward.isDefEq.respectTransparency.types false in
/-- Every execution of the program ends, with the pipeline's arrays at what the proof data says and all counters zero. -/
theorem run_main : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.nat m ρ main
    (hbody := fun c => (body_obligation m c).loose) (hq := fun _ _ _ => rfl)
    (howed := fun _ _ => rfl) (V := V m) (hmain := hmain m) (hA := A_eq m) (hΦ := fun _ _ => rfl)

/-- The run: the output array at what the points leave, the argument unchanged, the counters zero. -/
theorem run_blocks : θ_run defs (onTc (τ := τ) (main (F := F))) ⟨m, fun _ => 0, ρ⟩ (fun r => (∀ c : Dev nD,
      r.2.mem ((c.tc : Thread nD τ).loc main_v0) = (dats m 0 c).arrAt 3 (cfg0 (F := F)).N
      ∧ r.2.mem ((c.tc : Thread nD τ).loc main_arg0) = m ((c.tc : Thread nD τ).loc main_arg0))
      ∧ r.2.sem = fun _ => 0) :=
  (θ_run defs _ _).mono (fun _ h => ⟨fun c => ⟨(h.1 c).1 3,
      ((h.1 c).1 0).trans (((dats m 0 c).arrAt_in 0 rfl _).trans (A_eq m c 0))⟩, h.2⟩) (run_main m ρ)

/-- The frame: the argument ends unchanged and the counters zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (h.1 c).2, h.2⟩) (run_blocks m ρ)

end Cert.SbFwd
-- ==== Proof.FwdLoop.lean ====
/-
  The values one block of keys gives in the forward pass, as real expressions: in the loop, where every key comes before
  every query, and in the diagonal block, where a mask keeps the keys before each query.
-/
module

public import proofs.«01_k».proof.Proof.SbInv
public import proofs.«01_k».proof.Proof.FwdRun

@[expose] public section

set_option maxRecDepth 16384

noncomputable section

namespace Cert.SbFwd

open Classical Cert.Kernel5Ideal Cert.Kernel5Ideal.Gen Cert.SbSpec Cert.RealOps
open Cert.SbProof (abs_real ite_real one_real fold_max_ne_bot)
open Idealize.ShloMosaic Idealize.ShloMosaic.TcCoe Idealize.ShloMosaic.Tactic

/-- No number is below the named threshold of the series. -/
theorem not_lt_series (x : EReal) : ¬x < Named.named (F := Ideal) κ "series" (φ := .f32) 953267991#32 := not_lt_bot

theorem choose_real (p : Prop) [Decidable p] (x y : ℝ) :
    Scalar.select (if p then 1#1 else 0#1) ((x : ℝ) : EReal) ((y : ℝ) : EReal) = ((if p then x else y : ℝ) : EReal) := by
  split_ifs <;> rfl

/-- Every key before every query. -/
abbrev allKeys : Fin 1024 → Fin 256 → Prop := fun _ _ => True

section Loop

variable {U : Fin 256 → Fin 256 → ℝ} {q : Fin 1024 → Fin 256 → ℝ} {k v : Fin 256 → Fin 256 → ℝ} {r : Fin 1024 → ℝ}
  {b : Fin 1024 → Fin 256 → ℝ}
  {kk vv : Vec Ideal S256x256 .bf16} {qq : FVec Ideal S1024x256 .bf16} {uu : FVec Ideal S256x256 .bf16}
  {rr : FVec Ideal S1024x1 .f32} {bb : FVec Ideal S1024x256 .f32}
  (hq : ∀ s l, qq (ix2 s l) = ((q s l : ℝ) : EReal))
  (hk : ∀ t l, kk (ix2 t l) = ((k t l : ℝ) : EReal)) (hv : ∀ t l, vv (ix2 t l) = ((v t l : ℝ) : EReal))
  (hU : ∀ t u, uu (ix2 t u) = ((U t u : ℝ) : EReal)) (hr : ∀ s, rr (ix2 s 0) = ((r s : ℝ) : EReal))
  (hb : ∀ s l, bb (ix2 s l) = ((b s l : ℝ) : EReal))

include hq hk in
theorem z_loop (s : Fin 1024) (t : Fin 256) : k0_pay1 (F := Ideal) qq kk (ix2 s t) = ((z q k s t : ℝ) : EReal) := by
  unfold k0_pay1; pointwise
  simp only [hq, hk, mul_real, sum_real]; rfl

include hq hk hU in
theorem cin_loop (s : Fin 1024) (t : Fin 256) :
    k0_pay2 (F := Ideal) qq uu kk (ix2 s t) = ((cin allKeys U q k s t : ℝ) : EReal) := by
  unfold k0_pay2; pointwise
  simp only [not_lt_series, if_false, z_loop hq hk, abs_real, exp_real, hU, one_real, zero_real, add_real, max_real,
    log_real (one_add_exp_pos _), sub_real, mul_real, sum_real, zero_sub, sub_self, zero_mul, Finset.sum_const_zero, add_zero]
  unfold cin
  simp only [if_true]; rfl

include hq hk hU hr hv hb in
theorem acc_loop (s : Fin 1024) (l : Fin 256) :
    k0_pay3 (F := Ideal) qq uu rr bb kk vv (ix2 s l) = ((b s l + ∑ t, a allKeys U q k r s t * v t l : ℝ) : EReal) := by
  unfold k0_pay3; pointwise
  simp only [z_loop hq hk, cin_loop hq hk hU, hr, hv, hb, add_real, exp_real, mul_real, sum_real]
  unfold a; simp only [if_true]

include hq hk hU hr in
theorem r_loop (s : Fin 1024) :
    k0_pay4 (F := Ideal) qq uu rr kk (ix2 s 0) = ((r s + cin allKeys U q k s 0 : ℝ) : EReal) := by
  unfold k0_pay4; pointwise
  rw [hr, cin_loop hq hk hU, add_real]

include hq hk hU hr in
theorem top_loop : k0_pay5 (F := Ideal) qq uu rr kk ≠ ⊥ := by
  unfold k0_pay5; pointwise
  refine fold_max_ne_bot _ _ _ (Finset.mem_univ (0, 0)) ?_
  rw [r_loop hq hk hU hr]; exact EReal.coe_ne_bot _

end Loop

section Diag

variable {M : Fin 1024 → Fin 256 → Prop} {U : Fin 256 → Fin 256 → ℝ} {q : Fin 1024 → Fin 256 → ℝ} {k v : Fin 256 → Fin 256 → ℝ}
  {x : Vec Ideal S256x256 .bf16} {K V : Vec Ideal S8192x256 .bf16} {i : grid0.Coords}
  {uu : FVec Ideal S256x256 .bf16}
  (hq : ∀ s l, qst x (ix2 s l) = ((q s l : ℝ) : EReal))
  (hk : ∀ t l, rows K (i 1).val (ix2 t l) = ((k t l : ℝ) : EReal)) (hv : ∀ t l, rows V (i 1).val (ix2 t l) = ((v t l : ℝ) : EReal))
  (hU : ∀ t u, uu (ix2 t u) = ((U t u : ℝ) : EReal)) (hM : ∀ s t, diag i (ix2 s t) = if M s t then 1#1 else 0#1)

include hq hk in
theorem z_diag (s : Fin 1024) (t : Fin 256) : dlog i x K (ix2 s t) = ((z q k s t : ℝ) : EReal) := z_loop hq hk s t

include hq hk hM in
theorem lf_diag (s : Fin 1024) (t : Fin 256) : dfac i x K (ix2 s t) = ((if M s t then -sp (z q k s t) else 0 : ℝ) : EReal) := by
  have hz := z_diag hq hk
  unfold dlog at hz
  unfold dfac k0_pay16; pointwise
  simp only [not_lt_series, if_false, hz, abs_real, exp_real, hM, one_real, zero_real, add_real, max_real,
    log_real (one_add_exp_pos _), sub_real, choose_real, zero_sub]
  rfl

include hq hk hU hM in
theorem cin_diag (s : Fin 1024) (t : Fin 256) : k0_pay17 (F := Ideal) uu (dfac i x K) (ix2 s t) = ((cin M U q k s t : ℝ) : EReal) := by
  unfold k0_pay17; pointwise
  simp only [lf_diag hq hk hM, hU, sub_real, mul_real, sum_real, sub_self, zero_mul, Finset.sum_const_zero, add_zero, add_real]
  rfl

theorem r0_val (s : Fin 1024) : k0_pay12 (F := Ideal) (ix2 s 0) = ((0 : ℝ) : EReal) := by
  unfold k0_pay12; pointwise; exact zero_real

theorem acc0_val (s : Fin 1024) (l : Fin 256) : k0_pay13 (F := Ideal) (ix2 s l) = ((0 : ℝ) : EReal) := by
  unfold k0_pay13; pointwise; exact zero_real

include hq hk hv hU hM in
theorem acc_diag (s : Fin 1024) (l : Fin 256) :
    k0_pay18 (F := Ideal) uu k0_pay12 k0_pay13 (diag i) (dlog i x K) (dfac i x K) (rows V (i 1).val) (ix2 s l)
      = ((∑ t, a M U q k (fun _ => 0) s t * v t l : ℝ) : EReal) := by
  unfold k0_pay18; pointwise
  simp only [z_diag hq hk, cin_diag hq hk hU hM, hv, hM, r0_val, acc0_val, zero_real, add_real, exp_real, choose_real, mul_real, sum_real, zero_add]
  simp only [a, ite_mul, zero_mul]

include hq hk hU hM in
theorem r_diag (s : Fin 1024) : k0_pay19 (F := Ideal) uu k0_pay12 (dfac i x K) (ix2 s 0) = ((cin M U q k s 0 : ℝ) : EReal) := by
  unfold k0_pay19; pointwise
  rw [r0_val, cin_diag hq hk hU hM, add_real, zero_add]

include hq hk hU hM in
theorem top_diag : k0_pay20 (F := Ideal) uu k0_pay12 (dfac i x K) ≠ ⊥ := by
  unfold k0_pay20; pointwise
  refine fold_max_ne_bot _ _ _ (Finset.mem_univ (0, 0)) ?_
  rw [r_diag hq hk hU hM]; exact EReal.coe_ne_bot _

end Diag

end Cert.SbFwd

end
-- ==== Proof.FwdInv.lean ====
/-
  What the forward pass carries after the blocks of keys from `n` on, as real sums over the keys from `256 n` on: the
  diagonal block establishes it, a trip of the loop keeps it, and the loop runs through.
-/
module

public import proofs.«01_k».proof.Proof.FwdLoop

@[expose] public section

noncomputable section

namespace Cert.SbFwd

open Classical Cert.Kernel5Ideal Cert.Kernel5Ideal.Gen Cert.SbSpec Cert.RealOps
open Cert.SbProof (dq_step)
open Idealize.ShloMosaic Idealize.ShloMosaic.TcCoe Idealize.ShloMosaic.Tactic

/-- What the loop carries after the blocks from `n` on. -/
structure Inv (pos : Fin 1024 → ℕ) (q : Fin 1024 → Fin 256 → ℝ) (K V : ℕ → Fin 256 → ℝ) (n : ℕ) (s : St Ideal) : Prop where
  r : ∀ x, s.r (ix2 x 0) = ((lsum pos q K x (256 * n) : ℝ) : EReal)
  acc : ∀ x l, s.acc (ix2 x l) = ((∑ t ∈ Finset.Ico (256 * n) 8192, ar pos q K x t * V t l : ℝ) : EReal)
  top : s.top ≠ ⊥

theorem rows_real {e : EltTy} {X : Vec Ideal S8192x256 e} {k : ℕ} (hk : k < 32) (t : Fin 256) (l : Fin 256) :
    rows X k (ix2 t l) = X (ix2 (n0 := 8192) (n1 := 256) ⟨256 * k + t.val, by have := t.isLt; omega⟩ l) := by
  have ht := t.isLt
  have e : (⟨(256 * k + t.val) % 8192, Nat.mod_lt _ (by norm_num)⟩ : Fin 8192) = ⟨256 * k + t.val, by omega⟩ :=
    Fin.ext (Nat.mod_eq_of_lt (by omega))
  exact congrArg (fun u => X (ix2 (n0 := 8192) (n1 := 256) u l)) e

section Trip

variable {pos : Fin 1024 → ℕ} {q : Fin 1024 → Fin 256 → ℝ} {Kr Vr : ℕ → Fin 256 → ℝ}
  {K V : Vec Ideal S8192x256 .bf16} {qq : FVec Ideal S1024x256 .bf16} {uu : FVec Ideal S256x256 .bf16}
  (hq : ∀ s l, qq (ix2 s l) = ((q s l : ℝ) : EReal))
  (hK : ∀ (t : Fin 8192) l, K (ix2 t l) = ((Kr t.val l : ℝ) : EReal)) (hV : ∀ (t : Fin 8192) l, V (ix2 t l) = ((Vr t.val l : ℝ) : EReal))
  (hU : ∀ t u, uu (ix2 t u) = ((triU t u : ℝ) : EReal))

include hq hK hV hU in
/-- A trip goes from the sums from block `k + 1` on to those from block `k` on. -/
theorem trip_inv {k : ℕ} (hk : k < 32) {i : ℕ} (hki : k < i) (hpos : ∀ s, 256 * i ≤ pos s) {s : St Ideal}
    (h : Inv pos q Kr Vr (k + 1) s) : Inv pos q Kr Vr k (trip K V qq uu k s) := by
  have e : (allKeys : Fin 1024 → Fin 256 → Prop) = before pos k := (before_eq hpos hki).symm
  have hkb : ∀ t l, rows K k (ix2 t l) = ((rowsOf Kr k t l : ℝ) : EReal) := fun t l => (rows_real hk t l).trans (hK _ l)
  have hvb : ∀ t l, rows V k (ix2 t l) = ((rowsOf Vr k t l : ℝ) : EReal) := fun t l => (rows_real hk t l).trans (hV _ l)
  constructor
  · intro x
    rw [← lsum_step hk, ← e]
    exact r_loop hq hkb hU h.r x
  · intro x l
    refine (acc_loop hq hkb hvb hU h.r h.acc x l).trans ?_
    rw [← dq_step hk, e]
    simp only [a_block hk]
  · exact top_loop hq hkb hU h.r

include hq hK hV hU in
/-- The loop runs through: no running sum is at the named threshold. -/
theorem trips_inv {i : ℕ} (hi : i < 32) (hpos : ∀ s, 256 * i ≤ pos s) : ∀ (k : ℕ), k ≤ i → ∀ {s : St Ideal},
    Inv pos q Kr Vr k s → Inv pos q Kr Vr 0 (trips K V qq uu k s) := by
  intro k
  induction k with
  | zero => intro _ s h; exact h
  | succ k ih =>
    intro hk s h
    have hc : Scalar.cmpf .ogt s.top (exit : Ideal .f32) = 1#1 := by
      show BitVec.ofBool (decide (s.top > (⊥ : EReal))) = 1#1
      rw [decide_eq_true (bot_lt_iff_ne_bot.mpr h.top)]; rfl
    rw [trips, if_pos hc]
    exact ih (by omega) (trip_inv hq hK hV hU (by omega) (by omega) hpos h)

end Trip

section First

variable {pos : Fin 1024 → ℕ} {q : Fin 1024 → Fin 256 → ℝ} {Kr Vr : ℕ → Fin 256 → ℝ}
  {i : grid0.Coords} {x : Vec Ideal S256x256 .bf16} {K V : Vec Ideal S8192x256 .bf16}
  (hq : ∀ s l, qst x (ix2 s l) = ((q s l : ℝ) : EReal))
  (hK : ∀ (t : Fin 8192) l, K (ix2 t l) = ((Kr t.val l : ℝ) : EReal)) (hV : ∀ (t : Fin 8192) l, V (ix2 t l) = ((Vr t.val l : ℝ) : EReal))
  (hU : ∀ t u, k0_pay7 (F := Ideal) (ix2 t u) = ((triU t u : ℝ) : EReal))
  (hM : ∀ s t, diag i (ix2 s t) = if before pos (i 1).val s t then 1#1 else 0#1)
  (hpos : ∀ s, pos s ≤ 256 * ((i 1).val + 1))

include hq hK hV hU hM hpos in
/-- The diagonal block done: the sums from its first key on. -/
theorem first_inv : Inv pos q Kr Vr (i 1).val (first i x K V) := by
  have hk : (i 1).val < 32 := (i 1).isLt
  replace hM : ∀ s t, diag i (ix2 s t) = @ite _ (before pos (i 1).val s t) (propDecidable _) 1#1 0#1 := fun s t => by rw [hM]; congr
  have hkb : ∀ t l, rows K (i 1).val (ix2 t l) = ((rowsOf Kr (i 1).val t l : ℝ) : EReal) := fun t l => (rows_real hk t l).trans (hK _ l)
  have hvb : ∀ t l, rows V (i 1).val (ix2 t l) = ((rowsOf Vr (i 1).val t l : ℝ) : EReal) := fun t l => (rows_real hk t l).trans (hV _ l)
  have l0 : (fun _ => 0) = fun x => lsum pos q Kr x (256 * ((i 1).val + 1)) := funext fun x => (lsum_eq_zero (hpos x)).symm
  constructor
  · intro x
    rw [← lsum_step hk, lsum_eq_zero (hpos x), zero_add]
    exact r_diag hq hkb hU hM x
  · intro x l
    refine (acc_diag hq hkb hvb hU hM x l).trans ?_
    have hz : ∑ t ∈ Finset.Ico (256 * ((i 1).val + 1)) 8192, ar pos q Kr x t * Vr t l = 0 :=
      Finset.sum_eq_zero fun t ht => by
        rw [ar, if_neg (by have := hpos x; have := (Finset.mem_Ico.mp ht).1; omega), zero_mul]
    rw [← dq_step hk, hz, zero_add, l0]
    simp only [a_block hk]
  · exact top_diag hq hkb hU hM

include hq hK hV hU hM hpos in
/-- What the body's loop leaves: the sums over all keys. -/
theorem last_inv (hpos' : ∀ s, 256 * (i 1).val ≤ pos s) : Inv pos q Kr Vr 0 (last i x K V) :=
  trips_inv hq hK hV hU (i 1).isLt hpos' _ le_rfl (first_inv hq hK hV hU hM hpos)

end First

end Cert.SbFwd

end
-- ==== Proof.FwdStack.lean ====
/-
  The values the forward body forms before the diagonal block: the triangle, the head of each lane, the query rows stacked
  once per head, the mask; and the output block, the four heads put side by side again.
-/
module

public import proofs.«01_k».proof.Proof.FwdInv
public import proofs.«01_k».proof.Proof.SbStack

@[expose] public section

noncomputable section

namespace Cert.SbFwd

open Classical Cert.Kernel5Ideal Cert.Kernel5Ideal.Gen Cert.SbSpec Cert.RealOps
open Cert.SbProof (ahead_lt sitofp_one sitofp_zero eighth16_real select_mask)
open Idealize.ShloMosaic Idealize.ShloMosaic.TcCoe Idealize.ShloMosaic.Tactic

/-- The query a stacked row belongs to. -/
def qrow (s : Fin 1024) : Fin 256 := ⟨s.val % 256, Nat.mod_lt _ (by decide)⟩

/-- The rows once per head, each with the lanes of its head. -/
def stack (X : Fin 256 → Fin 256 → ℝ) (s : Fin 1024) (l : Fin 256) : ℝ := if l.val / 64 = s.val / 256 then X (qrow s) l else 0

/-- A query's row among the stacked rows of the lane's head. -/
def srow (t : Fin 256) (l : Fin 256) : Fin 1024 := ⟨256 * (l.val / 64) + t.val, by omega⟩

/-- The keys before a stacked row's query. -/
def posAt (i : ℕ) (s : Fin 1024) : ℕ := 256 * i + s.val % 256

theorem mask_val (i : grid0.Coords) (s : Fin 1024) (t : Fin 256) :
    diag i (ix2 s t) = if before (posAt (i 1).val) (i 1).val s t then 1#1 else 0#1 := by
  have hi : (i 1).val < 32 := (i 1).isLt
  unfold diag k0_pay14; pointwise; unfold k0_pay6; pointwise
  unfold before posAt
  have key : ∀ r, r < 256 → r = s.val % 256 → IntOp.cmpi .slt
      (IntOp.subi (BitVec.ofNat 32 t.val) (IntOp.addi (BitVec.ofNat 32 r) (Scalar.muli (BitVec.ofNat 32 (i 1).val) 256#32)))
      (Scalar.muli (Scalar.subi 0#32 (BitVec.ofNat 32 (i 1).val)) 256#32)
        = if 256 * (i 1).val + t.val < 256 * (i 1).val + s.val % 256 then 1#1 else 0#1 := fun r hr e => by
    subst e; exact ahead_lt hi hr t.isLt
  by_cases h0 : s.val < 256
  · rw [dif_pos h0]; exact key _ h0 (by omega)
  rw [dif_neg h0]
  by_cases h1 : s.val - 256 < 256
  · rw [dif_pos h1]; exact key _ h1 (by omega)
  rw [dif_neg h1]
  by_cases h2 : s.val - 256 - 256 < 256
  · rw [dif_pos h2]; exact key _ h2 (by omega)
  rw [dif_neg h2]; exact key _ (by omega) (by omega)

theorem triU_val (t u : Fin 256) : k0_pay7 (F := Ideal) (ix2 t u) = ((triU t u : ℝ) : EReal) := by
  unfold k0_pay7; pointwise
  rw [WordCmp.cmpi_sge_ofNat (by omega) (by omega)]
  unfold triU
  by_cases h : u.val ≤ t.val
  · rw [decide_eq_true h, if_pos h]; exact sitofp_one
  · rw [decide_eq_false h, if_neg h]; exact sitofp_zero

theorem lane_val (t : Fin 256) (l : Fin 256) : k0_pay8 (ix2 t l) = BitVec.ofNat 32 (l.val / 64) := by
  unfold k0_pay8; pointwise
  revert l
  decide +kernel

theorem lane0 : ∀ l : Fin 256, IntOp.cmpi .eq (BitVec.ofNat 32 (l.val / 64)) 0#32 = if l.val / 64 = 0 then 1#1 else 0#1 := by decide +kernel
theorem lane1 : ∀ l : Fin 256, IntOp.cmpi .eq (BitVec.ofNat 32 (l.val / 64)) 1#32 = if l.val / 64 = 1 then 1#1 else 0#1 := by decide +kernel
theorem lane2 : ∀ l : Fin 256, IntOp.cmpi .eq (BitVec.ofNat 32 (l.val / 64)) 2#32 = if l.val / 64 = 2 then 1#1 else 0#1 := by decide +kernel
theorem lane3 : ∀ l : Fin 256, IntOp.cmpi .eq (BitVec.ofNat 32 (l.val / 64)) 3#32 = if l.val / 64 = 3 then 1#1 else 0#1 := by decide +kernel

theorem qst_val {x : Vec Ideal S256x256 .bf16} {X : Fin 256 → Fin 256 → ℝ} (hx : ∀ t l, x (ix2 t l) = ((X t l : ℝ) : EReal))
    (s : Fin 1024) (l : Fin 256) : qst x (ix2 s l) = ((stack X s l * (1 / 8) : ℝ) : EReal) := by
  have h9 : ∀ t l, k0_pay9 x (ix2 t l) = ((X t l * (1 / 8) : ℝ) : EReal) := fun t l => by
    unfold k0_pay9; pointwise; rw [hx, eighth16_real, mul_real]
  have h10 : ∀ t l, k0_pay10 x (ix2 t l) = if l.val / 64 = 0 then ((X t l * (1 / 8) : ℝ) : EReal) else 0 := fun t l => by
    unfold k0_pay10; pointwise; rw [lane_val, lane0, select_mask, h9]
  unfold qst k0_pay11; pointwise
  simp only [lane_val, lane1, lane2, lane3, select_mask, h9, h10]
  have key : ∀ (r : Fin 256) (n : ℕ), r.val = s.val % 256 → n = s.val / 256 →
      (if l.val / 64 = n then ((X r l * (1 / 8) : ℝ) : EReal) else 0) = ((stack X s l * (1 / 8) : ℝ) : EReal) := fun r n hr hn => by
    have e : r = qrow s := Fin.ext hr
    subst hn
    rw [e]; unfold stack
    split_ifs <;> first | rfl | (rw [zero_mul]; rfl)
  by_cases h0 : s.val < 256
  · rw [dif_pos h0]; exact key _ _ (by show s.val = _; omega) (by omega)
  rw [dif_neg h0]
  by_cases h1 : s.val - 256 < 256
  · rw [dif_pos h1]; exact key _ _ (by show s.val - 256 = _; omega) (by omega)
  rw [dif_neg h1]
  by_cases h2 : s.val - 256 - 256 < 256
  · rw [dif_pos h2]; exact key _ _ (by show s.val - 256 - 256 = _; omega) (by omega)
  rw [dif_neg h2]; exact key _ _ (by show s.val - 256 - 256 - 256 = _; omega) (by omega)

theorem unstack_val {x : FVec Ideal S1024x256 .f32} {X : Fin 1024 → Fin 256 → ℝ} (hx : ∀ s l, x (ix2 s l) = ((X s l : ℝ) : EReal))
    (t : Fin 256) (l : Fin 256) : k0_pay21 k0_pay8 x (ix2 t l) = ((X (srow t l) l : ℝ) : EReal) := by
  have hl : l.val / 64 < 4 := by omega
  unfold k0_pay21; pointwise
  simp only [lane_val, lane0, lane1, lane2, lane3, select_mask, hx]
  have key : ∀ r : Fin 1024, r.val = 256 * (l.val / 64) + t.val → ((X r l : ℝ) : EReal) = ((X (srow t l) l : ℝ) : EReal) := fun r hr => by
    rw [show r = srow t l from Fin.ext hr]
  split_ifs with h3 h2 h1 h0
  · exact key _ (by show 768 + t.val = _; omega)
  · exact key _ (by show 512 + t.val = _; omega)
  · exact key _ (by show 256 + t.val = _; omega)
  · exact key _ (by show t.val = _; omega)
  · omega

end Cert.SbFwd

end
-- ==== Proof.FwdKernel.lean ====
/-
  What the forward kernel leaves in its result array, over the real numbers: the output block by block, and that it is the
  reference's sum over one row of one head.
-/
module

public import proofs.«01_k».proof.Proof.FwdStack
public import proofs.«01_k».proof.Proof.SbHead

@[expose] public section

noncomputable section

namespace Cert.SbFwd

open Classical Cert.Kernel5Ideal Cert.Kernel5Ideal.Gen Cert.SbSpec Cert.RealOps Finset
open Idealize.ShloMosaic Idealize.ShloMosaic.TcCoe Idealize.ShloMosaic.Tactic

/-! ## The stacked rows and the rows of a head -/

section Rows

variable (Q K V' : Fin 8192 → Fin 256 → ℝ) (i : Fin 32) (x : Fin 1024) (t : ℕ)

/-- Row `r` of block `i`. -/
def rowAt (i : Fin 32) (r : Fin 256) : Fin 8192 := ⟨i.val * 256 + r.val, by omega⟩

/-- The rows of query block `i`. -/
def blk (X : Fin 8192 → Fin 256 → ℝ) (i : Fin 32) (r : Fin 256) (l : Fin 256) : ℝ := X (rowAt i r) l

/-- The stacked queries with the scale in them. -/
def qAt (s : Fin 1024) (l : Fin 256) : ℝ := stack (blk Q i) s l * (1 / 8)

/-- The output of block `i`. -/
def outReal (r : Fin 256) (l : Fin 256) : ℝ := ∑ u ∈ Ico 0 8192, ar (posAt i.val) (qAt Q i) (rowN K) (srow r l) u * rowN V' u l

theorem sum_heads (f : Fin 256 → ℝ) : ∑ h : Fin 4, ∑ c : Fin 64, f ⟨h.val * 64 + c.val, by omega⟩ = ∑ l, f l :=
  Fin.sum_mul_add_congr fun _ _ _ => rfl

/-- The head and the query of a stacked row. -/
def xhead : Fin 4 := ⟨x.val / 256, by omega⟩
def xquery : Fin 8192 := ⟨i.val * 256 + x.val % 256, by omega⟩

theorem logit_row : zr (qAt Q i) (rowN K) x t = logit Q K (xhead x) (xquery i x) t := by
  unfold zr logit
  rw [sum_mul, ← sum_heads, sum_eq_single (xhead x)]
  · refine sum_congr rfl fun c _ => ?_
    have e : (⟨(xhead x).val * 64 + c.val, by have := (xhead x).isLt; omega⟩ : Fin 256) = hc (xhead x) c := Fin.ext (by show _ * 64 + _ = 64 * _ + _; omega)
    rw [e]
    unfold qAt stack
    rw [if_pos (by show (64 * (x.val / 256) + c.val) / 64 = x.val / 256; omega)]
    show Q (xquery i x) _ * (1 / 8) * _ = _
    ring
  · intro h _ hh
    refine sum_eq_zero fun c _ => ?_
    unfold qAt stack
    rw [if_neg (fun e => hh (Fin.ext ?_)), zero_mul, zero_mul]
    have e' : (h.val * 64 + c.val) / 64 = x.val / 256 := e
    show h.val = x.val / 256
    omega
  · exact fun h => absurd (mem_univ _) h

theorem weight_row : ar (posAt i.val) (qAt Q i) (rowN K) x t = weight Q K (xhead x) (xquery i x) t := by
  have e : posAt i.val x = (xquery i x).val := by show 256 * i.val + x.val % 256 = i.val * 256 + x.val % 256; omega
  unfold ar weight rA lsum lf rlf
  simp only [logit_row, e]

theorem outReal_eq (r : Fin 256) (l : Fin 256) : outReal Q K V' i r l = out Q K V' (rowAt i r) l := by
  have eh : xhead (srow r l) = headOf l := Fin.ext (by show (256 * (l.val / 64) + r.val) / 256 = l.val / 64; omega)
  have eq : xquery i (srow r l) = rowAt i r := Fin.ext (by show i.val * 256 + (256 * (l.val / 64) + r.val) % 256 = i.val * 256 + r.val; omega)
  unfold outReal out
  rw [← range_eq_Ico, ← Fin.sum_univ_eq_sum_range (fun u => ar (posAt i.val) (qAt Q i) (rowN K) (srow r l) u * rowN V' u l) 8192]
  refine sum_congr rfl fun u _ => ?_
  rw [weight_row, eh, eq, show rowN V' u.val l = V' u l from dif_pos u.isLt, mul_comm]

end Rows

/-! ## The arrays -/

variable (m : (ℓ : Loc nD τ sig) → Buf (Elt Ideal) ℓ) (c : Dev nD)
variable (Q K V' : Fin 8192 → Fin 256 → ℝ)

/-- The argument's three column ranges as real arrays. -/
structure Reads : Prop where
  q : ∀ s (k : Fin 256), m ((c.tc : Thread nD τ).loc main_arg0) (ix2 s ⟨2304 + k.val, by omega⟩) = ((Q s k : ℝ) : EReal)
  k : ∀ s (k : Fin 256), m ((c.tc : Thread nD τ).loc main_arg0) (ix2 s ⟨2560 + k.val, by omega⟩) = ((K s k : ℝ) : EReal)
  v : ∀ s (k : Fin 256), m ((c.tc : Thread nD τ).loc main_arg0) (ix2 s ⟨2816 + k.val, by omega⟩) = ((V' s k : ℝ) : EReal)

theorem idx0 : ∀ t : Fin (cfg0 (F := Ideal)).N, win0_0.index t = ![t.val, 9] := (by decide +kernel : ∀ t : Fin grid0.N, _)
theorem idx1 : ∀ t : Fin (cfg0 (F := Ideal)).N, win0_1.index t = ![0, 10] := (by decide +kernel : ∀ t : Fin grid0.N, _)
theorem idx2 : ∀ t : Fin (cfg0 (F := Ideal)).N, win0_2.index t = ![0, 11] := (by decide +kernel : ∀ t : Fin grid0.N, _)
theorem idx3 : ∀ t : Fin (cfg0 (F := Ideal)).N, win0_3.index t = ![t.val, 0] := (by decide +kernel : ∀ t : Fin grid0.N, _)

/-- The query block of point `t`. -/
def qb (t : Fin (cfg0 (F := Ideal)).N) : Fin 32 := ⟨t.val, lt_of_lt_of_eq t.isLt (show (cfg0 (F := Ideal)).N = 32 from N_0)⟩

theorem coord1 (t : Fin (cfg0 (F := Ideal)).N) : (grid0.coords t 1).val = (qb t).val := by
  have h : (grid0.coords t 1).val = t.val / 1 % 32 := Pipeline.Grid.coords_val t 1 (by decide) rfl
  rw [h, Nat.div_one]; exact Nat.mod_eq_of_lt (qb t).isLt

variable {m c Q K V'}

theorem blk0 (h : Reads m c Q K V') (t : Fin (cfg0 (F := Ideal)).N) (s l : Fin 256) :
    (iblk m c 0 t : Vec Ideal S256x256 .bf16) (ix2 s l) = ((blk Q (qb t) s l : ℝ) : EReal) := by
  unfold blk
  rw [← h.q]
  blk_ext! [iblk, V, idx0, rowAt, qb]

theorem blk1 (h : Reads m c Q K V') (t : Fin (cfg0 (F := Ideal)).N) (s : Fin 8192) (l : Fin 256) :
    (iblk m c 1 t : Vec Ideal S8192x256 .bf16) (ix2 s l) = ((rowN K s.val l : ℝ) : EReal) := by
  unfold rowN
  rw [dif_pos s.isLt, ← h.k]
  blk_ext! [iblk, V, idx1]

theorem blk2 (h : Reads m c Q K V') (t : Fin (cfg0 (F := Ideal)).N) (s : Fin 8192) (l : Fin 256) :
    (iblk m c 2 t : Vec Ideal S8192x256 .bf16) (ix2 s l) = ((rowN V' s.val l : ℝ) : EReal) := by
  unfold rowN
  rw [dif_pos s.isLt, ← h.v]
  blk_ext! [iblk, V, idx2]

theorem outAt_val (h : Reads m c Q K V') (t : Fin (cfg0 (F := Ideal)).N) (r l : Fin 256) :
    outAt m c t (ix2 r l) = ((out Q K V' (rowAt (qb t) r) l : ℝ) : EReal) := by
  have hp : ∀ s, 256 * (qb t).val ≤ posAt (qb t).val s := fun s => by unfold posAt; omega
  have hp' : ∀ s, posAt (qb t).val s ≤ 256 * ((qb t).val + 1) := fun s => by unfold posAt; omega
  have e := outReal_eq Q K V' (qb t) r l
  rw [← e]
  rw [← coord1] at hp hp'
  have k := last_inv (qst_val (blk0 h t)) (blk1 h t) (blk2 h t) triU_val (mask_val (grid0.coords t)) hp' hp
  rw [coord1] at k
  exact unstack_val k.acc r l

theorem out_array (h : Reads m c Q K V') :
    (dats m 0 c).arrAt 3 (cfg0 (F := Ideal)).N = fun i : S8192x256.Idx => ((out Q K V' (i 0) (i 1) : ℝ) : EReal) := by
  refine (dats m 0 c).arrAt_eq_of_covers 3 _ (by decide +kernel) fun t hf y => ?_
  blk_simp
  have key := outAt_val h t (y 0) (y 1)
  have e0 : (((View.whole main_v0).slice (win0_3.rect t)).emb y 0 : Fin 8192) = rowAt (qb t) (y 0) := by
    apply Fin.ext; blk_simp [idx3, qb, rowAt]
  have e1 : (((View.whole main_v0).slice (win0_3.rect t)).emb y 1 : Fin 256) = y 1 := by
    apply Fin.ext; blk_simp [idx3]
  rw [after0_3, e0, e1]
  exact (congrArg _ (eq_ix2 (n0 := 256) (n1 := 256) y)).trans key

end Cert.SbFwd

end
-- ==== Proof.Fwd.lean ====
/-
  The stick-breaking attention's forward pass: the kernel's run and the reference's run end with the same output.
-/
module

public import proofs.«01_k».proof.Defs
public import proofs.«01_k».proof.Proof.FwdKernel
public import proofs.«01_k».proof.Proof.SbReference
public import proofs.«01_k».proof.Proof.Gen.Reference5Ideal.Run
public import proofs.«01_k».proof.Proof.Gen.Reference5Ideal.Read
public import proofs.«01_k».proof.Proof.Gen.Pre_finite5
public import Idealize.ShloMosaic.Lib.Claim

@[expose] public section

noncomputable section

namespace Cert.SbFwd

open Idealize.ShloMosaic Idealize.SL.Sem Cert.RealOps Cert.SbSpec

/-- The reference runs and ends quiescent, its argument unchanged. -/
theorem reference_frame : Cert.quiescent_Reference5Ideal := fun m ρ _ =>
  θ_run_mono (Cert.Reference5Ideal.Value.run m ρ) fun r h =>
    ⟨fun c => (h c).2, sem_eq_zero_of_no_sems (by decide) _⟩

theorem preserves : Cert.preserves_Kernel5_Kernel5Ideal :=
  ⟨IdealRules.named_const.statement _ _ _ _ _ rfl, IdealRules.named_const.statement _ _ _ _ _ rfl⟩

set_option maxRecDepth 8192 in
/-- The output is computed by the same operations as in the backward pass's reference. -/
theorem output_eq (x : Vec Ideal Cert.Reference5Ideal.S8192x5120 .bf16) :
    Cert.Reference5Ideal.Read.val_main_v27 (F := Ideal) x = Cert.Reference2Ideal.Read.val_main_v27 (F := Ideal) x := rfl

variable {m : (ℓ : Loc Cert.Kernel5Ideal.nD Cert.Kernel5Ideal.τ Cert.Kernel5Ideal.sig) → Buf (Elt Ideal) ℓ}

theorem algebraic : Cert.algebraic_Kernel5Ideal_Reference5Ideal_pre_finite5 := by
  intro m g m' g' hpre hagree
  refine ⟨fun c => (dats m 0 c).arrAt 3 (Cert.Kernel5Ideal.cfg0 (F := Ideal)).N,
    (θ_run Cert.Kernel5Ideal.defs _ _).mono (fun _ h => h.1) (run_blocks m g), ?_⟩
  refine θ_run_mono (Cert.Reference5Ideal.Value.run m' g') fun r h c => ?_
  obtain ⟨r0, k⟩ := h c
  have a0 := hagree c
  have hX : ∀ s k, (m (c.tc.loc Cert.Kernel5Ideal.main_arg0) : Vec Ideal Cert.Kernel5Ideal.S8192x5120 .bf16) (ix2 s k)
      = ((((m (c.tc.loc Cert.Kernel5Ideal.main_arg0) : Vec Ideal Cert.Kernel5Ideal.S8192x5120 .bf16) (ix2 s k)).toReal : ℝ) : EReal) :=
    fun s k => real_of_lt_top (bits_top16 ▸ congrFun (hpre c) (ix2 s k))
  generalize hx : (fun s k => ((m (c.tc.loc Cert.Kernel5Ideal.main_arg0) : Vec Ideal Cert.Kernel5Ideal.S8192x5120 .bf16) (ix2 s k)).toReal) = X
  replace hX : ∀ s k, (m (c.tc.loc Cert.Kernel5Ideal.main_arg0) : Vec Ideal Cert.Kernel5Ideal.S8192x5120 .bf16) (ix2 s k) = ((X s k : ℝ) : EReal) :=
    fun s k => by rw [← hx]; exact hX s k
  have H : SbReference.Args (m (c.tc.loc Cert.Kernel5Ideal.main_arg0)) (fun _ => ((0 : ℝ) : EReal))
      (fun s k => X s ⟨2304 + k.val, by omega⟩) (fun s k => X s ⟨2560 + k.val, by omega⟩) (fun s k => X s ⟨2816 + k.val, by omega⟩) (fun _ _ => 0) :=
    ⟨fun _ _ => hX _ _, fun _ _ => hX _ _, fun _ _ => hX _ _, fun _ _ => rfl⟩
  have hk : Reads m c _ _ _ := ⟨H.q, H.k, H.v⟩
  refine ⟨r0.trans (Eq.trans ?_ (out_array hk).symm), k⟩
  rw [Cert.Reference5Ideal.Read.val_main_v27_eq, a0, output_eq]
  exact funext fun i => (congrArg _ (eq_ix2 (n0 := 8192) (n1 := 256) i)).trans (SbReference.out_at H (i 0) (i 1))

end Cert.SbFwd

end
-- ==== Proof.AttnSpec.lean ====
/-
  The window attention's derivative over the real numbers. Three groups of four heads look back over windows of 128
  dilated positions; every query's three softmaxes are mixed by the weights of their normalisers, so that all three share
  one normaliser, the sum over the groups.
-/
module

public import proofs.«01_k».proof.Proof.RealOps

@[expose] public section

noncomputable section

namespace Cert.Attn

open Idealize.ShloMosaic Cert.RealOps

/-- A group's dilation. -/
def dil : Fin 3 → ℕ := ![1, 4, 16]

/-- Query `t` of group `g` attends to key `u`. -/
def Valid (g : Fin 3) (t u : ℕ) : Prop := u ≤ t ∧ t - u ≤ 128 * dil g ∧ dil g ∣ t - u

instance (g : Fin 3) (t u : ℕ) : Decidable (Valid g t u) := by unfold Valid; infer_instance

theorem valid_self (g : Fin 3) (t : ℕ) : Valid g t t := ⟨le_rfl, by omega, by simp⟩

/-- The slopes of the twelve heads, as the program's 32-bit literals. -/
def slopeBits : Fin 12 → BitVec 32 := ![0x3F214518#32, 0x3ECB2FF5#32, 0x3E800000#32, 0x3E214518#32, 0x3DCB2FF5#32,
  0x3D800000#32, 0x3D214518#32, 0x3CCB2FF5#32, 0x3C800000#32, 0x3C214518#32, 0x3BCB2FF5#32, 0x3B800000#32]

/-- The slope of head `h` of group `g`. -/
def slope (g : Fin 3) (h : Fin 4) : ℝ := (Ideal.ofBits .f32 (slopeBits ⟨4 * g.val + h.val, by omega⟩)).toReal

/-- The slopes of the third group, by their fractions and exponents. -/
def last16 : Fin 4 → ℝ := ![1 / 4, 10568984 / 67108864, 13316085 / 134217728, 1 / 16]

theorem bits_last16 : ∀ h : Fin 4, Ideal.ofBits .f32 ((![0x3E800000#32, 0x3E214518#32, 0x3DCB2FF5#32, 0x3D800000#32] : Fin 4 → BitVec 32) h)
    = ((last16 h : ℝ) : EReal)
  | 0 => by show Ideal.ofBits .f32 0x3E800000#32 = ((1 / 4 : ℝ) : EReal); simp [Ideal.ofBits, Ideal.ieee, -EReal.coe_mul]; norm_num
  | 1 => by show Ideal.ofBits .f32 0x3E214518#32 = ((10568984 / 67108864 : ℝ) : EReal); simp [Ideal.ofBits, Ideal.ieee, -EReal.coe_mul]; norm_num
  | 2 => by show Ideal.ofBits .f32 0x3DCB2FF5#32 = ((13316085 / 134217728 : ℝ) : EReal); simp [Ideal.ofBits, Ideal.ieee, -EReal.coe_mul]; norm_num
  | 3 => by show Ideal.ofBits .f32 0x3D800000#32 = ((1 / 16 : ℝ) : EReal); simp [Ideal.ofBits, Ideal.ieee, -EReal.coe_mul]; norm_num

theorem bits_slope2 : ∀ h : Fin 4, Ideal.ofBits .f32 (slopeBits ⟨8 + h.val, by omega⟩) = ((last16 h / 16 : ℝ) : EReal)
  | 0 => by show Ideal.ofBits .f32 0x3C800000#32 = ((1 / 4 / 16 : ℝ) : EReal); simp [Ideal.ofBits, Ideal.ieee, -EReal.coe_mul]; norm_num
  | 1 => by show Ideal.ofBits .f32 0x3C214518#32 = ((10568984 / 67108864 / 16 : ℝ) : EReal); simp [Ideal.ofBits, Ideal.ieee, -EReal.coe_mul]; norm_num
  | 2 => by show Ideal.ofBits .f32 0x3BCB2FF5#32 = ((13316085 / 134217728 / 16 : ℝ) : EReal); simp [Ideal.ofBits, Ideal.ieee, -EReal.coe_mul]; norm_num
  | 3 => by show Ideal.ofBits .f32 0x3B800000#32 = ((1 / 16 / 16 : ℝ) : EReal); simp [Ideal.ofBits, Ideal.ieee, -EReal.coe_mul]; norm_num

theorem slope_last (h : Fin 4) : slope 2 h = last16 h / 16 := by
  unfold slope
  rw [← EReal.toReal_coe (last16 h / 16), ← bits_slope2 h]
  rfl

theorem slope_bits_real : ∀ i : Fin 12, Ideal.ofBits .f32 (slopeBits i) = (((Ideal.ofBits .f32 (slopeBits i)).toReal : ℝ) : EReal) := by
  intro i
  have h : ∀ b : BitVec 32, Ideal.ofBits .f32 b ≠ ⊤ → Ideal.ofBits .f32 b ≠ ⊥ → Ideal.ofBits .f32 b = (((Ideal.ofBits .f32 b).toReal : ℝ) : EReal) :=
    fun b h1 h2 => (EReal.coe_toReal h1 h2).symm
  refine h _ ?_ ?_ <;> fin_cases i <;> simp [slopeBits, Ideal.ofBits, Ideal.ieee, -EReal.coe_mul]

theorem bits_slope (g : Fin 3) (h : Fin 4) : Ideal.ofBits .f32 (slopeBits ⟨4 * g.val + h.val, by omega⟩) = ((slope g h : ℝ) : EReal) :=
  slope_bits_real _

/-- Lane `c` of head `h` among the lanes of a group. -/
def lane (h : Fin 4) (c : Fin 64) : Fin 256 := ⟨h.val * 64 + c.val, by omega⟩

/-- Row `m` of class `r`: the positions of the class are sixteen apart. -/
def pos (r : Fin 16) (m : Fin 512) : Fin 8192 := ⟨m.val * 16 + r.val, by omega⟩

/-! ## The derivative -/

section Spec

variable (Q K V : Fin 3 → Fin 4 → Fin 8192 → Fin 64 → ℝ) (D : Fin 4 → Fin 8192 → Fin 64 → ℝ)

/-- The score of key `u` for query `t`. -/
def score (g : Fin 3) (h : Fin 4) (t u : Fin 8192) : ℝ :=
  (∑ c, Q g h t c * K g h u c) * (1 / 8) - slope g h * ((t.val : ℝ) - u.val)

/-- The weight of a key before normalisation. -/
def E (g : Fin 3) (h : Fin 4) (t u : Fin 8192) : ℝ := if Valid g t.val u.val then Real.exp (score Q K g h t u) else 0

/-- The normaliser of one group. -/
def Z (g : Fin 3) (h : Fin 4) (t : Fin 8192) : ℝ := ∑ u, E Q K g h t u

/-- The normaliser all groups share. -/
def T (h : Fin 4) (t : Fin 8192) : ℝ := ∑ g, Z Q K g h t

/-- The weight of a key in the mixture. -/
def P (g : Fin 3) (h : Fin 4) (t u : Fin 8192) : ℝ := E Q K g h t u / T Q K h t

/-- The mixture of the groups' outputs. -/
def mix (h : Fin 4) (t : Fin 8192) (c : Fin 64) : ℝ := ∑ g, Z Q K g h t / T Q K h t * ((∑ u, E Q K g h t u * V g h u c) / Z Q K g h t)

/-- The cotangent's product with the output. -/
def dsum (h : Fin 4) (t : Fin 8192) : ℝ := ∑ c, D h t c * mix Q K V h t c

/-- The cotangent of a weight. -/
def cot (g : Fin 3) (h : Fin 4) (t u : Fin 8192) : ℝ := ∑ c, D h t c * V g h u c

/-- The cotangent of a score. -/
def dS (g : Fin 3) (h : Fin 4) (t u : Fin 8192) : ℝ := P Q K g h t u * (cot V D g h t u - dsum Q K V D h t)

def dQ (g : Fin 3) (h : Fin 4) (t : Fin 8192) (c : Fin 64) : ℝ := ∑ u, dS Q K V D g h t u * (1 / 8) * K g h u c
def dK (g : Fin 3) (h : Fin 4) (u : Fin 8192) (c : Fin 64) : ℝ := ∑ t, dS Q K V D g h t u * (1 / 8) * Q g h t c
def dV (g : Fin 3) (h : Fin 4) (u : Fin 8192) (c : Fin 64) : ℝ := ∑ t, P Q K g h t u * D h t c

theorem E_nonneg (g : Fin 3) (h : Fin 4) (t u : Fin 8192) : 0 ≤ E Q K g h t u := by
  unfold E
  split
  · exact (Real.exp_pos _).le
  · exact le_rfl

theorem Z_pos (g : Fin 3) (h : Fin 4) (t : Fin 8192) : 0 < Z Q K g h t := by
  refine Finset.sum_pos' (fun u _ => E_nonneg Q K g h t u) ⟨t, Finset.mem_univ _, ?_⟩
  unfold E
  rw [if_pos (valid_self g t.val)]
  exact Real.exp_pos _

theorem T_pos (h : Fin 4) (t : Fin 8192) : 0 < T Q K h t :=
  Finset.sum_pos (fun g _ => Z_pos Q K g h t) ⟨0, Finset.mem_univ _⟩

end Spec

/-! ## The largest of finitely many extended reals -/

/-- The largest of finitely many extended reals below infinity, one of them above minus infinity, is a real number. -/
theorem fold_max_real {ι : Type*} [Fintype ι] (f : ι → EReal) (hf : ∀ i, f i ≠ ⊤) (j : ι) (hj : f j ≠ ⊥) :
    ∃ m : ℝ, (Finset.univ : Finset ι).fold max ⊥ f = ((m : ℝ) : EReal) := by
  have e : (Finset.univ : Finset ι).fold max ⊥ f = Finset.univ.sup f := rfl
  have h1 : Finset.univ.sup f ≠ ⊤ := ((Finset.sup_lt_iff (bot_lt_top)).mpr fun i _ => lt_top_iff_ne_top.mpr (hf i)).ne
  have h2 : Finset.univ.sup f ≠ ⊥ := fun h => hj (le_bot_iff.mp (h ▸ Finset.le_sup (Finset.mem_univ j)))
  exact ⟨_, e.trans (EReal.coe_toReal h1 h2).symm⟩

end Cert.Attn

end
-- ==== Proof.AttnBlock.lean ====
/-
  What one block of queries and keys contributes, over the real numbers: the weights and the scores' cotangents of the rows
  stacked once per head, and the blocks of the three gradients.
-/
module

public import proofs.«01_k».proof.Proof.AttnSpec
public import proofs.«01_k».proof.Proof.Gen.Kernel7Ideal.Value
public import Idealize.ShloMosaic.Lib.Pipeline.ValueKit.Point
public import Idealize.ShloMosaic.Lib.Pipeline.ReadBack
public import Idealize.ShloMosaic.Lib.WordCmp
public import Idealize.ShloMosaic.Adequacy

@[expose] public section

noncomputable section

namespace Cert.AttnBlock

open Classical
open Cert.Kernel7Ideal Cert.Kernel7Ideal.Gen Idealize.ShloMosaic Idealize.ShloMosaic.TcCoe Idealize.SL.Sem
open Cert.RealOps
open Cert.Attn (lane last16 bits_last16)

/-- A query's row among the stacked rows of a head. -/
def srow (a : Fin 4) (i : Fin 128) : Fin 512 := ⟨a.val * 128 + i.val, by omega⟩

theorem lane_head (h : Fin 4) (c : Fin 64) : (lane h c).val / 64 = h.val := by
  show (h.val * 64 + c.val) / 64 = h.val; omega

theorem sum_lanes {M : Type*} [AddCommMonoid M] (f : Fin 256 → M) : ∑ j, f j = ∑ h, ∑ c, f (lane h c) :=
  (Fin.sum_mul_add_congr (L := 256) (S := 4) (n := 64) fun _ _ _ => rfl).symm

theorem sum_rows {M : Type*} [AddCommMonoid M] (f : Fin 512 → M) : ∑ s, f s = ∑ a, ∑ i, f (srow a i) :=
  (Fin.sum_mul_add_congr (L := 512) (S := 4) (n := 128) fun _ _ _ => rfl).symm

/-! ## Words -/

theorem select_mask {α : Type} (p : Prop) [Decidable p] (x y : α) : Scalar.select (if p then 1#1 else 0#1) x y = if p then x else y := by
  split_ifs <;> rfl

theorem lane_val (t : Fin 128) (l : Fin 256) : k0_pay2 (ix2 t l) = BitVec.ofNat 32 (l.val / 64) := by
  unfold k0_pay2; pointwise
  revert l
  decide +kernel

theorem head0 : ∀ h : Fin 4, IntOp.cmpi .eq (BitVec.ofNat 32 h.val) 0#32 = if h.val = 0 then 1#1 else 0#1 := by decide
theorem head1 : ∀ h : Fin 4, IntOp.cmpi .eq (BitVec.ofNat 32 h.val) 1#32 = if h.val = 1 then 1#1 else 0#1 := by decide
theorem head2 : ∀ h : Fin 4, IntOp.cmpi .eq (BitVec.ofNat 32 h.val) 2#32 = if h.val = 2 then 1#1 else 0#1 := by decide
theorem head3 : ∀ h : Fin 4, IntOp.cmpi .eq (BitVec.ofNat 32 h.val) 3#32 = if h.val = 3 then 1#1 else 0#1 := by decide

theorem delta_toInt {a b n : ℕ} (ha : a < 128) (hb : b < 128) (hn : n ≤ 128) :
    (BitVec.ofNat 32 a - BitVec.ofNat 32 b + BitVec.ofNat 32 n).toInt = (a : ℤ) - b + n := by
  have e : ∀ k, k < 8192 → (BitVec.ofNat 32 k).toInt = k := fun k hk => by
    rw [BitVec.toInt_eq_toNat_of_lt (by rw [BitVec.toNat_ofNat]; omega), BitVec.toNat_ofNat]
    omega
  have e1 : (BitVec.ofNat 32 a - BitVec.ofNat 32 b).toInt = (a : ℤ) - b := by
    rw [BitVec.toInt_sub, e a (by omega), e b (by omega)]
    exact Int.bmod_eq_of_le (by norm_num; omega) (by norm_num; omega)
  rw [BitVec.toInt_add, e1, e n (by omega)]
  exact Int.bmod_eq_of_le (by norm_num; omega) (by norm_num; omega)

theorem delta_toInt' {a b : ℕ} (ha : a < 128) (hb : b < 128) : (BitVec.ofNat 32 a - BitVec.ofNat 32 b).toInt = (a : ℤ) - b := by
  have h := delta_toInt (n := 0) ha hb (by omega)
  rwa [BitVec.add_zero, Nat.cast_zero, add_zero] at h

theorem ge_val (i u : Fin 128) : k0_pay5 (ix2 i u) = if u ≤ i then 1#1 else 0#1 := by
  unfold k0_pay5 k0_pay3; pointwise
  show BitVec.ofBool (decide ((0#32).toInt ≤ (BitVec.ofNat 32 i.val - BitVec.ofNat 32 u.val).toInt)) = _
  rw [delta_toInt' i.isLt u.isLt]
  by_cases h : u ≤ i
  · rw [if_pos h, decide_eq_true (by show (0:ℤ) ≤ _; have : u.val ≤ i.val := h; omega)]; rfl
  · rw [if_neg h, decide_eq_false (by show ¬(0:ℤ) ≤ _; have : ¬u.val ≤ i.val := h; omega)]; rfl

theorem le_val (i u : Fin 128) : k0_pay6 (ix2 i u) = if i ≤ u then 1#1 else 0#1 := by
  unfold k0_pay6 k0_pay3; pointwise
  show BitVec.ofBool (decide ((BitVec.ofNat 32 i.val - BitVec.ofNat 32 u.val).toInt ≤ (0#32).toInt)) = _
  rw [delta_toInt' i.isLt u.isLt]
  by_cases h : i ≤ u
  · rw [if_pos h, decide_eq_true (by show _ ≤ (0:ℤ); have : i.val ≤ u.val := h; omega)]; rfl
  · rw [if_neg h, decide_eq_false (by show ¬_ ≤ (0:ℤ); have : ¬i.val ≤ u.val := h; omega)]; rfl

/-- The float of the distance between two rows. -/
theorem dist_val (i u : Fin 128) : (FloatOps.sitofp .f32 (k0_pay3 (ix2 i u)) : Ideal .f32) = (((i.val : ℝ) - u.val : ℝ) : EReal) := by
  unfold k0_pay3; pointwise
  show ((((BitVec.ofNat 32 i.val - BitVec.ofNat 32 u.val).toInt : ℤ) : ℝ) : EReal) = _
  rw [delta_toInt' i.isLt u.isLt]
  push_cast
  rfl

/-- The float of the distance to a row of the block before. -/
theorem dist_prev (i u : Fin 128) : (FloatOps.sitofp .f32 (k0_pay4 (ix2 i u)) : Ideal .f32) = (((i.val : ℝ) - u.val + 128 : ℝ) : EReal) := by
  unfold k0_pay4 k0_pay3; pointwise
  show ((((BitVec.ofNat 32 i.val - BitVec.ofNat 32 u.val + BitVec.ofNat 32 128).toInt : ℤ) : ℝ) : EReal) = _
  rw [delta_toInt i.isLt u.isLt le_rfl]
  push_cast
  rfl

/-! ## Rows stacked once per head -/

/-- A choice by stacked row among four. -/
theorem four {α : Type} {a : Fin 4} {i : Fin 128} {z : α} (f : Fin 4 → Fin 128 → α) (hf : f a i = z) (r : Fin 128) (b : Fin 4)
    (h : b.val * 128 + r.val = (srow a i).val) : f b r = z := by
  have h' : b.val * 128 + r.val = a.val * 128 + i.val := h
  rw [show b = a from Fin.ext (by omega), show r = i from Fin.ext (by omega), hf]

theorem mCur_val (a : Fin 4) (i u : Fin 128) : k0_pay13 k0_pay5 (ix2 (srow a i) u) = if u ≤ i then 1#1 else 0#1 := by
  unfold k0_pay13; pointwise
  have key := four (a := a) (i := i) (fun _ r => k0_pay5 (ix2 r u)) (ge_val i u)
  by_cases h0 : (srow a i).val < 128
  · rw [dif_pos h0]; exact key ⟨_, h0⟩ 0 (by show 0 * 128 + (srow a i).val = _; omega)
  rw [dif_neg h0]
  by_cases h1 : (srow a i).val - 128 < 128
  · rw [dif_pos h1]; exact key ⟨_, h1⟩ 1 (by show 1 * 128 + ((srow a i).val - 128) = _; omega)
  rw [dif_neg h1]
  by_cases h2 : (srow a i).val - 128 - 128 < 128
  · rw [dif_pos h2]; exact key ⟨_, h2⟩ 2 (by show 2 * 128 + ((srow a i).val - 128 - 128) = _; omega)
  rw [dif_neg h2]
  exact key ⟨(srow a i).val - 128 - 128 - 128, by omega⟩ 3 (by show 3 * 128 + ((srow a i).val - 128 - 128 - 128) = _; omega)

theorem mPrev_val (a : Fin 4) (i u : Fin 128) : k0_pay14 k0_pay6 (ix2 (srow a i) u) = if i ≤ u then 1#1 else 0#1 := by
  unfold k0_pay14; pointwise
  have key := four (a := a) (i := i) (fun _ r => k0_pay6 (ix2 r u)) (le_val i u)
  by_cases h0 : (srow a i).val < 128
  · rw [dif_pos h0]; exact key ⟨_, h0⟩ 0 (by show 0 * 128 + (srow a i).val = _; omega)
  rw [dif_neg h0]
  by_cases h1 : (srow a i).val - 128 < 128
  · rw [dif_pos h1]; exact key ⟨_, h1⟩ 1 (by show 1 * 128 + ((srow a i).val - 128) = _; omega)
  rw [dif_neg h1]
  by_cases h2 : (srow a i).val - 128 - 128 < 128
  · rw [dif_pos h2]; exact key ⟨_, h2⟩ 2 (by show 2 * 128 + ((srow a i).val - 128 - 128) = _; omega)
  rw [dif_neg h2]
  exact key ⟨(srow a i).val - 128 - 128 - 128, by omega⟩ 3 (by show 3 * 128 + ((srow a i).val - 128 - 128 - 128) = _; omega)

theorem bCur_val (a : Fin 4) (i u : Fin 128) :
    k0_pay11 (F := Ideal) k0_pay7 k0_pay8 k0_pay9 k0_pay10 (Scalar.ofBits .f32 0x3D800000#32) (ix2 (srow a i) u)
      = ((last16 a * ((i.val : ℝ) - u.val) : ℝ) : EReal) := by
  unfold k0_pay11 k0_pay7 k0_pay8 k0_pay9 k0_pay10; pointwise
  simp only [dist_val]
  have key := four (a := a) (i := i) (fun b r => Ideal.ofBits .f32 ((![0x3E800000#32, 0x3E214518#32, 0x3DCB2FF5#32, 0x3D800000#32] : Fin 4 → BitVec 32) b)
    * (((r.val : ℝ) - u.val : ℝ) : EReal)) (by rw [bits_last16, mul_real])
  by_cases h0 : (srow a i).val < 128
  · rw [dif_pos h0]; exact key ⟨_, h0⟩ 0 (by show 0 * 128 + (srow a i).val = _; omega)
  rw [dif_neg h0]
  by_cases h1 : (srow a i).val - 128 < 128
  · rw [dif_pos h1]; exact key ⟨_, h1⟩ 1 (by show 1 * 128 + ((srow a i).val - 128) = _; omega)
  rw [dif_neg h1]
  by_cases h2 : (srow a i).val - 128 - 128 < 128
  · rw [dif_pos h2]; exact key ⟨_, h2⟩ 2 (by show 2 * 128 + ((srow a i).val - 128 - 128) = _; omega)
  rw [dif_neg h2]
  exact key ⟨(srow a i).val - 128 - 128 - 128, by omega⟩ 3 (by show 3 * 128 + ((srow a i).val - 128 - 128 - 128) = _; omega)

theorem bPrev_val (a : Fin 4) (i u : Fin 128) :
    k0_pay12 (F := Ideal) k0_pay4 (ix2 (srow a i) u) = ((last16 a * ((i.val : ℝ) - u.val + 128) : ℝ) : EReal) := by
  unfold k0_pay12; pointwise
  simp only [dist_prev]
  have key := four (a := a) (i := i) (fun b r => Ideal.ofBits .f32 ((![0x3E800000#32, 0x3E214518#32, 0x3DCB2FF5#32, 0x3D800000#32] : Fin 4 → BitVec 32) b)
    * (((r.val : ℝ) - u.val + 128 : ℝ) : EReal)) (by rw [bits_last16, mul_real])
  by_cases h0 : (srow a i).val < 128
  · rw [dif_pos h0]; exact key ⟨_, h0⟩ 0 (by show 0 * 128 + (srow a i).val = _; omega)
  rw [dif_neg h0]
  by_cases h1 : (srow a i).val - 128 < 128
  · rw [dif_pos h1]; exact key ⟨_, h1⟩ 1 (by show 1 * 128 + ((srow a i).val - 128) = _; omega)
  rw [dif_neg h1]
  by_cases h2 : (srow a i).val - 128 - 128 < 128
  · rw [dif_pos h2]; exact key ⟨_, h2⟩ 2 (by show 2 * 128 + ((srow a i).val - 128 - 128) = _; omega)
  rw [dif_neg h2]
  exact key ⟨(srow a i).val - 128 - 128 - 128, by omega⟩ 3 (by show 3 * 128 + ((srow a i).val - 128 - 128 - 128) = _; omega)

theorem stack_val {x : Vec Ideal S1x128x256 .bf16} {X : Fin 4 → Fin 128 → Fin 64 → ℝ}
    (hx : ∀ h i c, x (ix3 0 i (lane h c)) = ((X h i c : ℝ) : EReal)) (a : Fin 4) (i : Fin 128) (h : Fin 4) (c : Fin 64) :
    k0_pay17 k0_pay2 x (ix2 (srow a i) (lane h c)) = ((if h = a then X a i c else 0 : ℝ) : EReal) := by
  unfold k0_pay17; pointwise
  simp only [lane_val, lane_head, head0, head1, head2, head3, select_mask, hx]
  have key := four (a := a) (i := i) (z := ((if h = a then X a i c else 0 : ℝ) : EReal))
    (fun b r => if h.val = b.val then ((X h r c : ℝ) : EReal) else 0) (by
      by_cases e : h = a
      · subst e; rw [if_pos rfl, if_pos rfl]
      · rw [if_neg (fun e' => e (Fin.ext e')), if_neg e]; rfl)
  by_cases h0 : (srow a i).val < 128
  · rw [dif_pos h0]; exact key ⟨_, h0⟩ 0 (by show 0 * 128 + (srow a i).val = _; omega)
  rw [dif_neg h0]
  by_cases h1 : (srow a i).val - 128 < 128
  · rw [dif_pos h1]; exact key ⟨_, h1⟩ 1 (by show 1 * 128 + ((srow a i).val - 128) = _; omega)
  rw [dif_neg h1]
  by_cases h2 : (srow a i).val - 128 - 128 < 128
  · rw [dif_pos h2]; exact key ⟨_, h2⟩ 2 (by show 2 * 128 + ((srow a i).val - 128 - 128) = _; omega)
  rw [dif_neg h2]
  exact key ⟨(srow a i).val - 128 - 128 - 128, by omega⟩ 3 (by show 3 * 128 + ((srow a i).val - 128 - 128 - 128) = _; omega)

theorem column_val {x : Fin 4 → Vec Ideal S1x128x1 .f32} {Y : Fin 4 → Fin 128 → ℝ}
    (hx : ∀ h i, x h (ix3 0 i 0) = ((Y h i : ℝ) : EReal)) (a : Fin 4) (i : Fin 128) :
    k0_pay28 (x 0) (x 1) (x 2) (x 3) (ix2 (srow a i) 0) = ((Y a i : ℝ) : EReal) := by
  unfold k0_pay28; pointwise
  have key := four (a := a) (i := i) (fun b r => x b (ix3 0 r 0)) (hx a i)
  by_cases h0 : (srow a i).val < 128
  · rw [dif_pos h0]; exact key ⟨_, h0⟩ 0 (by show 0 * 128 + (srow a i).val = _; omega)
  rw [dif_neg h0]
  by_cases h1 : (srow a i).val - 128 < 128
  · rw [dif_pos h1]; exact key ⟨_, h1⟩ 1 (by show 1 * 128 + ((srow a i).val - 128) = _; omega)
  rw [dif_neg h1]
  by_cases h2 : (srow a i).val - 128 - 128 < 128
  · rw [dif_pos h2]; exact key ⟨_, h2⟩ 2 (by show 2 * 128 + ((srow a i).val - 128 - 128) = _; omega)
  rw [dif_neg h2]
  exact key ⟨(srow a i).val - 128 - 128 - 128, by omega⟩ 3 (by show 3 * 128 + ((srow a i).val - 128 - 128 - 128) = _; omega)

/-! ## Weights and cotangents of scores -/

theorem bits_eighth : Ideal.ofBits .f32 0x3E000000#32 = ((1 / 8 : ℝ) : EReal) := by
  simp [Ideal.ofBits, Ideal.ieee, -EReal.coe_mul]; norm_num

theorem mask_bot : Named.named (F := Ideal) κ "mask" (φ := .f32) 0xF149F2CA#32 = (⊥ : EReal) :=
  IdealRules.named_const.ideal_named_scalar _ _ _ _ rfl

/-- The weight a score has, of the product of the query and the key, the slope's part and the normaliser's logarithm. -/
def wt (M : Prop) (y b l : ℝ) : ℝ := if M then Real.exp (y * (1 / 8) - b - l) else 0

/-- A query's product with a key. -/
def dot (X K : Fin 4 → Fin 128 → Fin 64 → ℝ) (a : Fin 4) (i u : Fin 128) : ℝ := ∑ c, X a i c * K a u c

section Values

variable {M : Fin 128 → Fin 128 → Prop} {B : Fin 4 → Fin 128 → Fin 128 → ℝ} {X D K V : Fin 4 → Fin 128 → Fin 64 → ℝ} {Y S : Fin 4 → Fin 128 → ℝ}
  {m : IVec S512x128 1} {b : FVec Ideal S512x128 .f32} {q d : FVec Ideal S512x256 .bf16} {k v : FVec Ideal S128x256 .bf16} {l s : FVec Ideal S512x1 .f32}

theorem dot_val (hq : ∀ a i h c, q (ix2 (srow a i) (lane h c)) = ((if h = a then X a i c else 0 : ℝ) : EReal))
    (hk : ∀ h u c, k (ix2 u (lane h c)) = ((K h u c : ℝ) : EReal)) (a : Fin 4) (i u : Fin 128) :
    ∑ j : Fin 256, q (ix2 (srow a i) j) * k (ix2 u j) = ((dot X K a i u : ℝ) : EReal) := by
  rw [sum_lanes]
  simp only [hq, hk, mul_real, sum_real]
  congr 1
  rw [Finset.sum_eq_single a (fun h _ e => by simp [e]) (by simp)]
  simp [dot]

variable (hm : ∀ a i u, m (ix2 (srow a i) u) = if M i u then 1#1 else 0#1) (hb : ∀ a i u, b (ix2 (srow a i) u) = ((B a i u : ℝ) : EReal))
  (hq : ∀ a i h c, q (ix2 (srow a i) (lane h c)) = ((if h = a then X a i c else 0 : ℝ) : EReal))
  (hd : ∀ a i h c, d (ix2 (srow a i) (lane h c)) = ((if h = a then D a i c else 0 : ℝ) : EReal))
  (hk : ∀ h u c, k (ix2 u (lane h c)) = ((K h u c : ℝ) : EReal)) (hv : ∀ h u c, v (ix2 u (lane h c)) = ((V h u c : ℝ) : EReal))
  (hl : ∀ a i, l (ix2 (srow a i) 0) = ((Y a i : ℝ) : EReal)) (hs : ∀ a i, s (ix2 (srow a i) 0) = ((S a i : ℝ) : EReal))

theorem weight_real (p : Prop) (y b l : ℝ) :
    Ideal.exp ((if p then (((y * (1 / 8) - b : ℝ)) : EReal) else ⊥) - ((l : ℝ) : EReal)) = ((wt p y b l : ℝ) : EReal) := by
  unfold wt
  by_cases h : p
  · rw [if_pos h, if_pos h, sub_real, exp_real]
  · rw [if_neg h, if_neg h, EReal.bot_sub]
    exact zero_real

include hm hb hq hk hl

theorem p_val (a : Fin 4) (i u : Fin 128) : k0_pay32 b m q k l (ix2 (srow a i) u) = ((wt (M i u) (dot X K a i u) (B a i u) (Y a i) : ℝ) : EReal) := by
  unfold k0_pay32; pointwise
  rw [dot_val hq hk, hm, hb, hl, select_mask, mask_bot, bits_eighth, mul_real, sub_real]
  exact weight_real _ _ _ _

theorem p_val' (a : Fin 4) (i u : Fin 128) : k0_pay33 b m q k l (ix2 (srow a i) u) = ((wt (M i u) (dot X K a i u) (B a i u) (Y a i) : ℝ) : EReal) :=
  p_val hm hb hq hk hl a i u

include hd hv hs

theorem ds_val (a : Fin 4) (i u : Fin 128) : k0_pay35 b m q d k v l s (ix2 (srow a i) u)
    = ((wt (M i u) (dot X K a i u) (B a i u) (Y a i) * (dot D V a i u - S a i) * (1 / 8) : ℝ) : EReal) := by
  unfold k0_pay35; pointwise
  rw [dot_val hd hv, p_val hm hb hq hk hl, hs, bits_eighth, sub_real, mul_real, mul_real]

end Values

/-! ## The blocks of the three gradients -/

section Blocks

variable {P G : Fin 4 → Fin 128 → Fin 128 → ℝ} {X D K KP V : Fin 4 → Fin 128 → Fin 64 → ℝ} {S : Fin 4 → Fin 128 → ℝ}
  {p : FVec Ideal S512x128 .f32} {g : FVec Ideal S512x128 .bf16} {q d qn dn : FVec Ideal S512x256 .bf16} {k kp v : FVec Ideal S128x256 .bf16}
  {s : FVec Ideal S512x1 .f32}

/-- The cotangent of a score of a weight. -/
def cs (P : Fin 4 → Fin 128 → Fin 128 → ℝ) (D V : Fin 4 → Fin 128 → Fin 64 → ℝ) (S : Fin 4 → Fin 128 → ℝ) (a : Fin 4) (i u : Fin 128) : ℝ :=
  P a i u * (dot D V a i u - S a i) * (1 / 8)

/-- A sum over the keys of a block. -/
def overKeys (G : Fin 4 → Fin 128 → Fin 128 → ℝ) (K : Fin 4 → Fin 128 → Fin 64 → ℝ) (a : Fin 4) (i : Fin 128) (c : Fin 64) : ℝ :=
  ∑ u, G a i u * K a u c

/-- A sum over the queries of a block. -/
def overRows (G : Fin 4 → Fin 128 → Fin 128 → ℝ) (X : Fin 4 → Fin 128 → Fin 64 → ℝ) (a : Fin 4) (u : Fin 128) (c : Fin 64) : ℝ :=
  ∑ i, G a i u * X a i c

theorem rows_val {g : Fin 512 → Fin 128 → EReal} {q : Fin 512 → Fin 256 → EReal}
    (hg : ∀ a i u, g (srow a i) u = ((G a i u : ℝ) : EReal))
    (hq : ∀ a i h c, q (srow a i) (lane h c) = ((if h = a then X a i c else 0 : ℝ) : EReal)) (h : Fin 4) (u : Fin 128) (c : Fin 64) :
    ∑ r : Fin 512, g r u * q r (lane h c) = ((overRows G X h u c : ℝ) : EReal) := by
  rw [sum_rows]
  simp only [hg, hq, mul_real, sum_real]
  refine congrArg Real.toEReal ?_
  rw [Finset.sum_eq_single h (fun a _ e => by simp [e.symm]) (by simp)]
  simp [overRows]

theorem dq_val (hp : ∀ a i u, p (ix2 (srow a i) u) = ((P a i u : ℝ) : EReal)) (hg : ∀ a i u, g (ix2 (srow a i) u) = ((G a i u : ℝ) : EReal))
    (hd : ∀ a i h c, d (ix2 (srow a i) (lane h c)) = ((if h = a then D a i c else 0 : ℝ) : EReal))
    (hk : ∀ h u c, k (ix2 u (lane h c)) = ((K h u c : ℝ) : EReal)) (hkp : ∀ h u c, kp (ix2 u (lane h c)) = ((KP h u c : ℝ) : EReal))
    (hv : ∀ h u c, v (ix2 u (lane h c)) = ((V h u c : ℝ) : EReal)) (hs : ∀ a i, s (ix2 (srow a i) 0) = ((S a i : ℝ) : EReal))
    (i : Fin 128) (h : Fin 4) (c : Fin 64) :
    k0_pay36 k0_pay2 d k kp v s p g (constant S512x128 .f32 0x00000000#32) (ix3 0 i (lane h c))
      = ((overKeys G K h i c + overKeys (cs P D V S) KP h i c : ℝ) : EReal) := by
  have key : ∀ (a : Fin 4) (r : Fin 512), r = srow a i → a = h →
      ∑ u : Fin 128, g (ix2 r u) * k (ix2 u (lane h c))
        + ∑ u : Fin 128, p (ix2 r u) * (∑ j : Fin 256, d (ix2 r j) * v (ix2 u j) - s (ix2 r 0)) * Ideal.ofBits .f32 0x3E000000#32 * kp (ix2 u (lane h c))
      = ((overKeys G K h i c + overKeys (cs P D V S) KP h i c : ℝ) : EReal) := by
    rintro a r rfl rfl
    simp only [dot_val hd hv, hp, hg, hk, hkp, hs, bits_eighth, sub_real, mul_real, sum_real, add_real]
    rfl
  unfold k0_pay36; pointwise
  simp only [lane_val, lane_head, head0, head1, head2, head3, select_mask]
  split_ifs with h3 h2 h1 h0
  · exact key 3 _ (Fin.ext (by show 384 + i.val = 3 * 128 + i.val; omega)) (Fin.ext h3.symm)
  · exact key 2 _ (Fin.ext (by show 256 + i.val = 2 * 128 + i.val; omega)) (Fin.ext h2.symm)
  · exact key 1 _ (Fin.ext (by show 128 + i.val = 1 * 128 + i.val; omega)) (Fin.ext h1.symm)
  · exact key 0 _ (Fin.ext (by show i.val = 0 * 128 + i.val; omega)) (Fin.ext h0.symm)
  · omega

theorem dk_val (hp : ∀ a i u, p (ix2 (srow a i) u) = ((P a i u : ℝ) : EReal)) (hg : ∀ a i u, g (ix2 (srow a i) u) = ((G a i u : ℝ) : EReal))
    (hq : ∀ a i h c, q (ix2 (srow a i) (lane h c)) = ((if h = a then X a i c else 0 : ℝ) : EReal))
    (hqn : ∀ a i h c, qn (ix2 (srow a i) (lane h c)) = ((if h = a then KP a i c else 0 : ℝ) : EReal))
    (hdn : ∀ a i h c, dn (ix2 (srow a i) (lane h c)) = ((if h = a then D a i c else 0 : ℝ) : EReal))
    (hv : ∀ h u c, v (ix2 u (lane h c)) = ((V h u c : ℝ) : EReal)) (hs : ∀ a i, s (ix2 (srow a i) 0) = ((S a i : ℝ) : EReal))
    (u : Fin 128) (h : Fin 4) (c : Fin 64) :
    k0_pay38 (k0_pay37 q qn dn v s p g) (ix3 0 u (lane h c))
      = ((overRows G X h u c + overRows (cs P D V S) KP h u c : ℝ) : EReal) := by
  unfold k0_pay38 k0_pay37; pointwise
  rw [rows_val (g := fun r u => g (ix2 r u)) (q := fun r j => q (ix2 r j)) hg hq,
    rows_val (G := cs P D V S)
      (g := fun r u => p (ix2 r u) * (∑ j : Fin 256, dn (ix2 r j) * v (ix2 u j) - s (ix2 r 0)) * Ideal.ofBits .f32 0x3E000000#32)
      (q := fun r j => qn (ix2 r j)) (fun a i u => by
      simp only [dot_val hdn hv, hp, hs, bits_eighth, sub_real, mul_real]; rfl) hqn, add_real]

theorem dv_val {g : FVec Ideal S512x128 .f32} (hp : ∀ a i u, p (ix2 (srow a i) u) = ((P a i u : ℝ) : EReal))
    (hg : ∀ a i u, g (ix2 (srow a i) u) = ((G a i u : ℝ) : EReal))
    (hd : ∀ a i h c, d (ix2 (srow a i) (lane h c)) = ((if h = a then X a i c else 0 : ℝ) : EReal))
    (hdn : ∀ a i h c, dn (ix2 (srow a i) (lane h c)) = ((if h = a then KP a i c else 0 : ℝ) : EReal))
    (u : Fin 128) (h : Fin 4) (c : Fin 64) :
    k0_pay39 d dn p g (ix3 0 u (lane h c)) = ((overRows P X h u c + overRows G KP h u c : ℝ) : EReal) := by
  unfold k0_pay39; pointwise
  rw [rows_val (g := fun r u => p (ix2 r u)) (q := fun r j => d (ix2 r j)) hp hd,
    rows_val (g := fun r u => g (ix2 r u)) (q := fun r j => dn (ix2 r j)) hg hdn, add_real]

end Blocks

end Cert.AttnBlock

end
-- ==== Proof.AttnRows.lean ====
/-
  The third group's gradients class by class: a query of a class meets only keys of its own class, in its own block of 128
  rows and in the block before.
-/
module

public import proofs.«01_k».proof.Proof.AttnSpec
public import proofs.«01_k».proof.Proof.AttnBlock

@[expose] public section

noncomputable section

namespace Cert.AttnRows

open Cert.Attn Cert.AttnBlock

/-! ## A class's rows -/

section Rows

variable (q k v d : Fin 4 → Fin 512 → Fin 64 → ℝ) (Y S : Fin 4 → Fin 512 → ℝ)

/-- The weight of key row `n` for query row `m`. -/
def wr (a : Fin 4) (m n : Fin 512) : ℝ :=
  if n.val ≤ m.val ∧ m.val - n.val ≤ 128 then
    Real.exp ((∑ c, q a m c * k a n c) * (1 / 8) - last16 a * ((m.val : ℝ) - n.val) - Y a m) else 0

/-- The cotangent of their score. -/
def gr (a : Fin 4) (m n : Fin 512) : ℝ := wr q k Y a m n * ((∑ c, d a m c * v a n c) - S a m) * (1 / 8)

/-- The rows of block `b`. -/
def part {α : Type} (f : Fin 4 → Fin 512 → α) (b a : Fin 4) (i : Fin 128) : α := f a (srow b i)

theorem near_weight (b a : Fin 4) (i u : Fin 128) :
    wt (u ≤ i) (dot (part q b) (part k b) a i u) (last16 a * ((i.val : ℝ) - u.val)) (part Y b a i) = wr q k Y a (srow b i) (srow b u) := by
  have hv : (u ≤ i) ↔ ((srow b u).val ≤ (srow b i).val ∧ (srow b i).val - (srow b u).val ≤ 128) := by
    show u.val ≤ i.val ↔ (b.val * 128 + u.val ≤ b.val * 128 + i.val ∧ b.val * 128 + i.val - (b.val * 128 + u.val) ≤ 128)
    omega
  have hd : (((srow b i).val : ℝ) - (srow b u).val) = (i.val : ℝ) - u.val := by
    show (((b.val * 128 + i.val : ℕ) : ℝ) - ((b.val * 128 + u.val : ℕ) : ℝ)) = _
    push_cast
    ring
  unfold wt wr
  rw [hd]
  by_cases h : u ≤ i
  · rw [if_pos h, if_pos (hv.mp h)]
    rfl
  · rw [if_neg h, if_neg (fun e => h (hv.mpr e))]

theorem far_weight {b b' : Fin 4} (hb : b'.val = b.val + 1) (a : Fin 4) (i u : Fin 128) :
    wt (i ≤ u) (dot (part q b') (part k b) a i u) (last16 a * ((i.val : ℝ) - u.val + 128)) (part Y b' a i)
      = wr q k Y a (srow b' i) (srow b u) := by
  have hv : (i ≤ u) ↔ ((srow b u).val ≤ (srow b' i).val ∧ (srow b' i).val - (srow b u).val ≤ 128) := by
    show i.val ≤ u.val ↔ (b.val * 128 + u.val ≤ b'.val * 128 + i.val ∧ b'.val * 128 + i.val - (b.val * 128 + u.val) ≤ 128)
    omega
  have hd : (((srow b' i).val : ℝ) - (srow b u).val) = (i.val : ℝ) - u.val + 128 := by
    show (((b'.val * 128 + i.val : ℕ) : ℝ) - ((b.val * 128 + u.val : ℕ) : ℝ)) = _
    rw [hb]
    push_cast
    ring
  unfold wt wr
  rw [hd]
  by_cases h : i ≤ u
  · rw [if_pos h, if_pos (hv.mp h)]
    rfl
  · rw [if_neg h, if_neg (fun e => h (hv.mpr e))]

theorem wr_off {a b b' : Fin 4} {i u : Fin 128} (h1 : b' ≠ b) (h2 : b.val ≠ b'.val + 1) : wr q k Y a (srow b i) (srow b' u) = 0 := by
  have h3 : b'.val ≠ b.val := fun e => h1 (Fin.ext e)
  refine if_neg fun h => ?_
  have h' : b'.val * 128 + u.val ≤ b.val * 128 + i.val ∧ b.val * 128 + i.val - (b'.val * 128 + u.val) ≤ 128 := h
  omega

end Rows

theorem two_blocks {f : Fin 512 → ℝ} {b b' : Fin 4} (h : b ≠ b') (h0 : ∀ a, a ≠ b → a ≠ b' → ∀ u, f (srow a u) = 0) :
    ∑ n, f n = ∑ u, f (srow b u) + ∑ u, f (srow b' u) := by
  rw [sum_rows, ← Finset.sum_pair (f := fun a => ∑ u, f (srow a u)) h]
  refine (Finset.sum_subset (Finset.subset_univ _) fun a _ ha => ?_).symm
  rw [Finset.mem_insert, Finset.mem_singleton, not_or] at ha
  exact Finset.sum_eq_zero fun u _ => h0 a ha.1 ha.2 u

theorem one_block {f : Fin 512 → ℝ} {b : Fin 4} (h0 : ∀ a, a ≠ b → ∀ u, f (srow a u) = 0) : ∑ n, f n = ∑ u, f (srow b u) := by
  rw [sum_rows]
  exact Finset.sum_eq_single b (fun a _ ha => Finset.sum_eq_zero fun u _ => h0 a ha u) fun h => absurd (Finset.mem_univ _) h

/-! ## Classes -/

section Classes

variable (Q K V : Fin 3 → Fin 4 → Fin 8192 → Fin 64 → ℝ) (D : Fin 4 → Fin 8192 → Fin 64 → ℝ) (r : Fin 16)

/-- The rows of class `r` of the third group. -/
def cls (Q : Fin 3 → Fin 4 → Fin 8192 → Fin 64 → ℝ) (r : Fin 16) (h : Fin 4) (m : Fin 512) (c : Fin 64) : ℝ := Q 2 h (pos r m) c

def dcls (D : Fin 4 → Fin 8192 → Fin 64 → ℝ) (r : Fin 16) (h : Fin 4) (m : Fin 512) (c : Fin 64) : ℝ := D h (pos r m) c

/-- The logarithms of the rows' normalisers. -/
def lcls (h : Fin 4) (m : Fin 512) : ℝ := Real.log (T Q K h (pos r m))

def scls (h : Fin 4) (m : Fin 512) : ℝ := dsum Q K V D h (pos r m)

theorem P_class (h : Fin 4) (m n : Fin 512) : P Q K 2 h (pos r m) (pos r n) = wr (cls Q r) (cls K r) (lcls Q K r) h m n := by
  have hv : Valid 2 (pos r m).val (pos r n).val ↔ (n.val ≤ m.val ∧ m.val - n.val ≤ 128) := by
    show (n.val * 16 + r.val ≤ m.val * 16 + r.val ∧ m.val * 16 + r.val - (n.val * 16 + r.val) ≤ 128 * 16
      ∧ 16 ∣ m.val * 16 + r.val - (n.val * 16 + r.val)) ↔ _
    omega
  unfold P E wr
  by_cases hm : n.val ≤ m.val ∧ m.val - n.val ≤ 128
  · rw [if_pos (hv.mpr hm), if_pos hm, Real.exp_sub (_ - _)]
    refine congrArg₂ (· / ·) (congrArg Real.exp ?_) (Real.exp_log (T_pos Q K h _)).symm
    unfold score
    rw [slope_last]
    refine congrArg₂ (· - ·) rfl ?_
    show last16 h / 16 * (((m.val * 16 + r.val : ℕ) : ℝ) - ((n.val * 16 + r.val : ℕ) : ℝ)) = _
    push_cast
    ring
  · rw [if_neg (fun e => hm (hv.mp e)), if_neg hm, zero_div]

theorem P_off {r r' : Fin 16} (hr : r' ≠ r) (h : Fin 4) (m n : Fin 512) : P Q K 2 h (pos r m) (pos r' n) = 0 := by
  have h3 : r'.val ≠ r.val := fun e => hr (Fin.ext e)
  unfold P E
  rw [if_neg, zero_div]
  intro hv
  have h' : n.val * 16 + r'.val ≤ m.val * 16 + r.val ∧ m.val * 16 + r.val - (n.val * 16 + r'.val) ≤ 128 * 16
      ∧ 16 ∣ m.val * 16 + r.val - (n.val * 16 + r'.val) := hv
  omega

theorem sum_class {f : Fin 8192 → ℝ} (h0 : ∀ r', r' ≠ r → ∀ n, f (pos r' n) = 0) : ∑ u, f u = ∑ n, f (pos r n) := by
  have e : ∑ u, f u = ∑ n, ∑ r', f (pos r' n) := (Fin.sum_mul_add_congr (L := 8192) (S := 512) (n := 16) fun _ _ _ => rfl).symm
  rw [e]
  refine Finset.sum_congr rfl fun n _ => ?_
  exact Finset.sum_eq_single r (fun r' _ hr => h0 r' hr n) fun h => absurd (Finset.mem_univ _) h

theorem dS_class (h : Fin 4) (m n : Fin 512) :
    dS Q K V D 2 h (pos r m) (pos r n) * (1 / 8) = gr (cls Q r) (cls K r) (cls V r) (dcls D r) (lcls Q K r) (scls Q K V D r) h m n := by
  unfold dS gr
  rw [P_class]
  rfl

theorem dQ_class (h : Fin 4) (m : Fin 512) (c : Fin 64) : dQ Q K V D 2 h (pos r m) c
    = ∑ n, gr (cls Q r) (cls K r) (cls V r) (dcls D r) (lcls Q K r) (scls Q K V D r) h m n * cls K r h n c := by
  unfold dQ
  rw [sum_class r fun r' hr n => by unfold dS; rw [P_off Q K hr]; ring]
  exact Finset.sum_congr rfl fun n _ => by rw [dS_class]; rfl

theorem dK_class (h : Fin 4) (n : Fin 512) (c : Fin 64) : dK Q K V D 2 h (pos r n) c
    = ∑ m, gr (cls Q r) (cls K r) (cls V r) (dcls D r) (lcls Q K r) (scls Q K V D r) h m n * cls Q r h m c := by
  unfold dK
  rw [sum_class r fun r' hr m => by unfold dS; rw [P_off Q K hr.symm]; ring]
  exact Finset.sum_congr rfl fun m _ => by rw [dS_class]; rfl

theorem dV_class (h : Fin 4) (n : Fin 512) (c : Fin 64) : dV Q K D 2 h (pos r n) c
    = ∑ m, wr (cls Q r) (cls K r) (lcls Q K r) h m n * dcls D r h m c := by
  unfold dV
  rw [sum_class r fun r' hr m => by rw [P_off Q K hr.symm]; ring]
  exact Finset.sum_congr rfl fun m _ => by rw [P_class]; rfl

end Classes

end Cert.AttnRows

end
-- ==== Proof.AttnPieces.lean ====
/-
  The stored blocks of the three gradients, each as one function of the blocks of queries, keys, values and cotangents it
  reads.
-/
module

public import proofs.«01_k».proof.Proof.AttnBlock
public import proofs.«01_k».proof.Proof.Gen.Kernel7Ideal.Frame

@[expose] public section

noncomputable section

namespace Cert.AttnBlock

open Cert.Kernel7Ideal Cert.Kernel7Ideal.Gen Idealize.ShloMosaic Idealize.ShloMosaic.TcCoe Idealize.SL.Sem

variable {F : FTy → Type} [FloatOps F] [Named F]

/-- A block of 128 rows, stacked once per head with the other heads' lanes zero. -/
abbrev stk (x : Vec F S1x128x256 .bf16) : FVec F S512x256 .bf16 := k0_pay17 k0_pay2 x

/-- A block of 128 rows. -/
abbrev flat (x : Vec F S1x128x256 .bf16) : FVec F S128x256 .bf16 := k0_pay21 x

/-- A column of numbers per head, stacked. -/
abbrev col (x : Fin 4 → Vec F S1x128x1 .f32) : FVec F S512x1 .f32 := k0_pay28 (x 0) (x 1) (x 2) (x 3)

abbrev nearB : FVec F S512x128 .f32 := k0_pay11 k0_pay7 k0_pay8 k0_pay9 k0_pay10 (Scalar.ofBits .f32 0x3D800000#32)
abbrev farB : FVec F S512x128 .f32 := k0_pay12 k0_pay4
abbrev nearM : IVec S512x128 1 := k0_pay13 k0_pay5

/-- The scores' cotangents inside a block. -/
abbrev nearS (q d k v : Vec F S1x128x256 .bf16) (l s : Fin 4 → Vec F S1x128x1 .f32) : FVec F S512x128 .bf16 :=
  k0_pay35 nearB nearM (stk q) (stk d) (flat k) (flat v) (col l) (col s)

/-- The queries' gradient in a block. -/
def dqBlk (far : IVec S512x128 1) (q d kp k vp v : Vec F S1x128x256 .bf16) (l s : Fin 4 → Vec F S1x128x1 .f32) : FVec F S1x128x256 .bf16 :=
  k0_pay36 k0_pay2 (stk d) (flat k) (flat kp) (flat vp) (col s) (k0_pay33 farB far (stk q) (flat kp) (col l)) (nearS q d k v l s)
    (constant S512x128 .f32 0x00000000#32)

/-- The keys' gradient in a block. -/
def dkBlk (far : IVec S512x128 1) (q qn d dn k v : Vec F S1x128x256 .bf16) (l s ln sn : Fin 4 → Vec F S1x128x1 .f32) : FVec F S1x128x256 .bf16 :=
  k0_pay38 (k0_pay37 (stk q) (stk qn) (stk dn) (flat v) (col sn) (k0_pay34 farB far (stk qn) (flat k) (col ln)) (nearS q d k v l s))

/-- The values' gradient in a block. -/
def dvBlk (far : IVec S512x128 1) (q qn d dn k : Vec F S1x128x256 .bf16) (l ln : Fin 4 → Vec F S1x128x1 .f32) : FVec F S1x128x256 .bf16 :=
  k0_pay39 (stk d) (stk dn) (k0_pay32 nearB nearM (stk q) (flat k) (col l)) (k0_pay34 farB far (stk qn) (flat k) (col ln))

theorem canon_congr {p3 p2 p1 p0 q3 q2 q1 q0 : Vec F S1x128x256 .bf16} (h3 : p3 = q3) (h2 : p2 = q2) (h1 : p1 = q1) (h0 : p0 = q0) :
    (View.canon [⟨r0_28, p3⟩, ⟨r0_19, p2⟩, ⟨r0_1, p1⟩, ⟨r0_0, p0⟩] : Vec F S1x512x256 .bf16)
      = View.canon [⟨r0_28, q3⟩, ⟨r0_19, q2⟩, ⟨r0_1, q1⟩, ⟨r0_0, q0⟩] := by
  subst h3 h2 h1 h0
  rfl

variable (i : grid0.Coords) (x0 : Vec F S1x512x256 .bf16) (x1 : Vec F S1x128x256 .bf16) (x2 : Vec F S1x128x256 .bf16) (x3 : Vec F S1x512x256 .bf16)
  (x4 : Vec F S1x128x256 .bf16) (x5 : Vec F S1x512x256 .bf16) (x6 : Vec F S1x512x256 .bf16) (x7 : Vec F S1x128x256 .bf16)
  (x8 : Vec F S1x512x256 .f32) (x9 : Vec F S1x128x256 .f32)

theorem out10_eq : out0_10 i x0 x1 x2 x3 x4 x5 x6 x7 x8 x9 = View.canon [
      ⟨r0_28, dqBlk (k0_pay14 k0_pay6) (View.ld x0 r0_28) (View.ld x6 r0_28) (View.ld x3 r0_19) (View.ld x3 r0_28) (View.ld x5 r0_19) (View.ld x5 r0_28) ![View.ld x8 r0_29, View.ld x8 r0_30, View.ld x8 r0_31, View.ld x8 r0_32]
        ![View.ld x8 r0_33, View.ld x8 r0_34, View.ld x8 r0_35, View.ld x8 r0_36]⟩,
      ⟨r0_19, dqBlk (k0_pay14 k0_pay6) (View.ld x0 r0_19) (View.ld x6 r0_19) (View.ld x3 r0_1) (View.ld x3 r0_19) (View.ld x5 r0_1) (View.ld x5 r0_19) ![View.ld x8 r0_20, View.ld x8 r0_21, View.ld x8 r0_22, View.ld x8 r0_23]
        ![View.ld x8 r0_24, View.ld x8 r0_25, View.ld x8 r0_26, View.ld x8 r0_27]⟩,
      ⟨r0_1, dqBlk (k0_pay14 k0_pay6) (View.ld x0 r0_1) (View.ld x6 r0_1) (View.ld x3 r0_0) (View.ld x3 r0_1) (View.ld x5 r0_0) (View.ld x5 r0_1) ![View.ld x8 r0_11, View.ld x8 r0_12, View.ld x8 r0_13, View.ld x8 r0_14]
        ![View.ld x8 r0_15, View.ld x8 r0_16, View.ld x8 r0_17, View.ld x8 r0_18]⟩,
      ⟨r0_0, dqBlk (k0_pay15 (BitVec.ofNat 32 (i 1).val) k0_pay6) (View.ld x0 r0_0) (View.ld x6 r0_0) (View.ld x2 r0_2) (View.ld x3 r0_0) (View.ld x4 r0_2) (View.ld x5 r0_0) ![View.ld x8 r0_3, View.ld x8 r0_4, View.ld x8 r0_5, View.ld x8 r0_6]
        ![View.ld x8 r0_7, View.ld x8 r0_8, View.ld x8 r0_9, View.ld x8 r0_10]⟩] :=
  canon_congr (by rfl) (by rfl) (by rfl) (by rfl)

theorem out11_eq : out0_11 i x0 x1 x2 x3 x4 x5 x6 x7 x8 x9 = View.canon [
      ⟨r0_28, dkBlk (k0_pay16 (BitVec.ofNat 32 (i 1).val) k0_pay6) (View.ld x0 r0_28) (View.ld x1 r0_2) (View.ld x6 r0_28) (View.ld x7 r0_2) (View.ld x3 r0_28) (View.ld x5 r0_28)
        ![View.ld x8 r0_29, View.ld x8 r0_30, View.ld x8 r0_31, View.ld x8 r0_32] ![View.ld x8 r0_33, View.ld x8 r0_34, View.ld x8 r0_35, View.ld x8 r0_36]
        ![View.ld x9 r0_37, View.ld x9 r0_38, View.ld x9 r0_39, View.ld x9 r0_40] ![View.ld x9 r0_41, View.ld x9 r0_42, View.ld x9 r0_43, View.ld x9 r0_44]⟩,
      ⟨r0_19, dkBlk (k0_pay14 k0_pay6) (View.ld x0 r0_19) (View.ld x0 r0_28) (View.ld x6 r0_19) (View.ld x6 r0_28) (View.ld x3 r0_19) (View.ld x5 r0_19)
        ![View.ld x8 r0_20, View.ld x8 r0_21, View.ld x8 r0_22, View.ld x8 r0_23] ![View.ld x8 r0_24, View.ld x8 r0_25, View.ld x8 r0_26, View.ld x8 r0_27]
        ![View.ld x8 r0_29, View.ld x8 r0_30, View.ld x8 r0_31, View.ld x8 r0_32] ![View.ld x8 r0_33, View.ld x8 r0_34, View.ld x8 r0_35, View.ld x8 r0_36]⟩,
      ⟨r0_1, dkBlk (k0_pay14 k0_pay6) (View.ld x0 r0_1) (View.ld x0 r0_19) (View.ld x6 r0_1) (View.ld x6 r0_19) (View.ld x3 r0_1) (View.ld x5 r0_1)
        ![View.ld x8 r0_11, View.ld x8 r0_12, View.ld x8 r0_13, View.ld x8 r0_14] ![View.ld x8 r0_15, View.ld x8 r0_16, View.ld x8 r0_17, View.ld x8 r0_18]
        ![View.ld x8 r0_20, View.ld x8 r0_21, View.ld x8 r0_22, View.ld x8 r0_23] ![View.ld x8 r0_24, View.ld x8 r0_25, View.ld x8 r0_26, View.ld x8 r0_27]⟩,
      ⟨r0_0, dkBlk (k0_pay14 k0_pay6) (View.ld x0 r0_0) (View.ld x0 r0_1) (View.ld x6 r0_0) (View.ld x6 r0_1) (View.ld x3 r0_0) (View.ld x5 r0_0)
        ![View.ld x8 r0_3, View.ld x8 r0_4, View.ld x8 r0_5, View.ld x8 r0_6] ![View.ld x8 r0_7, View.ld x8 r0_8, View.ld x8 r0_9, View.ld x8 r0_10]
        ![View.ld x8 r0_11, View.ld x8 r0_12, View.ld x8 r0_13, View.ld x8 r0_14] ![View.ld x8 r0_15, View.ld x8 r0_16, View.ld x8 r0_17, View.ld x8 r0_18]⟩] :=
  canon_congr (by rfl) (by rfl) (by rfl) (by rfl)

theorem out12_eq : out0_12 i x0 x1 x2 x3 x4 x5 x6 x7 x8 x9 = View.canon [
      ⟨r0_28, dvBlk (k0_pay16 (BitVec.ofNat 32 (i 1).val) k0_pay6) (View.ld x0 r0_28) (View.ld x1 r0_2) (View.ld x6 r0_28) (View.ld x7 r0_2) (View.ld x3 r0_28)
        ![View.ld x8 r0_29, View.ld x8 r0_30, View.ld x8 r0_31, View.ld x8 r0_32] ![View.ld x9 r0_37, View.ld x9 r0_38, View.ld x9 r0_39, View.ld x9 r0_40]⟩,
      ⟨r0_19, dvBlk (k0_pay14 k0_pay6) (View.ld x0 r0_19) (View.ld x0 r0_28) (View.ld x6 r0_19) (View.ld x6 r0_28) (View.ld x3 r0_19)
        ![View.ld x8 r0_20, View.ld x8 r0_21, View.ld x8 r0_22, View.ld x8 r0_23] ![View.ld x8 r0_29, View.ld x8 r0_30, View.ld x8 r0_31, View.ld x8 r0_32]⟩,
      ⟨r0_1, dvBlk (k0_pay14 k0_pay6) (View.ld x0 r0_1) (View.ld x0 r0_19) (View.ld x6 r0_1) (View.ld x6 r0_19) (View.ld x3 r0_1)
        ![View.ld x8 r0_11, View.ld x8 r0_12, View.ld x8 r0_13, View.ld x8 r0_14] ![View.ld x8 r0_20, View.ld x8 r0_21, View.ld x8 r0_22, View.ld x8 r0_23]⟩,
      ⟨r0_0, dvBlk (k0_pay14 k0_pay6) (View.ld x0 r0_0) (View.ld x0 r0_1) (View.ld x6 r0_0) (View.ld x6 r0_1) (View.ld x3 r0_0)
        ![View.ld x8 r0_3, View.ld x8 r0_4, View.ld x8 r0_5, View.ld x8 r0_6] ![View.ld x8 r0_11, View.ld x8 r0_12, View.ld x8 r0_13, View.ld x8 r0_14]⟩] :=
  canon_congr (by rfl) (by rfl) (by rfl) (by rfl)

end Cert.AttnBlock

end
-- ==== Proof.AttnStore.lean ====
/-
  The stored blocks of the three gradients over the real numbers, as parts of a class's gradients.
-/
module

public import proofs.«01_k».proof.Proof.AttnRows
public import proofs.«01_k».proof.Proof.AttnPieces

@[expose] public section

noncomputable section

namespace Cert.AttnRows

open Classical
open Cert.Kernel7Ideal Cert.Kernel7Ideal.Gen Idealize.ShloMosaic Idealize.ShloMosaic.TcCoe
open Cert.Attn (lane last16)
open Cert.AttnBlock Cert.RealOps

theorem flat_val {x : Vec Ideal S1x128x256 .bf16} {X : Fin 4 → Fin 128 → Fin 64 → ℝ}
    (hx : ∀ h i c, x (ix3 0 i (lane h c)) = ((X h i c : ℝ) : EReal)) (h : Fin 4) (u : Fin 128) (c : Fin 64) :
    flat x (ix2 u (lane h c)) = ((X h u c : ℝ) : EReal) := by
  rw [← hx]
  unfold flat k0_pay21
  pointwise

/-- The block's rows read off a block of 128 rows. -/
def Holds (x : Vec Ideal S1x128x256 .bf16) (f : Fin 4 → Fin 512 → Fin 64 → ℝ) (b : Fin 4) : Prop :=
  ∀ h i c, x (ix3 0 i (lane h c)) = ((part f b h i c : ℝ) : EReal)

/-- The block's numbers read off four columns. -/
def Column (x : Fin 4 → Vec Ideal S1x128x1 .f32) (f : Fin 4 → Fin 512 → ℝ) (b : Fin 4) : Prop :=
  ∀ h i, x h (ix3 0 i 0) = ((part f b h i : ℝ) : EReal)

variable {q k v d : Fin 4 → Fin 512 → Fin 64 → ℝ} {Y S : Fin 4 → Fin 512 → ℝ} {b b' : Fin 4}
  {qx qn dx dn kx kp vx vp : Vec Ideal S1x128x256 .bf16} {l s ln sn : Fin 4 → Vec Ideal S1x128x1 .f32} {far : IVec S512x128 1}

/-! ## Weights and cotangents inside a block and between neighbours -/

theorem near_p (hq : Holds qx q b) (hk : Holds kx k b) (hl : Column l Y b) (a : Fin 4) (i u : Fin 128) :
    k0_pay32 nearB nearM (stk qx) (flat kx) (col l) (ix2 (srow a i) u) = ((wr q k Y a (srow b i) (srow b u) : ℝ) : EReal) := by
  rw [p_val (M := fun i u => u ≤ i) (fun a i u => (mCur_val a i u).trans (by congr)) (fun a i u => bCur_val a i u) (fun a i h c => stack_val hq a i h c) (fun h u c => flat_val hk h u c)
    (fun a i => column_val hl a i), near_weight]

theorem near_s (hq : Holds qx q b) (hd : Holds dx d b) (hk : Holds kx k b) (hv : Holds vx v b) (hl : Column l Y b) (hs : Column s S b)
    (a : Fin 4) (i u : Fin 128) : nearS qx dx kx vx l s (ix2 (srow a i) u) = ((gr q k v d Y S a (srow b i) (srow b u) : ℝ) : EReal) := by
  refine (ds_val (M := fun i u => u ≤ i) (fun a i u => (mCur_val a i u).trans (by congr)) (fun a i u => bCur_val a i u) (fun a i h c => stack_val hq a i h c)
    (fun a i h c => stack_val hd a i h c) (fun h u c => flat_val hk h u c) (fun h u c => flat_val hv h u c)
    (fun a i => column_val hl a i) (fun a i => column_val hs a i) a i u).trans ?_
  rw [near_weight]
  rfl

theorem far_p (hb : b'.val = b.val + 1) (hq : Holds qx q b') (hk : Holds kx k b) (hl : Column l Y b') (a : Fin 4) (i u : Fin 128) :
    k0_pay33 farB (k0_pay14 k0_pay6) (stk qx) (flat kx) (col l) (ix2 (srow a i) u) = ((wr q k Y a (srow b' i) (srow b u) : ℝ) : EReal) := by
  rw [p_val' (M := fun i u => i ≤ u) (fun a i u => (mPrev_val a i u).trans (by congr)) (fun a i u => bPrev_val a i u) (fun a i h c => stack_val hq a i h c) (fun h u c => flat_val hk h u c)
    (fun a i => column_val hl a i), far_weight q k Y hb]

/-- Without a neighbour there is no weight. -/
theorem far_zero (hf : ∀ a i u, far (ix2 (srow a i) u) = 0#1) (hq : Holds qx q b) (hk : Holds kx k b') (hl : Column l Y b)
    (a : Fin 4) (i u : Fin 128) : k0_pay33 farB far (stk qx) (flat kx) (col l) (ix2 (srow a i) u) = ((0 : ℝ) : EReal) := by
  rw [p_val' (M := fun _ _ => False) (fun a i u => (hf a i u).trans (if_neg not_false).symm) (fun a i u => bPrev_val a i u)
    (fun a i h c => stack_val hq a i h c) (fun h u c => flat_val hk h u c) (fun a i => column_val hl a i)]
  exact congrArg _ (if_neg not_false)

/-! ## The blocks -/

theorem dq_next (hb : b'.val = b.val + 1) (hq : Holds qx q b') (hd : Holds dx d b') (hkp : Holds kp k b) (hk : Holds kx k b')
    (hvp : Holds vp v b) (hv : Holds vx v b') (hl : Column l Y b') (hs : Column s S b') (i : Fin 128) (h : Fin 4) (c : Fin 64) :
    dqBlk (k0_pay14 k0_pay6) qx dx kp kx vp vx l s (ix3 0 i (lane h c))
      = ((∑ n, gr q k v d Y S h (srow b' i) n * k h n c : ℝ) : EReal) := by
  refine (dq_val (fun a i u => far_p hb hq hkp hl a i u) (fun a i u => near_s hq hd hk hv hl hs a i u)
    (fun a i h c => stack_val hd a i h c) (fun h u c => flat_val hk h u c) (fun h u c => flat_val hkp h u c) (fun h u c => flat_val hvp h u c)
    (fun a i => column_val hs a i) i h c).trans (congrArg _ ?_)
  have hne : b' ≠ b := fun e => by rw [e] at hb; omega
  refine (two_blocks (f := fun n => gr q k v d Y S h (srow b' i) n * k h n c) hne fun a ha ha' u => ?_).symm
  unfold gr
  rw [wr_off q k Y ha (fun e => ha' (Fin.ext (by omega)))]
  ring

theorem dq_first (hf : ∀ a i u, far (ix2 (srow a i) u) = 0#1) (hb : b.val = 0) (hq : Holds qx q b) (hd : Holds dx d b) (hkp : Holds kp k b')
    (hk : Holds kx k b) (hvp : Holds vp v b') (hv : Holds vx v b) (hl : Column l Y b) (hs : Column s S b) (i : Fin 128) (h : Fin 4) (c : Fin 64) :
    dqBlk far qx dx kp kx vp vx l s (ix3 0 i (lane h c)) = ((∑ n, gr q k v d Y S h (srow b i) n * k h n c : ℝ) : EReal) := by
  refine (dq_val (P := fun _ _ _ => 0) (fun a i u => far_zero hf hq hkp hl a i u) (fun a i u => near_s hq hd hk hv hl hs a i u)
    (fun a i h c => stack_val hd a i h c) (fun h u c => flat_val hk h u c) (fun h u c => flat_val hkp h u c) (fun h u c => flat_val hvp h u c)
    (fun a i => column_val hs a i) i h c).trans (congrArg _ ?_)
  rw [one_block (b := b) fun a ha u => by
    unfold gr
    rw [wr_off q k Y ha (fun e => by omega)]
    ring]
  unfold overKeys cs
  simp
  rfl

theorem dk_next (hb : b'.val = b.val + 1) (hq : Holds qx q b) (hqn : Holds qn q b') (hd : Holds dx d b) (hdn : Holds dn d b') (hk : Holds kx k b)
    (hv : Holds vx v b) (hl : Column l Y b) (hs : Column s S b) (hln : Column ln Y b') (hsn : Column sn S b') (u : Fin 128) (h : Fin 4) (c : Fin 64) :
    dkBlk (k0_pay14 k0_pay6) qx qn dx dn kx vx l s ln sn (ix3 0 u (lane h c))
      = ((∑ m, gr q k v d Y S h m (srow b u) * q h m c : ℝ) : EReal) := by
  refine (dk_val (fun a i u => far_p hb hqn hk hln a i u) (fun a i u => near_s hq hd hk hv hl hs a i u)
    (fun a i h c => stack_val hq a i h c) (fun a i h c => stack_val hqn a i h c) (fun a i h c => stack_val hdn a i h c)
    (fun h u c => flat_val hv h u c) (fun a i => column_val hsn a i) u h c).trans (congrArg _ ?_)
  have hne : b ≠ b' := fun e => by rw [e] at hb; omega
  refine (two_blocks (f := fun m => gr q k v d Y S h m (srow b u) * q h m c) hne fun a ha ha' i => ?_).symm
  unfold gr
  rw [wr_off q k Y ha.symm (fun e => ha' (Fin.ext (by omega)))]
  ring

theorem dk_last (hf : ∀ a i u, far (ix2 (srow a i) u) = 0#1) (hb : b.val = 3) (hq : Holds qx q b) (hqn : Holds qn q b') (hd : Holds dx d b)
    (hdn : Holds dn d b') (hk : Holds kx k b) (hv : Holds vx v b) (hl : Column l Y b) (hs : Column s S b) (hln : Column ln Y b') (hsn : Column sn S b')
    (u : Fin 128) (h : Fin 4) (c : Fin 64) :
    dkBlk far qx qn dx dn kx vx l s ln sn (ix3 0 u (lane h c)) = ((∑ m, gr q k v d Y S h m (srow b u) * q h m c : ℝ) : EReal) := by
  refine (dk_val (P := fun _ _ _ => 0) (fun a i u => far_zero hf hqn hk hln a i u) (fun a i u => near_s hq hd hk hv hl hs a i u)
    (fun a i h c => stack_val hq a i h c) (fun a i h c => stack_val hqn a i h c) (fun a i h c => stack_val hdn a i h c)
    (fun h u c => flat_val hv h u c) (fun a i => column_val hsn a i) u h c).trans (congrArg _ ?_)
  rw [one_block (b := b) fun a ha i => by
    unfold gr
    rw [wr_off q k Y ha.symm (fun e => by omega)]
    ring]
  unfold overRows cs
  simp
  rfl

theorem dv_next (hb : b'.val = b.val + 1) (hq : Holds qx q b) (hqn : Holds qn q b') (hd : Holds dx d b) (hdn : Holds dn d b') (hk : Holds kx k b)
    (hl : Column l Y b) (hln : Column ln Y b') (u : Fin 128) (h : Fin 4) (c : Fin 64) :
    dvBlk (k0_pay14 k0_pay6) qx qn dx dn kx l ln (ix3 0 u (lane h c)) = ((∑ m, wr q k Y h m (srow b u) * d h m c : ℝ) : EReal) := by
  refine (dv_val (fun a i u => near_p hq hk hl a i u) (fun a i u => far_p hb hqn hk hln a i u)
    (fun a i h c => stack_val hd a i h c) (fun a i h c => stack_val hdn a i h c) u h c).trans (congrArg _ ?_)
  have hne : b ≠ b' := fun e => by rw [e] at hb; omega
  refine (two_blocks (f := fun m => wr q k Y h m (srow b u) * d h m c) hne fun a ha ha' i => ?_).symm
  rw [wr_off q k Y ha.symm (fun e => ha' (Fin.ext (by omega)))]
  ring

theorem dv_last (hf : ∀ a i u, far (ix2 (srow a i) u) = 0#1) (hb : b.val = 3) (hq : Holds qx q b) (hqn : Holds qn q b') (hd : Holds dx d b)
    (hdn : Holds dn d b') (hk : Holds kx k b) (hl : Column l Y b) (hln : Column ln Y b') (u : Fin 128) (h : Fin 4) (c : Fin 64) :
    dvBlk far qx qn dx dn kx l ln (ix3 0 u (lane h c)) = ((∑ m, wr q k Y h m (srow b u) * d h m c : ℝ) : EReal) := by
  refine (dv_val (G := fun _ _ _ => 0) (fun a i u => near_p hq hk hl a i u) (fun a i u => far_zero hf hqn hk hln a i u)
    (fun a i h c => stack_val hd a i h c) (fun a i h c => stack_val hdn a i h c) u h c).trans (congrArg _ ?_)
  rw [one_block (b := b) fun a ha i => by
    rw [wr_off q k Y ha.symm (fun e => by omega)]
    ring]
  unfold overRows
  simp
  rfl

/-! ## No neighbour at the ends -/

theorem first_off (s : Fin 512) (u : Fin 128) : k0_pay15 (BitVec.ofNat 32 0) k0_pay6 (ix2 s u) = 0#1 := by
  unfold k0_pay15
  pointwise
  exact BitVec.and_zero

theorem last_off (s : Fin 512) (u : Fin 128) : k0_pay16 (BitVec.ofNat 32 0) k0_pay6 (ix2 s u) = 0#1 := by
  unfold k0_pay16
  pointwise
  exact BitVec.and_zero

end Cert.AttnRows

end
-- ==== Proof.AttnScores.lean ====
/-
  The reference's scores, weights and normalisers.
-/
module

public import proofs.«01_k».proof.Proof.AttnSpec
public import proofs.«01_k».proof.Proof.Gen.Reference7Ideal.Read
public import Idealize.ShloMosaic.Lib.Pointwise
public import Idealize.ShloMosaic.Lib.WordCmp
public import Idealize.ShloMosaic.Lib.Routing.Words

@[expose] public section

noncomputable section

namespace Cert.AttnReference

open Cert.Reference7Ideal Cert.Reference7Ideal.Read Idealize.ShloMosaic
open Cert.RealOps Cert.Attn

variable {x0 : (⟨S8192x5120, .bf16⟩ : BufTy).Contents (Elt Ideal)} {x1 : (⟨S8192x256, .bf16⟩ : BufTy).Contents (Elt Ideal)}

/-! ## Two indices with the same coordinates -/

section Index

variable {α : Type}

theorem at2 {n : Fin 2 → ℕ} (f : (⟨2, n⟩ : Shape).Idx → α) (i j : (⟨2, n⟩ : Shape).Idx)
    (h0 : i 0 = j 0) (h1 : i 1 = j 1) : f i = f j :=
  congrArg f (funext fun a => match a with | ⟨0, _⟩ => h0 | ⟨1, _⟩ => h1)

theorem at3 {n : Fin 3 → ℕ} (f : (⟨3, n⟩ : Shape).Idx → α) (i j : (⟨3, n⟩ : Shape).Idx)
    (h0 : i 0 = j 0) (h1 : i 1 = j 1) (h2 : i 2 = j 2) : f i = f j :=
  congrArg f (funext fun a => match a with | ⟨0, _⟩ => h0 | ⟨1, _⟩ => h1 | ⟨2, _⟩ => h2)

theorem at4 {n : Fin 4 → ℕ} (f : (⟨4, n⟩ : Shape).Idx → α) (i j : (⟨4, n⟩ : Shape).Idx)
    (h0 : i 0 = j 0) (h1 : i 1 = j 1) (h2 : i 2 = j 2) (h3 : i 3 = j 3) : f i = f j :=
  congrArg f (funext fun a => match a with | ⟨0, _⟩ => h0 | ⟨1, _⟩ => h1 | ⟨2, _⟩ => h2 | ⟨3, _⟩ => h3)

theorem at5 {n : Fin 5 → ℕ} (f : (⟨5, n⟩ : Shape).Idx → α) (i j : (⟨5, n⟩ : Shape).Idx)
    (h0 : i 0 = j 0) (h1 : i 1 = j 1) (h2 : i 2 = j 2) (h3 : i 3 = j 3) (h4 : i 4 = j 4) : f i = f j :=
  congrArg f (funext fun a => match a with | ⟨0, _⟩ => h0 | ⟨1, _⟩ => h1 | ⟨2, _⟩ => h2 | ⟨3, _⟩ => h3 | ⟨4, _⟩ => h4)

end Index

/-! ## The arguments -/

/-- The arguments are real numbers, named by group, head, position and lane. -/
structure Args (x0 : (⟨S8192x5120, .bf16⟩ : BufTy).Contents (Elt Ideal)) (x1 : (⟨S8192x256, .bf16⟩ : BufTy).Contents (Elt Ideal))
    (Q K V : Fin 3 → Fin 4 → Fin 8192 → Fin 64 → ℝ) (D : Fin 4 → Fin 8192 → Fin 64 → ℝ) : Prop where
  q : ∀ g h t c, x0 (ix2 t ⟨(g.val * 4 + h.val) * 64 + c.val, by omega⟩) = ((Q g h t c : ℝ) : EReal)
  k : ∀ g h t c, x0 (ix2 t ⟨768 + ((g.val * 4 + h.val) * 64 + c.val), by omega⟩) = ((K g h t c : ℝ) : EReal)
  v : ∀ g h t c, x0 (ix2 t ⟨1536 + ((g.val * 4 + h.val) * 64 + c.val), by omega⟩) = ((V g h t c : ℝ) : EReal)
  d : ∀ h t c, x1 (ix2 t ⟨h.val * 64 + c.val, by omega⟩) = ((D h t c : ℝ) : EReal)

variable {Q K V : Fin 3 → Fin 4 → Fin 8192 → Fin 64 → ℝ} {D : Fin 4 → Fin 8192 → Fin 64 → ℝ} (H : Args x0 x1 Q K V D)
  (g : Fin 3) (h : Fin 4) (t u : Fin 8192) (c : Fin 64)

section
include H

theorem q_head : val_main_v3 (F := Ideal) x0 (ix4 g h t c) = ((Q g h t c : ℝ) : EReal) := by
  rw [val_main_v3_apply, val_main_v2_apply, val_main_v1_apply, val_main_v0_apply, ← H.q]
  refine at2 x0 _ _ (Fin.ext ?_) (Fin.ext ?_)
  · show (((t.val * 3 + g.val) * 4 + h.val) * 64 + c.val) / 768 = t.val; omega
  · show (((t.val * 3 + g.val) * 4 + h.val) * 64 + c.val) % 768 = (g.val * 4 + h.val) * 64 + c.val; omega

theorem k_head : val_main_v6 (F := Ideal) x0 (ix4 g h t c) = ((K g h t c : ℝ) : EReal) := by
  rw [val_main_v6_apply, val_main_v5_apply, val_main_v4_apply, val_main_v0_apply, ← H.k]
  refine at2 x0 _ _ (Fin.ext ?_) (Fin.ext ?_)
  · show (((t.val * 3 + g.val) * 4 + h.val) * 64 + c.val) / 768 = t.val; omega
  · show 768 + (((t.val * 3 + g.val) * 4 + h.val) * 64 + c.val) % 768 = 768 + ((g.val * 4 + h.val) * 64 + c.val); omega

theorem v_head : val_main_v9 (F := Ideal) x0 (ix4 g h t c) = ((V g h t c : ℝ) : EReal) := by
  rw [val_main_v9_apply, val_main_v8_apply, val_main_v7_apply, val_main_v0_apply, ← H.v]
  refine at2 x0 _ _ (Fin.ext ?_) (Fin.ext ?_)
  · show (((t.val * 3 + g.val) * 4 + h.val) * 64 + c.val) / 768 = t.val; omega
  · show 1536 + (((t.val * 3 + g.val) * 4 + h.val) * 64 + c.val) % 768 = 1536 + ((g.val * 4 + h.val) * 64 + c.val); omega

theorem d_head : val_main_v117 (F := Ideal) x1 (ix3 h t c) = ((D h t c : ℝ) : EReal) := by
  rw [val_main_v117_apply, val_main_v116_apply, val_main_v115_apply, ← H.d]
  refine at2 x1 _ _ (Fin.ext ?_) (Fin.ext ?_)
  · show ((t.val * 4 + h.val) * 64 + c.val) / 256 = t.val; omega
  · show ((t.val * 4 + h.val) * 64 + c.val) % 256 = h.val * 64 + c.val; omega

end

/-! ## The mask -/

/-- The distance between two positions, as a signed word. -/
theorem delta_toInt {a b : ℕ} (ha : a < 8192) (hb : b < 8192) :
    (BitVec.ofNat 32 a - BitVec.ofNat 32 b).toInt = (a : ℤ) - b := by
  have e : ∀ n, n < 8192 → (BitVec.ofNat 32 n).toInt = n := fun n hn => by
    rw [BitVec.toInt_eq_toNat_of_lt (by rw [BitVec.toNat_ofNat]; omega), BitVec.toNat_ofNat]
    omega
  rw [BitVec.toInt_sub, e a ha, e b hb]
  exact Int.bmod_eq_of_le (by norm_num; omega) (by norm_num; omega)

theorem delta_word {a b : ℕ} (h : b ≤ a) : BitVec.ofNat 32 a - BitVec.ofNat 32 b = BitVec.ofNat 32 (a - b) := by
  rw [BitVec.sub_eq_iff_eq_add, ← BitVec.ofNat_add, Nat.sub_add_cancel h]

theorem dil_word : ∀ g : Fin 3, Scalar.select (IntOp.cmpi .eq (BitVec.ofNat 32 g.val) 0#32) 1#32
    (Scalar.select (IntOp.cmpi .eq (BitVec.ofNat 32 g.val) 1#32) 4#32 16#32) = BitVec.ofNat 32 (dil g) := by decide

theorem dil_pos : ∀ g : Fin 3, 0 < dil g ∧ dil g ≤ 16 := by decide

theorem window_word : ∀ g : Fin 3, 128#32 * BitVec.ofNat 32 (dil g) = BitVec.ofNat 32 (128 * dil g) := by decide

/-- The three comparisons say that the key lies in the query's window. -/
theorem valid_word : IntOp.andi
      (IntOp.andi (IntOp.cmpi .sge (BitVec.ofNat 32 t.val - BitVec.ofNat 32 u.val) 0#32)
        (IntOp.cmpi .sle (BitVec.ofNat 32 t.val - BitVec.ofNat 32 u.val) (BitVec.ofNat 32 (128 * dil g))))
      (IntOp.cmpi .eq (IntOp.remsi .host (BitVec.ofNat 32 t.val - BitVec.ofNat 32 u.val) (BitVec.ofNat 32 (dil g))) 0#32)
    = if Valid g t.val u.val then 1#1 else 0#1 := by
  have hd := dil_pos g
  by_cases hle : u.val ≤ t.val
  · have hz : (0#32 : BitVec 32) = BitVec.ofNat 32 0 := rfl
    rw [delta_word hle, Routing.remsi_word .host (by omega) hd.1 (by omega), hz,
      WordCmp.cmpi_sge_ofNat (w := 32) (by omega) (by omega), WordCmp.cmpi_sle_ofNat (w := 32) (by omega) (by omega)]
    have e : IntOp.cmpi .eq (BitVec.ofNat 32 ((t.val - u.val) % dil g)) (BitVec.ofNat 32 0) = if dil g ∣ t.val - u.val then 1#1 else 0#1 := by
      have hm : (t.val - u.val) % dil g < dil g := Nat.mod_lt _ hd.1
      by_cases hv : dil g ∣ t.val - u.val
      · rw [if_pos hv, Nat.mod_eq_zero_of_dvd hv]; rfl
      · rw [if_neg hv]
        have : BitVec.ofNat 32 ((t.val - u.val) % dil g) ≠ BitVec.ofNat 32 0 := fun he => by
          have := congrArg BitVec.toNat he
          simp only [BitVec.toNat_ofNat] at this
          exact hv (Nat.dvd_of_mod_eq_zero (by omega))
        show BitVec.ofBool _ = _
        rw [beq_eq_false_iff_ne.mpr this]; rfl
    rw [e]
    by_cases h2 : t.val - u.val ≤ 128 * dil g <;> by_cases h3 : dil g ∣ t.val - u.val <;> simp [Valid, hle, h2, h3, IntOp.andi]
  · rw [if_neg (fun hv => hle hv.1)]
    have : IntOp.cmpi .sge (BitVec.ofNat 32 t.val - BitVec.ofNat 32 u.val) 0#32 = 0#1 := by
      show BitVec.ofBool ((0#32 : BitVec 32).sle (BitVec.ofNat 32 t.val - BitVec.ofNat 32 u.val)) = _
      rw [BitVec.sle, delta_toInt t.isLt u.isLt, decide_eq_false (by show ¬ (0 : ℤ) ≤ _; omega)]
      rfl
    rw [this]
    simp [IntOp.andi]

theorem valid_at : val_main_v30 (F := Ideal) (ix4 g 0 t u) = if Valid g t.val u.val then 1#1 else 0#1 := by
  simp only [val_main_v30_apply, val_main_v29_apply, val_main_v28_apply, val_main_v27_apply, val_main_v26_apply,
    val_main_v25_apply, val_main_v24_apply, val_main_v23_apply, val_main_v22_apply, val_main_v21_apply, val_main_v20_apply,
    val_main_v19_apply, val_main_v18_apply, val_main_v17_apply, val_main_v16_apply, val_main_v15_apply, val_main_v14_apply,
    val_main_v13_apply, val_main_v12_apply, val_main_v11_apply, val_main_v10_apply, val_main_c_apply, val_main_c_0_apply,
    val_main_c_1_apply, val_main_c_2_apply, val_main_c_3_apply, val_main_c_4_apply, val_main_c_5_apply, val_main_c_6_apply,
    val_main_call0_v0_apply, val_main_call0_v1_apply, val_main_call1_v0_apply]
  rw [← valid_word g t u, ← window_word g, ← dil_word g]
  rfl

theorem mask_at : val_main_v58_1 (F := Ideal) (ix4 g h t u) = if Valid g t.val u.val then 1#1 else 0#1 := by
  rw [val_main_v58_1_apply, ← valid_at]
  exact at4 _ _ _ rfl rfl rfl rfl

/-! ## The slopes -/

theorem slopes_at (i : Fin 12) : val_main_v51 (F := Ideal) (ix1 i) = Ideal.ofBits .f32 (slopeBits i) := by
  unfold val_main_v51
  fin_cases i <;> rfl

theorem slope_at : val_main_v56 (F := Ideal) (ix4 g h t u) = ((slope g h * ((t.val : ℝ) - u.val) : ℝ) : EReal) := by
  rw [val_main_v56_apply, val_main_v55_apply, val_main_v54_apply, val_main_v53_apply, val_main_v52_apply, val_main_v13_apply,
    val_main_v12_apply, val_main_v11_apply]
  have e1 : val_main_v51 (F := Ideal) (idx_main_v52 (idx_main_v54 (ix4 g h t u))) = ((slope g h : ℝ) : EReal) := by
    rw [← bits_slope, ← slopes_at]
    refine congrArg _ (funext fun a => match a with | ⟨0, _⟩ => Fin.ext ?_)
    show ((g.val * 4 + h.val) * 1 + 0) * 1 + 0 = 4 * g.val + h.val
    omega
  have e2 : (FloatOps.sitofp .f32 (BitVec.ofNat 32 t.val - BitVec.ofNat 32 u.val) : Ideal .f32) = (((t.val : ℝ) - u.val : ℝ) : EReal) := by
    show (((BitVec.ofNat 32 t.val - BitVec.ofNat 32 u.val).toInt : ℝ) : EReal) = _
    rw [delta_toInt t.isLt u.isLt]
    push_cast
    rfl
  exact (congrArg₂ (· * ·) e1 e2).trans (mul_real _ _)

/-! ## Scores, weights, normalisers -/

theorem bits_eighth : Ideal.ofBits .f32 0x3E000000#32 = ((1 / 8 : ℝ) : EReal) := by
  simp [Ideal.ofBits, Ideal.ieee, -EReal.coe_mul]; norm_num

theorem bits_bot : Ideal.ofBits .f32 0xFF800000#32 = (⊥ : EReal) := by
  simp [Ideal.ofBits, Ideal.ieee]

theorem select_if {α : Type} (p : Prop) [Decidable p] (x y : α) :
    Scalar.select (if p then 1#1 else 0#1) x y = if p then x else y := by
  by_cases hp : p <;> simp [hp, Scalar.select]

/-- A sum from zero of real numbers. -/
theorem sum_from_zero {n : ℕ} (f : Fin n → EReal) (r : Fin n → ℝ) (hf : ∀ i, f i = ((r i : ℝ) : EReal)) :
    Ideal.ofBits .f32 0#32 + ∑ i, f i = ((∑ i, r i : ℝ) : EReal) := by
  simp only [hf, sum_real, bits_zero, add_real, zero_add]

section
include H

theorem dot_at : val_main_v36 (F := Ideal) x0 (ix4 g h t u) = ((∑ c, Q g h t c * K g h u c : ℝ) : EReal) := by
  rw [val_main_v36_apply]
  refine sum_from_zero _ _ fun c => ?_
  rw [val_main_v35_apply, val_main_v34_apply, val_main_v33_apply, val_main_v32_apply, val_main_v31_apply, ← mul_real, ← q_head H,
    ← k_head H]
  exact congrArg₂ (· * ·) (at4 _ _ _ rfl rfl rfl rfl) (at4 _ _ _ rfl rfl rfl rfl)

theorem score_at : val_main_v57 (F := Ideal) x0 (ix4 g h t u) = ((score Q K g h t u : ℝ) : EReal) := by
  rw [val_main_v57_apply, val_main_v38_apply, val_main_v37_apply, val_main_cst_7_apply, slope_at, dot_at H]
  pointwise
  rw [bits_eighth, mul_real, sub_real]
  rfl

theorem masked_at : val_main_v58_0 (F := Ideal) x0 (ix4 g h t u)
    = if Valid g t.val u.val then ((score Q K g h t u : ℝ) : EReal) else ⊥ := by
  rw [val_main_v58_0_apply, mask_at, select_if, score_at H]
  congr 1

/-- The largest score of a query. -/
theorem max_at : ∃ M : ℝ, val_main_v59 (F := Ideal) x0 (ix3 g h t) = ((M : ℝ) : EReal) := by
  have e : val_main_v59 (F := Ideal) x0 (ix3 g h t)
      = (Finset.univ : Finset (Fin 8192)).fold max ⊥ fun u => val_main_v58_0 (F := Ideal) x0 (ix4 g h t u) := by
    unfold val_main_v59
    pointwise
    rw [← bits_bot]
    rfl
  rw [e]
  refine fold_max_real _ (fun u => ?_) t ?_
  · rw [masked_at H]
    split
    · exact EReal.coe_ne_top _
    · exact bot_ne_top
  · rw [masked_at H, if_pos (valid_self g t.val)]
    exact EReal.coe_ne_bot _

end

/-- The largest score of a query, as a real number. -/
def rowMax (x0 : (⟨S8192x5120, .bf16⟩ : BufTy).Contents (Elt Ideal)) (g : Fin 3) (h : Fin 4) (t : Fin 8192) : ℝ :=
  (val_main_v59 (F := Ideal) x0 (ix3 g h t)).toReal

/-- What the largest score takes off every weight. -/
def shrink (x0 : (⟨S8192x5120, .bf16⟩ : BufTy).Contents (Elt Ideal)) (g : Fin 3) (h : Fin 4) (t : Fin 8192) : ℝ := Real.exp (-rowMax x0 g h t)

theorem shrink_pos : 0 < shrink x0 g h t := Real.exp_pos _

section
include H

theorem rowMax_at : val_main_v59 (F := Ideal) x0 (ix3 g h t) = ((rowMax x0 g h t : ℝ) : EReal) := by
  obtain ⟨M, hM⟩ := max_at H g h t
  unfold rowMax
  rw [hM, EReal.toReal_coe]

theorem weight_at : val_main_v68 (F := Ideal) x0 (ix4 g h t u) = ((E Q K g h t u * shrink x0 g h t : ℝ) : EReal) := by
  have e : val_main_v66 (F := Ideal) x0 (ix4 g h t u) = ((rowMax x0 g h t : ℝ) : EReal) := by
    rw [val_main_v66_apply, val_main_v65_apply, ← rowMax_at H]
    exact at3 _ _ _ rfl rfl rfl
  rw [val_main_v68_apply, val_main_v67_apply, masked_at H, e]
  unfold E shrink
  by_cases hv : Valid g t.val u.val
  · rw [if_pos hv, if_pos hv, ← Real.exp_add, ← sub_eq_add_neg]
    pointwise
    rw [sub_real, exp_real]
  · rw [if_neg hv, if_neg hv, zero_mul]
    pointwise
    rw [EReal.bot_sub]
    exact zero_real

theorem den_row : val_main_v69 (F := Ideal) x0 (ix3 g h t) = ((Z Q K g h t * shrink x0 g h t : ℝ) : EReal) := by
  rw [val_main_v69_apply]
  unfold Z
  rw [Finset.sum_mul]
  refine sum_from_zero _ _ fun u => ?_
  rw [← weight_at H]
  exact at4 _ _ _ rfl rfl rfl rfl

theorem den_at : val_main_v70 (F := Ideal) x0 (ix4 g h t 0) = ((Z Q K g h t * shrink x0 g h t : ℝ) : EReal) := by
  rw [val_main_v70_apply, ← den_row H]
  exact at3 _ _ _ rfl rfl rfl

theorem num_at : val_main_v76 (F := Ideal) x0 (ix4 g h t c) = (((∑ u, E Q K g h t u * V g h u c) * shrink x0 g h t : ℝ) : EReal) := by
  rw [val_main_v76_apply, Finset.sum_mul]
  refine sum_from_zero _ _ fun u => ?_
  rw [val_main_v75_apply, val_main_v74_apply, val_main_v73_apply, val_main_v72_apply, val_main_v71_apply, mul_right_comm,
    ← mul_real, ← weight_at H, ← v_head H]
  exact congrArg₂ (· * ·) (at4 _ _ _ rfl rfl rfl rfl) (at4 _ _ _ rfl rfl rfl rfl)

/-- One group's output. -/
theorem out_at : val_main_v78 (F := Ideal) x0 (ix4 g h t c) = (((∑ u, E Q K g h t u * V g h u c) / Z Q K g h t : ℝ) : EReal) := by
  have e : val_main_v77 (F := Ideal) x0 (ix4 g h t c) = ((Z Q K g h t * shrink x0 g h t : ℝ) : EReal) := by
    rw [val_main_v77_apply, ← den_at H]
    exact at4 _ _ _ rfl rfl rfl rfl
  have hz := (mul_pos (Z_pos Q K g h t) (shrink_pos (x0 := x0) g h t)).ne'
  rw [val_main_v78_apply, num_at H, e]
  refine (div_real _ hz).trans (congrArg _ ?_)
  rw [mul_div_mul_right _ _ (shrink_pos g h t).ne']

/-- The logarithm of a group's normaliser. -/
theorem lse_at : val_main_v83 (F := Ideal) x0 (ix4 g h t 0) = ((Real.log (Z Q K g h t) : ℝ) : EReal) := by
  have e : val_main_v65 (F := Ideal) x0 (ix4 g h t 0) = ((rowMax x0 g h t : ℝ) : EReal) := by
    rw [val_main_v65_apply, ← rowMax_at H]
    exact at3 _ _ _ rfl rfl rfl
  rw [val_main_v83_apply, val_main_v82_apply, den_at H, e]
  pointwise
  rw [log_real (mul_pos (Z_pos Q K g h t) (shrink_pos g h t)), add_real, Real.log_mul (Z_pos Q K g h t).ne' (shrink_pos g h t).ne']
  unfold shrink
  rw [Real.log_exp]
  exact congrArg _ (by ring)

/-- The largest of the groups' logarithms. -/
theorem groupMax_real : ∃ N : ℝ, val_main_v84 (F := Ideal) x0 (ix3 h t 0) = ((N : ℝ) : EReal) := by
  have e : val_main_v84 (F := Ideal) x0 (ix3 h t 0)
      = (Finset.univ : Finset (Fin 3)).fold max ⊥ fun g => val_main_v83 (F := Ideal) x0 (ix4 g h t 0) := by
    unfold val_main_v84
    pointwise
    rw [← bits_bot]
    rfl
  rw [e]
  refine fold_max_real _ (fun g => ?_) 0 ?_
  · rw [lse_at H]
    exact EReal.coe_ne_top _
  · rw [lse_at H]
    exact EReal.coe_ne_bot _

end

/-- What the largest of the groups' logarithms takes off every group's weight. -/
def shrinkG (x0 : (⟨S8192x5120, .bf16⟩ : BufTy).Contents (Elt Ideal)) (h : Fin 4) (t : Fin 8192) : ℝ :=
  Real.exp (-(val_main_v84 (F := Ideal) x0 (ix3 h t 0)).toReal)

theorem shrinkG_pos : 0 < shrinkG x0 h t := Real.exp_pos _

section
include H

theorem groupMax_at : val_main_v84 (F := Ideal) x0 (ix3 h t 0) = (((val_main_v84 (F := Ideal) x0 (ix3 h t 0)).toReal : ℝ) : EReal) := by
  obtain ⟨N, hN⟩ := groupMax_real H h t
  rw [hN, EReal.toReal_coe]

theorem groupWeight_at : val_main_v104 (F := Ideal) x0 (ix4 g h t 0) = ((Z Q K g h t * shrinkG x0 h t : ℝ) : EReal) := by
  have e : val_main_v102 (F := Ideal) x0 (ix4 g h t 0) = (((val_main_v84 (F := Ideal) x0 (ix3 h t 0)).toReal : ℝ) : EReal) := by
    rw [val_main_v102_apply, val_main_v101_apply, val_main_v91_apply, val_main_v90_apply, val_main_cst_28_apply, ← groupMax_at H]
    pointwise
    rw [bits_bot, max_eq_right bot_le]
    exact at3 _ _ _ rfl rfl rfl
  rw [val_main_v104_apply, val_main_v103_apply, lse_at H, e]
  pointwise
  rw [sub_real, exp_real, Real.exp_sub, Real.exp_log (Z_pos Q K g h t)]
  unfold shrinkG
  rw [Real.exp_neg, div_eq_mul_inv]

theorem groupSum_row : val_main_v105 (F := Ideal) x0 (ix3 h t 0) = ((T Q K h t * shrinkG x0 h t : ℝ) : EReal) := by
  rw [val_main_v105_apply]
  unfold Cert.Attn.T
  rw [Finset.sum_mul]
  refine sum_from_zero _ _ fun g => ?_
  rw [← groupWeight_at H]
  exact at4 _ _ _ rfl rfl rfl rfl

theorem groupSum_at : val_main_v106 (F := Ideal) x0 (ix4 0 h t 0) = ((T Q K h t * shrinkG x0 h t : ℝ) : EReal) := by
  rw [val_main_v106_apply, ← groupSum_row H]
  exact at3 _ _ _ rfl rfl rfl

/-- A group's share in the mixture. -/
theorem share_at : val_main_v108 (F := Ideal) x0 (ix4 g h t 0) = ((Z Q K g h t / T Q K h t : ℝ) : EReal) := by
  have e : val_main_v107 (F := Ideal) x0 (ix4 g h t 0) = ((T Q K h t * shrinkG x0 h t : ℝ) : EReal) := by
    rw [val_main_v107_apply, ← groupSum_at H]
    exact at4 _ _ _ rfl rfl rfl rfl
  rw [val_main_v108_apply, groupWeight_at H, e]
  refine (div_real _ (mul_pos (T_pos Q K h t) (shrinkG_pos h t)).ne').trans (congrArg _ ?_)
  rw [mul_div_mul_right _ _ (shrinkG_pos h t).ne']

end

end Cert.AttnReference

end
-- ==== Proof.AttnReference.lean ====
/-
  The reference's backward pass: the gradients of the third group's queries, keys and values.
-/
module

public import proofs.«01_k».proof.Proof.AttnScores

@[expose] public section

noncomputable section

namespace Cert.AttnReference

open Cert.Reference7Ideal Cert.Reference7Ideal.Read Idealize.ShloMosaic
open Cert.RealOps Cert.Attn

variable {x0 : (⟨S8192x5120, .bf16⟩ : BufTy).Contents (Elt Ideal)} {x1 : (⟨S8192x256, .bf16⟩ : BufTy).Contents (Elt Ideal)}
variable {Q K V : Fin 3 → Fin 4 → Fin 8192 → Fin 64 → ℝ} {D : Fin 4 → Fin 8192 → Fin 64 → ℝ} (H : Args x0 x1 Q K V D)
  (g : Fin 3) (h : Fin 4) (t u : Fin 8192) (c : Fin 64)

/-! ## The cotangents of the groups' outputs and of their logarithms -/

/-- The cotangent's product with one group's output. -/
def part (Q K V : Fin 3 → Fin 4 → Fin 8192 → Fin 64 → ℝ) (D : Fin 4 → Fin 8192 → Fin 64 → ℝ) (g : Fin 3) (h : Fin 4) (t : Fin 8192) : ℝ :=
  ∑ c, D h t c * ((∑ u, E Q K g h t u * V g h u c) / Z Q K g h t)

theorem part_mix : ∑ g, part Q K V D g h t * Z Q K g h t / T Q K h t = dsum Q K V D h t := by
  have key : ∀ (d : Fin 64 → ℝ) (X : Fin 3 → Fin 64 → ℝ) (z : Fin 3 → ℝ) (y : ℝ),
      ∑ g, (∑ c, d c * X g c) * z g / y = ∑ c, d c * ∑ g, z g / y * X g c := fun d X z y => by
    simp only [Finset.mul_sum, Finset.sum_mul, Finset.sum_div]
    rw [Finset.sum_comm]
    refine Finset.sum_congr rfl fun c _ => Finset.sum_congr rfl fun g _ => ?_
    ring
  exact key _ _ _ _

section
include H

theorem dout_at : val_main_v120 (F := Ideal) x0 x1 (ix4 g h t c) = ((Z Q K g h t / T Q K h t * D h t c : ℝ) : EReal) := by
  rw [val_main_v120_apply, val_main_v119_apply, val_main_v118_apply, ← mul_real, ← share_at H, ← d_head H]
  exact congrArg₂ (· * ·) (at4 _ _ _ rfl rfl rfl rfl) (at3 _ _ _ rfl rfl rfl)

theorem part_at : val_main_v123 (F := Ideal) x0 x1 (ix4 g h t 0) = ((part Q K V D g h t : ℝ) : EReal) := by
  have e : val_main_v122 (F := Ideal) x0 x1 (ix3 g h t) = ((part Q K V D g h t : ℝ) : EReal) := by
    rw [val_main_v122_apply]
    refine sum_from_zero _ _ fun c => ?_
    rw [val_main_v121_apply, val_main_v118_apply, ← mul_real, ← out_at H, ← d_head H]
    exact congrArg₂ (· * ·) (at3 _ _ _ rfl rfl rfl) (at4 _ _ _ rfl rfl rfl rfl)
  rw [val_main_v123_apply, ← e]
  refine at3 _ _ _ (Fin.ext ?_) (Fin.ext ?_) (Fin.ext ?_)
  · show (((g.val * 4 + h.val) * 8192 + t.val) * 1 + 0) / 32768 = g.val; omega
  · show (((g.val * 4 + h.val) * 8192 + t.val) * 1 + 0) / 8192 % 4 = h.val; omega
  · show (((g.val * 4 + h.val) * 8192 + t.val) * 1 + 0) % 8192 = t.val; omega

/-- The sum of the groups' parts, by which the softmax over the groups lessens each. -/
theorem parts_row : val_main_v129 (F := Ideal) x0 x1 (ix4 0 h t 0) = ((-(dsum Q K V D h t / (T Q K h t * shrinkG x0 h t)) : ℝ) : EReal) := by
  have hT := (T_pos Q K h t).ne'
  have hs := (shrinkG_pos (x0 := x0) h t).ne'
  have e1 : ∀ g, val_main_v124 (F := Ideal) x0 (ix4 g h t 0) = ((1 / (T Q K h t * shrinkG x0 h t * (T Q K h t * shrinkG x0 h t)) : ℝ) : EReal) := by
    intro g
    have e0 : val_main_v124 (F := Ideal) x0 (ix4 g h t 0) = val_main_v111 (F := Ideal) x0 (ix4 0 h t 0) := by
      rw [val_main_v124_apply]
      exact at4 _ _ _ rfl rfl rfl rfl
    rw [e0, val_main_v111_apply, val_main_v110_apply, val_main_cst_35_apply, val_main_v109_apply, groupSum_at H]
    refine (congrArg₂ Ideal.div bits_one (mul_real _ _)).trans (div_real _ ?_)
    exact mul_ne_zero (mul_ne_zero hT hs) (mul_ne_zero hT hs)
  have e2 : val_main_v127 (F := Ideal) x0 x1 (ix3 h t 0) = ((dsum Q K V D h t / (T Q K h t * shrinkG x0 h t) : ℝ) : EReal) := by
    rw [val_main_v127_apply, ← part_mix, Finset.sum_div]
    refine sum_from_zero _ _ fun g => ?_
    have hi : idx_main_v127 (ix3 h t 0) g = ix4 g h t 0 :=
      funext fun a => match a with | ⟨0, _⟩ => rfl | ⟨1, _⟩ => rfl | ⟨2, _⟩ => rfl | ⟨3, _⟩ => rfl
    rw [hi, val_main_v126_apply, val_main_v125_apply, part_at H, e1, groupWeight_at H]
    pointwise
    rw [mul_real, mul_real]
    refine congrArg Real.toEReal ?_
    field_simp
  have e3 : val_main_v128 (F := Ideal) x0 x1 (ix4 0 h t 0) = val_main_v127 (F := Ideal) x0 x1 (ix3 h t 0) := by
    rw [val_main_v128_apply]
    refine at3 _ _ _ (Fin.ext ?_) (Fin.ext ?_) (Fin.ext ?_)
    · show (((0 * 4 + h.val) * 8192 + t.val) * 1 + 0) / 8192 = h.val; omega
    · show (((0 * 4 + h.val) * 8192 + t.val) * 1 + 0) / 1 % 8192 = t.val; omega
    · show 0 = 0; rfl
  rw [val_main_v129_apply, e3, e2]
  exact neg_real _

theorem parts_at : val_main_v134 (F := Ideal) x0 x1 (ix4 g h t 0) = ((-(dsum Q K V D h t / (T Q K h t * shrinkG x0 h t)) : ℝ) : EReal) := by
  have e : val_main_v132 (F := Ideal) x0 x1 (ix2 h t) = Ideal.ofBits .f32 0#32 + val_main_v129 (F := Ideal) x0 x1 (ix4 0 h t 0) := by
    unfold val_main_v132
    generalize val_main_v129 (F := Ideal) x0 x1 = y
    refine (ValueIdx.hostReduceAdd_apply _ _ _ _ _).trans ?_
    unfold Ideal.hostReduceAdd
    refine congrArg₂ (· + ·) rfl ?_
    refine Finset.sum_eq_single_of_mem _ ?_ fun i hi hne => absurd ?_ hne
    · rw [Finset.mem_filter]
      refine ⟨Finset.mem_univ _, funext fun a => ?_⟩
      match a with
      | ⟨0, _⟩ => rfl
      | ⟨1, _⟩ => rfl
    · have hd := (Finset.mem_filter.mp hi).2
      refine funext fun a => ?_
      match a with
      | ⟨0, _⟩ => exact Subsingleton.elim (α := Fin 1) _ _
      | ⟨1, _⟩ => exact Fin.ext (congrArg Fin.val (congrFun hd 0))
      | ⟨2, _⟩ => exact Fin.ext (congrArg Fin.val (congrFun hd 1))
      | ⟨3, _⟩ => exact Subsingleton.elim (α := Fin 1) _ _
  have e0 : val_main_v134 (F := Ideal) x0 x1 (ix4 g h t 0) = val_main_v132 (F := Ideal) x0 x1 (ix2 h t) := by
    rw [val_main_v134_apply, val_main_v133_apply]
    exact at2 _ _ _ rfl rfl
  rw [e0, e, parts_row H, bits_zero, add_real, zero_add]

/-- The cotangent of a row's sum of weights. -/
theorem dden_at : val_main_v144 (F := Ideal) x0 x1 (ix4 g h t 0) = ((-(dsum Q K V D h t / (T Q K h t * shrink x0 g h t)) : ℝ) : EReal) := by
  have hT := (T_pos Q K h t).ne'
  have hZ := (Z_pos Q K g h t).ne'
  have hs := (shrinkG_pos (x0 := x0) h t).ne'
  have hm := (shrink_pos (x0 := x0) g h t).ne'
  have e1 : val_main_v137 (F := Ideal) x0 x1 (ix4 g h t 0)
      = (((part Q K V D g h t - dsum Q K V D h t) / (T Q K h t * shrink x0 g h t) : ℝ) : EReal) := by
    have e0 : val_main_v130 (F := Ideal) x0 (ix4 g h t 0) = ((T Q K h t * shrinkG x0 h t : ℝ) : EReal) := by
      rw [val_main_v130_apply, ← groupSum_at H]
      exact at4 _ _ _ rfl rfl rfl rfl
    rw [val_main_v137_apply, val_main_v136_apply, val_main_v135_apply, val_main_v131_apply, part_at H, e0, parts_at H, groupWeight_at H,
      den_at H]
    pointwise
    rw [div_real _ (mul_ne_zero hT hs), add_real, mul_real, div_real _ (mul_ne_zero hZ hm)]
    refine congrArg Real.toEReal ?_
    field_simp
    ring
  have e2 : val_main_v143 (F := Ideal) x0 x1 (ix4 g h t 0) = ((-(part Q K V D g h t / (T Q K h t * shrink x0 g h t)) : ℝ) : EReal) := by
    have e3 : val_main_v141 (F := Ideal) x0 x1 (ix3 g h t) = ((part Q K V D g h t / (T Q K h t * shrink x0 g h t) : ℝ) : EReal) := by
      rw [val_main_v141_apply]
      unfold part
      rw [Finset.sum_div]
      refine sum_from_zero _ _ fun c => ?_
      have hi : idx_main_v141 (ix3 g h t) c = ix4 g h t c :=
        funext fun a => match a with | ⟨0, _⟩ => rfl | ⟨1, _⟩ => rfl | ⟨2, _⟩ => rfl | ⟨3, _⟩ => rfl
      have e5 : val_main_v138 (F := Ideal) x0 (ix4 g h t c)
          = ((1 / (Z Q K g h t * shrink x0 g h t * (Z Q K g h t * shrink x0 g h t)) : ℝ) : EReal) := by
        have e6 : val_main_v138 (F := Ideal) x0 (ix4 g h t c) = val_main_v81 (F := Ideal) x0 (ix4 g h t 0) := by
          rw [val_main_v138_apply]
          exact at4 _ _ _ rfl rfl rfl rfl
        rw [e6, val_main_v81_apply, val_main_v80_apply, val_main_cst_25_apply, val_main_v79_apply, den_at H]
        refine (congrArg₂ Ideal.div bits_one (mul_real _ _)).trans (div_real _ ?_)
        exact mul_ne_zero (mul_ne_zero hZ hm) (mul_ne_zero hZ hm)
      rw [hi, val_main_v140_apply, val_main_v139_apply, dout_at H, e5, num_at H]
      pointwise
      rw [mul_real, mul_real]
      refine congrArg Real.toEReal ?_
      field_simp
    have e4 : val_main_v142 (F := Ideal) x0 x1 (ix4 g h t 0) = val_main_v141 (F := Ideal) x0 x1 (ix3 g h t) := by
      rw [val_main_v142_apply]
      refine at3 _ _ _ (Fin.ext ?_) (Fin.ext ?_) (Fin.ext ?_)
      · show (((g.val * 4 + h.val) * 8192 + t.val) * 1 + 0) / 32768 = g.val; omega
      · show (((g.val * 4 + h.val) * 8192 + t.val) * 1 + 0) / 8192 % 4 = h.val; omega
      · show (((g.val * 4 + h.val) * 8192 + t.val) * 1 + 0) % 8192 = t.val; omega
    rw [val_main_v143_apply, e4, e3]
    exact neg_real _
  rw [val_main_v144_apply, e1, e2]
  refine (add_real _ _).trans (congrArg _ ?_)
  ring

/-- The cotangent of an output's numerator. -/
theorem dnum_at : val_main_v146 (F := Ideal) x0 x1 (ix4 g h t c) = ((D h t c / (T Q K h t * shrink x0 g h t) : ℝ) : EReal) := by
  have hT := (T_pos Q K h t).ne'
  have hZ := (Z_pos Q K g h t).ne'
  have hm := (shrink_pos (x0 := x0) g h t).ne'
  have e : val_main_v145 (F := Ideal) x0 (ix4 g h t c) = ((Z Q K g h t * shrink x0 g h t : ℝ) : EReal) := by
    rw [val_main_v145_apply, ← den_at H]
    exact at4 _ _ _ rfl rfl rfl rfl
  rw [val_main_v146_apply, dout_at H, e]
  refine (div_real _ (mul_ne_zero hZ hm)).trans (congrArg _ ?_)
  field_simp

/-! ## The three gradients -/

theorem dV_at : val_main_v156 (F := Ideal) x0 x1 (ix4 g h u c) = ((dV Q K D g h u c : ℝ) : EReal) := by
  have e : val_main_v150 (F := Ideal) x0 x1 (ix4 g h u c) = ((dV Q K D g h u c : ℝ) : EReal) := by
    rw [val_main_v150_apply]
    refine sum_from_zero _ _ fun t => ?_
    rw [val_main_v149_apply, val_main_v148_apply, val_main_v147_apply, val_main_v71_apply]
    have e1 : P Q K g h t u * D h t c = E Q K g h t u * shrink x0 g h t * (D h t c / (T Q K h t * shrink x0 g h t)) := by
      have hT := (T_pos Q K h t).ne'
      have hm := (shrink_pos (x0 := x0) g h t).ne'
      unfold P
      field_simp
    rw [e1, ← mul_real, ← weight_at H, ← dnum_at H]
    exact congrArg₂ (· * ·) (at4 _ _ _ rfl rfl rfl rfl) (at4 _ _ _ rfl rfl rfl rfl)
  rw [val_main_v156_apply, ← Fin.sum_univ_one fun _ => dV Q K D g h u c]
  refine sum_from_zero _ _ fun k => ?_
  rw [val_main_v151_apply, ← e, Subsingleton.elim k 0]
  refine at4 _ _ _ (Fin.ext ?_) (Fin.ext ?_) (Fin.ext ?_) (Fin.ext ?_)
  · show ((((g.val * 4 + h.val) * 1 + 0) * 8192 + u.val) * 64 + c.val) / 2097152 = g.val; omega
  · show ((((g.val * 4 + h.val) * 1 + 0) * 8192 + u.val) * 64 + c.val) / 524288 % 4 = h.val; omega
  · show ((((g.val * 4 + h.val) * 1 + 0) * 8192 + u.val) * 64 + c.val) / 64 % 8192 = u.val; omega
  · show ((((g.val * 4 + h.val) * 1 + 0) * 8192 + u.val) * 64 + c.val) % 64 = c.val; omega

/-- The cotangent of a weight, before the row's part. -/
theorem dweight_at : val_main_v157 (F := Ideal) x0 x1 (ix4 g h t u)
    = ((cot V D g h t u / (T Q K h t * shrink x0 g h t) : ℝ) : EReal) := by
  have e : val_main_v154 (F := Ideal) x0 x1 (ix4 g h t u) = ((cot V D g h t u / (T Q K h t * shrink x0 g h t) : ℝ) : EReal) := by
    rw [val_main_v154_apply]
    unfold cot
    rw [Finset.sum_div]
    refine sum_from_zero _ _ fun c => ?_
    rw [val_main_v153_apply, val_main_v152_apply, val_main_v147_apply, val_main_v72_apply, mul_div_right_comm, ← mul_real,
      ← dnum_at H, ← v_head H]
    exact congrArg₂ (· * ·) (at4 _ _ _ rfl rfl rfl rfl) (at4 _ _ _ rfl rfl rfl rfl)
  rw [val_main_v157_apply, ← Fin.sum_univ_one fun _ => cot V D g h t u / (T Q K h t * shrink x0 g h t)]
  refine sum_from_zero _ _ fun k => ?_
  rw [val_main_v155_apply, ← e, Subsingleton.elim k 0]
  refine at4 _ _ _ (Fin.ext ?_) (Fin.ext ?_) (Fin.ext ?_) (Fin.ext ?_)
  · show ((((g.val * 4 + h.val) * 8192 + t.val) * 8192 + u.val) * 1 + 0) / 268435456 = g.val; omega
  · show ((((g.val * 4 + h.val) * 8192 + t.val) * 8192 + u.val) * 1 + 0) / 67108864 % 4 = h.val; omega
  · show ((((g.val * 4 + h.val) * 8192 + t.val) * 8192 + u.val) * 1 + 0) / 8192 % 8192 = t.val; omega
  · show ((((g.val * 4 + h.val) * 8192 + t.val) * 8192 + u.val) * 1 + 0) % 8192 = u.val; omega

/-- The cotangent of a scaled product of a query and a key. -/
theorem dscore_at : val_main_v164 (F := Ideal) x0 x1 (ix4 g h t u) = ((dS Q K V D g h t u * (1 / 8) : ℝ) : EReal) := by
  have e0 : val_main_v159 (F := Ideal) x0 x1 (ix4 g h t u) = ((-(dsum Q K V D h t / (T Q K h t * shrink x0 g h t)) : ℝ) : EReal) := by
    have e : val_main_v159 (F := Ideal) x0 x1 (ix4 g h t u) = val_main_v158 (F := Ideal) x0 x1 (ix3 g h t) := by
      rw [val_main_v159_apply]
      exact at3 _ _ _ rfl rfl rfl
    rw [e, val_main_v158_apply, ← Fin.sum_univ_one fun _ => -(dsum Q K V D h t / (T Q K h t * shrink x0 g h t))]
    refine sum_from_zero _ _ fun k => ?_
    rw [← dden_at H, Subsingleton.elim k 0]
    exact at4 _ _ _ rfl rfl rfl rfl
  have e1 : val_main_v161 (F := Ideal) x0 x1 (ix4 g h t u) = ((dS Q K V D g h t u : ℝ) : EReal) := by
    have hT := (T_pos Q K h t).ne'
    have hm := (shrink_pos (x0 := x0) g h t).ne'
    rw [val_main_v161_apply, val_main_v160_apply, dweight_at H, e0, weight_at H]
    pointwise
    rw [add_real, mul_real]
    refine congrArg Real.toEReal ?_
    unfold dS P
    field_simp
    ring
  have e2 : val_main_v162 (F := Ideal) x0 x1 (ix4 g h t u) = ((dS Q K V D g h t u : ℝ) : EReal) := by
    rw [val_main_v162_apply, mask_at, select_if, e1]
    split
    · rfl
    · rename_i hv
      have hz : dS Q K V D g h t u = 0 := by
        unfold dS P E
        rw [if_neg hv, zero_div, zero_mul]
      rw [hz, val_main_call3_v0_apply]
      exact bits_zero
  rw [val_main_v164_apply, val_main_v163_apply, val_main_cst_46_apply, e2]
  exact (congrArg _ bits_eighth).trans (mul_real _ _)

theorem dK_at : val_main_v174 (F := Ideal) x0 x1 (ix4 g h u c) = ((dK Q K V D g h u c : ℝ) : EReal) := by
  have e : val_main_v168 (F := Ideal) x0 x1 (ix4 g h u c) = ((dK Q K V D g h u c : ℝ) : EReal) := by
    rw [val_main_v168_apply]
    refine sum_from_zero _ _ fun t => ?_
    rw [val_main_v167_apply, val_main_v166_apply, val_main_v165_apply, val_main_v31_apply, mul_comm (dS Q K V D g h t u * (1 / 8)),
      ← mul_real, ← dscore_at H, ← q_head H]
    exact congrArg₂ (· * ·) (at4 _ _ _ rfl rfl rfl rfl) (at4 _ _ _ rfl rfl rfl rfl)
  rw [val_main_v174_apply, ← Fin.sum_univ_one fun _ => dK Q K V D g h u c]
  refine sum_from_zero _ _ fun k => ?_
  rw [val_main_v169_apply, ← e, Subsingleton.elim k 0]
  refine at4 _ _ _ (Fin.ext ?_) (Fin.ext ?_) (Fin.ext ?_) (Fin.ext ?_)
  · show ((((g.val * 4 + h.val) * 1 + 0) * 8192 + u.val) * 64 + c.val) / 2097152 = g.val; omega
  · show ((((g.val * 4 + h.val) * 1 + 0) * 8192 + u.val) * 64 + c.val) / 524288 % 4 = h.val; omega
  · show ((((g.val * 4 + h.val) * 1 + 0) * 8192 + u.val) * 64 + c.val) / 64 % 8192 = u.val; omega
  · show ((((g.val * 4 + h.val) * 1 + 0) * 8192 + u.val) * 64 + c.val) % 64 = c.val; omega

theorem dQ_at : val_main_v175 (F := Ideal) x0 x1 (ix4 g h t c) = ((dQ Q K V D g h t c : ℝ) : EReal) := by
  have e : val_main_v172 (F := Ideal) x0 x1 (ix4 g h t c) = ((dQ Q K V D g h t c : ℝ) : EReal) := by
    rw [val_main_v172_apply]
    refine sum_from_zero _ _ fun u => ?_
    rw [val_main_v171_apply, val_main_v170_apply, val_main_v165_apply, val_main_v32_apply, ← mul_real, ← dscore_at H, ← k_head H]
    exact congrArg₂ (· * ·) (at4 _ _ _ rfl rfl rfl rfl) (at4 _ _ _ rfl rfl rfl rfl)
  rw [val_main_v175_apply, ← Fin.sum_univ_one fun _ => dQ Q K V D g h t c]
  refine sum_from_zero _ _ fun k => ?_
  rw [val_main_v173_apply, ← e, Subsingleton.elim k 0]
  refine at4 _ _ _ (Fin.ext ?_) (Fin.ext ?_) (Fin.ext ?_) (Fin.ext ?_)
  · show ((((g.val * 4 + h.val) * 8192 + t.val) * 1 + 0) * 64 + c.val) / 2097152 = g.val; omega
  · show ((((g.val * 4 + h.val) * 8192 + t.val) * 1 + 0) * 64 + c.val) / 524288 % 4 = h.val; omega
  · show ((((g.val * 4 + h.val) * 8192 + t.val) * 1 + 0) * 64 + c.val) / 64 % 8192 = t.val; omega
  · show ((((g.val * 4 + h.val) * 8192 + t.val) * 1 + 0) * 64 + c.val) % 64 = c.val; omega

end

/-! ## The results -/

theorem class_row (y : S8192x256.Idx → EReal) (r : Fin 16) (m : Fin 512) (l : Fin 256) :
    y (idx_main_v180 (idx_main_v181 (ix3 r m l))) = y (ix2 (pos r m) l) := by
  refine at2 y _ _ (Fin.ext ?_) (Fin.ext ?_)
  · show ((m.val * 16 + r.val) * 256 + l.val) / 256 = m.val * 16 + r.val; omega
  · show ((m.val * 16 + r.val) * 256 + l.val) % 256 = l.val; omega

theorem head_lane (y : S4x8192x64.Idx → EReal) (h : Fin 4) (t : Fin 8192) (c : Fin 64) :
    y (idx_main_v178 (idx_main_v179 (ix2 t (lane h c)))) = y (ix3 h t c) := by
  refine at3 y _ _ (Fin.ext ?_) (Fin.ext ?_) (Fin.ext ?_)
  · show (t.val * 256 + (h.val * 64 + c.val)) / 64 % 4 = h.val; omega
  · show (t.val * 256 + (h.val * 64 + c.val)) / 256 = t.val; omega
  · show (t.val * 256 + (h.val * 64 + c.val)) % 64 = c.val; omega

theorem last_group (y : S3x4x8192x64.Idx → EReal) (h : Fin 4) (t : Fin 8192) (c : Fin 64) :
    y (idx_main_v176 (idx_main_v177 (ix3 h t c))) = y (ix4 2 h t c) := by
  refine at4 y _ _ (Fin.ext ?_) (Fin.ext ?_) (Fin.ext ?_) (Fin.ext ?_)
  · show 2 + 0 = 2; rfl
  · show ((h.val * 8192 + t.val) * 64 + c.val) / 524288 % 4 = h.val; omega
  · show ((h.val * 8192 + t.val) * 64 + c.val) / 64 % 8192 = t.val; omega
  · show ((h.val * 8192 + t.val) * 64 + c.val) % 64 = c.val; omega

section
include H

section

variable (r : Fin 16) (m : Fin 512)

/-- The queries' gradient, class by class. -/
theorem dQ_result : val_main_v182 (F := Ideal) x0 x1 (ix3 r m (lane h c)) = ((dQ Q K V D 2 h (pos r m) c : ℝ) : EReal) := by
  have e1 : val_main_v182 (F := Ideal) x0 x1 (ix3 r m (lane h c)) = val_main_v179 (F := Ideal) x0 x1 (ix2 (pos r m) (lane h c)) := by
    rw [val_main_v182_apply, val_main_v181_apply, val_main_v180_apply]
    exact class_row (val_main_v179 (F := Ideal) x0 x1) r m (lane h c)
  have e2 : val_main_v179 (F := Ideal) x0 x1 (ix2 (pos r m) (lane h c)) = val_main_v177 (F := Ideal) x0 x1 (ix3 h (pos r m) c) := by
    rw [val_main_v179_apply, val_main_v178_apply]
    exact head_lane (val_main_v177 (F := Ideal) x0 x1) h (pos r m) c
  have e3 : val_main_v177 (F := Ideal) x0 x1 (ix3 h (pos r m) c) = val_main_v175 (F := Ideal) x0 x1 (ix4 2 h (pos r m) c) := by
    rw [val_main_v177_apply, val_main_v176_apply]
    exact last_group (val_main_v175 (F := Ideal) x0 x1) h (pos r m) c
  exact e1.trans (e2.trans (e3.trans (dQ_at H 2 h (pos r m) c)))

/-- The keys' gradient, class by class. -/
theorem dK_result : val_main_v189 (F := Ideal) x0 x1 (ix3 r m (lane h c)) = ((dK Q K V D 2 h (pos r m) c : ℝ) : EReal) := by
  have e1 : val_main_v189 (F := Ideal) x0 x1 (ix3 r m (lane h c)) = val_main_v186 (F := Ideal) x0 x1 (ix2 (pos r m) (lane h c)) := by
    rw [val_main_v189_apply, val_main_v188_apply, val_main_v187_apply]
    exact class_row (val_main_v186 (F := Ideal) x0 x1) r m (lane h c)
  have e2 : val_main_v186 (F := Ideal) x0 x1 (ix2 (pos r m) (lane h c)) = val_main_v184 (F := Ideal) x0 x1 (ix3 h (pos r m) c) := by
    rw [val_main_v186_apply, val_main_v185_apply]
    exact head_lane (val_main_v184 (F := Ideal) x0 x1) h (pos r m) c
  have e3 : val_main_v184 (F := Ideal) x0 x1 (ix3 h (pos r m) c) = val_main_v174 (F := Ideal) x0 x1 (ix4 2 h (pos r m) c) := by
    rw [val_main_v184_apply, val_main_v183_apply]
    exact last_group (val_main_v174 (F := Ideal) x0 x1) h (pos r m) c
  exact e1.trans (e2.trans (e3.trans (dK_at H 2 h (pos r m) c)))

/-- The values' gradient, class by class. -/
theorem dV_result : val_main_v196 (F := Ideal) x0 x1 (ix3 r m (lane h c)) = ((dV Q K D 2 h (pos r m) c : ℝ) : EReal) := by
  have e1 : val_main_v196 (F := Ideal) x0 x1 (ix3 r m (lane h c)) = val_main_v193 (F := Ideal) x0 x1 (ix2 (pos r m) (lane h c)) := by
    rw [val_main_v196_apply, val_main_v195_apply, val_main_v194_apply]
    exact class_row (val_main_v193 (F := Ideal) x0 x1) r m (lane h c)
  have e2 : val_main_v193 (F := Ideal) x0 x1 (ix2 (pos r m) (lane h c)) = val_main_v191 (F := Ideal) x0 x1 (ix3 h (pos r m) c) := by
    rw [val_main_v193_apply, val_main_v192_apply]
    exact head_lane (val_main_v191 (F := Ideal) x0 x1) h (pos r m) c
  have e3 : val_main_v191 (F := Ideal) x0 x1 (ix3 h (pos r m) c) = val_main_v156 (F := Ideal) x0 x1 (ix4 2 h (pos r m) c) := by
    rw [val_main_v191_apply, val_main_v190_apply]
    exact last_group (val_main_v156 (F := Ideal) x0 x1) h (pos r m) c
  exact e1.trans (e2.trans (e3.trans (dV_at H 2 h (pos r m) c)))

end

end

end Cert.AttnReference

end
-- ==== Proof.AttnSaved.lean ====
/-
  The rows of numbers the kernel program prepares on the host: every query's logarithm of the groups' common normaliser and
  its cotangent's product with the output. They are made of the reference's own scores, outputs and shares.
-/
module

public import proofs.«01_k».proof.Proof.Gen.Kernel7Ideal.Value
public import proofs.«01_k».proof.Proof.AttnReference
public import Idealize.ShloMosaic.Lib.StableHlo.Run

@[expose] public section

noncomputable section

namespace Cert.AttnSaved

open Cert.Kernel7Ideal Cert.Kernel7Ideal.Gen Idealize.ShloMosaic Idealize.ShloMosaic.TcCoe Idealize.ShloMosaic.StableHlo
open Cert.Reference7Ideal.Read (val_main_v83 val_main_v78 val_main_v117)

/-- The largest of the groups' logarithms. -/
def top (L : FVec Ideal S3x4x8192x1 .f32) : FVec Ideal S4x8192x1 .f32 :=
  Host.reduce FloatOps.maximumf L (constant S_ .f32 0xFF800000#32) reducesTo_S3x4x8192x1_S4x8192x1_d0 h_S_

/-- One number for all groups. -/
def spread (x : FVec Ideal S4x8192x1 .f32) : FVec Ideal S3x4x8192x1 .f32 :=
  broadcastInDim S3x4x8192x1 ![0, 1, 2, 3] bcast_S1x4x8192x1_S3x4x8192x1_0_1_2_3
    (broadcastInDim S1x4x8192x1 ![1, 2, 3] bcast_S4x8192x1_S1x4x8192x1_1_2_3 x)

/-- The sum over the groups. -/
def groups (x : FVec Ideal S3x4x8192x1 .f32) : FVec Ideal S4x8192x1 .f32 :=
  Host.reduceAdd x (constant S_ .f32 0x00000000#32) reducesTo_S3x4x8192x1_S4x8192x1_d0 h_S_

/-- The logarithm of the groups' common normaliser, of each group's logarithm. -/
def total (L : FVec Ideal S3x4x8192x1 .f32) : FVec Ideal S4x8192x1 .f32 :=
  addf (top L) (Host.log (groups (Host.exp (subf L (spread (top L))))))

/-- Each group's weight before its share is formed. -/
def lifted (L : FVec Ideal S3x4x8192x1 .f32) : FVec Ideal S3x4x8192x1 .f32 :=
  Host.exp (subf L (spread (maximumf (broadcastInDim S4x8192x1 ![] bcast_S_S4x8192x1 (constant S_ .f32 0xFF800000#32)) (top L))))

/-- Each group's share. -/
def shares (L : FVec Ideal S3x4x8192x1 .f32) : FVec Ideal S3x4x8192x1 .f32 := Host.divf (lifted L) (spread (groups (lifted L)))

/-- The groups' outputs, each with its share. -/
def mixed (s : FVec Ideal S3x4x8192x1 .f32) (o : FVec Ideal S3x4x8192x64 .f32) : FVec Ideal S4x8192x64 .f32 :=
  Host.reduceAdd (mulf (broadcastInDim S3x4x8192x64 ![0, 1, 2, 3] bcast_S3x4x8192x1_S3x4x8192x64_0_1_2_3 s) o)
    (constant S_ .f32 0x00000000#32) reducesTo_S3x4x8192x64_S4x8192x64_d0 h_S_

/-- The cotangent's product with the output. -/
def dots (d y : FVec Ideal S4x8192x64 .f32) : FVec Ideal S4x8192x1 .f32 :=
  broadcastInDim S4x8192x1 ![0, 1] bcast_S4x8192_S4x8192x1_0_1
    (Host.reduceAdd (mulf d y) (constant S_ .f32 0x00000000#32) reducesTo_S4x8192x64_S4x8192_d2 h_S_)

/-- Both, in the lanes of their heads, row by row. -/
def rows (a b : FVec Ideal S4x8192x1 .f32) : FVec Ideal S8192x256 .f32 :=
  shapeCast S8192x256 (transpose S8192x4x64 [1, 0, 2]
    (concatenate S4x8192x64 2 [⟨S4x8192x32, broadcastInDim S4x8192x32 ![0, 1, 2] bcast_S4x8192x1_S4x8192x32_0_1_2 a⟩,
      ⟨S4x8192x32, broadcastInDim S4x8192x32 ![0, 1, 2] bcast_S4x8192x1_S4x8192x32_0_1_2 b⟩]
      concatenates_S4x8192x32_S4x8192x32_S4x8192x64_d2) transposes_S4x8192x64_S8192x4x64_1_0_2) shapeCasts_S8192x4x64_S8192x256

/-- The rows of a class side by side. -/
def classes {e : EltTy} (x : Vec Ideal S8192x256 e) : Vec Ideal S16x512x256 e :=
  transpose S16x512x256 [1, 0, 2] (shapeCast S512x16x256 x shapeCasts_S8192x256_S512x16x256) transposes_S512x16x256_S16x512x256_1_0_2

set_option maxRecDepth 65536 in
set_option maxHeartbeats 100000000 in
theorem total_eq (m : (ℓ : Loc nD τ sig) → Buf (Elt Ideal) ℓ) (c : Dev nD) :
    V m c main_v100 = total (val_main_v83 (F := Ideal) (m ((c.tc : Thread nD τ).loc main_arg0))) := by
  simp only [V, hostOps0, hostOps0_1, hostOps0_2, hostOps0_3, hostOps0_4, hostOps0_5, hostOps0_6,
    List.flatten_cons, List.flatten_nil, List.append_nil, List.cons_append, List.nil_append,
    TRef.binary, TRef.nullary, TRef.ternary, TRef.unary, TRef.toBuf, TRef.ofBuf, cast_eq]
  after_results_simp
  rfl

set_option maxRecDepth 65536 in
set_option maxHeartbeats 100000000 in
theorem dots_eq (m : (ℓ : Loc nD τ sig) → Buf (Elt Ideal) ℓ) (c : Dev nD) :
    V m c main_v103 = dots (val_main_v117 (F := Ideal) (m ((c.tc : Thread nD τ).loc main_arg1)))
      (mixed (shares (val_main_v83 (F := Ideal) (m ((c.tc : Thread nD τ).loc main_arg0)))) (val_main_v78 (F := Ideal) (m ((c.tc : Thread nD τ).loc main_arg0)))) := by
  simp only [V, hostOps0, hostOps0_1, hostOps0_2, hostOps0_3, hostOps0_4, hostOps0_5, hostOps0_6,
    List.flatten_cons, List.flatten_nil, List.append_nil, List.cons_append, List.nil_append,
    TRef.binary, TRef.nullary, TRef.ternary, TRef.unary, TRef.toBuf, TRef.ofBuf, cast_eq]
  after_results_simp
  rfl

set_option maxRecDepth 65536 in
set_option maxHeartbeats 100000000 in
theorem tail_eq (m : (ℓ : Loc nD τ sig) → Buf (Elt Ideal) ℓ) (c : Dev nD) :
    V m c main_v121 = classes (rows (V m c main_v100) (V m c main_v103)) := by
  unfold classes rows
  simp only [V, hostOps0, hostOps0_1, hostOps0_2, hostOps0_3, hostOps0_4, hostOps0_5, hostOps0_6,
    List.flatten_cons, List.flatten_nil, List.append_nil, List.cons_append, List.nil_append,
    TRef.binary, TRef.nullary, TRef.ternary, TRef.unary, TRef.toBuf, TRef.ofBuf, cast_eq]
  after_results_simp
  try rfl

end Cert.AttnSaved

end
-- ==== Proof.AttnStats.lean ====
/-
  The rows of numbers the kernel program prepares on the host, over the real numbers, and the arrays of the queries, keys,
  values and cotangents, class by class.
-/
module

public import proofs.«01_k».proof.Proof.AttnSaved
public import Idealize.ShloMosaic.Lib.Pipeline.ValueKit.Point

@[expose] public section

noncomputable section

namespace Cert.AttnSaved

open Cert.Kernel7Ideal Cert.Kernel7Ideal.Gen Idealize.ShloMosaic Idealize.ShloMosaic.TcCoe Idealize.ShloMosaic.StableHlo
open Cert.RealOps Cert.Attn
open Cert.AttnReference (at2 at3 at4 bits_bot sum_from_zero)

variable {L : FVec Ideal S3x4x8192x1 .f32} {z : Fin 3 → Fin 4 → Fin 8192 → ℝ}

theorem top_at (h : Fin 4) (t : Fin 8192) :
    top L (ix3 h t 0) = (Finset.univ : Finset (Fin 3)).fold max ⊥ fun g => L (ix4 g h t 0) := by
  unfold top
  pointwise
  rw [bits_bot]

theorem spread_at (x : FVec Ideal S4x8192x1 .f32) (g : Fin 3) (h : Fin 4) (t : Fin 8192) : spread x (ix4 g h t 0) = x (ix3 h t 0) := by
  unfold spread
  pointwise

theorem groups_at {x : FVec Ideal S3x4x8192x1 .f32} {f : Fin 3 → ℝ} (h : Fin 4) (t : Fin 8192)
    (hx : ∀ g, x (ix4 g h t 0) = ((f g : ℝ) : EReal)) : groups x (ix3 h t 0) = ((∑ g, f g : ℝ) : EReal) := by
  unfold groups
  pointwise
  simp only [hx, sum_real]

theorem mixed_at {s : FVec Ideal S3x4x8192x1 .f32} {o : FVec Ideal S3x4x8192x64 .f32} {w f : Fin 3 → ℝ} (h : Fin 4) (t : Fin 8192) (c : Fin 64)
    (hs : ∀ g, s (ix4 g h t 0) = ((w g : ℝ) : EReal)) (ho : ∀ g, o (ix4 g h t c) = ((f g : ℝ) : EReal)) :
    mixed s o (ix3 h t c) = ((∑ g, w g * f g : ℝ) : EReal) := by
  unfold mixed
  pointwise
  simp only [hs, ho, mul_real, sum_real]

theorem dots_at {d y : FVec Ideal S4x8192x64 .f32} {f w : Fin 64 → ℝ} (h : Fin 4) (t : Fin 8192)
    (hd : ∀ c, d (ix3 h t c) = ((f c : ℝ) : EReal)) (hy : ∀ c, y (ix3 h t c) = ((w c : ℝ) : EReal)) :
    dots d y (ix3 h t 0) = ((∑ c, f c * w c : ℝ) : EReal) := by
  unfold dots
  pointwise
  simp only [hd, hy, mul_real, sum_real]

section Logs

variable (hz : ∀ g h t, 0 < z g h t) (hL : ∀ g h t, L (ix4 g h t 0) = ((Real.log (z g h t) : ℝ) : EReal)) (h : Fin 4) (t : Fin 8192)

include hL

theorem top_real : ∃ N : ℝ, top L (ix3 h t 0) = ((N : ℝ) : EReal) := by
  rw [top_at]
  refine fold_max_real _ (fun g => ?_) 0 ?_
  · rw [hL]; exact EReal.coe_ne_top _
  · rw [hL]; exact EReal.coe_ne_bot _

include hz

theorem total_at : total L (ix3 h t 0) = ((Real.log (∑ g, z g h t) : ℝ) : EReal) := by
  obtain ⟨N, hN⟩ := top_real hL h t
  have e : groups (Host.exp (subf L (spread (top L)))) (ix3 h t 0) = ((∑ g, z g h t * Real.exp (-N) : ℝ) : EReal) :=
    groups_at h t fun g => by
      pointwise
      rw [spread_at, hN, hL, sub_real, exp_real, sub_eq_add_neg, Real.exp_add, Real.exp_log (hz g h t)]
  have hs : 0 < ∑ g, z g h t := Finset.sum_pos (fun g _ => hz g h t) ⟨0, Finset.mem_univ _⟩
  unfold total
  pointwise
  rw [e, hN, ← Finset.sum_mul, log_real (mul_pos hs (Real.exp_pos _)), add_real, Real.log_mul hs.ne' (Real.exp_pos _).ne', Real.log_exp]
  exact congrArg _ (by ring)

theorem shares_at (g : Fin 3) : shares L (ix4 g h t 0) = ((z g h t / ∑ g, z g h t : ℝ) : EReal) := by
  obtain ⟨N, hN⟩ := top_real hL h t
  have e : ∀ g, lifted L (ix4 g h t 0) = ((z g h t * Real.exp (-N) : ℝ) : EReal) := fun g => by
    unfold lifted
    pointwise
    rw [spread_at]
    pointwise
    rw [hN, hL]
    try rw [bits_bot]
    try rw [max_eq_right bot_le]
    rw [sub_real, exp_real, sub_eq_add_neg, Real.exp_add, Real.exp_log (hz g h t)]
  have hs : 0 < ∑ g, z g h t := Finset.sum_pos (fun g _ => hz g h t) ⟨0, Finset.mem_univ _⟩
  unfold shares
  pointwise
  rw [spread_at, groups_at h t e, e, ← Finset.sum_mul]
  refine (div_real _ (mul_pos hs (Real.exp_pos _)).ne').trans (congrArg _ ?_)
  rw [mul_div_mul_right _ _ (Real.exp_pos _).ne']

end Logs

/-- A lane of a head's first half holds the first number, a lane of the second half the second. -/
theorem rows_at (a b : FVec Ideal S4x8192x1 .f32) (h : Fin 4) (t : Fin 8192) (c : Fin 64) :
    rows a b (ix2 t (lane h c)) = if c.val < 32 then a (ix3 h t 0) else b (ix3 h t 0) := by
  unfold rows
  pointwise
  have e : (⟨(lane h c).val / 64, by omega⟩ : Fin 4) = h := Fin.ext (by show (h.val * 64 + c.val) / 64 = h.val; omega)
  have e' : (lane h c).val % 64 = c.val := by show (h.val * 64 + c.val) % 64 = c.val; omega
  by_cases hc : c.val < 32
  · rw [if_pos hc]
    exact (dif_pos (by omega)).trans (at3 a _ _ e rfl rfl)
  · rw [if_neg hc]
    exact (dif_neg (by omega)).trans (at3 b _ _ e rfl rfl)

theorem classes_at {e : EltTy} (x : Vec Ideal S8192x256 e) (r : Fin 16) (m : Fin 512) (l : Fin 256) :
    classes x (ix3 r m l) = x (ix2 (pos r m) l) := by
  unfold classes
  pointwise
  rfl

/-! ## The windows' arrays -/

open Cert.AttnReference (Args out_at lse_at d_head)

section Arrays

variable {m : (ℓ : Loc nD τ sig) → Buf (Elt Ideal) ℓ} {c : Dev nD} {Q K V' : Fin 3 → Fin 4 → Fin 8192 → Fin 64 → ℝ} {D : Fin 4 → Fin 8192 → Fin 64 → ℝ}

theorem queries_eq (m : (ℓ : Loc nD τ sig) → Buf (Elt Ideal) ℓ) (c : Dev nD) : V m c main_v111
    = classes (extractStridedSlice S8192x256 ![0, 512] (m ((c.tc : Thread nD τ).loc main_arg0)) slices_S8192x5120_S8192x256_0_512) := by
  unfold classes
  simp only [V, hostOps0, hostOps0_1, hostOps0_2, hostOps0_3, hostOps0_4, hostOps0_5, hostOps0_6,
    List.flatten_cons, List.flatten_nil, List.append_nil, List.cons_append, List.nil_append,
    TRef.binary, TRef.nullary, TRef.ternary, TRef.unary, TRef.toBuf, TRef.ofBuf, cast_eq]
  after_results_simp
  try rfl

theorem keys_eq (m : (ℓ : Loc nD τ sig) → Buf (Elt Ideal) ℓ) (c : Dev nD) : V m c main_v114
    = classes (extractStridedSlice S8192x256 ![0, 1280] (m ((c.tc : Thread nD τ).loc main_arg0)) slices_S8192x5120_S8192x256_0_1280) := by
  unfold classes
  simp only [V, hostOps0, hostOps0_1, hostOps0_2, hostOps0_3, hostOps0_4, hostOps0_5, hostOps0_6,
    List.flatten_cons, List.flatten_nil, List.append_nil, List.cons_append, List.nil_append,
    TRef.binary, TRef.nullary, TRef.ternary, TRef.unary, TRef.toBuf, TRef.ofBuf, cast_eq]
  after_results_simp
  try rfl

theorem values_eq (m : (ℓ : Loc nD τ sig) → Buf (Elt Ideal) ℓ) (c : Dev nD) : V m c main_v117
    = classes (extractStridedSlice S8192x256 ![0, 2048] (m ((c.tc : Thread nD τ).loc main_arg0)) slices_S8192x5120_S8192x256_0_2048) := by
  unfold classes
  simp only [V, hostOps0, hostOps0_1, hostOps0_2, hostOps0_3, hostOps0_4, hostOps0_5, hostOps0_6,
    List.flatten_cons, List.flatten_nil, List.append_nil, List.cons_append, List.nil_append,
    TRef.binary, TRef.nullary, TRef.ternary, TRef.unary, TRef.toBuf, TRef.ofBuf, cast_eq]
  after_results_simp
  try rfl

theorem cots_eq (m : (ℓ : Loc nD τ sig) → Buf (Elt Ideal) ℓ) (c : Dev nD) : V m c main_v119 = classes (m ((c.tc : Thread nD τ).loc main_arg1)) := by
  unfold classes
  simp only [V, hostOps0, hostOps0_1, hostOps0_2, hostOps0_3, hostOps0_4, hostOps0_5, hostOps0_6,
    List.flatten_cons, List.flatten_nil, List.append_nil, List.cons_append, List.nil_append,
    TRef.binary, TRef.nullary, TRef.ternary, TRef.unary, TRef.toBuf, TRef.ofBuf, cast_eq]
  after_results_simp
  try rfl

variable (H : Args (m ((c.tc : Thread nD τ).loc main_arg0)) (m ((c.tc : Thread nD τ).loc main_arg1)) Q K V' D)
  (r : Fin 16) (i : Fin 512) (h : Fin 4) (l : Fin 64)

include H

theorem queries_at : V m c main_v111 (ix3 r i (lane h l)) = ((Q 2 h (pos r i) l : ℝ) : EReal) := by
  rw [queries_eq, classes_at, ← H.q]
  pointwise
  exact at2 _ _ _ rfl (Fin.ext (by show 512 + (h.val * 64 + l.val) = (2 * 4 + h.val) * 64 + l.val; omega))

theorem keys_at : V m c main_v114 (ix3 r i (lane h l)) = ((K 2 h (pos r i) l : ℝ) : EReal) := by
  rw [keys_eq, classes_at, ← H.k]
  pointwise
  exact at2 _ _ _ rfl (Fin.ext (by show 1280 + (h.val * 64 + l.val) = 768 + ((2 * 4 + h.val) * 64 + l.val); omega))

theorem values_at : V m c main_v117 (ix3 r i (lane h l)) = ((V' 2 h (pos r i) l : ℝ) : EReal) := by
  rw [values_eq, classes_at, ← H.v]
  pointwise
  exact at2 _ _ _ rfl (Fin.ext (by show 2048 + (h.val * 64 + l.val) = 1536 + ((2 * 4 + h.val) * 64 + l.val); omega))

theorem cots_at : V m c main_v119 (ix3 r i (lane h l)) = ((D h (pos r i) l : ℝ) : EReal) := by
  rw [cots_eq, classes_at, ← H.d]
  rfl

theorem stats_at : V m c main_v121 (ix3 r i (lane h l))
    = if l.val < 32 then ((Real.log (T Q K h (pos r i)) : ℝ) : EReal) else ((dsum Q K V' D h (pos r i) : ℝ) : EReal) := by
  rw [tail_eq, classes_at, rows_at, total_eq, dots_eq, total_at (fun g h t => Z_pos Q K g h t) (fun g h t => lse_at H g h t),
    dots_at h (pos r i) (fun c => d_head H h (pos r i) c) fun c =>
      mixed_at h (pos r i) c (fun g => shares_at (fun g h t => Z_pos Q K g h t) (fun g h t => lse_at H g h t) h (pos r i) g)
        fun g => out_at H g h (pos r i) c]
  rfl

end Arrays

end Cert.AttnSaved

end
-- ==== Proof.AttnKernel.lean ====
/-
  What the kernel of the window attention's derivative leaves in its result arrays, over the real numbers.
-/
module

public import proofs.«01_k».proof.Proof.AttnStore
public import proofs.«01_k».proof.Proof.AttnStats

@[expose] public section

noncomputable section

namespace Cert.AttnKernel

open Cert.Kernel7Ideal Cert.Kernel7Ideal.Gen Idealize.ShloMosaic Idealize.ShloMosaic.TcCoe Idealize.SL.Sem
open Idealize.ShloMosaic.Pipeline (Dat)
open Cert.RealOps Cert.AttnBlock Cert.AttnRows Cert.AttnReference
open Cert.Attn (lane pos dQ dK dV T dsum)
open Cert.AttnSaved (queries_at keys_at values_at cots_at stats_at)

/-! ## Lanes -/

/-- A lane's head, and its place in the head. -/
def hd (l : Fin 256) : Fin 4 := ⟨l.val / 64, by omega⟩
def lo (l : Fin 256) : Fin 64 := ⟨l.val % 64, by omega⟩

theorem lane_split (l : Fin 256) : lane (hd l) (lo l) = l := Fin.ext (by show l.val / 64 * 64 + l.val % 64 = l.val; omega)

/-! ## Parts of a block -/

theorem emb_unit3 {A B C a b c o p : ℕ} (inb : ∀ x, (![0, o, p] : Fin 3 → ℕ) x + (![a, b, c] : Fin 3 → ℕ) x ≤ (⟨3, ![A, B, C]⟩ : Shape).size x)
    (z : Fin a) (i : Fin b) (k : Fin c) (z' : Fin A) (i' : Fin B) (k' : Fin C) (hz : z'.val = z.val) (hi : i'.val = o + i.val) (hk : k'.val = p + k.val) :
    (Rect.unit (s := ⟨3, ![A, B, C]⟩) ![0, o, p] ![a, b, c] inb).emb (ix3 z i k) = ix3 z' i' k' := by
  funext x
  apply Fin.ext
  match x with
  | ⟨0, _⟩ => show 0 + 1 * z.val = z'.val; omega
  | ⟨1, _⟩ => show o + 1 * i.val = i'.val; omega
  | ⟨2, _⟩ => show p + 1 * k.val = k'.val; omega

theorem holds_part {x : Vec Ideal S1x512x256 .bf16} {f : Fin 4 → Fin 512 → Fin 64 → ℝ}
    (h : ∀ a m c, x (ix3 0 m (lane a c)) = ((f a m c : ℝ) : EReal)) (b : Fin 4) {o : ℕ} (ho : o = b.val * 128)
    (inb : ∀ x, (![0, o, 0] : Fin 3 → ℕ) x + S1x128x256.size x ≤ S1x512x256.size x) :
    Holds (View.ld x (Rect.unit (s := S1x512x256) ![0, o, 0] S1x128x256.size inb)) f b := fun a i c => by
  refine Eq.trans ?_ (h a (srow b i) c)
  exact congrArg x (emb_unit3 inb 0 i (lane a c) 0 (srow b i) (lane a c) rfl (by subst ho; rfl) (Nat.zero_add _).symm)

theorem holds_whole {x : Vec Ideal S1x128x256 .bf16} {f : Fin 4 → Fin 512 → Fin 64 → ℝ} {b : Fin 4} (h : Holds x f b) : Holds (View.ld x r0_2) f b :=
  fun a i c => (congrArg x (emb_unit3 inb_S1x128x256_S1x128x256_0_0_0 0 i (lane a c) 0 i (lane a c) rfl (Nat.zero_add _).symm (Nat.zero_add _).symm)).trans
    (h a i c)

theorem ld_col {R : ℕ} {x : Vec Ideal ⟨3, ![1, R, 256]⟩ .f32} {o p : ℕ} (i' : Fin R) (l : Fin 256)
    (inb : ∀ x, (![0, o, p] : Fin 3 → ℕ) x + S1x128x1.size x ≤ (⟨3, ![1, R, 256]⟩ : Shape).size x) (i : Fin 128) (hi : i'.val = o + i.val)
    (hl : l.val = p) : View.ld x (Rect.unit (s := ⟨3, ![1, R, 256]⟩) ![0, o, p] S1x128x1.size inb) (ix3 0 i 0) = x (ix3 0 i' l) :=
  congrArg x (emb_unit3 inb 0 i 0 0 i' l rfl hi (by rw [hl]; rfl))

/-- Both numbers of a row, in the lanes of its head. -/
def Two (x : Vec Ideal S1x512x256 .f32) (Y S : Fin 4 → Fin 512 → ℝ) : Prop :=
  ∀ a m (c : Fin 64), x (ix3 0 m (lane a c)) = if c.val < 32 then ((Y a m : ℝ) : EReal) else ((S a m : ℝ) : EReal)

/-- Both numbers of the rows of a block. -/
def TwoOf (x : Vec Ideal S1x128x256 .f32) (Y S : Fin 4 → Fin 512 → ℝ) (b : Fin 4) : Prop :=
  ∀ a i (c : Fin 64), x (ix3 0 i (lane a c)) = if c.val < 32 then ((part Y b a i : ℝ) : EReal) else ((part S b a i : ℝ) : EReal)

section Columns

variable {Y S : Fin 4 → Fin 512 → ℝ} (b : Fin 4) {o : ℕ} (ho : o = b.val * 128)

include ho

theorem logs_part {x : Vec Ideal S1x512x256 .f32} (h : Two x Y S)
    (i0 : ∀ x, (![0, o, 0] : Fin 3 → ℕ) x + S1x128x1.size x ≤ S1x512x256.size x) (i1 : ∀ x, (![0, o, 64] : Fin 3 → ℕ) x + S1x128x1.size x ≤ S1x512x256.size x)
    (i2 : ∀ x, (![0, o, 128] : Fin 3 → ℕ) x + S1x128x1.size x ≤ S1x512x256.size x) (i3 : ∀ x, (![0, o, 192] : Fin 3 → ℕ) x + S1x128x1.size x ≤ S1x512x256.size x) :
    Column ![View.ld x (Rect.unit (s := S1x512x256) ![0, o, 0] S1x128x1.size i0), View.ld x (Rect.unit (s := S1x512x256) ![0, o, 64] S1x128x1.size i1),
      View.ld x (Rect.unit (s := S1x512x256) ![0, o, 128] S1x128x1.size i2), View.ld x (Rect.unit (s := S1x512x256) ![0, o, 192] S1x128x1.size i3)] Y b :=
  fun a i => match a with
    | 0 => (ld_col (srow b i) (lane 0 0) i0 i (by subst ho; rfl) rfl).trans (h 0 (srow b i) 0)
    | 1 => (ld_col (srow b i) (lane 1 0) i1 i (by subst ho; rfl) rfl).trans (h 1 (srow b i) 0)
    | 2 => (ld_col (srow b i) (lane 2 0) i2 i (by subst ho; rfl) rfl).trans (h 2 (srow b i) 0)
    | 3 => (ld_col (srow b i) (lane 3 0) i3 i (by subst ho; rfl) rfl).trans (h 3 (srow b i) 0)

theorem sums_part {x : Vec Ideal S1x512x256 .f32} (h : Two x Y S)
    (i0 : ∀ x, (![0, o, 32] : Fin 3 → ℕ) x + S1x128x1.size x ≤ S1x512x256.size x) (i1 : ∀ x, (![0, o, 96] : Fin 3 → ℕ) x + S1x128x1.size x ≤ S1x512x256.size x)
    (i2 : ∀ x, (![0, o, 160] : Fin 3 → ℕ) x + S1x128x1.size x ≤ S1x512x256.size x) (i3 : ∀ x, (![0, o, 224] : Fin 3 → ℕ) x + S1x128x1.size x ≤ S1x512x256.size x) :
    Column ![View.ld x (Rect.unit (s := S1x512x256) ![0, o, 32] S1x128x1.size i0), View.ld x (Rect.unit (s := S1x512x256) ![0, o, 96] S1x128x1.size i1),
      View.ld x (Rect.unit (s := S1x512x256) ![0, o, 160] S1x128x1.size i2), View.ld x (Rect.unit (s := S1x512x256) ![0, o, 224] S1x128x1.size i3)] S b :=
  fun a i => match a with
    | 0 => (ld_col (srow b i) (lane 0 32) i0 i (by subst ho; rfl) rfl).trans (h 0 (srow b i) 32)
    | 1 => (ld_col (srow b i) (lane 1 32) i1 i (by subst ho; rfl) rfl).trans (h 1 (srow b i) 32)
    | 2 => (ld_col (srow b i) (lane 2 32) i2 i (by subst ho; rfl) rfl).trans (h 2 (srow b i) 32)
    | 3 => (ld_col (srow b i) (lane 3 32) i3 i (by subst ho; rfl) rfl).trans (h 3 (srow b i) 32)

end Columns

section Columns'

variable {Y S : Fin 4 → Fin 512 → ℝ} {b : Fin 4} {x : Vec Ideal S1x128x256 .f32} (h : TwoOf x Y S b)

include h

theorem logs_whole : Column ![View.ld x r0_37, View.ld x r0_38, View.ld x r0_39, View.ld x r0_40] Y b :=
  fun a i => match a with
    | 0 => (ld_col i (lane 0 0) _ i (Nat.zero_add _).symm rfl).trans (h 0 i 0)
    | 1 => (ld_col i (lane 1 0) _ i (Nat.zero_add _).symm rfl).trans (h 1 i 0)
    | 2 => (ld_col i (lane 2 0) _ i (Nat.zero_add _).symm rfl).trans (h 2 i 0)
    | 3 => (ld_col i (lane 3 0) _ i (Nat.zero_add _).symm rfl).trans (h 3 i 0)

theorem sums_whole : Column ![View.ld x r0_41, View.ld x r0_42, View.ld x r0_43, View.ld x r0_44] S b :=
  fun a i => match a with
    | 0 => (ld_col i (lane 0 32) _ i (Nat.zero_add _).symm rfl).trans (h 0 i 32)
    | 1 => (ld_col i (lane 1 32) _ i (Nat.zero_add _).symm rfl).trans (h 1 i 32)
    | 2 => (ld_col i (lane 2 32) _ i (Nat.zero_add _).symm rfl).trans (h 2 i 32)
    | 3 => (ld_col i (lane 3 32) _ i (Nat.zero_add _).symm rfl).trans (h 3 i 32)

end Columns'

/-- A stored block that is, element by element, a part of an array. -/
theorem piece3 {G : Fin 4 → Fin 512 → Fin 64 → ℝ} (b : Fin 4) {o : ℕ} (ho : o = b.val * 128)
    {inb : ∀ x, (![0, o, 0] : Fin 3 → ℕ) x + S1x128x256.size x ≤ S1x512x256.size x} {v : Vec Ideal S1x128x256 .bf16}
    (h : ∀ i a c, v (ix3 0 i (lane a c)) = ((G a (srow b i) c : ℝ) : EReal)) (x : S1x128x256.Idx) :
    v x = (fun y : S1x512x256.Idx => ((G (hd (y 2)) (y 1) (lo (y 2)) : ℝ) : EReal))
      ((Rect.unit (s := S1x512x256) ![0, o, 0] S1x128x256.size inb).emb x) := by
  have hx : x = (ix3 (0 : Fin 1) (x 1 : Fin 128) (x 2 : Fin 256) : S1x128x256.Idx) := by
    funext a
    match a with
    | ⟨0, _⟩ => exact Subsingleton.elim (α := Fin 1) _ _
    | ⟨1, _⟩ => rfl
    | ⟨2, _⟩ => rfl
  have he := (congrArg (Rect.unit (s := S1x512x256) ![0, o, 0] S1x128x256.size inb).emb hx).trans
    (emb_unit3 inb 0 (x 1 : Fin 128) (x 2 : Fin 256) 0 (srow b (x 1)) (x 2) rfl (by subst ho; rfl) (Nat.zero_add _).symm)
  have hl : (ix3 (0 : Fin 1) (x 1 : Fin 128) (x 2 : Fin 256) : S1x128x256.Idx) = ix3 0 (x 1 : Fin 128) (lane (hd (x 2)) (lo (x 2))) :=
    congrArg (fun l : Fin 256 => (ix3 (0 : Fin 1) (x 1 : Fin 128) l : S1x128x256.Idx)) (lane_split (x 2)).symm
  have hv : v x = ((G (hd (x 2)) (srow b (x 1)) (lo (x 2)) : ℝ) : EReal) := (congrArg v (hx.trans hl)).trans (h (x 1) (hd (x 2)) (lo (x 2)))
  exact hv.trans (congrArg (fun y : S1x512x256.Idx => ((G (hd (y 2)) (y 1) (lo (y 2)) : ℝ) : EReal)) he).symm

/-! ## One point -/

section Point

variable {x0 x3 x5 x6 : Vec Ideal S1x512x256 .bf16} {x1 x2 x4 x7 : Vec Ideal S1x128x256 .bf16} {x8 : Vec Ideal S1x512x256 .f32}
  {x9 : Vec Ideal S1x128x256 .f32} {q k v d : Fin 4 → Fin 512 → Fin 64 → ℝ} {Y S : Fin 4 → Fin 512 → ℝ} (i : grid0.Coords)
  (h0 : ∀ a m c, x0 (ix3 0 m (lane a c)) = ((q a m c : ℝ) : EReal)) (h1 : Holds x1 q 3) (h2 : Holds x2 k 0)
  (h3 : ∀ a m c, x3 (ix3 0 m (lane a c)) = ((k a m c : ℝ) : EReal)) (h4 : Holds x4 v 0)
  (h5 : ∀ a m c, x5 (ix3 0 m (lane a c)) = ((v a m c : ℝ) : EReal))
  (h6 : ∀ a m c, x6 (ix3 0 m (lane a c)) = ((d a m c : ℝ) : EReal)) (h7 : Holds x7 d 3) (h8 : Two x8 Y S) (h9 : TwoOf x9 Y S 3)

theorem coord_zero (i : grid0.Coords) : BitVec.ofNat 32 (i 1).val = BitVec.ofNat 32 0 :=
  congrArg (BitVec.ofNat 32) (congrArg Fin.val (Subsingleton.elim (α := Fin 1) (i 1) 0))

include h0 h1 h2 h3 h4 h5 h6 h7 h8 h9

theorem point10 (y : S1x512x256.Idx) : out0_10 i x0 x1 x2 x3 x4 x5 x6 x7 x8 x9 y
    = ((∑ n, gr q k v d Y S (hd (y 2)) (y 1) n * k (hd (y 2)) n (lo (y 2)) : ℝ) : EReal) := by
  rw [out10_eq]
  let G : Fin 4 → Fin 512 → Fin 64 → ℝ := fun a m c => ∑ n, gr q k v d Y S a m n * k a n c
  refine View.canon_append_of_piecesOf (Val := Elt Ideal) (e := .bf16) (fun y : S1x512x256.Idx => ((G (hd (y 2)) (y 1) (lo (y 2)) : ℝ) : EReal))
    [] [_, _, _, _] ⟨?_, ?_, ?_, ?_, trivial⟩ y ?_
  · exact piece3 (G := G) (o := 384) (inb := inb_S1x512x256_S1x128x256_0_384_0) 3 rfl (dq_next (b := 2) rfl (holds_part (o := 384) h0 3 rfl _) (holds_part (o := 384) h6 3 rfl _) (holds_part (o := 256) h3 2 rfl _) (holds_part (o := 384) h3 3 rfl _)
      (holds_part (o := 256) h5 2 rfl _) (holds_part (o := 384) h5 3 rfl _) (logs_part (o := 384) 3 rfl h8 _ _ _ _) (sums_part (o := 384) 3 rfl h8 _ _ _ _))
  · exact piece3 (G := G) (o := 256) (inb := inb_S1x512x256_S1x128x256_0_256_0) 2 rfl (dq_next (b := 1) rfl (holds_part (o := 256) h0 2 rfl _) (holds_part (o := 256) h6 2 rfl _) (holds_part (o := 128) h3 1 rfl _) (holds_part (o := 256) h3 2 rfl _)
      (holds_part (o := 128) h5 1 rfl _) (holds_part (o := 256) h5 2 rfl _) (logs_part (o := 256) 2 rfl h8 _ _ _ _) (sums_part (o := 256) 2 rfl h8 _ _ _ _))
  · exact piece3 (G := G) (o := 128) (inb := inb_S1x512x256_S1x128x256_0_128_0) 1 rfl (dq_next (b := 0) rfl (holds_part (o := 128) h0 1 rfl _) (holds_part (o := 128) h6 1 rfl _) (holds_part (o := 0) h3 0 rfl _) (holds_part (o := 128) h3 1 rfl _)
      (holds_part (o := 0) h5 0 rfl _) (holds_part (o := 128) h5 1 rfl _) (logs_part (o := 128) 1 rfl h8 _ _ _ _) (sums_part (o := 128) 1 rfl h8 _ _ _ _))
  · exact piece3 (G := G) (o := 0) (inb := inb_S1x512x256_S1x128x256_0_0_0) 0 rfl (dq_first (b' := 0) (fun a j u => by rw [coord_zero]; exact first_off _ _) rfl (holds_part (o := 0) h0 0 rfl _)
      (holds_part (o := 0) h6 0 rfl _) (holds_whole h2) (holds_part (o := 0) h3 0 rfl _) (holds_whole h4) (holds_part (o := 0) h5 0 rfl _) (logs_part (o := 0) 0 rfl h8 _ _ _ _)
      (sums_part (o := 0) 0 rfl h8 _ _ _ _))
  · exact View.cover_of_tiledL (s := S1x512x256) _ S1x128x256.size (by sl_kernel_rfl) y

theorem point11 (y : S1x512x256.Idx) : out0_11 i x0 x1 x2 x3 x4 x5 x6 x7 x8 x9 y
    = ((∑ m, gr q k v d Y S (hd (y 2)) m (y 1) * q (hd (y 2)) m (lo (y 2)) : ℝ) : EReal) := by
  rw [out11_eq]
  let G : Fin 4 → Fin 512 → Fin 64 → ℝ := fun a n c => ∑ m, gr q k v d Y S a m n * q a m c
  refine View.canon_append_of_piecesOf (Val := Elt Ideal) (e := .bf16) (fun y : S1x512x256.Idx => ((G (hd (y 2)) (y 1) (lo (y 2)) : ℝ) : EReal))
    [] [_, _, _, _] ⟨?_, ?_, ?_, ?_, trivial⟩ y ?_
  · exact piece3 (G := G) (o := 384) (inb := inb_S1x512x256_S1x128x256_0_384_0) 3 rfl (dk_last (b' := 3) (fun a j u => by rw [coord_zero]; exact last_off _ _) rfl (holds_part (o := 384) h0 3 rfl _) (holds_whole h1)
      (holds_part (o := 384) h6 3 rfl _) (holds_whole h7) (holds_part (o := 384) h3 3 rfl _) (holds_part (o := 384) h5 3 rfl _) (logs_part (o := 384) 3 rfl h8 _ _ _ _)
      (sums_part (o := 384) 3 rfl h8 _ _ _ _) (logs_whole h9) (sums_whole h9))
  · exact piece3 (G := G) (o := 256) (inb := inb_S1x512x256_S1x128x256_0_256_0) 2 rfl (dk_next (b' := 3) rfl (holds_part (o := 256) h0 2 rfl _) (holds_part (o := 384) h0 3 rfl _) (holds_part (o := 256) h6 2 rfl _) (holds_part (o := 384) h6 3 rfl _)
      (holds_part (o := 256) h3 2 rfl _) (holds_part (o := 256) h5 2 rfl _) (logs_part (o := 256) 2 rfl h8 _ _ _ _) (sums_part (o := 256) 2 rfl h8 _ _ _ _) (logs_part (o := 384) 3 rfl h8 _ _ _ _)
      (sums_part (o := 384) 3 rfl h8 _ _ _ _))
  · exact piece3 (G := G) (o := 128) (inb := inb_S1x512x256_S1x128x256_0_128_0) 1 rfl (dk_next (b' := 2) rfl (holds_part (o := 128) h0 1 rfl _) (holds_part (o := 256) h0 2 rfl _) (holds_part (o := 128) h6 1 rfl _) (holds_part (o := 256) h6 2 rfl _)
      (holds_part (o := 128) h3 1 rfl _) (holds_part (o := 128) h5 1 rfl _) (logs_part (o := 128) 1 rfl h8 _ _ _ _) (sums_part (o := 128) 1 rfl h8 _ _ _ _) (logs_part (o := 256) 2 rfl h8 _ _ _ _)
      (sums_part (o := 256) 2 rfl h8 _ _ _ _))
  · exact piece3 (G := G) (o := 0) (inb := inb_S1x512x256_S1x128x256_0_0_0) 0 rfl (dk_next (b' := 1) rfl (holds_part (o := 0) h0 0 rfl _) (holds_part (o := 128) h0 1 rfl _) (holds_part (o := 0) h6 0 rfl _) (holds_part (o := 128) h6 1 rfl _)
      (holds_part (o := 0) h3 0 rfl _) (holds_part (o := 0) h5 0 rfl _) (logs_part (o := 0) 0 rfl h8 _ _ _ _) (sums_part (o := 0) 0 rfl h8 _ _ _ _) (logs_part (o := 128) 1 rfl h8 _ _ _ _)
      (sums_part (o := 128) 1 rfl h8 _ _ _ _))
  · exact View.cover_of_tiledL (s := S1x512x256) _ S1x128x256.size (by sl_kernel_rfl) y

theorem point12 (y : S1x512x256.Idx) : out0_12 i x0 x1 x2 x3 x4 x5 x6 x7 x8 x9 y
    = ((∑ m, wr q k Y (hd (y 2)) m (y 1) * d (hd (y 2)) m (lo (y 2)) : ℝ) : EReal) := by
  rw [out12_eq]
  let G : Fin 4 → Fin 512 → Fin 64 → ℝ := fun a n c => ∑ m, wr q k Y a m n * d a m c
  refine View.canon_append_of_piecesOf (Val := Elt Ideal) (e := .bf16) (fun y : S1x512x256.Idx => ((G (hd (y 2)) (y 1) (lo (y 2)) : ℝ) : EReal))
    [] [_, _, _, _] ⟨?_, ?_, ?_, ?_, trivial⟩ y ?_
  · exact piece3 (G := G) (o := 384) (inb := inb_S1x512x256_S1x128x256_0_384_0) 3 rfl (dv_last (b' := 3) (fun a j u => by rw [coord_zero]; exact last_off _ _) rfl (holds_part (o := 384) h0 3 rfl _) (holds_whole h1)
      (holds_part (o := 384) h6 3 rfl _) (holds_whole h7) (holds_part (o := 384) h3 3 rfl _) (logs_part (o := 384) 3 rfl h8 _ _ _ _) (logs_whole h9))
  · exact piece3 (G := G) (o := 256) (inb := inb_S1x512x256_S1x128x256_0_256_0) 2 rfl (dv_next (b' := 3) rfl (holds_part (o := 256) h0 2 rfl _) (holds_part (o := 384) h0 3 rfl _) (holds_part (o := 256) h6 2 rfl _) (holds_part (o := 384) h6 3 rfl _)
      (holds_part (o := 256) h3 2 rfl _) (logs_part (o := 256) 2 rfl h8 _ _ _ _) (logs_part (o := 384) 3 rfl h8 _ _ _ _))
  · exact piece3 (G := G) (o := 128) (inb := inb_S1x512x256_S1x128x256_0_128_0) 1 rfl (dv_next (b' := 2) rfl (holds_part (o := 128) h0 1 rfl _) (holds_part (o := 256) h0 2 rfl _) (holds_part (o := 128) h6 1 rfl _) (holds_part (o := 256) h6 2 rfl _)
      (holds_part (o := 128) h3 1 rfl _) (logs_part (o := 128) 1 rfl h8 _ _ _ _) (logs_part (o := 256) 2 rfl h8 _ _ _ _))
  · exact piece3 (G := G) (o := 0) (inb := inb_S1x512x256_S1x128x256_0_0_0) 0 rfl (dv_next (b' := 1) rfl (holds_part (o := 0) h0 0 rfl _) (holds_part (o := 128) h0 1 rfl _) (holds_part (o := 0) h6 0 rfl _) (holds_part (o := 128) h6 1 rfl _)
      (holds_part (o := 0) h3 0 rfl _) (logs_part (o := 0) 0 rfl h8 _ _ _ _) (logs_part (o := 128) 1 rfl h8 _ _ _ _))
  · exact View.cover_of_tiledL (s := S1x512x256) _ S1x128x256.size (by sl_kernel_rfl) y

end Point

/-! ## The result arrays -/

/-- The class a point of the grid works on. -/
def rc (t : Fin cfg0.N) : Fin 16 := ⟨t.val, by have := t.isLt; have h : cfg0.N = 16 := by decide
                                               omega⟩

theorem idx0 : ∀ t : Fin cfg0.N, win0_0.index t = ![t.val, 0, 0] := (by decide +kernel : ∀ t : Fin grid0.N, _)
theorem idx1 : ∀ t : Fin cfg0.N, win0_1.index t = ![t.val, 3, 0] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![t.val, 0, 0] := (by decide +kernel : ∀ t : Fin grid0.N, _)
theorem idx4 : ∀ t : Fin cfg0.N, win0_4.index t = ![t.val, 0, 0] := (by decide +kernel : ∀ t : Fin grid0.N, _)
theorem idx5 : ∀ t : Fin cfg0.N, win0_5.index t = ![t.val, 0, 0] := (by decide +kernel : ∀ t : Fin grid0.N, _)
theorem idx6 : ∀ t : Fin cfg0.N, win0_6.index t = ![t.val, 0, 0] := (by decide +kernel : ∀ t : Fin grid0.N, _)
theorem idx7 : ∀ t : Fin cfg0.N, win0_7.index t = ![t.val, 3, 0] := (by decide +kernel : ∀ t : Fin grid0.N, _)
theorem idx8 : ∀ t : Fin cfg0.N, win0_8.index t = ![t.val, 0, 0] := (by decide +kernel : ∀ t : Fin grid0.N, _)
theorem idx9 : ∀ t : Fin cfg0.N, win0_9.index t = ![t.val, 3, 0] := (by decide +kernel : ∀ t : Fin grid0.N, _)
theorem idx10 : ∀ t : Fin cfg0.N, win0_10.index t = ![t.val, 0, 0] := (by decide +kernel : ∀ t : Fin grid0.N, _)
theorem idx11 : ∀ t : Fin cfg0.N, win0_11.index t = ![t.val, 0, 0] := (by decide +kernel : ∀ t : Fin grid0.N, _)
theorem idx12 : ∀ t : Fin cfg0.N, win0_12.index t = ![t.val, 0, 0] := (by decide +kernel : ∀ t : Fin grid0.N, _)

section Blocks

variable (A : Vec Ideal S16x512x256 .bf16) (B : Vec Ideal S16x512x256 .f32) (t : Fin cfg0.N) (j : Fin 512) (i : Fin 128) (l : Fin 256)

theorem read0 : (((cfg0.win 0).blk t).view.read (Elt Ideal) A : Vec Ideal S1x512x256 .bf16) (ix3 0 j l) = A (ix3 (rc t) j l) := by
  blk_ext! [idx0, rc]
theorem read1 : (((cfg0.win 1).blk t).view.read (Elt Ideal) A : Vec Ideal S1x128x256 .bf16) (ix3 0 i l) = A (ix3 (rc t) (srow 3 i) l) := by
  blk_ext! [idx1, rc, srow]
theorem read2 : (((cfg0.win 2).blk t).view.read (Elt Ideal) A : Vec Ideal S1x128x256 .bf16) (ix3 0 i l) = A (ix3 (rc t) (srow 0 i) l) := by
  blk_ext! [idx2, rc, srow]
theorem read3 : (((cfg0.win 3).blk t).view.read (Elt Ideal) A : Vec Ideal S1x512x256 .bf16) (ix3 0 j l) = A (ix3 (rc t) j l) := by
  blk_ext! [idx3, rc]
theorem read4 : (((cfg0.win 4).blk t).view.read (Elt Ideal) A : Vec Ideal S1x128x256 .bf16) (ix3 0 i l) = A (ix3 (rc t) (srow 0 i) l) := by
  blk_ext! [idx4, rc, srow]
theorem read5 : (((cfg0.win 5).blk t).view.read (Elt Ideal) A : Vec Ideal S1x512x256 .bf16) (ix3 0 j l) = A (ix3 (rc t) j l) := by
  blk_ext! [idx5, rc]
theorem read6 : (((cfg0.win 6).blk t).view.read (Elt Ideal) A : Vec Ideal S1x512x256 .bf16) (ix3 0 j l) = A (ix3 (rc t) j l) := by
  blk_ext! [idx6, rc]
theorem read7 : (((cfg0.win 7).blk t).view.read (Elt Ideal) A : Vec Ideal S1x128x256 .bf16) (ix3 0 i l) = A (ix3 (rc t) (srow 3 i) l) := by
  blk_ext! [idx7, rc, srow]
theorem read8 : (((cfg0.win 8).blk t).view.read (Elt Ideal) B : Vec Ideal S1x512x256 .f32) (ix3 0 j l) = B (ix3 (rc t) j l) := by
  blk_ext! [idx8, rc]
theorem read9 : (((cfg0.win 9).blk t).view.read (Elt Ideal) B : Vec Ideal S1x128x256 .f32) (ix3 0 i l) = B (ix3 (rc t) (srow 3 i) l) := by
  blk_ext! [idx9, rc, srow]

end Blocks

section Arrays

variable {m : (ℓ : Loc nD τ sig) → Buf (Elt Ideal) ℓ} {c : Dev nD} {Q K V' : Fin 3 → Fin 4 → Fin 8192 → Fin 64 → ℝ} {D : Fin 4 → Fin 8192 → Fin 64 → ℝ}
  (H : Args (m ((c.tc : Thread nD τ).loc main_arg0)) (m ((c.tc : Thread nD τ).loc main_arg1)) Q K V' D) (t : Fin cfg0.N)

include H

theorem blk0 (a : Fin 4) (j : Fin 512) (e : Fin 64) : (iblk m c 0 t : Vec Ideal S1x512x256 .bf16) (ix3 0 j (lane a e)) = ((cls Q (rc t) a j e : ℝ) : EReal) :=
  (read0 _ t j (lane a e)).trans (queries_at H (rc t) j a e)
theorem blk1 : Holds (iblk m c 1 t : Vec Ideal S1x128x256 .bf16) (cls Q (rc t)) 3 :=
  fun a i e => (read1 _ t i (lane a e)).trans (queries_at H (rc t) (srow 3 i) a e)
theorem blk2 : Holds (iblk m c 2 t : Vec Ideal S1x128x256 .bf16) (cls K (rc t)) 0 :=
  fun a i e => (read2 _ t i (lane a e)).trans (keys_at H (rc t) (srow 0 i) a e)
theorem blk3 (a : Fin 4) (j : Fin 512) (e : Fin 64) : (iblk m c 3 t : Vec Ideal S1x512x256 .bf16) (ix3 0 j (lane a e)) = ((cls K (rc t) a j e : ℝ) : EReal) :=
  (read3 _ t j (lane a e)).trans (keys_at H (rc t) j a e)
theorem blk4 : Holds (iblk m c 4 t : Vec Ideal S1x128x256 .bf16) (cls V' (rc t)) 0 :=
  fun a i e => (read4 _ t i (lane a e)).trans (values_at H (rc t) (srow 0 i) a e)
theorem blk5 (a : Fin 4) (j : Fin 512) (e : Fin 64) : (iblk m c 5 t : Vec Ideal S1x512x256 .bf16) (ix3 0 j (lane a e)) = ((cls V' (rc t) a j e : ℝ) : EReal) :=
  (read5 _ t j (lane a e)).trans (values_at H (rc t) j a e)
theorem blk6 (a : Fin 4) (j : Fin 512) (e : Fin 64) : (iblk m c 6 t : Vec Ideal S1x512x256 .bf16) (ix3 0 j (lane a e)) = ((dcls D (rc t) a j e : ℝ) : EReal) :=
  (read6 _ t j (lane a e)).trans (cots_at H (rc t) j a e)
theorem blk7 : Holds (iblk m c 7 t : Vec Ideal S1x128x256 .bf16) (dcls D (rc t)) 3 :=
  fun a i e => (read7 _ t i (lane a e)).trans (cots_at H (rc t) (srow 3 i) a e)
theorem blk8 : Two (iblk m c 8 t : Vec Ideal S1x512x256 .f32) (lcls Q K (rc t)) (scls Q K V' D (rc t)) :=
  fun a j e => (read8 _ t j (lane a e)).trans (stats_at H (rc t) j a e)
theorem blk9 : TwoOf (iblk m c 9 t : Vec Ideal S1x128x256 .f32) (lcls Q K (rc t)) (scls Q K V' D (rc t)) 3 :=
  fun a i e => (read9 _ t i (lane a e)).trans (stats_at H (rc t) (srow 3 i) a e)

omit t

theorem array10 : (dats m 0 c).arrAt 10 cfg0.N
    = fun i : S16x512x256.Idx => ((dQ Q K V' D 2 (hd (i 2)) (pos (i 0) (i 1)) (lo (i 2)) : ℝ) : EReal) := by
  refine (dats m 0 c).arrAt_eq_of_covers 10 _ (by decide +kernel) fun t hf y => ?_
  blk_simp
  have e0 : (((View.whole main_v122_0).slice (win0_10.rect t)).emb y 0 : Fin 16) = rc t := by
    apply Fin.ext; blk_simp [idx10, rc]
  have e1 : (((View.whole main_v122_0).slice (win0_10.rect t)).emb y 1 : Fin 512) = y 1 := by
    apply Fin.ext; blk_simp [idx10]
  have e2 : (((View.whole main_v122_0).slice (win0_10.rect t)).emb y 2 : Fin 256) = y 2 := by
    apply Fin.ext; blk_simp [idx10]
  rw [after0_10, e0, e1, e2]
  exact (point10 _ (blk0 H t) (blk1 H t) (blk2 H t) (blk3 H t) (blk4 H t) (blk5 H t) (blk6 H t) (blk7 H t) (blk8 H t) (blk9 H t) y).trans
    (congrArg Real.toEReal (dQ_class ..).symm)

theorem array11 : (dats m 0 c).arrAt 11 cfg0.N
    = fun i : S16x512x256.Idx => ((dK Q K V' D 2 (hd (i 2)) (pos (i 0) (i 1)) (lo (i 2)) : ℝ) : EReal) := by
  refine (dats m 0 c).arrAt_eq_of_covers 11 _ (by decide +kernel) fun t hf y => ?_
  blk_simp
  have e0 : (((View.whole main_v122_1).slice (win0_11.rect t)).emb y 0 : Fin 16) = rc t := by
    apply Fin.ext; blk_simp [idx11, rc]
  have e1 : (((View.whole main_v122_1).slice (win0_11.rect t)).emb y 1 : Fin 512) = y 1 := by
    apply Fin.ext; blk_simp [idx11]
  have e2 : (((View.whole main_v122_1).slice (win0_11.rect t)).emb y 2 : Fin 256) = y 2 := by
    apply Fin.ext; blk_simp [idx11]
  rw [after0_11, e0, e1, e2]
  exact (point11 _ (blk0 H t) (blk1 H t) (blk2 H t) (blk3 H t) (blk4 H t) (blk5 H t) (blk6 H t) (blk7 H t) (blk8 H t) (blk9 H t) y).trans
    (congrArg Real.toEReal (dK_class ..).symm)

theorem array12 : (dats m 0 c).arrAt 12 cfg0.N
    = fun i : S16x512x256.Idx => ((dV Q K D 2 (hd (i 2)) (pos (i 0) (i 1)) (lo (i 2)) : ℝ) : EReal) := by
  refine (dats m 0 c).arrAt_eq_of_covers 12 _ (by decide +kernel) fun t hf y => ?_
  blk_simp
  have e0 : (((View.whole main_v122_2).slice (win0_12.rect t)).emb y 0 : Fin 16) = rc t := by
    apply Fin.ext; blk_simp [idx12, rc]
  have e1 : (((View.whole main_v122_2).slice (win0_12.rect t)).emb y 1 : Fin 512) = y 1 := by
    apply Fin.ext; blk_simp [idx12]
  have e2 : (((View.whole main_v122_2).slice (win0_12.rect t)).emb y 2 : Fin 256) = y 2 := by
    apply Fin.ext; blk_simp [idx12]
  rw [after0_12, e0, e1, e2]
  exact (point12 _ (blk0 H t) (blk1 H t) (blk2 H t) (blk3 H t) (blk4 H t) (blk5 H t) (blk6 H t) (blk7 H t) (blk8 H t) (blk9 H t) y).trans
    (congrArg Real.toEReal (dV_class ..).symm)

end Arrays

end Cert.AttnKernel

end
-- ==== Proof.Attn.lean ====
/-
  The derivative of the window attention in the queries, keys and values of the third group: the kernel's run and
  the reference's run end with the same arrays.
-/
module

public import proofs.«01_k».proof.Defs
public import proofs.«01_k».proof.Proof.AttnKernel
public import proofs.«01_k».proof.Proof.Gen.Kernel7Ideal.Value
public import proofs.«01_k».proof.Proof.Gen.Reference7Ideal.Run
public import proofs.«01_k».proof.Proof.Gen.Pre_finite7
public import Idealize.ShloMosaic.Lib.Claim

@[expose] public section

noncomputable section

namespace Cert.AttnProof

open Idealize.ShloMosaic Idealize.SL.Sem Cert.RealOps Cert.AttnKernel
open Cert.Attn (lane pos)

/-- The reference runs and ends quiescent, its arguments unchanged. -/
theorem reference_frame : Cert.quiescent_Reference7Ideal := fun m ρ _ =>
  θ_run_mono (Cert.Reference7Ideal.Value.run m ρ) fun r h =>
    ⟨fun c => (h c).2.2.2, sem_eq_zero_of_no_sems (by decide) _⟩

/-- The constant the kernel's mask names is −∞. -/
theorem preserves : Cert.preserves_Kernel7_Kernel7Ideal := IdealRules.named_const.statement _ _ _ _ _ rfl

variable {m : (ℓ : Loc Cert.Kernel7Ideal.nD Cert.Kernel7Ideal.τ Cert.Kernel7Ideal.sig) → Buf (Elt Ideal) ℓ}

/-- The arrays of real numbers that finite arguments are. -/
theorem reals (hpre : Cert.Pre_Kernel7Ideal_finite7 m) (c : Dev Cert.Kernel7Ideal.nD) :
    ∃ Q K V D, AttnReference.Args (m (c.tc.loc Cert.Kernel7Ideal.main_arg0)) (m (c.tc.loc Cert.Kernel7Ideal.main_arg1)) Q K V D := by
  obtain ⟨h0, h1⟩ := hpre c
  exact ⟨_, _, _, _, ⟨fun g h t e => real_of_lt_top (bits_top16 ▸ congrFun h0 (ix2 _ _)), fun g h t e => real_of_lt_top (bits_top16 ▸ congrFun h0 (ix2 _ _)),
    fun g h t e => real_of_lt_top (bits_top16 ▸ congrFun h0 (ix2 _ _)), fun h t e => real_of_lt_top (bits_top16 ▸ congrFun h1 (ix2 _ _))⟩⟩

/-- An array known at every head's place is known at every lane. -/
theorem by_lanes {X : Vec Ideal Cert.Kernel7Ideal.S16x512x256 .bf16} {G : Fin 4 → Fin 8192 → Fin 64 → ℝ}
    (h : ∀ a e r n, X (ix3 r n (lane a e)) = ((G a (pos r n) e : ℝ) : EReal)) :
    X = fun i : Cert.Kernel7Ideal.S16x512x256.Idx => ((G (hd (i 2)) (pos (i 0) (i 1)) (lo (i 2)) : ℝ) : EReal) := by
  funext i
  have hl : i = (ix3 (i 0 : Fin 16) (i 1 : Fin 512) (lane (hd (i 2)) (lo (i 2))) : Cert.Kernel7Ideal.S16x512x256.Idx) := by
    rw [lane_split (i 2)]
    exact eq_ix3 (n0 := 16) (n1 := 512) (n2 := 256) i
  exact (congrArg X hl).trans (h (hd (i 2)) (lo (i 2)) (i 0) (i 1))

theorem algebraic : Cert.algebraic_Kernel7Ideal_Reference7Ideal_pre_finite7 := by
  intro m g m' g' hpre hagree
  refine ⟨fun c => (Cert.Kernel7Ideal.Gen.dats m 0 c).arrAt 10 Cert.Kernel7Ideal.cfg0.N,
    fun c => (Cert.Kernel7Ideal.Gen.dats m 0 c).arrAt 11 Cert.Kernel7Ideal.cfg0.N,
    fun c => (Cert.Kernel7Ideal.Gen.dats m 0 c).arrAt 12 Cert.Kernel7Ideal.cfg0.N, Cert.Kernel7Ideal.Value.run_blocks m g, ?_⟩
  refine θ_run_mono (Cert.Reference7Ideal.Value.run m' g') fun r h c => ?_
  obtain ⟨r0, r1, r2, k⟩ := h c
  obtain ⟨Q, K, V, D, H⟩ := reals hpre c
  obtain ⟨a0, a1⟩ := hagree c
  have H' : AttnReference.Args (m' (c.tc.loc Cert.Reference7Ideal.main_arg0)) (m' (c.tc.loc Cert.Reference7Ideal.main_arg1)) Q K V D := by
    rw [a0, a1]; exact H
  refine ⟨r0.trans ?_, r1.trans ?_, r2.trans ?_, k⟩
  · refine Eq.trans ?_ (array10 H).symm
    refine (Reference7Ideal.Read.val_main_v182_eq _).trans ?_
    exact by_lanes fun a e r n => AttnReference.dQ_result H' a e r n
  · refine Eq.trans ?_ (array11 H).symm
    refine (Reference7Ideal.Read.val_main_v189_eq _).trans ?_
    exact by_lanes fun a e r n => AttnReference.dK_result H' a e r n
  · refine Eq.trans ?_ (array12 H).symm
    refine (Reference7Ideal.Read.val_main_v196_eq _).trans ?_
    exact by_lanes fun a e r n => AttnReference.dV_result H' a e r n

end Cert.AttnProof

end
-- ==== Proof.ProjSpec.lean ====
/-
  The product of a normalised and scaled row with a matrix, over the extended reals.
-/
module

public import proofs.«01_k».proof.Proof.RealOps

@[expose] public section

noncomputable section

namespace Cert.Proj

open Idealize.ShloMosaic

/-- The row divided by the root of its mean square, with the small number added, and scaled. -/
def normed {S : ℕ} (x : Fin S → Fin 1024 → EReal) (g : Fin 1024 → EReal) (s : Fin S) (k : Fin 1024) : EReal :=
  x s k * Ideal.rsqrt (Ideal.div (∑ l, x s l * x s l) (Ideal.ofBits .f32 1149239296#32) + Ideal.ofBits .f32 897988541#32) * g k

/-- The product of the normalised row with a matrix. -/
def product {S N : ℕ} (x : Fin S → Fin 1024 → EReal) (g : Fin 1024 → EReal) (w : Fin 1024 → Fin N → EReal) (s : Fin S) (j : Fin N) : EReal :=
  ∑ k, normed x g s k * w k j

end Cert.Proj

end
-- ==== Proof.ProjKernel.lean ====
/-
  What the kernel of the product with a normalised row leaves in its two result arrays.
-/
module

public import proofs.«01_k».proof.Proof.ProjSpec
public import proofs.«01_k».proof.Proof.MergeBlock
public import proofs.«01_k».proof.Proof.Gen.Kernel8Ideal.Value
public import Idealize.ShloMosaic.Lib.Pipeline.ValueKit.Point
public import Idealize.ShloMosaic.Adequacy

@[expose] public section

noncomputable section

namespace Cert.ProjKernel

open Cert.Kernel8Ideal Cert.Kernel8Ideal.Gen Idealize.ShloMosaic Idealize.ShloMosaic.TcCoe Idealize.SL.Sem
open Idealize.ShloMosaic.Pipeline (Dat)
open Cert.RealOps Cert.Proj
open Cert.MergeBlock (ld_part block_piece)

section Block

variable {gv : Vec Ideal S1x1024 .f32} {x : Vec Ideal S256x1024 .f32} {w : Vec Ideal S1024x1024 .bf16}
variable {X : Fin 256 → Fin 1024 → EReal} {g : Fin 1024 → EReal} {W : Fin 1024 → Fin 1024 → EReal}

/-- The normalised and scaled rows of half a block. -/
theorem normed_block (hg : ∀ k, gv (ix2 0 k) = g k) (hx : ∀ s k, x (ix2 s k) = X s k) (s : Fin 256) (k : Fin 1024) :
    k0_pay5 (F := Ideal) gv x (ix2 s k) = normed X g s k := by
  unfold_payloads
  pointwise
  simp only [hg, hx]
  rfl

/-- Their product with 1024 columns of the matrix. -/
theorem product_block (hg : ∀ k, gv (ix2 0 k) = g k) (hx : ∀ s k, x (ix2 s k) = X s k) (hw : ∀ k j, w (ix2 k j) = W k j)
    (s : Fin 256) (j : Fin 1024) : k0_pay6 (F := Ideal) gv x w (ix2 s j) = product X g W s j := by
  unfold k0_pay6
  pointwise
  simp only [normed_block hg hx, hw]
  rfl

end Block

variable (m : (ℓ : Loc nD τ sig) → Buf (Elt Ideal) ℓ) (c : Dev nD)

/-- The arguments by their coordinates. -/
def X (s : Fin 8192) (k : Fin 1024) : EReal := m ((c.tc : Thread nD τ).loc main_arg0) (ix2 s k)
def G (k : Fin 1024) : EReal := m ((c.tc : Thread nD τ).loc main_arg1) (ix1 k)
def W (k : Fin 1024) (j : Fin 5120) : EReal := m ((c.tc : Thread nD τ).loc main_arg2) (ix2 k j)

/-- Row `s` of block `t` in the whole array. -/
def row (t : Fin cfg0.N) (s : Fin 512) : Fin 8192 :=
  ⟨t.val * 512 + s.val, by have := t.isLt; have h : cfg0.N = 16 := by decide
                           have := s.isLt; omega⟩

/-- Row `s` of half `p` of a block. -/
def half (p : Fin 2) (s : Fin 256) : Fin 512 := ⟨p.val * 256 + s.val, by omega⟩

/-- Column `j` of the `n`th 1024 columns. -/
def col (n : Fin 5) (j : Fin 1024) : Fin 5120 := ⟨n.val * 1024 + j.val, by omega⟩

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)

theorem blk0 (t : Fin cfg0.N) (s : Fin 512) (k : Fin 1024) :
    (iblk m c 0 t : Vec Ideal S512x1024 .f32) (ix2 s k) = X m c (row t s) k := by
  unfold X
  blk_ext! [iblk, V, idx0, row]

theorem blk1 (t : Fin cfg0.N) (k : Fin 1024) : (iblk m c 1 t : Vec Ideal S1x1024 .f32) (ix2 0 k) = G m c k := by
  unfold G
  blk_ext! [iblk, V, idx1]

theorem blk2 (t : Fin cfg0.N) (k : Fin 1024) (j : Fin 5120) :
    (iblk m c 2 t : Vec Ideal S1024x5120 .bf16) (ix2 k j) = W m c k j := by
  unfold W
  blk_ext! [iblk, V, idx2]

section Parts

variable (t : Fin cfg0.N) (p : Fin 2) (n : Fin 5)

theorem scale_part (inb) (k : Fin 1024) :
    View.ld (iblk m c 1 t : Vec Ideal S1x1024 .f32) (Rect.unit ![0, 0] ![1, 1024] inb) (ix2 0 k) = G m c k :=
  ld_part (V := fun _ k => G m c k) (fun s k => (congrArg (fun a => (iblk m c 1 t : Vec Ideal S1x1024 .f32) (ix2 a k)) (Subsingleton.elim (α := Fin 1) s 0)).trans (blk1 m c t k))
    inb 0 k 0 k rfl (Nat.zero_add _).symm

theorem rows_part (inb) (s : Fin 256) (k : Fin 1024) :
    View.ld (iblk m c 0 t : Vec Ideal S512x1024 .f32) (Rect.unit ![p.val * 256, 0] ![256, 1024] inb) (ix2 s k)
      = X m c (row t (half p s)) k :=
  ld_part (blk0 m c t) inb s k (half p s) k rfl (Nat.zero_add _).symm

theorem cols_part (inb) (k j : Fin 1024) :
    View.ld (iblk m c 2 t : Vec Ideal S1024x5120 .bf16) (Rect.unit ![0, n.val * 1024] ![1024, 1024] inb) (ix2 k j)
      = W m c k (col n j) :=
  ld_part (blk2 m c t) inb k j k (col n j) (Nat.zero_add _).symm rfl

theorem normed_part (i1 i2) (s : Fin 256) (k : Fin 1024) :
    k0_pay5 (F := Ideal) (View.ld (iblk m c 1 t : Vec Ideal S1x1024 .f32) (Rect.unit ![0, 0] ![1, 1024] i1))
        (View.ld (iblk m c 0 t : Vec Ideal S512x1024 .f32) (Rect.unit ![p.val * 256, 0] ![256, 1024] i2)) (ix2 s k)
      = normed (X m c) (G m c) (row t (half p s)) k :=
  normed_block (X := fun s k => X m c (row t (half p s)) k) (scale_part m c t i1) (rows_part m c t p i2) s k

theorem product_part (i1 i2 i3) (s : Fin 256) (j : Fin 1024) :
    k0_pay6 (F := Ideal) (View.ld (iblk m c 1 t : Vec Ideal S1x1024 .f32) (Rect.unit ![0, 0] ![1, 1024] i1))
        (View.ld (iblk m c 0 t : Vec Ideal S512x1024 .f32) (Rect.unit ![p.val * 256, 0] ![256, 1024] i2))
        (View.ld (iblk m c 2 t : Vec Ideal S1024x5120 .bf16) (Rect.unit ![0, n.val * 1024] ![1024, 1024] i3)) (ix2 s j)
      = product (X m c) (G m c) (W m c) (row t (half p s)) (col n j) :=
  product_block (X := fun s k => X m c (row t (half p s)) k) (W := fun k j => W m c k (col n j)) (scale_part m c t i1)
    (rows_part m c t p i2) (cols_part m c t n i3) s j

end Parts

/-- The normalised rows, whole. -/
theorem normed_array : (dats m 0 c).arrAt 4 cfg0.N = fun i : S8192x1024.Idx => normed (X m c) (G m c) (i 0) (i 1) := by
  refine (dats m 0 c).arrAt_eq_of_covers 4 _ (by decide +kernel) fun t hf y => ?_
  blk_simp
  have e0 : (((View.whole main_v1_1).slice (win0_4.rect t)).emb y 0 : Fin 8192) = row t (y 0) := by
    apply Fin.ext; blk_simp [idx4, row]
  have e1 : (((View.whole main_v1_1).slice (win0_4.rect t)).emb y 1 : Fin 1024) = y 1 := by
    apply Fin.ext; blk_simp [idx4]
  rw [after0_4, e0, e1]
  let G' : Fin 512 → Fin 1024 → Elt Ideal .bf16 := fun s k => normed (X m c) (G m c) (row t s) k
  refine View.canon_append_of_piecesOf (Val := Elt Ideal) (e := .bf16) (fun i : S512x1024.Idx => G' (i 0) (i 1)) [] [_, _]
    ⟨?_, ?_, trivial⟩ y ?_
  · exact block_piece (G := G') (inb := inb_S512x1024_S256x1024_256_0) (half 1) id (fun _ => rfl) (fun _ => (Nat.zero_add _).symm)
      (normed_part m c t 1 _ _)
  · exact block_piece (G := G') (inb := inb_S512x1024_S256x1024_0_0) (half 0) id (fun _ => rfl) (fun _ => (Nat.zero_add _).symm)
      (normed_part m c t 0 _ _)
  · exact View.cover_of_tiledL (s := S512x1024) _ S256x1024.size (by sl_kernel_rfl) y

/-- The product, whole. -/
theorem product_array :
    (dats m 0 c).arrAt 3 cfg0.N = fun i : S8192x5120.Idx => product (X m c) (G m c) (W m c) (i 0) (i 1) := by
  refine (dats m 0 c).arrAt_eq_of_covers 3 _ (by decide +kernel) fun t hf y => ?_
  blk_simp
  have e0 : (((View.whole main_v1_0).slice (win0_3.rect t)).emb y 0 : Fin 8192) = row t (y 0) := by
    apply Fin.ext; blk_simp [idx3, row]
  have e1 : (((View.whole main_v1_0).slice (win0_3.rect t)).emb y 1 : Fin 5120) = y 1 := by
    apply Fin.ext; blk_simp [idx3]
  rw [after0_3, e0, e1]
  let G' : Fin 512 → Fin 5120 → Elt Ideal .bf16 := fun s j => product (X m c) (G m c) (W m c) (row t s) j
  have piece (p : Fin 2) (n : Fin 5) (inb) (i1 i2 i3) := block_piece (G := G') (inb := inb) (half p) (col n) (fun _ => rfl) (fun _ => rfl)
    (product_part m c t p n i1 i2 i3)
  refine View.canon_append_of_piecesOf (Val := Elt Ideal) (e := .bf16) (fun i : S512x5120.Idx => G' (i 0) (i 1)) []
    [_, _, _, _, _, _, _, _, _, _] ⟨?_, ?_, ?_, ?_, ?_, ?_, ?_, ?_, ?_, ?_, trivial⟩ y ?_
  · exact piece 1 4 inb_S512x5120_S256x1024_256_4096 _ _ _
  · exact piece 1 3 inb_S512x5120_S256x1024_256_3072 _ _ _
  · exact piece 1 2 inb_S512x5120_S256x1024_256_2048 _ _ _
  · exact piece 1 1 inb_S512x5120_S256x1024_256_1024 _ _ _
  · exact piece 1 0 inb_S512x5120_S256x1024_256_0 _ _ _
  · exact piece 0 4 inb_S512x5120_S256x1024_0_4096 _ _ _
  · exact piece 0 3 inb_S512x5120_S256x1024_0_3072 _ _ _
  · exact piece 0 2 inb_S512x5120_S256x1024_0_2048 _ _ _
  · exact piece 0 1 inb_S512x5120_S256x1024_0_1024 _ _ _
  · exact piece 0 0 inb_S512x5120_S256x1024_0_0 _ _ _
  · exact View.cover_of_tiledL (s := S512x5120) _ S256x1024.size (by sl_kernel_rfl) y

end Cert.ProjKernel

end
-- ==== Proof.ProjReference.lean ====
/-
  What the reference's product with a normalised row computes.
-/
module

public import proofs.«01_k».proof.Proof.ProjSpec
public import proofs.«01_k».proof.Proof.Gen.Reference8Ideal.Run
public import proofs.«01_k».proof.Proof.Gen.Reference8Ideal.Read
public import Idealize.ShloMosaic.Lib.Pointwise
public import Idealize.ShloMosaic.Adequacy

@[expose] public section

noncomputable section

namespace Cert.ProjReference

open Cert.Reference8Ideal Cert.Reference8Ideal.Gen Cert.Reference8Ideal.Read Idealize.ShloMosaic
open Cert.RealOps Cert.Proj

variable {x0 : (⟨S8192x1024, .f32⟩ : BufTy).Contents (Elt Ideal)} {x1 : (⟨S1024, .f32⟩ : BufTy).Contents (Elt Ideal)}
  {x2 : (⟨S1024x5120, .bf16⟩ : BufTy).Contents (Elt Ideal)}
variable {X : Fin 8192 → Fin 1024 → EReal} {g : Fin 1024 → EReal} {W : Fin 1024 → Fin 5120 → EReal}

/-- The normalised and scaled row. -/
theorem row (h0 : ∀ i, x0 i = X (i 0) (i 1)) (h1 : ∀ i, x1 i = g (i 0)) (i : S8192x1024.Idx) :
    val_main_v12 (F := Ideal) x0 x1 i = normed X g (i 0) (i 1) := by
  simp only [val_main_v12_apply, val_main_v11_apply, val_main_v10_apply, val_main_v9_apply, val_main_v8_apply, val_main_v7_apply,
    val_main_v6_apply, val_main_v5_apply, val_main_v4_apply, val_main_v3_apply, val_main_v2_apply, val_main_v1_apply,
    val_main_v0_apply, val_main_cst_apply, val_main_cst_0_apply, val_main_cst_1_apply]
  pointwise
  simp only [h0, h1]
  rfl

/-- The first result. -/
theorem result (h0 : ∀ i, x0 i = X (i 0) (i 1)) (h1 : ∀ i, x1 i = g (i 0)) (h2 : ∀ i, x2 i = W (i 0) (i 1)) (i : S8192x5120.Idx) :
    val_main_v15 (F := Ideal) x0 x1 x2 i = product X g W (i 0) (i 1) := by
  simp only [val_main_v15_apply, val_main_v14_apply, val_main_v13_apply, row h0 h1]
  pointwise
  simp only [h2]
  rfl

end Cert.ProjReference

end
-- ==== Proof.Proj.lean ====
/-
  The product with a normalised row: the kernel's run and the reference's run end with the same product and the same
  normalised rows, whatever the arguments.
-/
module

public import proofs.«01_k».proof.Defs
public import proofs.«01_k».proof.Proof.ProjKernel
public import proofs.«01_k».proof.Proof.ProjReference
public import Idealize.ShloMosaic.Lib.Claim

@[expose] public section

noncomputable section

namespace Cert.ProjProof

open Idealize.ShloMosaic Idealize.SL.Sem

/-- The reference runs and ends quiescent, its arguments unchanged. -/
theorem reference_frame : Cert.quiescent_Reference8Ideal := fun m ρ _ =>
  θ_run_mono (Cert.Reference8Ideal.Value.run m ρ) fun r h =>
    ⟨fun c => (h c).2.2, sem_eq_zero_of_no_sems (by decide) _⟩

theorem algebraic : Cert.algebraic_Kernel8Ideal_Reference8Ideal := by
  intro m g m' g' _ hagree
  refine ⟨fun c => (Cert.Kernel8Ideal.Gen.dats m 0 c).arrAt 3 Cert.Kernel8Ideal.cfg0.N,
    fun c => (Cert.Kernel8Ideal.Gen.dats m 0 c).arrAt 4 Cert.Kernel8Ideal.cfg0.N, Cert.Kernel8Ideal.Value.run_blocks m g, ?_⟩
  refine θ_run_mono (Cert.Reference8Ideal.Value.run m' g') fun r h c => ?_
  obtain ⟨r0, r1, k⟩ := h c
  obtain ⟨a0, a1, a2⟩ := hagree c
  have b0 : ∀ i, (m' (c.tc.loc Cert.Reference8Ideal.main_arg0) : Vec Ideal Cert.Kernel8Ideal.S8192x1024 .f32) i = ProjKernel.X m c (i 0) (i 1) := by
    rw [a0]; exact fun i => congrArg _ (eq_ix2 (n0 := 8192) (n1 := 1024) i)
  have b1 : ∀ i, (m' (c.tc.loc Cert.Reference8Ideal.main_arg1) : Vec Ideal Cert.Kernel8Ideal.S1024 .f32) i = ProjKernel.G m c (i 0) := by
    rw [a1]; exact fun i => congrArg _ (eq_ix1 (n0 := 1024) i)
  have b2 : ∀ i, (m' (c.tc.loc Cert.Reference8Ideal.main_arg2) : Vec Ideal Cert.Kernel8Ideal.S1024x5120 .bf16) i = ProjKernel.W m c (i 0) (i 1) := by
    rw [a2]; exact fun i => congrArg _ (eq_ix2 (n0 := 1024) (n1 := 5120) i)
  refine ⟨r0.trans ?_, r1.trans ?_, k⟩
  · refine Eq.trans ?_ (ProjKernel.product_array m c).symm
    exact funext fun i => ProjReference.result b0 b1 b2 i
  · refine Eq.trans ?_ (ProjKernel.normed_array m c).symm
    exact funext fun i => ProjReference.row b0 b1 i

end Cert.ProjProof

end
-- ==== Proof.lean ====
/-
  The certificate: the calls of the training step's backward pass that are claimed, one after another.
-/
module

public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Reference5Ideal
public import proofs.«01_k».proof.Proof.Gen.Pre_finite5
public import proofs.«01_k».proof.Proof.Gen.Reference5Ideal.Run
public import proofs.«01_k».proof.Proof.Gen.Reference5Ideal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Loss
public import proofs.«01_k».proof.Proof.Sb
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite3
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Pre_finite4
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Pre_finite6
public import proofs.«01_k».proof.Proof.Gen.Kernel6Ideal.Value
public import proofs.«01_k».proof.Proof.Gen.Reference6Ideal.Run
public import proofs.«01_k».proof.Proof.Gen.Reference6Ideal.Read
public import proofs.«01_k».proof.Proof.Norm
public import proofs.«01_k».proof.Proof.Norm2
public import proofs.«01_k».proof.Proof.Merge
public import proofs.«01_k».proof.Proof.SbBitsFrame
public import proofs.«01_k».proof.Proof.Fwd
public import proofs.«01_k».proof.Proof.FwdBitsRun
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Pre_finite7
public import proofs.«01_k».proof.Proof.Gen.Kernel7Ideal.Value
public import proofs.«01_k».proof.Proof.Gen.Reference7Ideal.Run
public import proofs.«01_k».proof.Proof.Gen.Reference7Ideal.Read
public import proofs.«01_k».proof.Proof.Attn
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.Proj
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts,
  Cert.Kernel3Ideal.Gen.facts, Cert.Reference3Ideal.Gen.facts, Cert.Kernel4.Gen.facts, Cert.Kernel4Ideal.Gen.facts,
  Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts,
  Cert.Pre_finite.Gen.facts, Cert.Pre_finite2.Gen.facts,
  Cert.Pre_finite3.Gen.facts, Cert.Pre_finite4.Gen.facts, Cert.Pre_finite5.Gen.facts, Cert.Pre_finite6.Gen.facts,
  Cert.Pre_finite7.Gen.facts,
  fun m ρ _ => Cert.Kernel.Gen.frame m ρ,
  fun m ρ _ => Cert.KernelIdeal.Gen.frame m ρ,
  fun m ρ _ => Cert.KernelIdeal.Gen.frame m ρ,
  Cert.LossProof.reference_frame,
  fun m ρ _ => Cert.LossProof.reference_frame m ρ trivial,
  fun m ρ _ => Cert.SbBits.frame m ρ,
  fun m ρ _ => Cert.SbProof.frame m ρ,
  fun m ρ _ => Cert.SbProof.frame m ρ,
  Cert.SbProof.reference_frame,
  fun m ρ _ => Cert.SbProof.reference_frame m ρ trivial,
  fun m ρ _ => Cert.Kernel3.Gen.frame m ρ,
  fun m ρ _ => Cert.Kernel3Ideal.Gen.frame m ρ,
  fun m ρ _ => Cert.Kernel3Ideal.Gen.frame m ρ,
  Cert.NormProof.reference_frame,
  fun m ρ _ => Cert.NormProof.reference_frame m ρ trivial,
  fun m ρ _ => Cert.Kernel4.Gen.frame m ρ,
  fun m ρ _ => Cert.Kernel4Ideal.Gen.frame m ρ,
  fun m ρ _ => Cert.Kernel4Ideal.Gen.frame m ρ,
  Cert.MergeProof.reference_frame,
  fun m ρ _ => Cert.MergeProof.reference_frame m ρ trivial,
  fun m ρ _ => Cert.SbFwdBits.frame m ρ,
  fun m ρ _ => Cert.SbFwd.frame m ρ,
  fun m ρ _ => Cert.SbFwd.frame m ρ,
  Cert.SbFwd.reference_frame,
  fun m ρ _ => Cert.SbFwd.reference_frame m ρ trivial,
  fun m ρ _ => Cert.Kernel6.Gen.frame m ρ,
  fun m ρ _ => Cert.Kernel6Ideal.Gen.frame m ρ,
  fun m ρ _ => Cert.Kernel6Ideal.Gen.frame m ρ,
  Cert.Norm2Proof.reference_frame,
  fun m ρ _ => Cert.Norm2Proof.reference_frame m ρ trivial,
  fun m ρ _ => Cert.Kernel7.Gen.frame m ρ,
  fun m ρ _ => Cert.Kernel7Ideal.Gen.frame m ρ,
  fun m ρ _ => Cert.Kernel7Ideal.Gen.frame m ρ,
  Cert.AttnProof.reference_frame,
  fun m ρ _ => Cert.AttnProof.reference_frame m ρ trivial,
  fun m ρ _ => Cert.Kernel8.Gen.frame m ρ,
  fun m ρ _ => Cert.Kernel8Ideal.Gen.frame m ρ,
  Cert.ProjProof.reference_frame,
  fun m ρ _ => Cert.Kernel9.Gen.frame m ρ,
  fun m ρ _ => Cert.Kernel9Ideal.Gen.frame m ρ,
  trivial,
  Cert.LossProof.algebraic,
  Cert.SbProof.preserves,
  Cert.SbProof.algebraic,
  trivial,
  Cert.NormProof.algebraic,
  trivial,
  Cert.MergeProof.algebraic,
  Cert.SbFwd.preserves,
  Cert.SbFwd.algebraic,
  trivial,
  Cert.Norm2Proof.algebraic,
  Cert.AttnProof.preserves,
  Cert.AttnProof.algebraic,
  trivial,
  Cert.ProjProof.algebraic,
  trivial⟩

end Cert.Proof

end
